-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  IdealRules.named_const.Statement Cert.KernelIdeal.κ "inv_sqrt_head_dim" .f32 0x3DB504F3#32 (((Real.sqrt 128)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v71) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_scores_finite.lean ====
abbrev S8192x3584 : Shape := ⟨2, ![8192, 3584]⟩
abbrev S8 : Shape := ⟨1, ![8]⟩
abbrev S4096x1280 : Shape := ⟨2, ![4096, 1280]⟩
abbrev S_ : Shape := ⟨0, ![]⟩

class Facts : Prop where
  slices_S8192x3584_S4096x1280_0_1024 : S8192x3584.Slices ![0, 1024] S4096x1280
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8192x3584 .f32) (main_arg1 : FVec F S8 .f32) : IVec S_ 1 :=
  let main_v0 : FVec F S4096x1280 .f32 := (extractStridedSlice S4096x1280 ![0, 1024] · slices_S8192x3584_S4096x1280_0_1024) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_c : IVec S_ 1 := constantI S_ 1 1#1
  let main_v4 : IVec S_ 1 := (fun x v => Host.reduce IntOp.andi x v reducesTo_S4096x1280_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Kernel.lean ====
abbrev S8192x3584 : Shape := ⟨2, ![8192, 3584]⟩
abbrev S8 : Shape := ⟨1, ![8]⟩
abbrev S8x1 : Shape := ⟨2, ![8, 1]⟩
abbrev S8x128 : Shape := ⟨2, ![8, 128]⟩
abbrev S4096x1024 : Shape := ⟨2, ![4096, 1024]⟩
abbrev S4096x256 : Shape := ⟨2, ![4096, 256]⟩
abbrev S256x512 : Shape := ⟨2, ![256, 512]⟩
abbrev S256x128 : Shape := ⟨2, ![256, 128]⟩
abbrev S1024x128 : Shape := ⟨2, ![1024, 128]⟩
abbrev S1024x256 : Shape := ⟨2, ![1024, 256]⟩
abbrev S1x1 : Shape := ⟨2, ![1, 1]⟩
abbrev S256x1 : Shape := ⟨2, ![256, 1]⟩
abbrev S1024x1 : Shape := ⟨2, ![1024, 1]⟩
abbrev S1024 : Shape := ⟨1, ![1024]⟩
abbrev S256x256 : Shape := ⟨2, ![256, 256]⟩

abbrev nBuf : Space → Nat
  | .hbm => 7
  | .vmem => 13
  | .smem => 0
  | _ => 0

abbrev bufTy : (tb : Table) → Fin (tcTables nBuf tb) → BufTy
  | .hbm, ⟨0, _⟩ => ⟨S8192x3584, .f32⟩
  | .hbm, ⟨1, _⟩ => ⟨S8, .f32⟩
  | .hbm, ⟨2, _⟩ => ⟨S8x1, .f32⟩
  | .hbm, ⟨3, _⟩ => ⟨S8x128, .f32⟩
  | .hbm, ⟨4, _⟩ => ⟨S4096x1024, .bf16⟩
  | .hbm, ⟨5, _⟩ => ⟨S4096x256, .f32⟩
  | .hbm, ⟨6, _⟩ => ⟨S4096x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x128, .f32⟩
  | .local _ .vmem, ⟨7, _⟩ => ⟨S256x512, .bf16⟩
  | .local _ .vmem, ⟨8, _⟩ => ⟨S256x512, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def k0_off1 (i : grid0.Coords) (c0_i32 : BitVec 32) : Fin 2 → Nat :=
  let arg1 : BitVec 32 := BitVec.ofNat 32 (i 1).val
  let c4_i32 : BitVec 32 := 4#32
  let v0 : BitVec 32 := Scalar.muli arg1 c4_i32
  let v18 : BitVec 32 := Scalar.addi v0 c0_i32
  let v19 : Index := Scalar.indexCast v18
  let c0_13 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_sqrt_head_dim" => some (((Real.sqrt 128)⁻¹ : ℝ) : EReal)
  | _ => none
-- ==== ReferenceIdeal.lean ====
abbrev S8192x3584 : Shape := ⟨2, ![8192, 3584]⟩
abbrev S8 : Shape := ⟨1, ![8]⟩
abbrev S4096x3584 : Shape := ⟨2, ![4096, 3584]⟩
abbrev S16x256x3584 : Shape := ⟨3, ![16, 256, 3584]⟩
abbrev S16x256x1024 : Shape := ⟨3, ![16, 256, 1024]⟩
abbrev S16x256x2x4x128 : Shape := ⟨5, ![16, 256, 2, 4, 128]⟩
abbrev S16x256x256 : Shape := ⟨3, ![16, 256, 256]⟩
abbrev S16x256x2x128 : Shape := ⟨4, ![16, 256, 2, 128]⟩
abbrev S2x4 : Shape := ⟨2, ![2, 4]⟩
abbrev S16x2x256x256x4 : Shape := ⟨5, ![16, 2, 256, 256, 4]⟩
abbrev S16x2x4x256x256 : Shape := ⟨5, ![16, 2, 4, 256, 256]⟩
abbrev S_ : Shape := ⟨0, ![]⟩
abbrev S1x2x4x1x1 : Shape := ⟨5, ![1, 2, 4, 1, 1]⟩
abbrev S16x2x4x256x1 : Shape := ⟨5, ![16, 2, 4, 256, 1]⟩
abbrev S16x2x4x256x257 : Shape := ⟨5, ![16, 2, 4, 256, 257]⟩
abbrev S16x2x4x256 : Shape := ⟨4, ![16, 2, 4, 256]⟩
abbrev S16x2x128x4x256 : Shape := ⟨5, ![16, 2, 128, 4, 256]⟩
abbrev S4096x1024 : Shape := ⟨2, ![4096, 1024]⟩
abbrev S4096x256 : Shape := ⟨2, ![4096, 256]⟩

abbrev nBuf : Space → Nat
  | .hbm => 41
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S8, .f32⟩
  | .hbm, ⟨2, _⟩ => ⟨S4096x3584, .f32⟩
  | .hbm, ⟨3, _⟩ => ⟨S16x256x3584, .f32⟩
  | .hbm, ⟨4, _⟩ => ⟨S16x256x1024, .f32⟩
  | .hbm, ⟨5, _⟩ => ⟨S16x256x2x4x128, .f32⟩
  | .hbm, ⟨6, _⟩ => ⟨S16x256x256, .f32⟩
  | .hbm, ⟨7, _⟩ => ⟨S16x256x2x128, .f32⟩
  | .hbm, ⟨8, _⟩ => ⟨S16x256x256, .f32⟩
  | .hbm, ⟨9, _⟩ => ⟨S16x256x2x128, .f32⟩
  | .hbm, ⟨10, _⟩ => ⟨S2x4, .f32⟩
  | .hbm, ⟨11, _⟩ => ⟨S16x2x256x256x4, .f32⟩
  | .hbm, ⟨12, _⟩ => ⟨S16x2x4x256x256, .f32⟩
  | .hbm, ⟨13, _⟩ => ⟨S_, .f32⟩
  | .hbm, ⟨14, _⟩ => ⟨S_, .f32⟩
  | .hbm, ⟨15, _⟩ => ⟨S16x2x4x256x256, .f32⟩
  | .hbm, ⟨16, _⟩ => ⟨S16x2x4x256x256, .f32⟩
  | .hbm, ⟨17, _⟩ => ⟨S1x2x4x1x1, .f32⟩
  | .hbm, ⟨18, _⟩ => ⟨S16x2x4x256x1, .f32⟩
  | .hbm, ⟨19, _⟩ => ⟨S16x2x4x256x257, .f32⟩
  | .hbm, ⟨20, _⟩ => ⟨S_, .f32⟩
  | .hbm, ⟨21, _⟩ => ⟨S16x2x4x256, .f32⟩
  | .hbm, ⟨22, _⟩ => ⟨S_, .f32⟩
  | .hbm, ⟨23, _⟩ => ⟨S16x2x4x256, .f32⟩
  | .hbm, ⟨24, _⟩ => ⟨S16x2x4x256, .f32⟩
  | .hbm, ⟨25, _⟩ => ⟨S16x2x4x256x1, .f32⟩
  | .hbm, ⟨26, _⟩ => ⟨S16x2x4x256x257, .f32⟩
  | .hbm, ⟨27, _⟩ => ⟨S16x2x4x256x257, .f32⟩
  | .hbm, ⟨28, _⟩ => ⟨S16x2x4x256x257, .f32⟩
  | .hbm, ⟨29, _⟩ => ⟨S_, .f32⟩
  | .hbm, ⟨30, _⟩ => ⟨S16x2x4x256, .f32⟩
  | .hbm, ⟨31, _⟩ => ⟨S16x2x4x256x1, .f32⟩
  | .hbm, ⟨32, _⟩ => ⟨S16x2x4x256x257, .f32⟩
  | .hbm, ⟨33, _⟩ => ⟨S16x2x4x256x257, .f32⟩
  | .hbm, ⟨34, _⟩ => ⟨S16x2x4x256x256, .f32⟩
  | .hbm, ⟨35, _⟩ => ⟨S16x2x128x4x256, .f32⟩
  | .hbm, ⟨36, _⟩ => ⟨S16x256x2x4x128, .f32⟩
  | .hbm, ⟨37, _⟩ => ⟨S4096x1024, .f32⟩
  | .hbm, ⟨38, _⟩ => ⟨S4096x1024, .bf16⟩
  | .hbm, ⟨39, _⟩ => ⟨S4096x256, .f32⟩
  | .hbm, ⟨40, _⟩ => ⟨S4096x256, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Kernel2.lean ====
abbrev S8192x2048 : Shape := ⟨2, ![8192, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x1x11264 : Shape := ⟨3, ![2, 1, 11264]⟩
abbrev S1024x2048 : Shape := ⟨2, ![1024, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S2x1024x512 : Shape := ⟨3, ![2, 1024, 512]⟩
abbrev S2048x512 : Shape := ⟨2, ![2048, 512]⟩
abbrev S1024x512 : Shape := ⟨2, ![1024, 512]⟩
abbrev S1x1024x512 : Shape := ⟨3, ![1, 1024, 512]⟩
abbrev S1024x1 : Shape := ⟨2, ![1024, 1]⟩
abbrev S1x512 : Shape := ⟨2, ![1, 512]⟩
abbrev S512x2048 : Shape := ⟨2, ![512, 2048]⟩

abbrev nBuf : Space → Nat
  | .hbm => 7
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S2x1x11264, .f32⟩
  | .hbm, ⟨6, _⟩ => ⟨S8192x2048, .bf16⟩
  | .local _ .vmem, ⟨0, _⟩ => ⟨S1024x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x3x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x512x2048, .f32⟩
  | .local _ .vmem, ⟨14, _⟩ => ⟨S1x512x2048, .f32⟩
  | .local _ .vmem, ⟨15, _⟩ => ⟨S1024x2048, .bf16⟩
  | .local _ .vmem, ⟨16, _⟩ => ⟨S2x1024x512, .f32⟩
  | .local _ .vmem, ⟨17, _⟩ => ⟨S2x1024x512, .f32⟩
  | .local _ .vmem, ⟨18, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 12], ![false, false]⟩

def k0_cond4 (i : grid0.Coords) : BitVec 1 :=
  let arg1 : BitVec 32 := BitVec.ofNat 32 (i 1).val
  let c11_i32_18 : BitVec 32 := 11#32
  let v37 : BitVec 1 := Scalar.cmpi .eq arg1 c11_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c11_i32 : BitVec 32 := 11#32
  let v2 : BitVec 32 := Scalar.addi c11_i32 v1
  let c0_i32_0 : BitVec 32 := 0#32
  let c0_i32_1 : BitVec 32 := 0#32
  let c0_i32_2 : BitVec 32 := 0#32
  ![c0_i32_0.toNat, c0_i32_1.toNat, v2.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c11_i32 : BitVec 32 := 11#32
  let v2 : BitVec 32 := Scalar.addi c11_i32 v1
  let c0_i32_0 : BitVec 32 := 0#32
  let c0_i32_1 : BitVec 32 := 0#32
  let c0_i32_2 : BitVec 32 := 0#32
  ![c0_i32_0.toNat, c0_i32_1.toNat, v2.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference2Ideal.lean ====
abbrev S8192x2048 : Shape := ⟨2, ![8192, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x5632x2048 : Shape := ⟨3, ![1, 5632, 2048]⟩
abbrev S5632x2048 : Shape := ⟨2, ![5632, 2048]⟩
abbrev S4096x2048 : Shape := ⟨2, ![4096, 2048]⟩
abbrev S16x256x2048 : Shape := ⟨3, ![16, 256, 2048]⟩
abbrev S16x256x11264 : Shape := ⟨3, ![16, 256, 11264]⟩
abbrev S_ : Shape := ⟨0, ![]⟩
abbrev S16x258x11264 : Shape := ⟨3, ![16, 258, 11264]⟩
abbrev S1x1x11264 : Shape := ⟨3, ![1, 1, 11264]⟩
abbrev S16x256x5632 : Shape := ⟨3, ![16, 256, 5632]⟩
abbrev S4x1024x2048 : Shape := ⟨3, ![4, 1024, 2048]⟩
abbrev S4x1024x11264 : Shape := ⟨3, ![4, 1024, 11264]⟩
abbrev S4x1026x11264 : Shape := ⟨3, ![4, 1026, 11264]⟩
abbrev S4x1024x5632 : Shape := ⟨3, ![4, 1024, 5632]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S1x2048x11264, .f32⟩
  | .hbm, ⟨6, _⟩ => ⟨S2048x11264, .f32⟩
  | .hbm, ⟨7, _⟩ => ⟨S1x3x11264, .f32⟩
  | .hbm, ⟨8, _⟩ => ⟨S3x11264, .f32⟩
  | .hbm, ⟨9, _⟩ => ⟨S1x11264, .f32⟩
  | .hbm, ⟨10, _⟩ => ⟨S11264, .f32⟩
  | .hbm, ⟨11, _⟩ => ⟨S1x5632x2048, .f32⟩
  | .hbm, ⟨12, _⟩ => ⟨S5632x2048, .f32⟩
  | .hbm, ⟨13, _⟩ => ⟨S8192x2048, .f32⟩
  | .hbm, ⟨14, _⟩ => ⟨S4096x2048, .f32⟩
  | .hbm, ⟨15, _⟩ => ⟨S16x256x2048, .f32⟩
  | .hbm, ⟨16, _⟩ => ⟨S16x256x11264, .f32⟩
  | .hbm, ⟨17, _⟩ => ⟨S_, .i32⟩
  | .hbm, ⟨18, _⟩ => ⟨S_, .f32⟩
  | .hbm, ⟨19, _⟩ => ⟨S16x258x11264, .f32⟩
  | .hbm, ⟨20, _⟩ => ⟨S16x256x11264, .f32⟩
  | .hbm, ⟨21, _⟩ => ⟨S1x11264, .f32⟩
  | .hbm, ⟨22, _⟩ => ⟨S11264, .f32⟩
  | .hbm, ⟨23, _⟩ => ⟨S1x1x11264, .f32⟩
  | .hbm, ⟨24, _⟩ => ⟨S16x256x11264, .f32⟩
  | .hbm, ⟨25, _⟩ => ⟨S16x256x11264, .f32⟩
  | .hbm, ⟨26, _⟩ => ⟨S16x256x11264, .f32⟩
  | .hbm, ⟨27, _⟩ => ⟨S1x11264, .f32⟩
  | .hbm, ⟨28, _⟩ => ⟨S11264, .f32⟩
  | .hbm, ⟨29, _⟩ => ⟨S1x1x11264, .f32⟩
  | .hbm, ⟨30, _⟩ => ⟨S16x256x11264, .f32⟩
  | .hbm, ⟨31, _⟩ => ⟨S16x256x11264, .f32⟩
  | .hbm, ⟨32, _⟩ => ⟨S16x256x11264, .f32⟩
  | .hbm, ⟨33, _⟩ => ⟨S16x256x11264, .f32⟩
  | .hbm, ⟨34, _⟩ => ⟨S1x11264, .f32⟩
  | .hbm, ⟨35, _⟩ => ⟨S11264, .f32⟩
  | .hbm, ⟨36, _⟩ => ⟨S1x1x11264, .f32⟩
  | .hbm, ⟨37, _⟩ => ⟨S16x256x11264, .f32⟩
  | .hbm, ⟨38, _⟩ => ⟨S16x256x11264, .f32⟩
  | .hbm, ⟨39, _⟩ => ⟨S16x256x11264, .f32⟩
  | .hbm, ⟨40, _⟩ => ⟨S1x1x11264, .f32⟩
  | .hbm, ⟨41, _⟩ => ⟨S16x256x11264, .f32⟩
  | .hbm, ⟨42, _⟩ => ⟨S16x256x11264, .f32⟩
  | .hbm, ⟨43, _⟩ => ⟨S16x256x5632, .f32⟩
  | .hbm, ⟨44, _⟩ => ⟨S16x256x5632, .f32⟩
  | .hbm, ⟨45, _⟩ => ⟨S16x256x5632, .f32⟩
  | .hbm, ⟨46, _⟩ => ⟨S16x256x5632, .f32⟩
  | .hbm, ⟨47, _⟩ => ⟨S_, .f32⟩
  | .hbm, ⟨48, _⟩ => ⟨S16x256x5632, .f32⟩
  | .hbm, ⟨49, _⟩ => ⟨S16x256x5632, .f32⟩
  | .hbm, ⟨50, _⟩ => ⟨S_, .f32⟩
  | .hbm, ⟨51, _⟩ => ⟨S16x256x5632, .f32⟩
  | .hbm, ⟨52, _⟩ => ⟨S16x256x5632, .f32⟩
  | .hbm, ⟨53, _⟩ => ⟨S16x256x5632, .f32⟩
  | .hbm, ⟨54, _⟩ => ⟨S16x256x5632, .f32⟩
  | .hbm, ⟨55, _⟩ => ⟨S16x256x2048, .f32⟩
  | .hbm, ⟨56, _⟩ => ⟨S4096x2048, .f32⟩
  | .hbm, ⟨57, _⟩ => ⟨S4096x2048, .f32⟩
  | .hbm, ⟨58, _⟩ => ⟨S4x1024x2048, .f32⟩
  | .hbm, ⟨59, _⟩ => ⟨S4x1024x11264, .f32⟩
  | .hbm, ⟨60, _⟩ => ⟨S_, .i32⟩
  | .hbm, ⟨61, _⟩ => ⟨S_, .f32⟩
  | .hbm, ⟨62, _⟩ => ⟨S4x1026x11264, .f32⟩
  | .hbm, ⟨63, _⟩ => ⟨S4x1024x11264, .f32⟩
  | .hbm, ⟨64, _⟩ => ⟨S1x11264, .f32⟩
  | .hbm, ⟨65, _⟩ => ⟨S11264, .f32⟩
  | .hbm, ⟨66, _⟩ => ⟨S1x1x11264, .f32⟩
  | .hbm, ⟨67, _⟩ => ⟨S4x1024x11264, .f32⟩
  | .hbm, ⟨68, _⟩ => ⟨S4x1024x11264, .f32⟩
  | .hbm, ⟨69, _⟩ => ⟨S4x1024x11264, .f32⟩
  | .hbm, ⟨70, _⟩ => ⟨S1x11264, .f32⟩
  | .hbm, ⟨71, _⟩ => ⟨S11264, .f32⟩
  | .hbm, ⟨72, _⟩ => ⟨S1x1x11264, .f32⟩
  | .hbm, ⟨73, _⟩ => ⟨S4x1024x11264, .f32⟩
  | .hbm, ⟨74, _⟩ => ⟨S4x1024x11264, .f32⟩
  | .hbm, ⟨75, _⟩ => ⟨S4x1024x11264, .f32⟩
  | .hbm, ⟨76, _⟩ => ⟨S4x1024x11264, .f32⟩
  | .hbm, ⟨77, _⟩ => ⟨S1x11264, .f32⟩
  | .hbm, ⟨78, _⟩ => ⟨S11264, .f32⟩
  | .hbm, ⟨79, _⟩ => ⟨S1x1x11264, .f32⟩
  | .hbm, ⟨80, _⟩ => ⟨S4x1024x11264, .f32⟩
  | .hbm, ⟨81, _⟩ => ⟨S4x1024x11264, .f32⟩
  | .hbm, ⟨82, _⟩ => ⟨S4x1024x11264, .f32⟩
  | .hbm, ⟨83, _⟩ => ⟨S1x1x11264, .f32⟩
  | .hbm, ⟨84, _⟩ => ⟨S4x1024x11264, .f32⟩
  | .hbm, ⟨85, _⟩ => ⟨S4x1024x11264, .f32⟩
  | .hbm, ⟨86, _⟩ => ⟨S4x1024x5632, .f32⟩
  | .hbm, ⟨87, _⟩ => ⟨S4x1024x5632, .f32⟩
  | .hbm, ⟨88, _⟩ => ⟨S4x1024x5632, .f32⟩
  | .hbm, ⟨89, _⟩ => ⟨S4x1024x5632, .f32⟩
  | .hbm, ⟨90, _⟩ => ⟨S_, .f32⟩
  | .hbm, ⟨91, _⟩ => ⟨S4x1024x5632, .f32⟩
  | .hbm, ⟨92, _⟩ => ⟨S4x1024x5632, .f32⟩
  | .hbm, ⟨93, _⟩ => ⟨S_, .f32⟩
  | .hbm, ⟨94, _⟩ => ⟨S4x1024x5632, .f32⟩
  | .hbm, ⟨95, _⟩ => ⟨S4x1024x5632, .f32⟩
  | .hbm, ⟨96, _⟩ => ⟨S4x1024x5632, .f32⟩
  | .hbm, ⟨97, _⟩ => ⟨S4x1024x5632, .f32⟩
  | .hbm, ⟨98, _⟩ => ⟨S4x1024x2048, .f32⟩
  | .hbm, ⟨99, _⟩ => ⟨S4096x2048, .f32⟩
  | .hbm, ⟨100, _⟩ => ⟨S8192x2048, .f32⟩
  | .hbm, ⟨101, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_0 : Ref sig .tc := ⟨.hbm, 60, rfl⟩
abbrev main_call2_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Kernel3.lean ====
abbrev S8192x2048 : Shape := ⟨2, ![8192, 2048]⟩
abbrev S2x2048x11776 : Shape := ⟨3, ![2, 2048, 11776]⟩
abbrev S8192x3584 : Shape := ⟨2, ![8192, 3584]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x11776, .f32⟩
  | .hbm, ⟨2, _⟩ => ⟨S8192x3584, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S2x2048x11776 : Shape := ⟨3, ![2, 2048, 11776]⟩
abbrev S1x2048x11776 : Shape := ⟨3, ![1, 2048, 11776]⟩
abbrev S2048x11776 : Shape := ⟨2, ![2048, 11776]⟩
abbrev S8192x11776 : Shape := ⟨2, ![8192, 11776]⟩
abbrev S8192x3584 : Shape := ⟨2, ![8192, 3584]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11776, .f32⟩
  | .hbm, ⟨2, _⟩ => ⟨S8192x2048, .f32⟩
  | .hbm, ⟨3, _⟩ => ⟨S1x2048x11776, .f32⟩
  | .hbm, ⟨4, _⟩ => ⟨S2048x11776, .f32⟩
  | .hbm, ⟨5, _⟩ => ⟨S8192x11776, .f32⟩
  | .hbm, ⟨6, _⟩ => ⟨S8192x3584, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S2x2048x11776 : Shape := ⟨3, ![2, 2048, 11776]⟩
abbrev S8192x8192 : Shape := ⟨2, ![8192, 8192]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x11776, .f32⟩
  | .hbm, ⟨2, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .bf16⟩
  | .local _ .vmem, ⟨5, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S2x2048x11776 : Shape := ⟨3, ![2, 2048, 11776]⟩
abbrev S1x2048x11776 : Shape := ⟨3, ![1, 2048, 11776]⟩
abbrev S2048x11776 : Shape := ⟨2, ![2048, 11776]⟩
abbrev S8192x11776 : Shape := ⟨2, ![8192, 11776]⟩
abbrev S8192x8192 : Shape := ⟨2, ![8192, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11776, .f32⟩
  | .hbm, ⟨2, _⟩ => ⟨S8192x2048, .f32⟩
  | .hbm, ⟨3, _⟩ => ⟨S1x2048x11776, .f32⟩
  | .hbm, ⟨4, _⟩ => ⟨S2048x11776, .f32⟩
  | .hbm, ⟨5, _⟩ => ⟨S8192x11776, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S8192x2048 : Shape := ⟨2, ![8192, 2048]⟩
abbrev S2x2048x2048 : Shape := ⟨3, ![2, 2048, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .bf16⟩
  | .local _ .vmem, ⟨5, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | .hbm, ⟨6, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S8x6x2048 : Shape := ⟨3, ![8, 6, 2048]⟩
abbrev S2048 : Shape := ⟨1, ![2048]⟩
abbrev S1x2048 : Shape := ⟨2, ![1, 2048]⟩
abbrev S4096x2048 : Shape := ⟨2, ![4096, 2048]⟩
abbrev S512x2048 : Shape := ⟨2, ![512, 2048]⟩
abbrev S1x6x2048 : Shape := ⟨3, ![1, 6, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8x6x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v34 : BitVec 1 := Scalar.cmpi .slt arg0 c8_i32
  let v35 : BitVec 32 := Scalar.extui v34
  let c0_i32 : BitVec 32 := 0#32
  let v36 : BitVec 1 := Scalar.cmpi .ne v35 c0_i32
  v36

def k0_cond2 (i : grid0.Coords) : BitVec 1 :=
  let arg0 : BitVec 32 := BitVec.ofNat 32 (i 0).val
  let c8_i32_14 : BitVec 32 := 8#32
  let v37 : BitVec 1 := Scalar.cmpi .sge arg0 c8_i32_14
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.subi v17 c4_i32
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x2048 : Shape := ⟨2, ![8192, 2048]⟩
abbrev S8x6x2048 : Shape := ⟨3, ![8, 6, 2048]⟩
abbrev S2048 : Shape := ⟨1, ![2048]⟩
abbrev S4096x2048 : Shape := ⟨2, ![4096, 2048]⟩
abbrev S_ : Shape := ⟨0, ![]⟩
abbrev S1x1x2048 : Shape := ⟨3, ![1, 1, 2048]⟩
abbrev S1x2048 : Shape := ⟨2, ![1, 2048]⟩
abbrev S4096 : Shape := ⟨1, ![4096]⟩
abbrev S4096x1 : Shape := ⟨2, ![4096, 1]⟩
abbrev S4x1024x2048 : Shape := ⟨3, ![4, 1024, 2048]⟩
abbrev S4x1x2048 : Shape := ⟨3, ![4, 1, 2048]⟩
abbrev S4x2048 : Shape := ⟨2, ![4, 2048]⟩
abbrev S4x1024 : Shape := ⟨2, ![4, 1024]⟩
abbrev S4x1024x1 : Shape := ⟨3, ![4, 1024, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8x6x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S1x1x2048, .f32⟩
  | .hbm, ⟨11, _⟩ => ⟨S2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4x1024x2048, .f32⟩
  | .hbm, ⟨48, _⟩ => ⟨S4096x2048, .f32⟩
  | .hbm, ⟨49, _⟩ => ⟨S4x1024x2048, .f32⟩
  | .hbm, ⟨50, _⟩ => ⟨S_, .f32⟩
  | .hbm, ⟨51, _⟩ => ⟨S4x1024x2048, .f32⟩
  | .hbm, ⟨52, _⟩ => ⟨S4x1024x2048, .f32⟩
  | .hbm, ⟨53, _⟩ => ⟨S4x1x2048, .f32⟩
  | .hbm, ⟨54, _⟩ => ⟨S4x2048, .f32⟩
  | .hbm, ⟨55, _⟩ => ⟨S4x1x2048, .f32⟩
  | .hbm, ⟨56, _⟩ => ⟨S4x1024x2048, .f32⟩
  | .hbm, ⟨57, _⟩ => ⟨S4x1024x2048, .f32⟩
  | .hbm, ⟨58, _⟩ => ⟨S4x1024x2048, .f32⟩
  | .hbm, ⟨59, _⟩ => ⟨S_, .f32⟩
  | .hbm, ⟨60, _⟩ => ⟨S4x1024, .f32⟩
  | .hbm, ⟨61, _⟩ => ⟨S4x1024x1, .f32⟩
  | .hbm, ⟨62, _⟩ => ⟨S_, .f32⟩
  | .hbm, ⟨63, _⟩ => ⟨S4x1024x1, .f32⟩
  | .hbm, ⟨64, _⟩ => ⟨S4x1024x1, .f32⟩
  | .hbm, ⟨65, _⟩ => ⟨S4x1024x2048, .f32⟩
  | .hbm, ⟨66, _⟩ => ⟨S4x1024x2048, .f32⟩
  | .hbm, ⟨67, _⟩ => ⟨S4x1024x2048, .f32⟩
  | .hbm, ⟨68, _⟩ => ⟨S_, .f32⟩
  | .hbm, ⟨69, _⟩ => ⟨S4x1024, .f32⟩
  | .hbm, ⟨70, _⟩ => ⟨S4x1024x1, .f32⟩
  | .hbm, ⟨71, _⟩ => ⟨S_, .f32⟩
  | .hbm, ⟨72, _⟩ => ⟨S4x1024x1, .f32⟩
  | .hbm, ⟨73, _⟩ => ⟨S4x1024x1, .f32⟩
  | .hbm, ⟨74, _⟩ => ⟨S4x1024x2048, .f32⟩
  | .hbm, ⟨75, _⟩ => ⟨S4x1024x2048, .f32⟩
  | .hbm, ⟨76, _⟩ => ⟨S_, .f32⟩
  | .hbm, ⟨77, _⟩ => ⟨S4x1024x1, .f32⟩
  | .hbm, ⟨78, _⟩ => ⟨S4x1024x1, .f32⟩
  | .hbm, ⟨79, _⟩ => ⟨S4x1024x1, .f32⟩
  | .hbm, ⟨80, _⟩ => ⟨S4x1024x2048, .f32⟩
  | .hbm, ⟨81, _⟩ => ⟨S4x1024x2048, .f32⟩
  | .hbm, ⟨82, _⟩ => ⟨S1x1x2048, .f32⟩
  | .hbm, ⟨83, _⟩ => ⟨S4x1024x2048, .f32⟩
  | .hbm, ⟨84, _⟩ => ⟨S4x1024x2048, .f32⟩
  | .hbm, ⟨85, _⟩ => ⟨S1x1x2048, .f32⟩
  | .hbm, ⟨86, _⟩ => ⟨S4x1024x2048, .f32⟩
  | .hbm, ⟨87, _⟩ => ⟨S4x1024x2048, .f32⟩
  | .hbm, ⟨88, _⟩ => ⟨S4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel7.lean ====
abbrev S8192x8192 : Shape := ⟨2, ![8192, 8192]⟩
abbrev S8192x512 : Shape := ⟨2, ![8192, 512]⟩
abbrev S4096x512 : Shape := ⟨2, ![4096, 512]⟩
abbrev S4096x1024 : Shape := ⟨2, ![4096, 1024]⟩
abbrev S2x512x2048 : Shape := ⟨3, ![2, 512, 2048]⟩
abbrev S2x1024x2048 : Shape := ⟨3, ![2, 1024, 2048]⟩
abbrev S8192x2048 : Shape := ⟨2, ![8192, 2048]⟩
abbrev S1024x512 : Shape := ⟨2, ![1024, 512]⟩
abbrev S1024x1024 : Shape := ⟨2, ![1024, 1024]⟩
abbrev S1x512x512 : Shape := ⟨3, ![1, 512, 512]⟩
abbrev S1x1024x512 : Shape := ⟨3, ![1, 1024, 512]⟩
abbrev S512x512 : Shape := ⟨2, ![512, 512]⟩

abbrev nBuf : Space → Nat
  | .hbm => 12
  | .vmem => 30
  | .smem => 0
  | _ => 0

abbrev bufTy : (tb : Table) → Fin (tcTables nBuf tb) → BufTy
  | .hbm, ⟨0, _⟩ => ⟨S8192x8192, .bf16⟩
  | .hbm, ⟨1, _⟩ => ⟨S8192x512, .bf16⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S8192x512, .bf16⟩
  | .hbm, ⟨7, _⟩ => ⟨S2x512x2048, .f32⟩
  | .hbm, ⟨8, _⟩ => ⟨S2x512x2048, .f32⟩
  | .hbm, ⟨9, _⟩ => ⟨S2x1024x2048, .f32⟩
  | .hbm, ⟨10, _⟩ => ⟨S2x512x2048, .f32⟩
  | .hbm, ⟨11, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x1024x512, .f32⟩
  | .local _ .vmem, ⟨25, _⟩ => ⟨S1x1024x512, .f32⟩
  | .local _ .vmem, ⟨26, _⟩ => ⟨S1x512x512, .f32⟩
  | .local _ .vmem, ⟨27, _⟩ => ⟨S1x512x512, .f32⟩
  | .local _ .vmem, ⟨28, _⟩ => ⟨S1024x512, .bf16⟩
  | .local _ .vmem, ⟨29, _⟩ => ⟨S1024x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference7Ideal.lean ====
abbrev S8192x8192 : Shape := ⟨2, ![8192, 8192]⟩
abbrev S8192x512 : Shape := ⟨2, ![8192, 512]⟩
abbrev S4096x512 : Shape := ⟨2, ![4096, 512]⟩
abbrev S4096x1024 : Shape := ⟨2, ![4096, 1024]⟩
abbrev S2x512x2048 : Shape := ⟨3, ![2, 512, 2048]⟩
abbrev S2x1024x2048 : Shape := ⟨3, ![2, 1024, 2048]⟩
abbrev S8192x1024 : Shape := ⟨2, ![8192, 1024]⟩
abbrev S8192x2048 : Shape := ⟨2, ![8192, 2048]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x512, .bf16⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S8192x512, .bf16⟩
  | .hbm, ⟨7, _⟩ => ⟨S2x512x2048, .f32⟩
  | .hbm, ⟨8, _⟩ => ⟨S2x512x2048, .f32⟩
  | .hbm, ⟨9, _⟩ => ⟨S2x1024x2048, .f32⟩
  | .hbm, ⟨10, _⟩ => ⟨S2x512x2048, .f32⟩
  | .hbm, ⟨11, _⟩ => ⟨S8192x8192, .f32⟩
  | .hbm, ⟨12, _⟩ => ⟨S8192x512, .bf16⟩
  | .hbm, ⟨13, _⟩ => ⟨S8192x1024, .bf16⟩
  | .hbm, ⟨14, _⟩ => ⟨S8192x2048, .f32⟩
  | .hbm, ⟨15, _⟩ => ⟨S8192x512, .f32⟩
  | .hbm, ⟨16, _⟩ => ⟨S1x512x2048, .f32⟩
  | .hbm, ⟨17, _⟩ => ⟨S512x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x512, .f32⟩
  | .hbm, ⟨22, _⟩ => ⟨S1x512x2048, .f32⟩
  | .hbm, ⟨23, _⟩ => ⟨S512x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S1x1024x2048, .f32⟩
  | .hbm, ⟨30, _⟩ => ⟨S1024x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x512, .f32⟩
  | .hbm, ⟨36, _⟩ => ⟨S1x512x2048, .f32⟩
  | .hbm, ⟨37, _⟩ => ⟨S512x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel8.lean ====
abbrev S32x256x3584 : Shape := ⟨3, ![32, 256, 3584]⟩
abbrev S2x4x128x1024 : Shape := ⟨4, ![2, 4, 128, 1024]⟩
abbrev S2x4x1024x128 : Shape := ⟨4, ![2, 4, 1024, 128]⟩
abbrev S2x1x4096 : Shape := ⟨3, ![2, 1, 4096]⟩
abbrev S2x16x4096 : Shape := ⟨3, ![2, 16, 4096]⟩
abbrev S16x256x512 : Shape := ⟨3, ![16, 256, 512]⟩
abbrev S16x4096 : Shape := ⟨2, ![16, 4096]⟩
abbrev S16x32x512 : Shape := ⟨3, ![16, 32, 512]⟩
abbrev S1x4x128x1024 : Shape := ⟨4, ![1, 4, 128, 1024]⟩
abbrev S1x4x1024x128 : Shape := ⟨4, ![1, 4, 1024, 128]⟩
abbrev S1x1x4096 : Shape := ⟨3, ![1, 1, 4096]⟩
abbrev S1x16x4096 : Shape := ⟨3, ![1, 16, 4096]⟩
abbrev S32x16x512 : Shape := ⟨3, ![32, 16, 512]⟩
abbrev S512x4096 : Shape := ⟨2, ![512, 4096]⟩
abbrev S512x512 : Shape := ⟨2, ![512, 512]⟩
abbrev S512x128 : Shape := ⟨2, ![512, 128]⟩
abbrev S1x1x128x1024 : Shape := ⟨4, ![1, 1, 128, 1024]⟩
abbrev S128x1024 : Shape := ⟨2, ![128, 1024]⟩
abbrev S512x1024 : Shape := ⟨2, ![512, 1024]⟩
abbrev S1x1x256 : Shape := ⟨3, ![1, 1, 256]⟩
abbrev S1x256 : Shape := ⟨2, ![1, 256]⟩
abbrev S16x256 : Shape := ⟨2, ![16, 256]⟩
abbrev S1x1x1024x128 : Shape := ⟨4, ![1, 1, 1024, 128]⟩
abbrev S1024x128 : Shape := ⟨2, ![1024, 128]⟩
abbrev S32x16x128 : Shape := ⟨3, ![32, 16, 128]⟩

abbrev nBuf : Space → Nat
  | .hbm => 7
  | .vmem => 12
  | .smem => 0
  | _ => 0

abbrev bufTy : (tb : Table) → Fin (tcTables nBuf tb) → BufTy
  | .hbm, ⟨0, _⟩ => ⟨S32x256x3584, .f32⟩
  | .hbm, ⟨1, _⟩ => ⟨S2x4x128x1024, .bf16⟩
  | .hbm, ⟨2, _⟩ => ⟨S2x4x1024x128, .bf16⟩
  | .hbm, ⟨3, _⟩ => ⟨S2x1x4096, .f32⟩
  | .hbm, ⟨4, _⟩ => ⟨S2x16x4096, .f32⟩
  | .hbm, ⟨5, _⟩ => ⟨S16x256x512, .f32⟩
  | .hbm, ⟨6, _⟩ => ⟨S16x4096, .f32⟩
  | .local _ .vmem, ⟨0, _⟩ => ⟨S16x32x512, .f32⟩
  | .local _ .vmem, ⟨1, _⟩ => ⟨S16x32x512, .f32⟩
  | .local _ .vmem, ⟨2, _⟩ => ⟨S1x4x128x1024, .bf16⟩
  | .local _ .vmem, ⟨3, _⟩ => ⟨S1x4x1024x128, .bf16⟩
  | .local _ .vmem, ⟨4, _⟩ => ⟨S1x1x4096, .f32⟩
  | .local _ .vmem, ⟨5, _⟩ => ⟨S1x16x4096, .f32⟩
  | .local _ .vmem, ⟨6, _⟩ => ⟨S16x32x512, .f32⟩
  | .local _ .vmem, ⟨7, _⟩ => ⟨S16x32x512, .f32⟩
  | .local _ .vmem, ⟨8, _⟩ => ⟨S16x4096, .f32⟩
  | .local _ .vmem, ⟨9, _⟩ => ⟨S32x16x512, .f32⟩
  | .local _ .vmem, ⟨10, _⟩ => ⟨S512x4096, .f32⟩
  | .local _ .vmem, ⟨11, _⟩ => ⟨S16x4096, .f32⟩
  | _, _ => ⟨S32x256x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_33 : BitVec 32 := 0#32
  let c32_i32 : BitVec 32 := 32#32
  let v45 : BitVec 32 := Scalar.addi c0_i32_33 c32_i32
  let c1_i32 : BitVec 32 := 1#32
  ⟨c0_i32_33, v45, c1_i32⟩
def k0_mult1 (k0_t1 : Fin k0_t1_loop.trips) : BitVec 32 :=
  let c0_i32_33 : BitVec 32 := 0#32
  let c1_i32 : BitVec 32 := 1#32
  let arg11 : BitVec 32 := Scf.iv c0_i32_33 c1_i32 k0_t1
  let c16_i32 : BitVec 32 := 16#32
  let v221 : BitVec 32 := Scalar.muli arg11 c16_i32
  v221
def k0_off1 (k0_t1 : Fin k0_t1_loop.trips) : Fin 2 → Nat :=
  let c0_i32_33 : BitVec 32 := 0#32
  let c1_i32 : BitVec 32 := 1#32
  let arg11 : BitVec 32 := Scf.iv c0_i32_33 c1_i32 k0_t1
  let c16_i32 : BitVec 32 := 16#32
  let v221 : BitVec 32 := Scalar.muli arg11 c16_i32
  let v222 : BitVec 32 := v221
  let v226 : Index := Scalar.indexCast v222
  let c0_199 : Index := 0#32
  ![v226.toNat, 0]
def k0_off2 (k0_t1 : Fin k0_t1_loop.trips) : Fin 2 → Nat :=
  let c0_i32_33 : BitVec 32 := 0#32
  let c1_i32 : BitVec 32 := 1#32
  let arg11 : BitVec 32 := Scf.iv c0_i32_33 c1_i32 k0_t1
  let c16_i32 : BitVec 32 := 16#32
  let v221 : BitVec 32 := Scalar.muli arg11 c16_i32
  let v222 : BitVec 32 := v221
  let v232 : Index := Scalar.indexCast v222
  let c512_200 : Index := 512#32
  ![v232.toNat, 512]
@[reducible] def k0_t2_loop : Scf.Loop 32 :=
  let c0_i32_47 : BitVec 32 := 0#32
  let c32_i32_48 : BitVec 32 := 32#32
  let v63 : BitVec 32 := Scalar.addi c0_i32_47 c32_i32_48
  let c1_i32_49 : BitVec 32 := 1#32
  ⟨c0_i32_47, v63, c1_i32_49⟩
def k0_mult2 (k0_t2 : Fin k0_t2_loop.trips) : BitVec 32 :=
  let c0_i32_47 : BitVec 32 := 0#32
  let c1_i32_49 : BitVec 32 := 1#32
  let arg11 : BitVec 32 := Scf.iv c0_i32_47 c1_i32_49 k0_t2
  let c16_i32 : BitVec 32 := 16#32
  let v221 : BitVec 32 := Scalar.muli arg11 c16_i32
  v221
def k0_off3 (k0_t2 : Fin k0_t2_loop.trips) : Fin 2 → Nat :=
  let c0_i32_47 : BitVec 32 := 0#32
  let c1_i32_49 : BitVec 32 := 1#32
  let arg11 : BitVec 32 := Scf.iv c0_i32_47 c1_i32_49 k0_t2
  let c16_i32 : BitVec 32 := 16#32
  let v221 : BitVec 32 := Scalar.muli arg11 c16_i32
  let v222 : BitVec 32 := v221
  let v226 : Index := Scalar.indexCast v222
  let c256_199 : Index := 256#32
  ![v226.toNat, 256]
def k0_off4 (k0_t2 : Fin k0_t2_loop.trips) : Fin 2 → Nat :=
  let c0_i32_47 : BitVec 32 := 0#32
  let c1_i32_49 : BitVec 32 := 1#32
  let arg11 : BitVec 32 := Scf.iv c0_i32_47 c1_i32_49 k0_t2
  let c16_i32 : BitVec 32 := 16#32
  let v221 : BitVec 32 := Scalar.muli arg11 c16_i32
  let v222 : BitVec 32 := v221
  let v232 : Index := Scalar.indexCast v222
  let c768_200 : Index := 768#32
  ![v232.toNat, 768]
@[reducible] def k0_t3_loop : Scf.Loop 32 :=
  let c0_i32_64 : BitVec 32 := 0#32
  let c32_i32_65 : BitVec 32 := 32#32
  let v81 : BitVec 32 := Scalar.addi c0_i32_64 c32_i32_65
  let c1_i32_66 : BitVec 32 := 1#32
  ⟨c0_i32_64, v81, c1_i32_66⟩
def k0_mult3 (k0_t3 : Fin k0_t3_loop.trips) : BitVec 32 :=
  let c0_i32_64 : BitVec 32 := 0#32
  let c1_i32_66 : BitVec 32 := 1#32
  let arg11 : BitVec 32 := Scf.iv c0_i32_64 c1_i32_66 k0_t3
  let c16_i32 : BitVec 32 := 16#32
  let v221 : BitVec 32 := Scalar.muli arg11 c16_i32
  v221
def k0_off5 (k0_t3 : Fin k0_t3_loop.trips) : Fin 2 → Nat :=
  let c0_i32_64 : BitVec 32 := 0#32
  let c1_i32_66 : BitVec 32 := 1#32
  let arg11 : BitVec 32 := Scf.iv c0_i32_64 c1_i32_66 k0_t3
  let c16_i32 : BitVec 32 := 16#32
  let v221 : BitVec 32 := Scalar.muli arg11 c16_i32
  let v222 : BitVec 32 := v221
  let v226 : Index := Scalar.indexCast v222
  let c1024_199 : Index := 1024#32
  ![v226.toNat, 1024]
def k0_off6 (k0_t3 : Fin k0_t3_loop.trips) : Fin 2 → Nat :=
  let c0_i32_64 : BitVec 32 := 0#32
  let c1_i32_66 : BitVec 32 := 1#32
  let arg11 : BitVec 32 := Scf.iv c0_i32_64 c1_i32_66 k0_t3
  let c16_i32 : BitVec 32 := 16#32
  let v221 : BitVec 32 := Scalar.muli arg11 c16_i32
  let v222 : BitVec 32 := v221
  let v232 : Index := Scalar.indexCast v222
  let c1536_200 : Index := 1536#32
  ![v232.toNat, 1536]
@[reducible] def k0_t4_loop : Scf.Loop 32 :=
  let c0_i32_80 : BitVec 32 := 0#32
  let c32_i32_81 : BitVec 32 := 32#32
  let v99 : BitVec 32 := Scalar.addi c0_i32_80 c32_i32_81
  let c1_i32_82 : BitVec 32 := 1#32
  ⟨c0_i32_80, v99, c1_i32_82⟩
def k0_mult4 (k0_t4 : Fin k0_t4_loop.trips) : BitVec 32 :=
  let c0_i32_80 : BitVec 32 := 0#32
  let c1_i32_82 : BitVec 32 := 1#32
  let arg11 : BitVec 32 := Scf.iv c0_i32_80 c1_i32_82 k0_t4
  let c16_i32 : BitVec 32 := 16#32
  let v221 : BitVec 32 := Scalar.muli arg11 c16_i32
  v221
def k0_off7 (k0_t4 : Fin k0_t4_loop.trips) : Fin 2 → Nat :=
  let c0_i32_80 : BitVec 32 := 0#32
  let c1_i32_82 : BitVec 32 := 1#32
  let arg11 : BitVec 32 := Scf.iv c0_i32_80 c1_i32_82 k0_t4
  let c16_i32 : BitVec 32 := 16#32
  let v221 : BitVec 32 := Scalar.muli arg11 c16_i32
  let v222 : BitVec 32 := v221
  let v226 : Index := Scalar.indexCast v222
  let c1280_199 : Index := 1280#32
  ![v226.toNat, 1280]
def k0_off8 (k0_t4 : Fin k0_t4_loop.trips) : Fin 2 → Nat :=
  let c0_i32_80 : BitVec 32 := 0#32
  let c1_i32_82 : BitVec 32 := 1#32
  let arg11 : BitVec 32 := Scf.iv c0_i32_80 c1_i32_82 k0_t4
  let c16_i32 : BitVec 32 := 16#32
  let v221 : BitVec 32 := Scalar.muli arg11 c16_i32
  let v222 : BitVec 32 := v221
  let v232 : Index := Scalar.indexCast v222
  let c1792_200 : Index := 1792#32
  ![v232.toNat, 1792]
@[reducible] def k0_t5_loop : Scf.Loop 32 :=
  let c0_i32_97 : BitVec 32 := 0#32
  let c32_i32_98 : BitVec 32 := 32#32
  let v117 : BitVec 32 := Scalar.addi c0_i32_97 c32_i32_98
  let c1_i32_99 : BitVec 32 := 1#32
  ⟨c0_i32_97, v117, c1_i32_99⟩
def k0_mult5 (k0_t5 : Fin k0_t5_loop.trips) : BitVec 32 :=
  let c0_i32_97 : BitVec 32 := 0#32
  let c1_i32_99 : BitVec 32 := 1#32
  let arg11 : BitVec 32 := Scf.iv c0_i32_97 c1_i32_99 k0_t5
  let c16_i32 : BitVec 32 := 16#32
  let v221 : BitVec 32 := Scalar.muli arg11 c16_i32
  v221
def k0_off9 (k0_t5 : Fin k0_t5_loop.trips) : Fin 2 → Nat :=
  let c0_i32_97 : BitVec 32 := 0#32
  let c1_i32_99 : BitVec 32 := 1#32
  let arg11 : BitVec 32 := Scf.iv c0_i32_97 c1_i32_99 k0_t5
  let c16_i32 : BitVec 32 := 16#32
  let v221 : BitVec 32 := Scalar.muli arg11 c16_i32
  let v222 : BitVec 32 := v221
  let v226 : Index := Scalar.indexCast v222
  let c2048_199 : Index := 2048#32
  ![v226.toNat, 2048]
def k0_off10 (k0_t5 : Fin k0_t5_loop.trips) : Fin 2 → Nat :=
  let c0_i32_97 : BitVec 32 := 0#32
  let c1_i32_99 : BitVec 32 := 1#32
  let arg11 : BitVec 32 := Scf.iv c0_i32_97 c1_i32_99 k0_t5
  let c16_i32 : BitVec 32 := 16#32
  let v221 : BitVec 32 := Scalar.muli arg11 c16_i32
  let v222 : BitVec 32 := v221
  let v232 : Index := Scalar.indexCast v222
  let c2560_200 : Index := 2560#32
  ![v232.toNat, 2560]
@[reducible] def k0_t6_loop : Scf.Loop 32 :=
  let c0_i32_113 : BitVec 32 := 0#32
  let c32_i32_114 : BitVec 32 := 32#32
  let v135 : BitVec 32 := Scalar.addi c0_i32_113 c32_i32_114
  let c1_i32_115 : BitVec 32 := 1#32
  ⟨c0_i32_113, v135, c1_i32_115⟩
def k0_mult6 (k0_t6 : Fin k0_t6_loop.trips) : BitVec 32 :=
  let c0_i32_113 : BitVec 32 := 0#32
  let c1_i32_115 : BitVec 32 := 1#32
  let arg11 : BitVec 32 := Scf.iv c0_i32_113 c1_i32_115 k0_t6
  let c16_i32 : BitVec 32 := 16#32
  let v221 : BitVec 32 := Scalar.muli arg11 c16_i32
  v221
def k0_off11 (k0_t6 : Fin k0_t6_loop.trips) : Fin 2 → Nat :=
  let c0_i32_113 : BitVec 32 := 0#32
  let c1_i32_115 : BitVec 32 := 1#32
  let arg11 : BitVec 32 := Scf.iv c0_i32_113 c1_i32_115 k0_t6
  let c16_i32 : BitVec 32 := 16#32
  let v221 : BitVec 32 := Scalar.muli arg11 c16_i32
  let v222 : BitVec 32 := v221
  let v226 : Index := Scalar.indexCast v222
  let c2304_199 : Index := 2304#32
  ![v226.toNat, 2304]
def k0_off12 (k0_t6 : Fin k0_t6_loop.trips) : Fin 2 → Nat :=
  let c0_i32_113 : BitVec 32 := 0#32
  let c1_i32_115 : BitVec 32 := 1#32
  let arg11 : BitVec 32 := Scf.iv c0_i32_113 c1_i32_115 k0_t6
  let c16_i32 : BitVec 32 := 16#32
  let v221 : BitVec 32 := Scalar.muli arg11 c16_i32
  let v222 : BitVec 32 := v221
  let v232 : Index := Scalar.indexCast v222
  let c2816_200 : Index := 2816#32
  ![v232.toNat, 2816]
@[reducible] def k0_t7_loop : Scf.Loop 32 :=
  let c0_i32_130 : BitVec 32 := 0#32
  let c32_i32_131 : BitVec 32 := 32#32
  let v153 : BitVec 32 := Scalar.addi c0_i32_130 c32_i32_131
  let c1_i32_132 : BitVec 32 := 1#32
  ⟨c0_i32_130, v153, c1_i32_132⟩
def k0_mult7 (k0_t7 : Fin k0_t7_loop.trips) : BitVec 32 :=
  let c0_i32_130 : BitVec 32 := 0#32
  let c1_i32_132 : BitVec 32 := 1#32
  let arg11 : BitVec 32 := Scf.iv c0_i32_130 c1_i32_132 k0_t7
  let c16_i32 : BitVec 32 := 16#32
  let v221 : BitVec 32 := Scalar.muli arg11 c16_i32
  v221
def k0_off13 (k0_t7 : Fin k0_t7_loop.trips) : Fin 2 → Nat :=
  let c0_i32_130 : BitVec 32 := 0#32
  let c1_i32_132 : BitVec 32 := 1#32
  let arg11 : BitVec 32 := Scf.iv c0_i32_130 c1_i32_132 k0_t7
  let c16_i32 : BitVec 32 := 16#32
  let v221 : BitVec 32 := Scalar.muli arg11 c16_i32
  let v222 : BitVec 32 := v221
  let v226 : Index := Scalar.indexCast v222
  let c3072_199 : Index := 3072#32
  ![v226.toNat, 3072]
def k0_off14 (k0_t7 : Fin k0_t7_loop.trips) : Fin 2 → Nat :=
  let c0_i32_130 : BitVec 32 := 0#32
  let c1_i32_132 : BitVec 32 := 1#32
  let arg11 : BitVec 32 := Scf.iv c0_i32_130 c1_i32_132 k0_t7
  let c16_i32 : BitVec 32 := 16#32
  let v221 : BitVec 32 := Scalar.muli arg11 c16_i32
  let v222 : BitVec 32 := v221
  let v232 : Index := Scalar.indexCast v222
  let c3584_200 : Index := 3584#32
  ![v232.toNat, 3584]
@[reducible] def k0_t8_loop : Scf.Loop 32 :=
  let c0_i32_146 : BitVec 32 := 0#32
  let c32_i32_147 : BitVec 32 := 32#32
  let v171 : BitVec 32 := Scalar.addi c0_i32_146 c32_i32_147
  let c1_i32_148 : BitVec 32 := 1#32
  ⟨c0_i32_146, v171, c1_i32_148⟩
def k0_mult8 (k0_t8 : Fin k0_t8_loop.trips) : BitVec 32 :=
  let c0_i32_146 : BitVec 32 := 0#32
  let c1_i32_148 : BitVec 32 := 1#32
  let arg11 : BitVec 32 := Scf.iv c0_i32_146 c1_i32_148 k0_t8
  let c16_i32 : BitVec 32 := 16#32
  let v221 : BitVec 32 := Scalar.muli arg11 c16_i32
  v221
def k0_off15 (k0_t8 : Fin k0_t8_loop.trips) : Fin 2 → Nat :=
  let c0_i32_146 : BitVec 32 := 0#32
  let c1_i32_148 : BitVec 32 := 1#32
  let arg11 : BitVec 32 := Scf.iv c0_i32_146 c1_i32_148 k0_t8
  let c16_i32 : BitVec 32 := 16#32
  let v221 : BitVec 32 := Scalar.muli arg11 c16_i32
  let v222 : BitVec 32 := v221
  let v226 : Index := Scalar.indexCast v222
  let c3328_199 : Index := 3328#32
  ![v226.toNat, 3328]
def k0_off16 (k0_t8 : Fin k0_t8_loop.trips) : Fin 2 → Nat :=
  let c0_i32_146 : BitVec 32 := 0#32
  let c1_i32_148 : BitVec 32 := 1#32
  let arg11 : BitVec 32 := Scf.iv c0_i32_146 c1_i32_148 k0_t8
  let c16_i32 : BitVec 32 := 16#32
  let v221 : BitVec 32 := Scalar.muli arg11 c16_i32
  let v222 : BitVec 32 := v221
  let v232 : Index := Scalar.indexCast v222
  let c3840_200 : Index := 3840#32
  ![v232.toNat, 3840]
def k0_cond2 (i : grid0.Coords) : BitVec 1 :=
  let arg0 : BitVec 32 := BitVec.ofNat 32 (i 0).val
  let c7_i32 : BitVec 32 := 7#32
  let v218 : BitVec 1 := Scalar.cmpi .eq arg0 c7_i32
  let v219 : BitVec 32 := Scalar.extui v218
  let c0_i32_198 : BitVec 32 := 0#32
  let v220 : BitVec 1 := Scalar.cmpi .ne v219 c0_i32_198
  v220

def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S32x256x3584 : Shape := ⟨3, ![32, 256, 3584]⟩
abbrev S2x4x128x1024 : Shape := ⟨4, ![2, 4, 128, 1024]⟩
abbrev S2x4x1024x128 : Shape := ⟨4, ![2, 4, 1024, 128]⟩
abbrev S2x1x4096 : Shape := ⟨3, ![2, 1, 4096]⟩
abbrev S2x16x4096 : Shape := ⟨3, ![2, 16, 4096]⟩
abbrev S16x256x512 : Shape := ⟨3, ![16, 256, 512]⟩
abbrev S16x256x4x128 : Shape := ⟨4, ![16, 256, 4, 128]⟩
abbrev S1x4x128x1024 : Shape := ⟨4, ![1, 4, 128, 1024]⟩
abbrev S4x128x1024 : Shape := ⟨3, ![4, 128, 1024]⟩
abbrev S4x1024x16x256 : Shape := ⟨4, ![4, 1024, 16, 256]⟩
abbrev S256x16x4x1024 : Shape := ⟨4, ![256, 16, 4, 1024]⟩
abbrev S1x1x4096 : Shape := ⟨3, ![1, 1, 4096]⟩
abbrev S1x4096 : Shape := ⟨2, ![1, 4096]⟩
abbrev S1x4x2x512 : Shape := ⟨4, ![1, 4, 2, 512]⟩
abbrev S1x4x1x512 : Shape := ⟨4, ![1, 4, 1, 512]⟩
abbrev S1x4x512 : Shape := ⟨3, ![1, 4, 512]⟩
abbrev S1x16x4096 : Shape := ⟨3, ![1, 16, 4096]⟩
abbrev S16x4096 : Shape := ⟨2, ![16, 4096]⟩
abbrev S16x4x2x512 : Shape := ⟨4, ![16, 4, 2, 512]⟩
abbrev S16x4x1x512 : Shape := ⟨4, ![16, 4, 1, 512]⟩
abbrev S16x4x512 : Shape := ⟨3, ![16, 4, 512]⟩
abbrev S_ : Shape := ⟨0, ![]⟩
abbrev S1x16x4x1024 : Shape := ⟨4, ![1, 16, 4, 1024]⟩
abbrev S16x4x1024 : Shape := ⟨3, ![16, 4, 1024]⟩

abbrev nBuf : Space → Nat
  | .hbm => 63
  | .vmem => 0
  | .smem => 0
  | _ => 0

abbrev bufTy : (tb : Table) → Fin (tcTables nBuf tb) → BufTy
  | .hbm, ⟨0, _⟩ => ⟨S32x256x3584, .f32⟩
  | .hbm, ⟨1, _⟩ => ⟨S2x4x128x1024, .bf16⟩
  | .hbm, ⟨2, _⟩ => ⟨S2x4x1024x128, .bf16⟩
  | .hbm, ⟨3, _⟩ => ⟨S2x1x4096, .f32⟩
  | .hbm, ⟨4, _⟩ => ⟨S2x16x4096, .f32⟩
  | .hbm, ⟨5, _⟩ => ⟨S16x256x512, .f32⟩
  | .hbm, ⟨6, _⟩ => ⟨S16x256x4x128, .f32⟩
  | .hbm, ⟨7, _⟩ => ⟨S1x4x128x1024, .bf16⟩
  | .hbm, ⟨8, _⟩ => ⟨S4x128x1024, .bf16⟩
  | .hbm, ⟨9, _⟩ => ⟨S4x128x1024, .f32⟩
  | .hbm, ⟨10, _⟩ => ⟨S4x1024x16x256, .f32⟩
  | .hbm, ⟨11, _⟩ => ⟨S256x16x4x1024, .f32⟩
  | .hbm, ⟨12, _⟩ => ⟨S1x1x4096, .f32⟩
  | .hbm, ⟨13, _⟩ => ⟨S1x4096, .f32⟩
  | .hbm, ⟨14, _⟩ => ⟨S1x4x2x512, .f32⟩
  | .hbm, ⟨15, _⟩ => ⟨S1x4x1x512, .f32⟩
  | .hbm, ⟨16, _⟩ => ⟨S1x4x512, .f32⟩
  | .hbm, ⟨17, _⟩ => ⟨S1x1x4096, .f32⟩
  | .hbm, ⟨18, _⟩ => ⟨S1x4096, .f32⟩
  | .hbm, ⟨19, _⟩ => ⟨S1x4x2x512, .f32⟩
  | .hbm, ⟨20, _⟩ => ⟨S1x4x1x512, .f32⟩
  | .hbm, ⟨21, _⟩ => ⟨S1x4x512, .f32⟩
  | .hbm, ⟨22, _⟩ => ⟨S1x16x4096, .f32⟩
  | .hbm, ⟨23, _⟩ => ⟨S16x4096, .f32⟩
  | .hbm, ⟨24, _⟩ => ⟨S16x4x2x512, .f32⟩
  | .hbm, ⟨25, _⟩ => ⟨S16x4x1x512, .f32⟩
  | .hbm, ⟨26, _⟩ => ⟨S16x4x512, .f32⟩
  | .hbm, ⟨27, _⟩ => ⟨S16x4x1x512, .f32⟩
  | .hbm, ⟨28, _⟩ => ⟨S16x4x512, .f32⟩
  | .hbm, ⟨29, _⟩ => ⟨S_, .i32⟩
  | .hbm, ⟨30, _⟩ => ⟨S256x16x4x1024, .f32⟩
  | .hbm, ⟨31, _⟩ => ⟨S1x4x512, .f32⟩
  | .hbm, ⟨32, _⟩ => ⟨S1x4x512, .f32⟩
  | .hbm, ⟨33, _⟩ => ⟨S_, .i32⟩
  | .hbm, ⟨34, _⟩ => ⟨S16x4x512, .f32⟩
  | .hbm, ⟨35, _⟩ => ⟨S16x4x512, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x16x4x1024, .f32⟩
  | .hbm, ⟨42, _⟩ => ⟨S16x4x1024, .f32⟩
  | .hbm, ⟨43, _⟩ => ⟨S16x4x512, .f32⟩
  | .hbm, ⟨44, _⟩ => ⟨S16x4x512, .f32⟩
  | .hbm, ⟨45, _⟩ => ⟨S16x4x512, .f32⟩
  | .hbm, ⟨46, _⟩ => ⟨S16x4x512, .f32⟩
  | .hbm, ⟨47, _⟩ => ⟨S16x4x512, .f32⟩
  | .hbm, ⟨48, _⟩ => ⟨S16x4x512, .f32⟩
  | .hbm, ⟨49, _⟩ => ⟨S16x4x512, .f32⟩
  | .hbm, ⟨50, _⟩ => ⟨S16x4x512, .f32⟩
  | .hbm, ⟨51, _⟩ => ⟨S16x4x512, .f32⟩
  | .hbm, ⟨52, _⟩ => ⟨S16x4x512, .f32⟩
  | .hbm, ⟨53, _⟩ => ⟨S16x4x512, .f32⟩
  | .hbm, ⟨54, _⟩ => ⟨S16x4x512, .f32⟩
  | .hbm, ⟨55, _⟩ => ⟨S16x4x512, .f32⟩
  | .hbm, ⟨56, _⟩ => ⟨S16x4x512, .f32⟩
  | .hbm, ⟨57, _⟩ => ⟨S_, .i32⟩
  | .hbm, ⟨58, _⟩ => ⟨S_, .i32⟩
  | .hbm, ⟨59, _⟩ => ⟨S16x4x1x512, .f32⟩
  | .hbm, ⟨60, _⟩ => ⟨S16x4x1x512, .f32⟩
  | .hbm, ⟨61, _⟩ => ⟨S16x4x2x512, .f32⟩
  | .hbm, ⟨62, _⟩ => ⟨S16x4096, .f32⟩
  | _, _ => ⟨S32x256x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24_0 : Ref sig .tc := ⟨.hbm, 30, rfl⟩
abbrev main_v24_1 : Ref sig .tc := ⟨.hbm, 31, rfl⟩
abbrev main_v24_2 : Ref sig .tc := ⟨.hbm, 32, rfl⟩
abbrev main_v24_3 : Ref sig .tc := ⟨.hbm, 33, rfl⟩
abbrev main_v24_4 : Ref sig .tc := ⟨.hbm, 34, rfl⟩
abbrev main_v24_5 : Ref sig .tc := ⟨.hbm, 35, rfl⟩
abbrev main_while0c_c_5 : Ref sig .tc := ⟨.hbm, 36, rfl⟩
abbrev main_while0c_v29 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_v0 : Ref sig .tc := ⟨.hbm, 41, rfl⟩
abbrev main_while0b_v29 : Ref sig .tc := ⟨.hbm, 42, rfl⟩
abbrev main_while0b_v30 : Ref sig .tc := ⟨.hbm, 43, rfl⟩
abbrev main_while0b_v31 : Ref sig .tc := ⟨.hbm, 44, rfl⟩
abbrev main_while0b_v32 : Ref sig .tc := ⟨.hbm, 45, rfl⟩
abbrev main_while0b_v33 : Ref sig .tc := ⟨.hbm, 46, rfl⟩
abbrev main_while0b_v34 : Ref sig .tc := ⟨.hbm, 47, rfl⟩
abbrev main_while0b_v35 : Ref sig .tc := ⟨.hbm, 48, rfl⟩
abbrev main_while0b_v36 : Ref sig .tc := ⟨.hbm, 49, rfl⟩
abbrev main_while0b_v37 : Ref sig .tc := ⟨.hbm, 50, rfl⟩
abbrev main_while0b_v38 : Ref sig .tc := ⟨.hbm, 51, rfl⟩
abbrev main_while0b_v39 : Ref sig .tc := ⟨.hbm, 52, rfl⟩
abbrev main_while0b_v40 : Ref sig .tc := ⟨.hbm, 53, rfl⟩
abbrev main_while0b_v41 : Ref sig .tc := ⟨.hbm, 54, rfl⟩
abbrev main_while0b_v42 : Ref sig .tc := ⟨.hbm, 55, rfl⟩
abbrev main_while0b_v43 : Ref sig .tc := ⟨.hbm, 56, rfl⟩
abbrev main_while0b_c_5 : Ref sig .tc := ⟨.hbm, 57, rfl⟩
abbrev main_while0b_v44 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩

abbrev nD : Nat := 1
abbrev τ : Topo := Topo.v7x

variable {F : FTy → Type} [FloatOps F]

abbrev main_while0_count : Scf.Loop 32 := ⟨0#32, 256#32, 1#32⟩
-- ==== Kernel9.lean ====
abbrev S32x256x3584 : Shape := ⟨3, ![32, 256, 3584]⟩
abbrev S2x4x128x1024 : Shape := ⟨4, ![2, 4, 128, 1024]⟩
abbrev S2x4x1024x128 : Shape := ⟨4, ![2, 4, 1024, 128]⟩
abbrev S2x1x4096 : Shape := ⟨3, ![2, 1, 4096]⟩
abbrev S2x16x4096 : Shape := ⟨3, ![2, 16, 4096]⟩
abbrev S16x256x512 : Shape := ⟨3, ![16, 256, 512]⟩
abbrev S512 : Shape := ⟨1, ![512]⟩
abbrev S512x512 : Shape := ⟨2, ![512, 512]⟩
abbrev S1x512 : Shape := ⟨2, ![1, 512]⟩
abbrev S16x4096 : Shape := ⟨2, ![16, 4096]⟩
abbrev S16x32x512 : Shape := ⟨3, ![16, 32, 512]⟩
abbrev S1x4x128x1024 : Shape := ⟨4, ![1, 4, 128, 1024]⟩
abbrev S1x4x1024x128 : Shape := ⟨4, ![1, 4, 1024, 128]⟩
abbrev S1x1x4096 : Shape := ⟨3, ![1, 1, 4096]⟩
abbrev S1x16x4096 : Shape := ⟨3, ![1, 16, 4096]⟩
abbrev S32x16x512 : Shape := ⟨3, ![32, 16, 512]⟩
abbrev S512x4096 : Shape := ⟨2, ![512, 4096]⟩
abbrev S512x128 : Shape := ⟨2, ![512, 128]⟩
abbrev S1x1x128x1024 : Shape := ⟨4, ![1, 1, 128, 1024]⟩
abbrev S128x1024 : Shape := ⟨2, ![128, 1024]⟩
abbrev S512x1024 : Shape := ⟨2, ![512, 1024]⟩
abbrev S1x1x256 : Shape := ⟨3, ![1, 1, 256]⟩
abbrev S1x256 : Shape := ⟨2, ![1, 256]⟩
abbrev S16x256 : Shape := ⟨2, ![16, 256]⟩
abbrev S1x1x1024x128 : Shape := ⟨4, ![1, 1, 1024, 128]⟩
abbrev S1024x128 : Shape := ⟨2, ![1024, 128]⟩
abbrev S32x16x128 : Shape := ⟨3, ![32, 16, 128]⟩

abbrev nBuf : Space → Nat
  | .hbm => 11
  | .vmem => 16
  | .smem => 0
  | _ => 0

abbrev bufTy : (tb : Table) → Fin (tcTables nBuf tb) → BufTy
  | .hbm, ⟨0, _⟩ => ⟨S32x256x3584, .f32⟩
  | .hbm, ⟨1, _⟩ => ⟨S2x4x128x1024, .bf16⟩
  | .hbm, ⟨2, _⟩ => ⟨S2x4x1024x128, .bf16⟩
  | .hbm, ⟨3, _⟩ => ⟨S2x1x4096, .f32⟩
  | .hbm, ⟨4, _⟩ => ⟨S2x16x4096, .f32⟩
  | .hbm, ⟨5, _⟩ => ⟨S16x256x512, .f32⟩
  | .hbm, ⟨6, _⟩ => ⟨S512, .f32⟩
  | .hbm, ⟨7, _⟩ => ⟨S512x512, .f32⟩
  | .hbm, ⟨8, _⟩ => ⟨S1x512, .f32⟩
  | .hbm, ⟨9, _⟩ => ⟨S16x256x512, .bf16⟩
  | .hbm, ⟨10, _⟩ => ⟨S16x4096, .f32⟩
  | .local _ .vmem, ⟨0, _⟩ => ⟨S16x32x512, .f32⟩
  | .local _ .vmem, ⟨1, _⟩ => ⟨S16x32x512, .f32⟩
  | .local _ .vmem, ⟨2, _⟩ => ⟨S1x4x128x1024, .bf16⟩
  | .local _ .vmem, ⟨3, _⟩ => ⟨S1x4x1024x128, .bf16⟩
  | .local _ .vmem, ⟨4, _⟩ => ⟨S1x1x4096, .f32⟩
  | .local _ .vmem, ⟨5, _⟩ => ⟨S1x16x4096, .f32⟩
  | .local _ .vmem, ⟨6, _⟩ => ⟨S16x32x512, .f32⟩
  | .local _ .vmem, ⟨7, _⟩ => ⟨S16x32x512, .f32⟩
  | .local _ .vmem, ⟨8, _⟩ => ⟨S1x512, .f32⟩
  | .local _ .vmem, ⟨9, _⟩ => ⟨S512x512, .f32⟩
  | .local _ .vmem, ⟨10, _⟩ => ⟨S16x32x512, .bf16⟩
  | .local _ .vmem, ⟨11, _⟩ => ⟨S16x32x512, .bf16⟩
  | .local _ .vmem, ⟨12, _⟩ => ⟨S16x4096, .f32⟩
  | .local _ .vmem, ⟨13, _⟩ => ⟨S32x16x512, .f32⟩
  | .local _ .vmem, ⟨14, _⟩ => ⟨S512x4096, .f32⟩
  | .local _ .vmem, ⟨15, _⟩ => ⟨S16x4096, .f32⟩
  | _, _ => ⟨S32x256x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_33 : BitVec 32 := 0#32
  let c32_i32 : BitVec 32 := 32#32
  let v45 : BitVec 32 := Scalar.addi c0_i32_33 c32_i32
  let c1_i32 : BitVec 32 := 1#32
  ⟨c0_i32_33, v45, c1_i32⟩
def k0_mult1 (k0_t1 : Fin k0_t1_loop.trips) : BitVec 32 :=
  let c31_i32 : BitVec 32 := 31#32
  let c0_i32_33 : BitVec 32 := 0#32
  let c1_i32 : BitVec 32 := 1#32
  let arg14 : BitVec 32 := Scf.iv c0_i32_33 c1_i32 k0_t1
  let v255 : BitVec 32 := Scalar.subi c31_i32 arg14
  let c16_i32 : BitVec 32 := 16#32
  let v256 : BitVec 32 := Scalar.muli v255 c16_i32
  v256
def k0_off1 (k0_t1 : Fin k0_t1_loop.trips) : Fin 2 → Nat :=
  let c31_i32 : BitVec 32 := 31#32
  let c0_i32_33 : BitVec 32 := 0#32
  let c1_i32 : BitVec 32 := 1#32
  let arg14 : BitVec 32 := Scf.iv c0_i32_33 c1_i32 k0_t1
  let v255 : BitVec 32 := Scalar.subi c31_i32 arg14
  let c16_i32 : BitVec 32 := 16#32
  let v256 : BitVec 32 := Scalar.muli v255 c16_i32
  let v257 : BitVec 32 := v256
  let v261 : Index := Scalar.indexCast v257
  let c0_217 : Index := 0#32
  ![v261.toNat, 0]
def k0_off2 (k0_t1 : Fin k0_t1_loop.trips) : Fin 2 → Nat :=
  let c31_i32 : BitVec 32 := 31#32
  let c0_i32_33 : BitVec 32 := 0#32
  let c1_i32 : BitVec 32 := 1#32
  let arg14 : BitVec 32 := Scf.iv c0_i32_33 c1_i32 k0_t1
  let v255 : BitVec 32 := Scalar.subi c31_i32 arg14
  let c16_i32 : BitVec 32 := 16#32
  let v256 : BitVec 32 := Scalar.muli v255 c16_i32
  let v257 : BitVec 32 := v256
  let v267 : Index := Scalar.indexCast v257
  let c512_218 : Index := 512#32
  ![v267.toNat, 512]
@[reducible] def k0_t2_loop : Scf.Loop 32 :=
  let c0_i32_47 : BitVec 32 := 0#32
  let c32_i32_48 : BitVec 32 := 32#32
  let v63 : BitVec 32 := Scalar.addi c0_i32_47 c32_i32_48
  let c1_i32_49 : BitVec 32 := 1#32
  ⟨c0_i32_47, v63, c1_i32_49⟩
def k0_mult2 (k0_t2 : Fin k0_t2_loop.trips) : BitVec 32 :=
  let c31_i32 : BitVec 32 := 31#32
  let c0_i32_47 : BitVec 32 := 0#32
  let c1_i32_49 : BitVec 32 := 1#32
  let arg14 : BitVec 32 := Scf.iv c0_i32_47 c1_i32_49 k0_t2
  let v255 : BitVec 32 := Scalar.subi c31_i32 arg14
  let c16_i32 : BitVec 32 := 16#32
  let v256 : BitVec 32 := Scalar.muli v255 c16_i32
  v256
def k0_off3 (k0_t2 : Fin k0_t2_loop.trips) : Fin 2 → Nat :=
  let c31_i32 : BitVec 32 := 31#32
  let c0_i32_47 : BitVec 32 := 0#32
  let c1_i32_49 : BitVec 32 := 1#32
  let arg14 : BitVec 32 := Scf.iv c0_i32_47 c1_i32_49 k0_t2
  let v255 : BitVec 32 := Scalar.subi c31_i32 arg14
  let c16_i32 : BitVec 32 := 16#32
  let v256 : BitVec 32 := Scalar.muli v255 c16_i32
  let v257 : BitVec 32 := v256
  let v261 : Index := Scalar.indexCast v257
  let c256_217 : Index := 256#32
  ![v261.toNat, 256]
def k0_off4 (k0_t2 : Fin k0_t2_loop.trips) : Fin 2 → Nat :=
  let c31_i32 : BitVec 32 := 31#32
  let c0_i32_47 : BitVec 32 := 0#32
  let c1_i32_49 : BitVec 32 := 1#32
  let arg14 : BitVec 32 := Scf.iv c0_i32_47 c1_i32_49 k0_t2
  let v255 : BitVec 32 := Scalar.subi c31_i32 arg14
  let c16_i32 : BitVec 32 := 16#32
  let v256 : BitVec 32 := Scalar.muli v255 c16_i32
  let v257 : BitVec 32 := v256
  let v267 : Index := Scalar.indexCast v257
  let c768_218 : Index := 768#32
  ![v267.toNat, 768]
@[reducible] def k0_t3_loop : Scf.Loop 32 :=
  let c0_i32_64 : BitVec 32 := 0#32
  let c32_i32_65 : BitVec 32 := 32#32
  let v81 : BitVec 32 := Scalar.addi c0_i32_64 c32_i32_65
  let c1_i32_66 : BitVec 32 := 1#32
  ⟨c0_i32_64, v81, c1_i32_66⟩
def k0_mult3 (k0_t3 : Fin k0_t3_loop.trips) : BitVec 32 :=
  let c31_i32 : BitVec 32 := 31#32
  let c0_i32_64 : BitVec 32 := 0#32
  let c1_i32_66 : BitVec 32 := 1#32
  let arg14 : BitVec 32 := Scf.iv c0_i32_64 c1_i32_66 k0_t3
  let v255 : BitVec 32 := Scalar.subi c31_i32 arg14
  let c16_i32 : BitVec 32 := 16#32
  let v256 : BitVec 32 := Scalar.muli v255 c16_i32
  v256
def k0_off5 (k0_t3 : Fin k0_t3_loop.trips) : Fin 2 → Nat :=
  let c31_i32 : BitVec 32 := 31#32
  let c0_i32_64 : BitVec 32 := 0#32
  let c1_i32_66 : BitVec 32 := 1#32
  let arg14 : BitVec 32 := Scf.iv c0_i32_64 c1_i32_66 k0_t3
  let v255 : BitVec 32 := Scalar.subi c31_i32 arg14
  let c16_i32 : BitVec 32 := 16#32
  let v256 : BitVec 32 := Scalar.muli v255 c16_i32
  let v257 : BitVec 32 := v256
  let v261 : Index := Scalar.indexCast v257
  let c1024_217 : Index := 1024#32
  ![v261.toNat, 1024]
def k0_off6 (k0_t3 : Fin k0_t3_loop.trips) : Fin 2 → Nat :=
  let c31_i32 : BitVec 32 := 31#32
  let c0_i32_64 : BitVec 32 := 0#32
  let c1_i32_66 : BitVec 32 := 1#32
  let arg14 : BitVec 32 := Scf.iv c0_i32_64 c1_i32_66 k0_t3
  let v255 : BitVec 32 := Scalar.subi c31_i32 arg14
  let c16_i32 : BitVec 32 := 16#32
  let v256 : BitVec 32 := Scalar.muli v255 c16_i32
  let v257 : BitVec 32 := v256
  let v267 : Index := Scalar.indexCast v257
  let c1536_218 : Index := 1536#32
  ![v267.toNat, 1536]
@[reducible] def k0_t4_loop : Scf.Loop 32 :=
  let c0_i32_80 : BitVec 32 := 0#32
  let c32_i32_81 : BitVec 32 := 32#32
  let v99 : BitVec 32 := Scalar.addi c0_i32_80 c32_i32_81
  let c1_i32_82 : BitVec 32 := 1#32
  ⟨c0_i32_80, v99, c1_i32_82⟩
def k0_mult4 (k0_t4 : Fin k0_t4_loop.trips) : BitVec 32 :=
  let c31_i32 : BitVec 32 := 31#32
  let c0_i32_80 : BitVec 32 := 0#32
  let c1_i32_82 : BitVec 32 := 1#32
  let arg14 : BitVec 32 := Scf.iv c0_i32_80 c1_i32_82 k0_t4
  let v255 : BitVec 32 := Scalar.subi c31_i32 arg14
  let c16_i32 : BitVec 32 := 16#32
  let v256 : BitVec 32 := Scalar.muli v255 c16_i32
  v256
def k0_off7 (k0_t4 : Fin k0_t4_loop.trips) : Fin 2 → Nat :=
  let c31_i32 : BitVec 32 := 31#32
  let c0_i32_80 : BitVec 32 := 0#32
  let c1_i32_82 : BitVec 32 := 1#32
  let arg14 : BitVec 32 := Scf.iv c0_i32_80 c1_i32_82 k0_t4
  let v255 : BitVec 32 := Scalar.subi c31_i32 arg14
  let c16_i32 : BitVec 32 := 16#32
  let v256 : BitVec 32 := Scalar.muli v255 c16_i32
  let v257 : BitVec 32 := v256
  let v261 : Index := Scalar.indexCast v257
  let c1280_217 : Index := 1280#32
  ![v261.toNat, 1280]
def k0_off8 (k0_t4 : Fin k0_t4_loop.trips) : Fin 2 → Nat :=
  let c31_i32 : BitVec 32 := 31#32
  let c0_i32_80 : BitVec 32 := 0#32
  let c1_i32_82 : BitVec 32 := 1#32
  let arg14 : BitVec 32 := Scf.iv c0_i32_80 c1_i32_82 k0_t4
  let v255 : BitVec 32 := Scalar.subi c31_i32 arg14
  let c16_i32 : BitVec 32 := 16#32
  let v256 : BitVec 32 := Scalar.muli v255 c16_i32
  let v257 : BitVec 32 := v256
  let v267 : Index := Scalar.indexCast v257
  let c1792_218 : Index := 1792#32
  ![v267.toNat, 1792]
@[reducible] def k0_t5_loop : Scf.Loop 32 :=
  let c0_i32_97 : BitVec 32 := 0#32
  let c32_i32_98 : BitVec 32 := 32#32
  let v117 : BitVec 32 := Scalar.addi c0_i32_97 c32_i32_98
  let c1_i32_99 : BitVec 32 := 1#32
  ⟨c0_i32_97, v117, c1_i32_99⟩
def k0_mult5 (k0_t5 : Fin k0_t5_loop.trips) : BitVec 32 :=
  let c31_i32 : BitVec 32 := 31#32
  let c0_i32_97 : BitVec 32 := 0#32
  let c1_i32_99 : BitVec 32 := 1#32
  let arg14 : BitVec 32 := Scf.iv c0_i32_97 c1_i32_99 k0_t5
  let v255 : BitVec 32 := Scalar.subi c31_i32 arg14
  let c16_i32 : BitVec 32 := 16#32
  let v256 : BitVec 32 := Scalar.muli v255 c16_i32
  v256
def k0_off9 (k0_t5 : Fin k0_t5_loop.trips) : Fin 2 → Nat :=
  let c31_i32 : BitVec 32 := 31#32
  let c0_i32_97 : BitVec 32 := 0#32
  let c1_i32_99 : BitVec 32 := 1#32
  let arg14 : BitVec 32 := Scf.iv c0_i32_97 c1_i32_99 k0_t5
  let v255 : BitVec 32 := Scalar.subi c31_i32 arg14
  let c16_i32 : BitVec 32 := 16#32
  let v256 : BitVec 32 := Scalar.muli v255 c16_i32
  let v257 : BitVec 32 := v256
  let v261 : Index := Scalar.indexCast v257
  let c2048_217 : Index := 2048#32
  ![v261.toNat, 2048]
def k0_off10 (k0_t5 : Fin k0_t5_loop.trips) : Fin 2 → Nat :=
  let c31_i32 : BitVec 32 := 31#32
  let c0_i32_97 : BitVec 32 := 0#32
  let c1_i32_99 : BitVec 32 := 1#32
  let arg14 : BitVec 32 := Scf.iv c0_i32_97 c1_i32_99 k0_t5
  let v255 : BitVec 32 := Scalar.subi c31_i32 arg14
  let c16_i32 : BitVec 32 := 16#32
  let v256 : BitVec 32 := Scalar.muli v255 c16_i32
  let v257 : BitVec 32 := v256
  let v267 : Index := Scalar.indexCast v257
  let c2560_218 : Index := 2560#32
  ![v267.toNat, 2560]
@[reducible] def k0_t6_loop : Scf.Loop 32 :=
  let c0_i32_113 : BitVec 32 := 0#32
  let c32_i32_114 : BitVec 32 := 32#32
  let v135 : BitVec 32 := Scalar.addi c0_i32_113 c32_i32_114
  let c1_i32_115 : BitVec 32 := 1#32
  ⟨c0_i32_113, v135, c1_i32_115⟩
def k0_mult6 (k0_t6 : Fin k0_t6_loop.trips) : BitVec 32 :=
  let c31_i32 : BitVec 32 := 31#32
  let c0_i32_113 : BitVec 32 := 0#32
  let c1_i32_115 : BitVec 32 := 1#32
  let arg14 : BitVec 32 := Scf.iv c0_i32_113 c1_i32_115 k0_t6
  let v255 : BitVec 32 := Scalar.subi c31_i32 arg14
  let c16_i32 : BitVec 32 := 16#32
  let v256 : BitVec 32 := Scalar.muli v255 c16_i32
  v256
def k0_off11 (k0_t6 : Fin k0_t6_loop.trips) : Fin 2 → Nat :=
  let c31_i32 : BitVec 32 := 31#32
  let c0_i32_113 : BitVec 32 := 0#32
  let c1_i32_115 : BitVec 32 := 1#32
  let arg14 : BitVec 32 := Scf.iv c0_i32_113 c1_i32_115 k0_t6
  let v255 : BitVec 32 := Scalar.subi c31_i32 arg14
  let c16_i32 : BitVec 32 := 16#32
  let v256 : BitVec 32 := Scalar.muli v255 c16_i32
  let v257 : BitVec 32 := v256
  let v261 : Index := Scalar.indexCast v257
  let c2304_217 : Index := 2304#32
  ![v261.toNat, 2304]
def k0_off12 (k0_t6 : Fin k0_t6_loop.trips) : Fin 2 → Nat :=
  let c31_i32 : BitVec 32 := 31#32
  let c0_i32_113 : BitVec 32 := 0#32
  let c1_i32_115 : BitVec 32 := 1#32
  let arg14 : BitVec 32 := Scf.iv c0_i32_113 c1_i32_115 k0_t6
  let v255 : BitVec 32 := Scalar.subi c31_i32 arg14
  let c16_i32 : BitVec 32 := 16#32
  let v256 : BitVec 32 := Scalar.muli v255 c16_i32
  let v257 : BitVec 32 := v256
  let v267 : Index := Scalar.indexCast v257
  let c2816_218 : Index := 2816#32
  ![v267.toNat, 2816]
@[reducible] def k0_t7_loop : Scf.Loop 32 :=
  let c0_i32_130 : BitVec 32 := 0#32
  let c32_i32_131 : BitVec 32 := 32#32
  let v153 : BitVec 32 := Scalar.addi c0_i32_130 c32_i32_131
  let c1_i32_132 : BitVec 32 := 1#32
  ⟨c0_i32_130, v153, c1_i32_132⟩
def k0_mult7 (k0_t7 : Fin k0_t7_loop.trips) : BitVec 32 :=
  let c31_i32 : BitVec 32 := 31#32
  let c0_i32_130 : BitVec 32 := 0#32
  let c1_i32_132 : BitVec 32 := 1#32
  let arg14 : BitVec 32 := Scf.iv c0_i32_130 c1_i32_132 k0_t7
  let v255 : BitVec 32 := Scalar.subi c31_i32 arg14
  let c16_i32 : BitVec 32 := 16#32
  let v256 : BitVec 32 := Scalar.muli v255 c16_i32
  v256
def k0_off13 (k0_t7 : Fin k0_t7_loop.trips) : Fin 2 → Nat :=
  let c31_i32 : BitVec 32 := 31#32
  let c0_i32_130 : BitVec 32 := 0#32
  let c1_i32_132 : BitVec 32 := 1#32
  let arg14 : BitVec 32 := Scf.iv c0_i32_130 c1_i32_132 k0_t7
  let v255 : BitVec 32 := Scalar.subi c31_i32 arg14
  let c16_i32 : BitVec 32 := 16#32
  let v256 : BitVec 32 := Scalar.muli v255 c16_i32
  let v257 : BitVec 32 := v256
  let v261 : Index := Scalar.indexCast v257
  let c3072_217 : Index := 3072#32
  ![v261.toNat, 3072]
def k0_off14 (k0_t7 : Fin k0_t7_loop.trips) : Fin 2 → Nat :=
  let c31_i32 : BitVec 32 := 31#32
  let c0_i32_130 : BitVec 32 := 0#32
  let c1_i32_132 : BitVec 32 := 1#32
  let arg14 : BitVec 32 := Scf.iv c0_i32_130 c1_i32_132 k0_t7
  let v255 : BitVec 32 := Scalar.subi c31_i32 arg14
  let c16_i32 : BitVec 32 := 16#32
  let v256 : BitVec 32 := Scalar.muli v255 c16_i32
  let v257 : BitVec 32 := v256
  let v267 : Index := Scalar.indexCast v257
  let c3584_218 : Index := 3584#32
  ![v267.toNat, 3584]
@[reducible] def k0_t8_loop : Scf.Loop 32 :=
  let c0_i32_146 : BitVec 32 := 0#32
  let c32_i32_147 : BitVec 32 := 32#32
  let v171 : BitVec 32 := Scalar.addi c0_i32_146 c32_i32_147
  let c1_i32_148 : BitVec 32 := 1#32
  ⟨c0_i32_146, v171, c1_i32_148⟩
def k0_mult8 (k0_t8 : Fin k0_t8_loop.trips) : BitVec 32 :=
  let c31_i32 : BitVec 32 := 31#32
  let c0_i32_146 : BitVec 32 := 0#32
  let c1_i32_148 : BitVec 32 := 1#32
  let arg14 : BitVec 32 := Scf.iv c0_i32_146 c1_i32_148 k0_t8
  let v255 : BitVec 32 := Scalar.subi c31_i32 arg14
  let c16_i32 : BitVec 32 := 16#32
  let v256 : BitVec 32 := Scalar.muli v255 c16_i32
  v256
def k0_off15 (k0_t8 : Fin k0_t8_loop.trips) : Fin 2 → Nat :=
  let c31_i32 : BitVec 32 := 31#32
  let c0_i32_146 : BitVec 32 := 0#32
  let c1_i32_148 : BitVec 32 := 1#32
  let arg14 : BitVec 32 := Scf.iv c0_i32_146 c1_i32_148 k0_t8
  let v255 : BitVec 32 := Scalar.subi c31_i32 arg14
  let c16_i32 : BitVec 32 := 16#32
  let v256 : BitVec 32 := Scalar.muli v255 c16_i32
  let v257 : BitVec 32 := v256
  let v261 : Index := Scalar.indexCast v257
  let c3328_217 : Index := 3328#32
  ![v261.toNat, 3328]
def k0_off16 (k0_t8 : Fin k0_t8_loop.trips) : Fin 2 → Nat :=
  let c31_i32 : BitVec 32 := 31#32
  let c0_i32_146 : BitVec 32 := 0#32
  let c1_i32_148 : BitVec 32 := 1#32
  let arg14 : BitVec 32 := Scf.iv c0_i32_146 c1_i32_148 k0_t8
  let v255 : BitVec 32 := Scalar.subi c31_i32 arg14
  let c16_i32 : BitVec 32 := 16#32
  let v256 : BitVec 32 := Scalar.muli v255 c16_i32
  let v257 : BitVec 32 := v256
  let v267 : Index := Scalar.indexCast v257
  let c3840_218 : Index := 3840#32
  ![v267.toNat, 3840]
def k0_cond2 (i : grid0.Coords) : BitVec 1 :=
  let arg0 : BitVec 32 := BitVec.ofNat 32 (i 0).val
  let c7_i32 : BitVec 32 := 7#32
  let v252 : BitVec 1 := Scalar.cmpi .eq arg0 c7_i32
  let v253 : BitVec 32 := Scalar.extui v252
  let c0_i32_216 : BitVec 32 := 0#32
  let v254 : BitVec 1 := Scalar.cmpi .ne v253 c0_i32_216
  v254

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c1_i32 : BitVec 32 := 1#32
  let c0_i32_0 : BitVec 32 := 0#32
  ![c0_i32.toNat, v0.toNat, c1_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S32x256x3584 : Shape := ⟨3, ![32, 256, 3584]⟩
abbrev S2x4x128x1024 : Shape := ⟨4, ![2, 4, 128, 1024]⟩
abbrev S2x4x1024x128 : Shape := ⟨4, ![2, 4, 1024, 128]⟩
abbrev S2x1x4096 : Shape := ⟨3, ![2, 1, 4096]⟩
abbrev S2x16x4096 : Shape := ⟨3, ![2, 16, 4096]⟩
abbrev S16x256x512 : Shape := ⟨3, ![16, 256, 512]⟩
abbrev S512 : Shape := ⟨1, ![512]⟩
abbrev S512x512 : Shape := ⟨2, ![512, 512]⟩
abbrev S16x256x4x128 : Shape := ⟨4, ![16, 256, 4, 128]⟩
abbrev S1x4x128x1024 : Shape := ⟨4, ![1, 4, 128, 1024]⟩
abbrev S4x128x1024 : Shape := ⟨3, ![4, 128, 1024]⟩
abbrev S4x1024x16x256 : Shape := ⟨4, ![4, 1024, 16, 256]⟩
abbrev S256x16x4x1024 : Shape := ⟨4, ![256, 16, 4, 1024]⟩
abbrev S1x1x4096 : Shape := ⟨3, ![1, 1, 4096]⟩
abbrev S1x4096 : Shape := ⟨2, ![1, 4096]⟩
abbrev S1x4x2x512 : Shape := ⟨4, ![1, 4, 2, 512]⟩
abbrev S1x4x1x512 : Shape := ⟨4, ![1, 4, 1, 512]⟩
abbrev S1x4x512 : Shape := ⟨3, ![1, 4, 512]⟩
abbrev S1x16x4096 : Shape := ⟨3, ![1, 16, 4096]⟩
abbrev S16x4096 : Shape := ⟨2, ![16, 4096]⟩
abbrev S16x4x2x512 : Shape := ⟨4, ![16, 4, 2, 512]⟩
abbrev S16x4x1x512 : Shape := ⟨4, ![16, 4, 1, 512]⟩
abbrev S16x4x512 : Shape := ⟨3, ![16, 4, 512]⟩
abbrev S_ : Shape := ⟨0, ![]⟩
abbrev S1x16x4x1024 : Shape := ⟨4, ![1, 16, 4, 1024]⟩
abbrev S16x4x1024 : Shape := ⟨3, ![16, 4, 1024]⟩

abbrev nBuf : Space → Nat
  | .hbm => 67
  | .vmem => 0
  | .smem => 0
  | _ => 0

abbrev bufTy : (tb : Table) → Fin (tcTables nBuf tb) → BufTy
  | .hbm, ⟨0, _⟩ => ⟨S32x256x3584, .f32⟩
  | .hbm, ⟨1, _⟩ => ⟨S2x4x128x1024, .bf16⟩
  | .hbm, ⟨2, _⟩ => ⟨S2x4x1024x128, .bf16⟩
  | .hbm, ⟨3, _⟩ => ⟨S2x1x4096, .f32⟩
  | .hbm, ⟨4, _⟩ => ⟨S2x16x4096, .f32⟩
  | .hbm, ⟨5, _⟩ => ⟨S16x256x512, .f32⟩
  | .hbm, ⟨6, _⟩ => ⟨S512, .f32⟩
  | .hbm, ⟨7, _⟩ => ⟨S512x512, .f32⟩
  | .hbm, ⟨8, _⟩ => ⟨S16x256x512, .f32⟩
  | .hbm, ⟨9, _⟩ => ⟨S16x256x4x128, .f32⟩
  | .hbm, ⟨10, _⟩ => ⟨S1x4x128x1024, .bf16⟩
  | .hbm, ⟨11, _⟩ => ⟨S4x128x1024, .bf16⟩
  | .hbm, ⟨12, _⟩ => ⟨S4x128x1024, .f32⟩
  | .hbm, ⟨13, _⟩ => ⟨S4x1024x16x256, .f32⟩
  | .hbm, ⟨14, _⟩ => ⟨S256x16x4x1024, .f32⟩
  | .hbm, ⟨15, _⟩ => ⟨S256x16x4x1024, .f32⟩
  | .hbm, ⟨16, _⟩ => ⟨S1x1x4096, .f32⟩
  | .hbm, ⟨17, _⟩ => ⟨S1x4096, .f32⟩
  | .hbm, ⟨18, _⟩ => ⟨S1x4x2x512, .f32⟩
  | .hbm, ⟨19, _⟩ => ⟨S1x4x1x512, .f32⟩
  | .hbm, ⟨20, _⟩ => ⟨S1x4x512, .f32⟩
  | .hbm, ⟨21, _⟩ => ⟨S1x1x4096, .f32⟩
  | .hbm, ⟨22, _⟩ => ⟨S1x4096, .f32⟩
  | .hbm, ⟨23, _⟩ => ⟨S1x4x2x512, .f32⟩
  | .hbm, ⟨24, _⟩ => ⟨S1x4x1x512, .f32⟩
  | .hbm, ⟨25, _⟩ => ⟨S1x4x512, .f32⟩
  | .hbm, ⟨26, _⟩ => ⟨S1x16x4096, .f32⟩
  | .hbm, ⟨27, _⟩ => ⟨S16x4096, .f32⟩
  | .hbm, ⟨28, _⟩ => ⟨S16x4x2x512, .f32⟩
  | .hbm, ⟨29, _⟩ => ⟨S16x4x1x512, .f32⟩
  | .hbm, ⟨30, _⟩ => ⟨S16x4x512, .f32⟩
  | .hbm, ⟨31, _⟩ => ⟨S16x4x1x512, .f32⟩
  | .hbm, ⟨32, _⟩ => ⟨S16x4x512, .f32⟩
  | .hbm, ⟨33, _⟩ => ⟨S_, .i32⟩
  | .hbm, ⟨34, _⟩ => ⟨S256x16x4x1024, .f32⟩
  | .hbm, ⟨35, _⟩ => ⟨S1x4x512, .f32⟩
  | .hbm, ⟨36, _⟩ => ⟨S1x4x512, .f32⟩
  | .hbm, ⟨37, _⟩ => ⟨S_, .i32⟩
  | .hbm, ⟨38, _⟩ => ⟨S16x4x512, .f32⟩
  | .hbm, ⟨39, _⟩ => ⟨S16x4x512, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x16x4x1024, .f32⟩
  | .hbm, ⟨46, _⟩ => ⟨S16x4x1024, .f32⟩
  | .hbm, ⟨47, _⟩ => ⟨S16x4x512, .f32⟩
  | .hbm, ⟨48, _⟩ => ⟨S16x4x512, .f32⟩
  | .hbm, ⟨49, _⟩ => ⟨S16x4x512, .f32⟩
  | .hbm, ⟨50, _⟩ => ⟨S16x4x512, .f32⟩
  | .hbm, ⟨51, _⟩ => ⟨S16x4x512, .f32⟩
  | .hbm, ⟨52, _⟩ => ⟨S16x4x512, .f32⟩
  | .hbm, ⟨53, _⟩ => ⟨S16x4x512, .f32⟩
  | .hbm, ⟨54, _⟩ => ⟨S16x4x512, .f32⟩
  | .hbm, ⟨55, _⟩ => ⟨S16x4x512, .f32⟩
  | .hbm, ⟨56, _⟩ => ⟨S16x4x512, .f32⟩
  | .hbm, ⟨57, _⟩ => ⟨S16x4x512, .f32⟩
  | .hbm, ⟨58, _⟩ => ⟨S16x4x512, .f32⟩
  | .hbm, ⟨59, _⟩ => ⟨S16x4x512, .f32⟩
  | .hbm, ⟨60, _⟩ => ⟨S16x4x512, .f32⟩
  | .hbm, ⟨61, _⟩ => ⟨S_, .i32⟩
  | .hbm, ⟨62, _⟩ => ⟨S_, .i32⟩
  | .hbm, ⟨63, _⟩ => ⟨S16x4x1x512, .f32⟩
  | .hbm, ⟨64, _⟩ => ⟨S16x4x1x512, .f32⟩
  | .hbm, ⟨65, _⟩ => ⟨S16x4x2x512, .f32⟩
  | .hbm, ⟨66, _⟩ => ⟨S16x4096, .f32⟩
  | _, _ => ⟨S32x256x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev main_while0c_c_5 : Ref sig .tc := ⟨.hbm, 40, rfl⟩
abbrev main_while0c_v30 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v30 : Ref sig .tc := ⟨.hbm, 46, rfl⟩
abbrev main_while0b_v31 : Ref sig .tc := ⟨.hbm, 47, rfl⟩
abbrev main_while0b_v32 : Ref sig .tc := ⟨.hbm, 48, rfl⟩
abbrev main_while0b_v33 : Ref sig .tc := ⟨.hbm, 49, rfl⟩
abbrev main_while0b_v34 : Ref sig .tc := ⟨.hbm, 50, rfl⟩
abbrev main_while0b_v35 : Ref sig .tc := ⟨.hbm, 51, rfl⟩
abbrev main_while0b_v36 : Ref sig .tc := ⟨.hbm, 52, rfl⟩
abbrev main_while0b_v37 : Ref sig .tc := ⟨.hbm, 53, rfl⟩
abbrev main_while0b_v38 : Ref sig .tc := ⟨.hbm, 54, rfl⟩
abbrev main_while0b_v39 : Ref sig .tc := ⟨.hbm, 55, rfl⟩
abbrev main_while0b_v40 : Ref sig .tc := ⟨.hbm, 56, rfl⟩
abbrev main_while0b_v41 : Ref sig .tc := ⟨.hbm, 57, rfl⟩
abbrev main_while0b_v42 : Ref sig .tc := ⟨.hbm, 58, rfl⟩
abbrev main_while0b_v43 : Ref sig .tc := ⟨.hbm, 59, rfl⟩
abbrev main_while0b_v44 : Ref sig .tc := ⟨.hbm, 60, rfl⟩
abbrev main_while0b_c_5 : Ref sig .tc := ⟨.hbm, 61, rfl⟩
abbrev main_while0b_v45 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩

abbrev nD : Nat := 1
abbrev τ : Topo := Topo.v7x

variable {F : FTy → Type} [FloatOps F]

abbrev main_while0_count : Scf.Loop 32 := ⟨0#32, 256#32, 1#32⟩
-- ==== Proof.AttnMath.lean ====
/- The arithmetic of one attention row at the extended reals: a row of scores and one sink score, all finite, and a
   column of values of which nothing is asked. The kernel divides the weighted sum by the sum of the weights; the
   reference divides every weight by that sum first. With finite scores the sum of the weights is a positive real, and
   the two are one number. -/
module

public import Idealize.ShloMosaic.PureOps.Ideal
public import Idealize.ShloMosaic.PureOps.Ideal.Laws

@[expose] public section

noncomputable section

namespace Cert.AttnMath

open Idealize.ShloMosaic

/-- The largest of a row of scores and the sink's score. -/
def top {n : ℕ} (s : Fin n → EReal) (z : EReal) : EReal := max (Finset.univ.sup s) z

/-- One element of an attention row as the kernel computes it: the weighted sum of the values over the sum of the
    weights, the sink's weight added to it. -/
def attn {n : ℕ} (s : Fin n → EReal) (z : EReal) (v : Fin n → EReal) : EReal :=
  Ideal.div (∑ k, Ideal.exp (s k - top s z) * v k) ((∑ k, Ideal.exp (s k - top s z) * 1) + Ideal.exp (z - top s z))

/-- The same element as the reference computes it: every weight divided first. -/
def attnHost {n : ℕ} (s : Fin n → EReal) (z : EReal) (v : Fin n → EReal) : EReal :=
  ∑ k, v k * Ideal.div (Ideal.exp (s k - top s z)) (0 + ((∑ k, Ideal.exp (s k - top s z)) + Ideal.exp (z - top s z)))

/-- The fold of `max` from −∞ is the supremum. -/
theorem fold_max_eq_sup {n : ℕ} (s : Fin n → EReal) : Finset.univ.fold max ⊥ s = Finset.univ.sup s := rfl

/-- The supremum over a row with one more score is the larger of the row's and that score. -/
theorem sup_succ {n : ℕ} (s : Fin (n + 1) → EReal) :
    Finset.univ.sup s = max (Finset.univ.sup fun k : Fin n => s k.castSucc) (s (Fin.last n)) := by
  refine eq_of_forall_ge_iff fun c => ?_
  simp only [Finset.sup_le_iff, Finset.mem_univ, true_imp_iff, max_le_iff]
  exact ⟨fun h => ⟨fun k => h _, h _⟩, fun h k => Fin.lastCases h.2 h.1 k⟩

/-- The supremum of real numbers over a row that has one is a real number. -/
theorem sup_real {n : ℕ} (s : Fin n → EReal) (a : Fin n → ℝ) (hs : ∀ k, s k = (a k : EReal)) (z : EReal) (b : ℝ)
    (hz : z = (b : EReal)) : ∃ m : ℝ, top s z = (m : EReal) := by
  have h1 : top s z ≠ ⊥ := by
    intro h
    have : z ≤ ⊥ := h ▸ le_max_right _ _
    rw [hz] at this
    exact absurd (le_bot_iff.mp this) (EReal.coe_ne_bot b)
  have h2 : top s z ≠ ⊤ := by
    have h3 : top s z < ⊤ := by
      refine max_lt ?_ (hz ▸ EReal.coe_lt_top b)
      rw [Finset.sup_lt_iff bot_lt_top]
      intro k _; rw [hs k]; exact EReal.coe_lt_top _
    exact h3.ne
  exact ⟨(top s z).toReal, (EReal.coe_toReal h2 h1).symm⟩

/-- A sum of real numbers is the real sum. -/
theorem sum_coe {n : ℕ} (a : Fin n → ℝ) : (∑ k, (a k : EReal)) = ((∑ k, a k : ℝ) : EReal) := by
  have h : ∀ t : Finset (Fin n), (∑ k ∈ t, (a k : EReal)) = ((∑ k ∈ t, a k : ℝ) : EReal) := by
    intro t
    induction t using Finset.cons_induction with
    | empty => simp
    | cons k t hk ih => rw [Finset.sum_cons, Finset.sum_cons, ih, EReal.coe_add]
  exact h _

/-- A nonnegative real number multiplies a sum term by term, whatever the terms. -/
theorem coe_mul_sum {n : ℕ} (r : ℝ) (hr : 0 ≤ r) (f : Fin n → EReal) : (r : EReal) * (∑ k, f k) = ∑ k, (r : EReal) * f k := by
  have h : ∀ t : Finset (Fin n), (r : EReal) * (∑ k ∈ t, f k) = ∑ k ∈ t, (r : EReal) * f k := by
    intro t
    induction t using Finset.cons_induction with
    | empty => simp
    | cons k t hk ih =>
      rw [Finset.sum_cons, Finset.sum_cons,
        EReal.left_distrib_of_nonneg_of_ne_top (EReal.coe_nonneg.mpr hr) (EReal.coe_ne_top r), ih]
  exact h _

/-- With finite scores and a finite sink the two readings of an attention row are one. -/
theorem attn_eq {n : ℕ} (s : Fin n → EReal) (a : Fin n → ℝ) (hs : ∀ k, s k = (a k : EReal)) (z : EReal) (b : ℝ)
    (hz : z = (b : EReal)) (v : Fin n → EReal) : attn s z v = attnHost s z v := by
  obtain ⟨m, hm⟩ := sup_real s a hs z b hz
  have he : ∀ k, Ideal.exp (s k - top s z) = ((Real.exp (a k - m) : ℝ) : EReal) := by
    intro k; rw [hs k, hm, ← EReal.coe_sub, Ideal.exp_coe]
  have hze : Ideal.exp (z - top s z) = ((Real.exp (b - m) : ℝ) : EReal) := by
    rw [hm, hz, ← EReal.coe_sub, Ideal.exp_coe]
  unfold attn attnHost
  simp only [he, hze, mul_one, sum_coe, ← EReal.coe_add, zero_add]
  have hD : 0 < (∑ k, Real.exp (a k - m)) + Real.exp (b - m) :=
    add_pos_of_nonneg_of_pos (Finset.sum_nonneg fun k _ => (Real.exp_pos _).le) (Real.exp_pos _)
  generalize (∑ k, Real.exp (a k - m)) + Real.exp (b - m) = D at hD
  simp only [Ideal.div_coe hD.ne']
  rw [mul_comm, coe_mul_sum _ (one_div_pos.mpr hD).le]
  exact Finset.sum_congr rfl fun k _ => by rw [mul_comm, mul_comm _ (v k), mul_assoc]

end Cert.AttnMath

end
-- ==== Proof.AttnPay.lean ====
/- What one point of the attention kernel computes, read at an index: the scaled scores of the four heads' rows stacked,
   and the attention of every row. The products with the values and with a column of ones are one product; the ones' half
   is the sum of the weights. -/
module

public import proofs.«01_k».proof.Proof.AttnMath
public import proofs.«01_k».proof.Proof.Gen.KernelIdeal.Value
public import Idealize.ShloMosaic.Lib.Pipeline.Value
public import Idealize.ShloMosaic.Lib.ValueIdx
public import Idealize.ShloMosaic.Lib.MatmulPlain
public import Idealize.ShloMosaic.Lib.IdealHost

@[expose] public section

set_option maxRecDepth 16384

noncomputable section

namespace Cert.AttnPay

open Idealize.ShloMosaic Idealize.ShloMosaic.ValueIdx Idealize.ShloMosaic.TcCoe
open Cert.KernelIdeal Cert.KernelIdeal.Gen Cert.AttnMath

/-- The named scale denotes the real 1/√128. -/
theorem scale_eq : Named.named (F := Ideal) Cert.KernelIdeal.κ "inv_sqrt_head_dim" (φ := .f32) 0x3DB504F3#32
    = (((Real.sqrt 128)⁻¹ : ℝ) : EReal) :=
  IdealRules.named_const.ideal_named_scalar _ _ _ _ rfl

/-- The pattern the row maximum starts from denotes −∞. -/
theorem ofBits_neg_inf : Ideal.ofBits .f32 0xFF800000#32 = (⊥ : EReal) := by
  simp [Ideal.ofBits, Ideal.ieee]

theorem hdot_scores : dot_S1024x128_S256x128_S1024x256_1_1_0_0_n_n = DotDims.transposedRhs 1024 128 256 := rfl
theorem hdot_values : dot_S1024x256_S256x256_S1024x256_1_0_0_1_n_n = DotDims.plain 1024 256 256 := rfl

/-- Four blocks of 256 rows stacked: row `r·256 + q` is row `q` of block `r`. -/
theorem stack_apply {n : ℕ} (f : Fin 4 → ((⟨2, ![256, n]⟩ : Shape).Idx → EReal))
    (h : Shape.Concatenates [⟨2, ![256, n]⟩, ⟨2, ![256, n]⟩, ⟨2, ![256, n]⟩, ⟨2, ![256, n]⟩] ⟨2, ![1024, n]⟩ 0)
    (r : Fin 4) (q : Fin 256) (d : Fin n) :
    concatenate (⟨2, ![1024, n]⟩ : Shape) 0 [⟨⟨2, ![256, n]⟩, f 0⟩, ⟨⟨2, ![256, n]⟩, f 1⟩, ⟨⟨2, ![256, n]⟩, f 2⟩, ⟨⟨2, ![256, n]⟩, f 3⟩] h
      (ix2 (⟨r.val * 256 + q.val, by omega⟩ : Fin 1024) d) = f r (ix2 q d) := by
  refine concatenate_ofFn_apply (t := ⟨2, ![1024, n]⟩) (s₁ := ⟨2, ![256, n]⟩) (0 : Fin 2) (N := 4) f h rfl 256 rfl
    (ix2 (⟨r.val * 256 + q.val, by omega⟩ : Fin 1024) d) r ?_ (ix2 q d) ?_ fun b hb => ?_
  · show (r.val * 256 + q.val) / 256 = r.val; omega
  · show q.val = (r.val * 256 + q.val) % 256; omega
  · match b, hb with
    | ⟨0, _⟩, hb => exact absurd rfl hb
    | ⟨1, _⟩, _ => rfl

/-- A scaled score: row `q` of the `r`-th query block against row `s` of the keys. -/
theorem pay1_apply (k : FVec Ideal S256x128 .f32) (qs : Fin 4 → FVec Ideal S256x128 .f32) (r : Fin 4) (q s : Fin 256) :
    k0_pay1 (F := Ideal) k (qs 0) (qs 1) (qs 2) (qs 3) (ix2 (⟨r.val * 256 + q.val, by omega⟩ : Fin 1024) s)
      = (∑ d : Fin 128, qs r (ix2 q d) * k (ix2 s d)) * (((Real.sqrt 128)⁻¹ : ℝ) : EReal) := by
  unfold k0_pay1
  rw [mulf_apply, hdot_scores]
  refine congrArg₂ (· * ·) ?_ scale_eq
  refine (Ideal.matmul_transposedRhs_apply _ _ _ _ _ s).trans ?_
  rw [constant_apply, Ideal.ofBits_zero_f32, zero_add]
  refine Finset.sum_congr rfl fun d _ => congrArg₂ (· * ·) ?_ rfl
  exact stack_apply (n := 128) (fun n => qs n) _ r q d

/-- One sink broadcast down 256 rows. -/
theorem pay2_apply (u : FVec Ideal S1x1 .f32) (q : Fin 256) :
    k0_pay2 (F := Ideal) u (ix2 q (0 : Fin 1)) = u (ix2 (0 : Fin 1) (0 : Fin 1)) := by
  unfold k0_pay2
  simp only [shapeCast_self]
  exact broadcastTo_apply u _ _ (ix2 (0 : Fin 1) (0 : Fin 1)) fun a => by
    match a with
    | ⟨0, _⟩ => rfl
    | ⟨1, _⟩ => rfl

/-- The four sinks stacked. -/
def sinks (us : Fin 4 → FVec Ideal S1x1 .f32) : FVec Ideal S1024x1 .f32 :=
  concatenate S1024x1 0 [⟨S256x1, k0_pay2 (F := Ideal) (us 0)⟩, ⟨S256x1, k0_pay2 (F := Ideal) (us 1)⟩,
    ⟨S256x1, k0_pay2 (F := Ideal) (us 2)⟩, ⟨S256x1, k0_pay2 (F := Ideal) (us 3)⟩] concatenates_S256x1_S256x1_S256x1_S256x1_S1024x1_d0

theorem sinks_apply (us : Fin 4 → FVec Ideal S1x1 .f32) (r : Fin 4) (q : Fin 256) :
    sinks us (ix2 (⟨r.val * 256 + q.val, by omega⟩ : Fin 1024) (0 : Fin 1)) = us r (ix2 (0 : Fin 1) (0 : Fin 1)) :=
  (stack_apply (n := 1) (fun n => k0_pay2 (F := Ideal) (us n)) _ r q 0).trans (pay2_apply (us r) q)

/-- A row's maximum over its scores. -/
theorem rowMax_apply (s : FVec Ideal S1024x256 .f32) (i : Fin 1024) :
    multiReduction (F := Ideal) .maximumf [1] S1024 s 0xFF800000#32 reduces_S1024x256_S1024 (.inl rfl) rfl (ix1 i)
      = Finset.univ.sup fun k : Fin 256 => s (ix2 i k) := by
  refine (Ideal.multiReduction_maximumf_single s _ reduces_S1024x256_S1024 (.inl rfl) rfl (ix1 i)).trans ?_
  show Finset.fold max (Ideal.ofBits .f32 0xFF800000#32) _ _ = _
  rw [ofBits_neg_inf]
  refine (fold_max_eq_sup (n := 256) _).trans (congrArg _ (funext fun k => ?_))
  exact congrArg s (eq_ix2 _)

/-- The values beside a block of ones: the left half. -/
theorem ones_left (v : FVec Ideal S256x128 .bf16) (o : FVec Ideal S256x128 .bf16) (k : Fin 256) (d : Fin 128) :
    concatenate S256x256 1 [⟨S256x128, v⟩, ⟨S256x128, o⟩] concatenates_S256x128_S256x128_S256x256_d1
      (ix2 k (⟨d.val, by omega⟩ : Fin 256)) = v (ix2 k d) := by
  refine concatenate_pair_apply_left (t := S256x256) (1 : Fin 2) v o (by decide) (ix2 k (⟨d.val, by omega⟩ : Fin 256)) rfl (ix2 k d) fun a => ?_
  match a with
  | ⟨0, _⟩ => rfl
  | ⟨1, _⟩ => rfl

/-- … and the first column of the right half. -/
theorem ones_right (v : FVec Ideal S256x128 .bf16) (o : FVec Ideal S256x128 .bf16) (k : Fin 256) :
    concatenate S256x256 1 [⟨S256x128, v⟩, ⟨S256x128, o⟩] concatenates_S256x128_S256x128_S256x256_d1
      (ix2 k (⟨128, by omega⟩ : Fin 256)) = o (ix2 k (0 : Fin 128)) := by
  refine concatenate_pair_apply_right (t := S256x256) (1 : Fin 2) v o (by decide) (ix2 k (⟨128, by omega⟩ : Fin 256)) rfl rfl
    (ix2 k (0 : Fin 128)) (fun a ha => ?_) (by show 0 + 128 = 128; rfl)
  match a, ha with
  | ⟨0, _⟩, _ => rfl
  | ⟨1, _⟩, ha => exact absurd rfl ha

/-- The attention of every row: the weighted values over the sum of the weights. -/
theorem pay4_apply (v : FVec Ideal S256x128 .f32) (s : FVec Ideal S1024x256 .f32) (us : Fin 4 → FVec Ideal S1x1 .f32)
    (r : Fin 4) (q : Fin 256) (d : Fin 128) :
    k0_pay4 (F := Ideal) v s (k0_pay2 (us 0)) (k0_pay3 (us 1)) (us 2) (us 3) (ix2 (⟨r.val * 256 + q.val, by omega⟩ : Fin 1024) d)
      = attn (fun k => s (ix2 (⟨r.val * 256 + q.val, by omega⟩ : Fin 1024) k)) (us r (ix2 (0 : Fin 1) (0 : Fin 1))) (fun k => v (ix2 k d)) := by
  have hz := sinks_apply us r q
  generalize hi : (⟨r.val * 256 + q.val, by omega⟩ : Fin 1024) = i at hz ⊢
  have hv42 : (concatenate S1024x1 0 [⟨S256x1, k0_pay2 (F := Ideal) (us 0)⟩, ⟨S256x1, k0_pay3 (F := Ideal) (us 1)⟩,
      ⟨S256x1, broadcastTo S256x1 (shapeCast S1x1 (shapeCast S1x1 (us 2) shapeCasts_S1x1_S1x1) shapeCasts_S1x1_S1x1) broadcasts_S1x1_S256x1⟩,
      ⟨S256x1, broadcastTo S256x1 (shapeCast S1x1 (shapeCast S1x1 (us 3) shapeCasts_S1x1_S1x1) shapeCasts_S1x1_S1x1) broadcasts_S1x1_S256x1⟩]
      concatenates_S256x1_S256x1_S256x1_S256x1_S1024x1_d0 : FVec Ideal S1024x1 .f32) = sinks us := rfl
  unfold k0_pay4
  rw [hv42]
  generalize sinks us = z at hz ⊢
  -- the maximum, one column
  have hm : ∀ k : Fin 1, maximumf (F := Ideal) (shapeCast S1024x1 (multiReduction (F := Ideal) .maximumf [1] S1024 s 0xFF800000#32 reduces_S1024x256_S1024 (.inl rfl) rfl) shapeCasts_S1024_S1024x1) z (ix2 i k)
      = top (fun k => s (ix2 i k)) (us r (ix2 (0 : Fin 1) (0 : Fin 1))) := by
    intro k
    obtain rfl : k = 0 := Subsingleton.elim _ _
    rw [maximumf_apply, hz, shapeCast_apply _ _ _ (ix1 i) (by rw [Shape.rowMajor_val_one, Shape.rowMajor_val_two]; show i.val = i.val * 1 + 0; omega), rowMax_apply]
    rfl
  generalize maximumf (F := Ideal) (shapeCast S1024x1 (multiReduction (F := Ideal) .maximumf [1] S1024 s 0xFF800000#32 reduces_S1024x256_S1024 (.inl rfl) rfl) shapeCasts_S1024_S1024x1) z = mx at hm ⊢
  -- a weight
  have hw : ∀ k : Fin 256, truncf (F := Ideal) .bf16 (exp (subf s (broadcastTo S1024x256 mx broadcasts_S1024x1_S1024x256))) bitsLt_bf16_f32 (ix2 i k)
      = Ideal.exp (s (ix2 i k) - top (fun k => s (ix2 i k)) (us r (ix2 (0 : Fin 1) (0 : Fin 1)))) := by
    intro k
    have hb : broadcastTo S1024x256 mx broadcasts_S1024x1_S1024x256 (ix2 i k) = mx (ix2 i (0 : Fin 1)) :=
      broadcastTo_apply mx _ _ (ix2 i (0 : Fin 1)) fun a => by
        match a with
        | ⟨0, _⟩ => rfl
        | ⟨1, _⟩ => rfl
    show Ideal.exp (s (ix2 i k) - broadcastTo S1024x256 mx broadcasts_S1024x1_S1024x256 (ix2 i k)) = _
    rw [hb, hm]
  generalize truncf (F := Ideal) .bf16 (exp (subf s (broadcastTo S1024x256 mx broadcasts_S1024x1_S1024x256))) bitsLt_bf16_f32 = w at hw ⊢
  -- the product, one column
  have hp : ∀ c : Fin 256, matmul (F := Ideal) dot_S1024x256_S256x256_S1024x256_1_0_0_1_n_n none w
      (concatenate S256x256 1 [⟨S256x128, truncf (F := Ideal) .bf16 v bitsLt_bf16_f32⟩, ⟨S256x128, broadcast S256x128 (Scalar.ofBits (F := Ideal) .bf16 0x3F80#16)⟩] concatenates_S256x128_S256x128_S256x256_d1)
      (constant S1024x256 .f32 0x00000000#32) (ix2 i c)
      = ∑ k : Fin 256, w (ix2 i k) * concatenate S256x256 1 [⟨S256x128, truncf (F := Ideal) .bf16 v bitsLt_bf16_f32⟩, ⟨S256x128, broadcast S256x128 (Scalar.ofBits (F := Ideal) .bf16 0x3F80#16)⟩] concatenates_S256x128_S256x128_S256x256_d1 (ix2 k c) := by
    intro c
    rw [hdot_values]
    refine (Ideal.matmul_plain_apply _ _ _ _ _ c).trans ?_
    rw [constant_apply, Ideal.ofBits_zero_f32, zero_add]
  generalize matmul (F := Ideal) dot_S1024x256_S256x256_S1024x256_1_0_0_1_n_n none w _ _ = p at hp ⊢
  rw [divf_apply]
  unfold attn
  refine congrArg₂ Ideal.div ?_ ?_
  · rw [extractStridedSlice_apply _ _ _ _ (ix2 i (⟨d.val, by omega⟩ : Fin 256)) (fun a => by
      match a with
      | ⟨0, _⟩ => show i.val = 0 + i.val; omega
      | ⟨1, _⟩ => show d.val = 0 + d.val; omega), hp]
    refine Finset.sum_congr rfl fun k _ => ?_
    rw [hw, ones_left]
    rfl
  · refine (broadcastTo_apply _ broadcasts_S1024x1_S1024x128 (ix2 i d) (ix2 i (0 : Fin 1)) fun a => by
      match a with
      | ⟨0, _⟩ => rfl
      | ⟨1, _⟩ => rfl).trans ?_
    rw [addf_apply]
    refine congrArg₂ (· + ·) ?_ ?_
    · rw [extractStridedSlice_apply _ _ _ _ (ix2 i (⟨128, by omega⟩ : Fin 256)) (fun a => by
        match a with
        | ⟨0, _⟩ => show i.val = 0 + i.val; omega
        | ⟨1, _⟩ => rfl), hp]
      refine Finset.sum_congr rfl fun k _ => ?_
      rw [hw, ones_right]
      exact congrArg (_ * ·) Ideal.ofBits_one_bf16
    · show Ideal.exp (z (ix2 i (0 : Fin 1)) - mx (ix2 i (0 : Fin 1))) = _
      rw [hz, hm]

end Cert.AttnPay

end
-- ==== Proof.AttnSpec.lean ====
/- One element of the context attention in the arguments' own indices: the scores of a query row, the sink, the column of
   values it is weighted with. Both programs are read against these. -/
module

public import proofs.«01_k».proof.Proof.AttnMath
public import Idealize.ShloMosaic.Lib.ValueIdx

@[expose] public section

noncomputable section

namespace Cert.AttnSpec

open Idealize.ShloMosaic Idealize.ShloMosaic.ValueIdx

/-- The projection's array and the sinks' array. -/
abbrev SProj : Shape := ⟨2, ![8192, 3584]⟩
abbrev SSink : Shape := ⟨1, ![8]⟩

/-- Element `d` of the query at row `q` of sequence `b` for head `r` of group `g`. -/
def qAt (x : SProj.Idx → EReal) (b : Fin 16) (g : Fin 2) (r : Fin 4) (q : Fin 256) (d : Fin 128) : EReal :=
  x (ix2 ⟨b.val * 256 + q.val, by omega⟩ ⟨1024 + g.val * 512 + r.val * 128 + d.val, by omega⟩)

/-- Element `d` of the key at row `s` of sequence `b` for group `g`. -/
def kAt (x : SProj.Idx → EReal) (b : Fin 16) (g : Fin 2) (s : Fin 256) (d : Fin 128) : EReal :=
  x (ix2 ⟨b.val * 256 + s.val, by omega⟩ ⟨2048 + g.val * 128 + d.val, by omega⟩)

/-- Element `d` of the value at row `s` of sequence `b` for group `g`. -/
def vAt (x : SProj.Idx → EReal) (b : Fin 16) (g : Fin 2) (s : Fin 256) (d : Fin 128) : EReal :=
  x (ix2 ⟨b.val * 256 + s.val, by omega⟩ ⟨2304 + g.val * 128 + d.val, by omega⟩)

/-- The sink's score of head `r` of group `g`. -/
def zAt (y : SSink.Idx → EReal) (g : Fin 2) (r : Fin 4) : EReal := y (ix1 ⟨g.val * 4 + r.val, by omega⟩)

/-- The scaled score of the query at row `q` against the key at row `s`. -/
def score (x : SProj.Idx → EReal) (b : Fin 16) (g : Fin 2) (r : Fin 4) (q s : Fin 256) : EReal :=
  (∑ d : Fin 128, qAt x b g r q d * kAt x b g s d) * (((Real.sqrt 128)⁻¹ : ℝ) : EReal)

/-- The score of finite queries and keys is a real number. -/
theorem score_real (x : SProj.Idx → EReal) (b : Fin 16) (g : Fin 2) (r : Fin 4) (q s : Fin 256)
    (hq : ∀ d, ∃ a : ℝ, qAt x b g r q d = (a : EReal)) (hk : ∀ d, ∃ a : ℝ, kAt x b g s d = (a : EReal)) :
    ∃ a : ℝ, score x b g r q s = (a : EReal) := by
  choose aq hq using hq
  choose ak hk using hk
  refine ⟨(∑ d, aq d * ak d) * (Real.sqrt 128)⁻¹, ?_⟩
  unfold score
  simp only [hq, hk, ← EReal.coe_mul, AttnMath.sum_coe]

end Cert.AttnSpec

end
-- ==== Proof.AttnRef.lean ====
/- The reference's three results read at an index: the attention of one head at one row, the keys and the values. -/
module

public import proofs.«01_k».proof.Proof.AttnSpec
public import proofs.«01_k».proof.Proof.Gen.ReferenceIdeal.Read
public import Idealize.ShloMosaic.Lib.Pipeline.Value
public import Idealize.ShloMosaic.Lib.IdealHost

@[expose] public section

set_option maxRecDepth 16384

noncomputable section

namespace Cert.AttnRef

open Idealize.ShloMosaic Idealize.ShloMosaic.ValueIdx Idealize.ShloMosaic.TcCoe
open Cert.ReferenceIdeal Cert.ReferenceIdeal.Read Cert.AttnSpec Cert.AttnMath

/-- The scale's divisor denotes the real 128. -/
theorem ofBits_128 : Ideal.ofBits .f32 0x43000000#32 = ((128 : ℝ) : EReal) := by
  simp [Ideal.ofBits, Ideal.ieee, -EReal.coe_mul]; norm_num

/-- The pattern the maximum starts from denotes −∞. -/
theorem ofBits_neg_inf : Ideal.ofBits .f32 0xFF800000#32 = (⊥ : EReal) := by
  simp [Ideal.ofBits, Ideal.ieee]

variable (x : SProj.Idx → EReal) (y : SSink.Idx → EReal)

theorem v1_apply (b : Fin 16) (q : Fin 256) (c : Fin 3584) :
    val_main_v1 (F := Ideal) x (ix3 b q c) = x (ix2 ⟨b.val * 256 + q.val, by omega⟩ c) := by
  rw [val_main_v1_apply, val_main_v0_apply]
  refine congrArg x (funext fun a => Fin.ext ?_)
  match a with
  | ⟨0, _⟩ => show ((b.val * 256 + q.val) * 3584 + c.val) / 3584 = b.val * 256 + q.val; omega
  | ⟨1, _⟩ => show ((b.val * 256 + q.val) * 3584 + c.val) % 3584 = c.val; omega

theorem v3_apply (b : Fin 16) (q : Fin 256) (g : Fin 2) (r : Fin 4) (d : Fin 128) :
    val_main_v3 (F := Ideal) x (ix5 b q g r d) = qAt x b g r q d := by
  rw [val_main_v3_apply, val_main_v2_apply]
  refine (congrArg (val_main_v1 (F := Ideal) x) (funext fun a => Fin.ext ?_ :
    _ = ix3 b q (⟨1024 + g.val * 512 + r.val * 128 + d.val, by omega⟩ : Fin 3584))).trans (v1_apply x _ _ _)
  match a with
  | ⟨0, _⟩ => show ((((b.val * 256 + q.val) * 2 + g.val) * 4 + r.val) * 128 + d.val) / 262144 = b.val; omega
  | ⟨1, _⟩ => show ((((b.val * 256 + q.val) * 2 + g.val) * 4 + r.val) * 128 + d.val) / 1024 % 256 = q.val; omega
  | ⟨2, _⟩ =>
    show 1024 + ((((b.val * 256 + q.val) * 2 + g.val) * 4 + r.val) * 128 + d.val) % 1024 = 1024 + g.val * 512 + r.val * 128 + d.val
    omega

theorem v5_apply (b : Fin 16) (s : Fin 256) (g : Fin 2) (d : Fin 128) :
    val_main_v5 (F := Ideal) x (ix4 b s g d) = kAt x b g s d := by
  rw [val_main_v5_apply, val_main_v4_apply]
  refine (congrArg (val_main_v1 (F := Ideal) x) (funext fun a => Fin.ext ?_ :
    _ = ix3 b s (⟨2048 + g.val * 128 + d.val, by omega⟩ : Fin 3584))).trans (v1_apply x _ _ _)
  match a with
  | ⟨0, _⟩ => show (((b.val * 256 + s.val) * 2 + g.val) * 128 + d.val) / 65536 = b.val; omega
  | ⟨1, _⟩ => show (((b.val * 256 + s.val) * 2 + g.val) * 128 + d.val) / 256 % 256 = s.val; omega
  | ⟨2, _⟩ =>
    show 2048 + (((b.val * 256 + s.val) * 2 + g.val) * 128 + d.val) % 256 = 2048 + g.val * 128 + d.val
    omega

theorem v7_apply (b : Fin 16) (s : Fin 256) (g : Fin 2) (d : Fin 128) :
    val_main_v7 (F := Ideal) x (ix4 b s g d) = vAt x b g s d := by
  rw [val_main_v7_apply, val_main_v6_apply]
  refine (congrArg (val_main_v1 (F := Ideal) x) (funext fun a => Fin.ext ?_ :
    _ = ix3 b s (⟨2304 + g.val * 128 + d.val, by omega⟩ : Fin 3584))).trans (v1_apply x _ _ _)
  match a with
  | ⟨0, _⟩ => show (((b.val * 256 + s.val) * 2 + g.val) * 128 + d.val) / 65536 = b.val; omega
  | ⟨1, _⟩ => show (((b.val * 256 + s.val) * 2 + g.val) * 128 + d.val) / 256 % 256 = s.val; omega
  | ⟨2, _⟩ =>
    show 2304 + (((b.val * 256 + s.val) * 2 + g.val) * 128 + d.val) % 256 = 2304 + g.val * 128 + d.val
    omega

/-- The scaled scores, the query on the left as the kernel takes it. -/
theorem v13_apply (b : Fin 16) (g : Fin 2) (r : Fin 4) (q s : Fin 256) :
    val_main_v13 (F := Ideal) x (ix5 b g r q s) = score x b g r q s := by
  rw [val_main_v13_apply, val_main_v12_apply, val_main_v11_apply, val_main_cst_apply, val_main_v10_apply, val_main_v9_apply]
  have hs : FloatOps.hostUnary (F := Ideal) (φ := .f32) .sqrt (FloatOps.ofBits .f32 0x43000000#32) = ((Real.sqrt 128 : ℝ) : EReal) := by
    show Ideal.sqrt (Ideal.ofBits .f32 0x43000000#32) = _
    rw [ofBits_128, Ideal.sqrt_coe, if_neg (by norm_num)]
  have h0 : Real.sqrt 128 ≠ 0 := (Real.sqrt_pos.mpr (by norm_num)).ne'
  rw [hs, Ideal.hostDivf_def, Ideal.div_coe h0, one_div]
  unfold score
  refine congrArg (· * _) (Finset.sum_congr rfl fun d _ => ?_)
  rw [mul_comm]
  exact congrArg₂ (· * ·)
    ((congrArg (val_main_v3 (F := Ideal) x) (eq_ix5 _)).trans (v3_apply x b q g r d))
    ((congrArg (val_main_v5 (F := Ideal) x) (eq_ix4 _)).trans (v5_apply x b s g d))

theorem v15_apply (b : Fin 16) (g : Fin 2) (r : Fin 4) (q : Fin 256) :
    val_main_v15 (F := Ideal) y (ix5 b g r q (0 : Fin 1)) = zAt y g r := by
  rw [val_main_v15_apply, val_main_v14_apply, val_main_v8_apply]
  refine congrArg y (funext fun a => Fin.ext ?_)
  match a with
  | ⟨0, _⟩ => rfl

/-- The row with the sink's column: the scores first, the sink last. -/
theorem v16_score (b : Fin 16) (g : Fin 2) (r : Fin 4) (q s : Fin 256) :
    val_main_v16 (F := Ideal) x y (ix5 b g r q (s.castSucc : Fin 257)) = score x b g r q s := by
  unfold val_main_v16
  refine (concatenate_pair_apply_left (t := S16x2x4x256x257) (4 : Fin 5) (val_main_v13 (F := Ideal) x) (val_main_v15 (F := Ideal) y)
    (by decide) (ix5 b g r q (s.castSucc : Fin 257)) rfl (ix5 b g r q s) fun a => ?_).trans (v13_apply x b g r q s)
  match a with
  | ⟨0, _⟩ => rfl
  | ⟨1, _⟩ => rfl
  | ⟨2, _⟩ => rfl
  | ⟨3, _⟩ => rfl
  | ⟨4, _⟩ => rfl

theorem v16_sink (b : Fin 16) (g : Fin 2) (r : Fin 4) (q : Fin 256) :
    val_main_v16 (F := Ideal) x y (ix5 b g r q (Fin.last 256)) = zAt y g r := by
  unfold val_main_v16
  refine (concatenate_pair_apply_right (t := S16x2x4x256x257) (4 : Fin 5) (val_main_v13 (F := Ideal) x) (val_main_v15 (F := Ideal) y)
    (by decide) (ix5 b g r q (Fin.last 256)) rfl rfl (ix5 b g r q (0 : Fin 1)) (fun a ha => ?_) (by show 0 + 256 = 256; rfl)).trans (v15_apply y b g r q)
  match a, ha with
  | ⟨0, _⟩, _ => rfl
  | ⟨1, _⟩, _ => rfl
  | ⟨2, _⟩, _ => rfl
  | ⟨3, _⟩, _ => rfl
  | ⟨4, _⟩, ha => exact absurd rfl ha

/-- The row's maximum over the scores and the sink. -/
theorem v19_apply (b : Fin 16) (g : Fin 2) (r : Fin 4) (q : Fin 256) :
    val_main_v19 (F := Ideal) x y (ix4 b g r q) = top (score x b g r q) (zAt y g r) := by
  rw [val_main_v19_apply, val_main_v18_apply, val_main_cst_1_apply]
  unfold val_main_v17
  rw [Host.reduce_eq_fold_single _ _ _ _ (by decide : S16x2x4x256x257.Reduces [4] S16x2x4x256) _ _]
  rw [val_main_cst_0_apply]
  show max (Ideal.ofBits .f32 0xFF800000#32) (Finset.fold max (Ideal.ofBits .f32 0xFF800000#32) _ _) = _
  rw [ofBits_neg_inf, max_eq_right bot_le]
  refine (fold_max_eq_sup (n := 257) _).trans ((sup_succ _).trans ?_)
  unfold top
  refine congrArg₂ max (congrArg _ (funext fun s => ?_)) ?_
  · exact (congrArg (val_main_v16 (F := Ideal) x y) (eq_ix5 _)).trans (v16_score x y b g r q s)
  · exact (congrArg (val_main_v16 (F := Ideal) x y) (eq_ix5 _)).trans (v16_sink x y b g r q)

/-- A weight before it is divided. -/
theorem v23_apply (b : Fin 16) (g : Fin 2) (r : Fin 4) (q : Fin 256) (k : Fin 257) :
    val_main_v23 (F := Ideal) x y (ix5 b g r q k)
      = Ideal.exp (val_main_v16 (F := Ideal) x y (ix5 b g r q k) - top (score x b g r q) (zAt y g r)) := by
  rw [val_main_v23_apply, val_main_v22_apply, val_main_v21_apply, val_main_v20_apply]
  rw [show idx_main_v20 (idx_main_v21 (ix5 b g r q k)) = ix4 b g r q from eq_ix4 _, v19_apply]
  rfl

/-- The sum of a row's weights, the sink's last. -/
theorem v24_apply (b : Fin 16) (g : Fin 2) (r : Fin 4) (q : Fin 256) :
    val_main_v24 (F := Ideal) x y (ix4 b g r q)
      = 0 + ((∑ s, Ideal.exp (score x b g r q s - top (score x b g r q) (zAt y g r)))
          + Ideal.exp (zAt y g r - top (score x b g r q) (zAt y g r))) := by
  rw [val_main_v24_apply, val_main_cst_2_apply]
  have h0 : FloatOps.ofBits (F := Ideal) .f32 0x00000000#32 = (0 : EReal) := Ideal.ofBits_zero_f32
  rw [h0, Fin.sum_univ_castSucc]
  refine congrArg (0 + ·) (congrArg₂ (· + ·) (Finset.sum_congr rfl fun s _ => ?_) ?_)
  · rw [show idx_main_v24 (ix4 b g r q) s.castSucc = ix5 b g r q (s.castSucc : Fin 257) from eq_ix5 _, v23_apply, v16_score]
  · rw [show idx_main_v24 (ix4 b g r q) (Fin.last 256) = ix5 b g r q (Fin.last 256) from eq_ix5 _, v23_apply, v16_sink]

/-- A weight divided by its row's sum. -/
theorem v28_apply (b : Fin 16) (g : Fin 2) (r : Fin 4) (q s : Fin 256) :
    val_main_v28 (F := Ideal) x y (ix5 b g r q s)
      = Ideal.div (Ideal.exp (score x b g r q s - top (score x b g r q) (zAt y g r)))
          (0 + ((∑ s, Ideal.exp (score x b g r q s - top (score x b g r q) (zAt y g r)))
            + Ideal.exp (zAt y g r - top (score x b g r q) (zAt y g r)))) := by
  rw [val_main_v28_apply, val_main_v27_apply, val_main_v26_apply, val_main_v25_apply]
  rw [show idx_main_v28 (ix5 b g r q s) = ix5 b g r q (s.castSucc : Fin 257) from eq_ix5 _, v23_apply, v16_score,
    show idx_main_v25 (idx_main_v26 (ix5 b g r q (s.castSucc : Fin 257))) = ix4 b g r q from eq_ix4 _, v24_apply]
  rfl

/-- The attention's result at one row and one column: head `r` of group `g` at row `q` of sequence `b`, element `d`. -/
theorem ctx_apply (b : Fin 16) (q : Fin 256) (g : Fin 2) (r : Fin 4) (d : Fin 128) :
    val_main_v32 (F := Ideal) x y (ix2 ⟨b.val * 256 + q.val, by omega⟩ ⟨g.val * 512 + r.val * 128 + d.val, by omega⟩)
      = attnHost (score x b g r q) (zAt y g r) (fun s => vAt x b g s d) := by
  rw [val_main_v32_apply, val_main_v31_apply, Ideal.truncf_def]
  refine (congrArg (val_main_v30 (F := Ideal) x y) (funext fun a => Fin.ext ?_ : _ = ix5 b q g r d)).trans ?_
  · match a with
    | ⟨0, _⟩ => show ((b.val * 256 + q.val) * 1024 + (g.val * 512 + r.val * 128 + d.val)) / 262144 = b.val; omega
    | ⟨1, _⟩ => show ((b.val * 256 + q.val) * 1024 + (g.val * 512 + r.val * 128 + d.val)) / 1024 % 256 = q.val; omega
    | ⟨2, _⟩ => show ((b.val * 256 + q.val) * 1024 + (g.val * 512 + r.val * 128 + d.val)) / 512 % 2 = g.val; omega
    | ⟨3, _⟩ => show ((b.val * 256 + q.val) * 1024 + (g.val * 512 + r.val * 128 + d.val)) / 128 % 4 = r.val; omega
    | ⟨4, _⟩ => show ((b.val * 256 + q.val) * 1024 + (g.val * 512 + r.val * 128 + d.val)) % 128 = d.val; omega
  · rw [val_main_v30_apply, val_main_v29_apply]
    unfold attnHost
    refine Finset.sum_congr rfl fun s _ => congrArg₂ (· * ·) ?_ ?_
    · exact (congrArg (val_main_v7 (F := Ideal) x) (eq_ix4 _)).trans (v7_apply x b s g d)
    · exact (congrArg (val_main_v28 (F := Ideal) x y) (eq_ix5 _)).trans (v28_apply x y b g r q s)

/-- The keys' result. -/
theorem keys_apply (b : Fin 16) (s : Fin 256) (g : Fin 2) (d : Fin 128) :
    val_main_v33 (F := Ideal) x (ix2 ⟨b.val * 256 + s.val, by omega⟩ ⟨g.val * 128 + d.val, by omega⟩) = kAt x b g s d := by
  rw [val_main_v33_apply]
  refine (congrArg (val_main_v5 (F := Ideal) x) (funext fun a => Fin.ext ?_ : _ = ix4 b s g d)).trans (v5_apply x b s g d)
  match a with
  | ⟨0, _⟩ => show ((b.val * 256 + s.val) * 256 + (g.val * 128 + d.val)) / 65536 = b.val; omega
  | ⟨1, _⟩ => show ((b.val * 256 + s.val) * 256 + (g.val * 128 + d.val)) / 256 % 256 = s.val; omega
  | ⟨2, _⟩ => show ((b.val * 256 + s.val) * 256 + (g.val * 128 + d.val)) / 128 % 2 = g.val; omega
  | ⟨3, _⟩ => show ((b.val * 256 + s.val) * 256 + (g.val * 128 + d.val)) % 128 = d.val; omega

/-- The values' result. -/
theorem vals_apply (b : Fin 16) (s : Fin 256) (g : Fin 2) (d : Fin 128) :
    val_main_v34 (F := Ideal) x (ix2 ⟨b.val * 256 + s.val, by omega⟩ ⟨g.val * 128 + d.val, by omega⟩) = vAt x b g s d := by
  rw [val_main_v34_apply]
  refine (congrArg (val_main_v7 (F := Ideal) x) (funext fun a => Fin.ext ?_ : _ = ix4 b s g d)).trans (v7_apply x b s g d)
  match a with
  | ⟨0, _⟩ => show ((b.val * 256 + s.val) * 256 + (g.val * 128 + d.val)) / 65536 = b.val; omega
  | ⟨1, _⟩ => show ((b.val * 256 + s.val) * 256 + (g.val * 128 + d.val)) / 256 % 256 = s.val; omega
  | ⟨2, _⟩ => show ((b.val * 256 + s.val) * 256 + (g.val * 128 + d.val)) / 128 % 2 = g.val; omega
  | ⟨3, _⟩ => show ((b.val * 256 + s.val) * 256 + (g.val * 128 + d.val)) % 128 = d.val; omega

end Cert.AttnRef

end
-- ==== Proof.AttnFinite.lean ====
/- What the precondition says of the attention's arguments: the queries, the keys and the sinks are real numbers. -/
module

public import proofs.«01_k».proof.Proof.AttnSpec
public import proofs.«01_k».proof.Pre_scores_finite
public import Idealize.ShloMosaic.Lib.Pipeline.Value
public import Idealize.ShloMosaic.Lib.ReduceAll
public import Idealize.ShloMosaic.Lib.IdealHost

@[expose] public section

set_option maxRecDepth 16384

noncomputable section

namespace Cert.AttnFinite

open Idealize.ShloMosaic Idealize.ShloMosaic.ValueIdx
open Cert.Pre_scores_finite Cert.AttnSpec

variable [Cert.Pre_scores_finite.Facts]

/-- The bound's pattern denotes +∞. -/
theorem ofBits_inf : Ideal.ofBits .f32 0x7F800000#32 = (⊤ : EReal) := by
  simp [Ideal.ofBits, Ideal.ieee]

/-- A number whose absolute value is below +∞ is real. -/
theorem real_of_lt {a : EReal} (h : Ideal.cmp .olt (max a (-a)) (Ideal.ofBits .f32 0x7F800000#32) = 1#1) : ∃ r : ℝ, a = (r : EReal) := by
  rw [ofBits_inf] at h
  have h' : max a (-a) < ⊤ := by
    by_contra hn
    rw [show Ideal.cmp .olt (max a (-a)) ⊤ = BitVec.ofBool (decide (max a (-a) < ⊤)) from rfl, decide_eq_false hn] at h
    exact absurd h (by decide)
  obtain ⟨h1, h2⟩ := max_lt_iff.mp h'
  refine ⟨a.toReal, (EReal.coe_toReal h1.ne fun hb => ?_).symm⟩
  rw [hb] at h2
  exact absurd h2 (by simp)

instance : Subsingleton S_.Idx := ⟨fun i j => funext fun a => a.elim0⟩

theorem reads (x : SProj.Idx → EReal) (y : SSink.Idx → EReal) (h : fn (F := Ideal) x y = fun _ => 1#1) :
    (∀ (i : Fin 4096) (j : Fin 1280), ∃ r : ℝ, x (ix2 ⟨i.val, by omega⟩ ⟨1024 + j.val, by omega⟩) = (r : EReal))
      ∧ ∀ i : Fin 8, ∃ r : ℝ, y (ix1 i) = (r : EReal) := by
  have h0 := congrFun h ix0
  obtain ⟨hx, hy⟩ := IntOp.andi_eq_one.1 h0
  refine ⟨fun i j => ?_, fun i => ?_⟩
  · have e := Host.reduce_andi_all _ _ _ _ _ hx (ix2 i j)
    refine real_of_lt ?_
    refine Eq.trans ?_ e
    show Ideal.cmp .olt _ _ = Ideal.cmp .olt (max (extractStridedSlice S4096x1280 ![0, 1024] x _ (ix2 i j)) (-(extractStridedSlice S4096x1280 ![0, 1024] x _ (ix2 i j)))) _
    rw [extractStridedSlice_apply _ _ _ _ (ix2 (⟨i.val, by omega⟩ : Fin 8192) (⟨1024 + j.val, by omega⟩ : Fin 3584)) (fun a => by
      match a with
      | ⟨0, _⟩ => show i.val = 0 + i.val; omega
      | ⟨1, _⟩ => rfl)]
    rfl
  · have e := Host.reduce_andi_all _ _ _ _ _ hy (ix1 i)
    exact real_of_lt e

/-- Every score is a real number, and so is every sink. -/
theorem scores (x : SProj.Idx → EReal) (y : SSink.Idx → EReal) (h : fn (F := Ideal) x y = fun _ => 1#1)
    (b : Fin 16) (g : Fin 2) (r : Fin 4) (q : Fin 256) :
    (∃ a : Fin 256 → ℝ, ∀ s, score x b g r q s = (a s : EReal)) ∧ ∃ z : ℝ, zAt y g r = (z : EReal) := by
  obtain ⟨hx, hy⟩ := reads x y h
  have hs : ∀ s, ∃ a : ℝ, score x b g r q s = (a : EReal) := fun s => score_real x b g r q s
    (fun d => by
      obtain ⟨a, ha⟩ := hx ⟨b.val * 256 + q.val, by omega⟩ ⟨g.val * 512 + r.val * 128 + d.val, by omega⟩
      refine ⟨a, ?_⟩
      rw [← ha]
      refine congrArg x (funext fun k => Fin.ext ?_)
      match k with
      | ⟨0, _⟩ => rfl
      | ⟨1, _⟩ => show 1024 + g.val * 512 + r.val * 128 + d.val = 1024 + (g.val * 512 + r.val * 128 + d.val); omega)
    (fun d => by
      obtain ⟨a, ha⟩ := hx ⟨b.val * 256 + s.val, by omega⟩ ⟨1024 + g.val * 128 + d.val, by omega⟩
      refine ⟨a, ?_⟩
      rw [← ha]
      refine congrArg x (funext fun k => Fin.ext ?_)
      match k with
      | ⟨0, _⟩ => rfl
      | ⟨1, _⟩ => show 2048 + g.val * 128 + d.val = 1024 + (1024 + g.val * 128 + d.val); omega)
  choose a ha using hs
  exact ⟨⟨a, ha⟩, hy _⟩

end Cert.AttnFinite

end
-- ==== Proof.AttnValue.lean ====
/-
  The value claim of `Kernel`: the context attention, one sequence and one group of four heads at a point of the grid,
  against the whole attention, and the keys and values it copies out.

  A point stacks its four heads' queries and computes all their rows at once. Read at an index, its block of the result
  holds the attention of that head and that row over the scores of the point's keys; and where the queries, the keys and
  the sinks are finite, that is what the reference holds there.
-/
module

public import proofs.«01_k».proof.Proof.AttnPay
public import proofs.«01_k».proof.Proof.AttnRef
public import proofs.«01_k».proof.Proof.AttnFinite
public import proofs.«01_k».proof.Proof.Gen.KernelIdeal.Value
public import proofs.«01_k».proof.Defs
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Attention

open Cert.KernelIdeal Cert.KernelIdeal.Gen Cert.AttnMath Cert.AttnSpec Cert.AttnPay

theorem hz : (![0, 0] : Fin 2 → Nat) = fun _ => 0 := funext fun a => by fin_cases a <;> rfl

/-- The keys' output block is the keys' input block, copied. -/
theorem out_5 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S8x128 .f32) (harg5 : arg5.IsWhole) (arg6 : Memref sig .tc .vmem S256x512 .bf16) (harg6 : arg6.IsWhole) (arg7 : Memref sig .tc .vmem S256x128 .f32) (harg7 : arg7.IsWhole) (arg8 : Memref sig .tc .vmem S256x128 .f32) (harg8 : arg8.IsWhole)
    (x0 : Vec Ideal S256x512 .f32) (x1 : Vec Ideal S256x128 .f32) (x2 : Vec Ideal S256x128 .f32) (x3 : Vec Ideal S8x128 .f32) :
    out0_A_5 c i arg2 harg2 arg3 harg3 arg4 harg4 arg5 harg5 arg6 harg6 arg7 harg7 arg8 harg8 x0 x1 x2 x3 = x1 := by
  unfold out0_A_5
  rw [View.read_writes_eq_canon _ _ _ (cover0_A_5 c i arg2 harg2 arg3 harg3 arg4 harg4 arg5 harg5 arg6 harg6 arg7 harg7 arg8 harg8 x0 x1 x2 x3)]
  unfold kernelRun0_A
  dsimp only
  sl_unfold_words
  rw [View.canon_unit_zero hz]
  simp only [View.readAt_eq_ld, harg3.read_unread, View.ld_unit_zero (S := S256x128) hz, shapeCast_self]

/-- The values' output block is the values' input block, copied. -/
theorem out_6 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S8x128 .f32) (harg5 : arg5.IsWhole) (arg6 : Memref sig .tc .vmem S256x512 .bf16) (harg6 : arg6.IsWhole) (arg7 : Memref sig .tc .vmem S256x128 .f32) (harg7 : arg7.IsWhole) (arg8 : Memref sig .tc .vmem S256x128 .f32) (harg8 : arg8.IsWhole)
    (x0 : Vec Ideal S256x512 .f32) (x1 : Vec Ideal S256x128 .f32) (x2 : Vec Ideal S256x128 .f32) (x3 : Vec Ideal S8x128 .f32) :
    out0_A_6 c i arg2 harg2 arg3 harg3 arg4 harg4 arg5 harg5 arg6 harg6 arg7 harg7 arg8 harg8 x0 x1 x2 x3 = x2 := by
  unfold out0_A_6
  rw [View.read_writes_eq_canon _ _ _ (cover0_A_6 c i arg2 harg2 arg3 harg3 arg4 harg4 arg5 harg5 arg6 harg6 arg7 harg7 arg8 harg8 x0 x1 x2 x3)]
  unfold kernelRun0_A
  dsimp only
  sl_unfold_words
  rw [View.canon_unit_zero hz]
  simp only [View.readAt_eq_ld, harg4.read_unread, View.ld_unit_zero (S := S256x128) hz, shapeCast_self]

/-- One element of a head's block: the attention of row `q` of the queries over the keys, in column `d` of the values. -/
def row (x2 x1 qs : FVec Ideal S256x128 .f32) (us : FVec Ideal S1x1 .f32) (q : Fin 256) (d : Fin 128) : EReal :=
  attn (fun k : Fin 256 => (∑ e : Fin 128, qs (ix2 q e) * x1 (ix2 k e)) * (((Real.sqrt 128)⁻¹ : ℝ) : EReal))
    (us (ix2 (0 : Fin 1) (0 : Fin 1))) (fun k => x2 (ix2 k d))

theorem piece0 (x2 x1 : FVec Ideal S256x128 .f32) (qs : Fin 4 → FVec Ideal S256x128 .f32) (us : Fin 4 → FVec Ideal S1x1 .f32) (q : Fin 256) (d : Fin 128) :
    k0_pay5 (F := Ideal) x2 (k0_pay1 x1 (qs 0) (qs 1) (qs 2) (qs 3)) (k0_pay2 (us 0)) (k0_pay3 (us 1)) (us 2) (us 3) (ix2 q d)
      = row x2 x1 (qs 0) (us 0) q d := by
  unfold k0_pay5
  rw [truncf_apply]
  refine (extractStridedSlice_apply _ _ _ _ (ix2 (⟨(0 : Fin 4).val * 256 + q.val, by omega⟩ : Fin 1024) d) (fun a => by
    match a with
    | ⟨0, _⟩ => rfl
    | ⟨1, _⟩ => show d.val = 0 + d.val; omega)).trans ?_
  rw [pay4_apply x2 _ us 0 q d]
  unfold row
  refine congrArg (fun s => attn s _ _) (funext fun k => ?_)
  exact pay1_apply x1 qs 0 q k

theorem piece1 (x2 x1 : FVec Ideal S256x128 .f32) (qs : Fin 4 → FVec Ideal S256x128 .f32) (us : Fin 4 → FVec Ideal S1x1 .f32) (q : Fin 256) (d : Fin 128) :
    k0_pay6 (F := Ideal) x2 (k0_pay1 x1 (qs 0) (qs 1) (qs 2) (qs 3)) (k0_pay2 (us 0)) (k0_pay3 (us 1)) (us 2) (us 3) (ix2 q d)
      = row x2 x1 (qs 1) (us 1) q d := by
  unfold k0_pay6
  rw [truncf_apply]
  refine (extractStridedSlice_apply _ _ _ _ (ix2 (⟨(1 : Fin 4).val * 256 + q.val, by omega⟩ : Fin 1024) d) (fun a => by
    match a with
    | ⟨0, _⟩ => rfl
    | ⟨1, _⟩ => show d.val = 0 + d.val; omega)).trans ?_
  rw [pay4_apply x2 _ us 1 q d]
  unfold row
  refine congrArg (fun s => attn s _ _) (funext fun k => ?_)
  exact pay1_apply x1 qs 1 q k

theorem piece2 (x2 x1 : FVec Ideal S256x128 .f32) (qs : Fin 4 → FVec Ideal S256x128 .f32) (us : Fin 4 → FVec Ideal S1x1 .f32) (q : Fin 256) (d : Fin 128) :
    k0_pay7 (F := Ideal) x2 (k0_pay1 x1 (qs 0) (qs 1) (qs 2) (qs 3)) (k0_pay2 (us 0)) (k0_pay3 (us 1)) (us 2) (us 3) (ix2 q d)
      = row x2 x1 (qs 2) (us 2) q d := by
  unfold k0_pay7
  rw [truncf_apply]
  refine (extractStridedSlice_apply _ _ _ _ (ix2 (⟨(2 : Fin 4).val * 256 + q.val, by omega⟩ : Fin 1024) d) (fun a => by
    match a with
    | ⟨0, _⟩ => rfl
    | ⟨1, _⟩ => show d.val = 0 + d.val; omega)).trans ?_
  rw [pay4_apply x2 _ us 2 q d]
  unfold row
  refine congrArg (fun s => attn s _ _) (funext fun k => ?_)
  exact pay1_apply x1 qs 2 q k

theorem piece3 (x2 x1 : FVec Ideal S256x128 .f32) (qs : Fin 4 → FVec Ideal S256x128 .f32) (us : Fin 4 → FVec Ideal S1x1 .f32) (q : Fin 256) (d : Fin 128) :
    k0_pay8 (F := Ideal) x2 (k0_pay1 x1 (qs 0) (qs 1) (qs 2) (qs 3)) (k0_pay2 (us 0)) (k0_pay3 (us 1)) (us 2) (us 3) (ix2 q d)
      = row x2 x1 (qs 3) (us 3) q d := by
  unfold k0_pay8
  rw [truncf_apply]
  refine (extractStridedSlice_apply _ _ _ _ (ix2 (⟨(3 : Fin 4).val * 256 + q.val, by omega⟩ : Fin 1024) d) (fun a => by
    match a with
    | ⟨0, _⟩ => rfl
    | ⟨1, _⟩ => show d.val = 0 + d.val; omega)).trans ?_
  rw [pay4_apply x2 _ us 3 q d]
  unfold row
  refine congrArg (fun s => attn s _ _) (funext fun k => ?_)
  exact pay1_apply x1 qs 3 q k

/-- The attention's output block: column `r·128 + d` is column `d` of head `r`, whose sink is in row `4g + r`. -/
def block (g : Fin 2) (x0 : FVec Ideal S256x512 .f32) (x1 x2 : FVec Ideal S256x128 .f32) (x3 : FVec Ideal S8x128 .f32)
    (y : S256x512.Idx) : EReal :=
  have h1 : (y 1).val < 512 := (y 1).isLt
  attn (fun k : Fin 256 => (∑ e : Fin 128, x0 (ix2 (y 0) (⟨(y 1).val / 128 * 128 + e.val, by omega⟩ : Fin 512)) * x1 (ix2 k e)) * (((Real.sqrt 128)⁻¹ : ℝ) : EReal))
    (x3 (ix2 (⟨g.val * 4 + (y 1).val / 128, by omega⟩ : Fin 8) (0 : Fin 128)))
    (fun k => x2 (ix2 k (⟨(y 1).val % 128, by omega⟩ : Fin 128)))

theorem col_lt (r : Fin 4) (d : Fin 128) : r.val * 128 + d.val < 512 := by omega

/-- Where a head's queries and sink are read in the point's blocks. -/
theorem block_emb (g : Fin 2) (x0 : FVec Ideal S256x512 .f32) (x1 x2 : FVec Ideal S256x128 .f32) (x3 : FVec Ideal S8x128 .f32)
    (qs : FVec Ideal S256x128 .f32) (us : FVec Ideal S1x1 .f32) (r : Fin 4) (q : Fin 256) (d : Fin 128) (y : S256x512.Idx)
    (hq : ∀ e : Fin 128, qs (ix2 q e) = x0 (ix2 q (⟨r.val * 128 + e.val, by omega⟩ : Fin 512)))
    (hu : us (ix2 (0 : Fin 1) (0 : Fin 1)) = x3 (ix2 (⟨g.val * 4 + r.val, by omega⟩ : Fin 8) (0 : Fin 128)))
    (h0 : (y 0).val = q.val) (h1 : (y 1).val = r.val * 128 + d.val) : row x2 x1 qs us q d = block g x0 x1 x2 x3 y := by
  obtain rfl : y = ix2 q (⟨r.val * 128 + d.val, col_lt r d⟩ : Fin 512) := funext fun a => Fin.ext (by
    match a with
    | ⟨0, _⟩ => exact h0
    | ⟨1, _⟩ => exact h1)
  unfold row block
  dsimp only
  have e1 : (r.val * 128 + d.val) / 128 = r.val := by omega
  have e2 : (r.val * 128 + d.val) % 128 = d.val := by omega
  refine congr (congr (congrArg attn (funext fun k => congrArg (· * _) (Finset.sum_congr rfl fun e _ => congrArg (· * _) ?_))) ?_) (funext fun k => ?_)
  · rw [hq]
    refine congrArg x0 (funext fun a => Fin.ext ?_)
    match a with
    | ⟨0, _⟩ => rfl
    | ⟨1, _⟩ => show r.val * 128 + e.val = (r.val * 128 + d.val) / 128 * 128 + e.val; omega
  · rw [hu]
    refine congrArg x3 (funext fun a => Fin.ext ?_)
    match a with
    | ⟨0, _⟩ => show g.val * 4 + r.val = g.val * 4 + (r.val * 128 + d.val) / 128; omega
    | ⟨1, _⟩ => rfl
  · refine congrArg x2 (funext fun a => Fin.ext ?_)
    match a with
    | ⟨0, _⟩ => rfl
    | ⟨1, _⟩ => show d.val = (r.val * 128 + d.val) % 128; omega

/-- The row of the sinks' tile head `r` of the point's group reads. -/
theorem sink_row (g : Fin 2) (r : ℕ) (hr : r < 4) :
    (Scalar.indexCast (Scalar.addi (Scalar.muli (BitVec.ofNat 32 g.val) 4#32) (BitVec.ofNat 32 r))).toNat = g.val * 4 + r := by
  match g with
  | ⟨0, _⟩ => interval_cases r <;> rfl
  | ⟨1, _⟩ => interval_cases r <;> rfl

theorem out_4 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S8x128 .f32) (harg5 : arg5.IsWhole) (arg6 : Memref sig .tc .vmem S256x512 .bf16) (harg6 : arg6.IsWhole) (arg7 : Memref sig .tc .vmem S256x128 .f32) (harg7 : arg7.IsWhole) (arg8 : Memref sig .tc .vmem S256x128 .f32) (harg8 : arg8.IsWhole)
    (x0 : Vec Ideal S256x512 .f32) (x1 : Vec Ideal S256x128 .f32) (x2 : Vec Ideal S256x128 .f32) (x3 : Vec Ideal S8x128 .f32) :
    out0_A_4 c i arg2 harg2 arg3 harg3 arg4 harg4 arg5 harg5 arg6 harg6 arg7 harg7 arg8 harg8 x0 x1 x2 x3 = block (i 1) x0 x1 x2 x3 := by
  unfold out0_A_4
  rw [View.read_writes_eq_canon _ _ _ (cover0_A_4 c i arg2 harg2 arg3 harg3 arg4 harg4 arg5 harg5 arg6 harg6 arg7 harg7 arg8 harg8 x0 x1 x2 x3)]
  refine funext fun y => View.canon_apply_of_pieces (block (i 1) x0 x1 x2 x3) _ ?_ y (cover0_A_4 c i arg2 harg2 arg3 harg3 arg4 harg4 arg5 harg5 arg6 harg6 arg7 harg7 arg8 harg8 x0 x1 x2 x3 y)
  unfold kernelRun0_A
  dsimp only
  sl_unfold_words
  simp only [View.readAt_eq_ld, harg2.read_unread, harg3.read_unread, harg4.read_unread, harg5.read_unread, View.ld_unit_zero (S := S256x128) hz, shapeCast_self]
  have hU : ∀ (r : Fin 4) (n : ℕ) (hn : n = (i 1).val * 4 + r.val) (inb : ∀ a, (![n, 0] : Fin 2 → ℕ) a + (![1, 1] : Fin 2 → ℕ) a ≤ S8x128.size a),
      View.ld x3 (Rect.unit (s := S8x128) ![n, 0] ![1, 1] inb) (ix2 (0 : Fin 1) (0 : Fin 1))
        = x3 (ix2 (⟨(i 1).val * 4 + r.val, by have := (i 1).isLt; have : (i 1).val < 2 := this; omega⟩ : Fin 8) (0 : Fin 128)) := by
    intro r n hn inb
    refine congrArg x3 (funext fun a => Fin.ext ?_)
    match a with
    | ⟨0, _⟩ => show n + 1 * 0 = (i 1).val * 4 + r.val; omega
    | ⟨1, _⟩ => rfl
  have hQ : ∀ (r : Fin 4) (n : ℕ) (hn : n = r.val * 128) (inb : ∀ a, (![0, n] : Fin 2 → ℕ) a + (![256, 128] : Fin 2 → ℕ) a ≤ S256x512.size a) (q : Fin 256) (e : Fin 128),
      View.ld x0 (Rect.unit (s := S256x512) ![0, n] ![256, 128] inb) (ix2 q e) = x0 (ix2 q (⟨r.val * 128 + e.val, by omega⟩ : Fin 512)) := by
    intro r n hn inb q e
    refine congrArg x0 (funext fun a => Fin.ext ?_)
    match a with
    | ⟨0, _⟩ => show 0 + 1 * q.val = q.val; omega
    | ⟨1, _⟩ => show n + 1 * e.val = r.val * 128 + e.val; omega
  intro p hp
  simp only [List.mem_cons, List.mem_nil_iff, or_false] at hp
  rcases hp with rfl | rfl | rfl | rfl
  · refine fun (x : S256x128.Idx) => ?_
    obtain ⟨q, d, rfl⟩ : ∃ (q : Fin 256) (d : Fin 128), x = ix2 q d := ⟨x 0, x 1, eq_ix2 x⟩
    refine (piece3 x2 x1 ![_, _, _, _] ![_, _, _, _] q d).trans ?_
    refine block_emb (i 1) x0 x1 x2 x3 _ _ 3 q d _ (fun e => hQ 3 _ rfl _ q e) (hU 3 _ (sink_row (i 1) 3 (by decide)) _) ?_ ?_
    · show 0 + 1 * q.val = q.val; omega
    · show 384 + 1 * d.val = 3 * 128 + d.val; omega
  · refine fun (x : S256x128.Idx) => ?_
    obtain ⟨q, d, rfl⟩ : ∃ (q : Fin 256) (d : Fin 128), x = ix2 q d := ⟨x 0, x 1, eq_ix2 x⟩
    refine (piece2 x2 x1 ![_, _, _, _] ![_, _, _, _] q d).trans ?_
    refine block_emb (i 1) x0 x1 x2 x3 _ _ 2 q d _ (fun e => hQ 2 _ rfl _ q e) (hU 2 _ (sink_row (i 1) 2 (by decide)) _) ?_ ?_
    · show 0 + 1 * q.val = q.val; omega
    · show 256 + 1 * d.val = 2 * 128 + d.val; omega
  · refine fun (x : S256x128.Idx) => ?_
    obtain ⟨q, d, rfl⟩ : ∃ (q : Fin 256) (d : Fin 128), x = ix2 q d := ⟨x 0, x 1, eq_ix2 x⟩
    refine (piece1 x2 x1 ![_, _, _, _] ![_, _, _, _] q d).trans ?_
    refine block_emb (i 1) x0 x1 x2 x3 _ _ 1 q d _ (fun e => hQ 1 _ rfl _ q e) (hU 1 _ (sink_row (i 1) 1 (by decide)) _) ?_ ?_
    · show 0 + 1 * q.val = q.val; omega
    · show 128 + 1 * d.val = 1 * 128 + d.val; omega
  · refine fun (x : S256x128.Idx) => ?_
    obtain ⟨q, d, rfl⟩ : ∃ (q : Fin 256) (d : Fin 128), x = ix2 q d := ⟨x 0, x 1, eq_ix2 x⟩
    refine (piece0 x2 x1 ![_, _, _, _] ![_, _, _, _] q d).trans ?_
    refine block_emb (i 1) x0 x1 x2 x3 _ _ 0 q d _ (fun e => hQ 0 _ rfl _ q e) (hU 0 _ (sink_row (i 1) 0 (by decide)) _) ?_ ?_
    · show 0 + 1 * q.val = q.val; omega
    · show 0 + 1 * d.val = 0 * 128 + d.val; omega

variable (m : (ℓ : Loc nD τ sig) → Buf (Elt Ideal) ℓ) (ρ : Dev nD → PrngReg)

/-- The reference's results at device `c`'s arguments: what the kernel's result arrays are shown to hold. -/
abbrev whole4 (c : Dev nD) : Buf (Elt Ideal) ((c : Thread nD τ).loc main_v2_0) :=
  Cert.ReferenceIdeal.Read.val_main_v32 (F := Ideal) (m ((c : Thread nD τ).loc main_arg0)) (m ((c : Thread nD τ).loc main_arg1))
abbrev whole5 (c : Dev nD) : Buf (Elt Ideal) ((c : Thread nD τ).loc main_v2_1) :=
  Cert.ReferenceIdeal.Read.val_main_v33 (F := Ideal) (m ((c : Thread nD τ).loc main_arg0))
abbrev whole6 (c : Dev nD) : Buf (Elt Ideal) ((c : Thread nD τ).loc main_v2_2) :=
  Cert.ReferenceIdeal.Read.val_main_v34 (F := Ideal) (m ((c : Thread nD τ).loc main_arg0))

/-- Where a point's blocks lie: `t / 2` numbers the sequence, `t % 2` the group of heads. -/
theorem index0 : ∀ t : Fin cfg0.N, win0_0.index t 0 = t.val / 2 ∧ win0_0.index t 1 = 2 + t.val % 2 :=
  (by decide +kernel : ∀ t : Fin grid0.N, win0_0.index t 0 = t.val / 2 ∧ win0_0.index t 1 = 2 + t.val % 2)
theorem index1 : ∀ t : Fin cfg0.N, win0_1.index t 0 = t.val / 2 ∧ win0_1.index t 1 = 16 + t.val % 2 :=
  (by decide +kernel : ∀ t : Fin grid0.N, win0_1.index t 0 = t.val / 2 ∧ win0_1.index t 1 = 16 + t.val % 2)
theorem index2 : ∀ t : Fin cfg0.N, win0_2.index t 0 = t.val / 2 ∧ win0_2.index t 1 = 18 + t.val % 2 :=
  (by decide +kernel : ∀ t : Fin grid0.N, win0_2.index t 0 = t.val / 2 ∧ win0_2.index t 1 = 18 + t.val % 2)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val / 2 ∧ win0_4.index t 1 = t.val % 2 :=
  (by decide +kernel : ∀ t : Fin grid0.N, win0_4.index t 0 = t.val / 2 ∧ win0_4.index t 1 = t.val % 2)
theorem index5 : ∀ t : Fin cfg0.N, win0_5.index t 0 = t.val / 2 ∧ win0_5.index t 1 = t.val % 2 :=
  (by decide +kernel : ∀ t : Fin grid0.N, win0_5.index t 0 = t.val / 2 ∧ win0_5.index t 1 = t.val % 2)
theorem index6 : ∀ t : Fin cfg0.N, win0_6.index t 0 = t.val / 2 ∧ win0_6.index t 1 = t.val % 2 :=
  (by decide +kernel : ∀ t : Fin grid0.N, win0_6.index t 0 = t.val / 2 ∧ win0_6.index t 1 = t.val % 2)

/-- The sequence and the group of a point. -/
def bOf (t : Fin cfg0.N) : Fin 16 := ⟨t.val / 2, by have : t.val < 32 := t.isLt; omega⟩
def gOf (t : Fin cfg0.N) : Fin 2 := ⟨t.val % 2, by omega⟩

theorem coord1_val : ∀ t : Fin cfg0.N, (grid0.coords t 1).val = t.val % 2 :=
  (by decide +kernel : ∀ t : Fin grid0.N, (grid0.coords t 1).val = t.val % 2)
theorem coord1 (t : Fin cfg0.N) : grid0.coords t 1 = gOf t := Fin.ext (coord1_val t)

/-- A point's queries, keys, values and sinks, read off the arguments. -/
theorem queries_read (c : Dev nD) (t : Fin cfg0.N) (r : Fin 4) (q : Fin 256) (d : Fin 128) :
    iblk m c 0 t (ix2 q (⟨r.val * 128 + d.val, col_lt r d⟩ : Fin 512)) = qAt (m ((c : Thread nD τ).loc main_arg0)) (bOf t) (gOf t) r q d := by
  show V m c main_arg0 ((win0_0.rect t).emb (ix2 q (⟨r.val * 128 + d.val, col_lt r d⟩ : Fin 512))) = _
  rw [V_main_arg0]
  unfold qAt
  refine congrArg _ (funext fun a => Fin.ext ?_)
  match a with
  | ⟨0, _⟩ =>
    show win0_0.index t 0 * 256 + 1 * q.val = t.val / 2 * 256 + q.val
    rw [(index0 t).1]; omega
  | ⟨1, _⟩ =>
    show win0_0.index t 1 * 512 + 1 * (r.val * 128 + d.val) = 1024 + t.val % 2 * 512 + r.val * 128 + d.val
    rw [(index0 t).2]; omega

theorem keys_read (c : Dev nD) (t : Fin cfg0.N) (s : Fin 256) (d : Fin 128) :
    iblk m c 1 t (ix2 s d) = kAt (m ((c : Thread nD τ).loc main_arg0)) (bOf t) (gOf t) s d := by
  show V m c main_arg0 ((win0_1.rect t).emb (ix2 s d)) = _
  rw [V_main_arg0]
  unfold kAt
  refine congrArg _ (funext fun a => Fin.ext ?_)
  match a with
  | ⟨0, _⟩ =>
    show win0_1.index t 0 * 256 + 1 * s.val = t.val / 2 * 256 + s.val
    rw [(index1 t).1]; omega
  | ⟨1, _⟩ =>
    show win0_1.index t 1 * 128 + 1 * d.val = 2048 + t.val % 2 * 128 + d.val
    rw [(index1 t).2]; omega

theorem values_read (c : Dev nD) (t : Fin cfg0.N) (s : Fin 256) (d : Fin 128) :
    iblk m c 2 t (ix2 s d) = vAt (m ((c : Thread nD τ).loc main_arg0)) (bOf t) (gOf t) s d := by
  show V m c main_arg0 ((win0_2.rect t).emb (ix2 s d)) = _
  rw [V_main_arg0]
  unfold vAt
  refine congrArg _ (funext fun a => Fin.ext ?_)
  match a with
  | ⟨0, _⟩ =>
    show win0_2.index t 0 * 256 + 1 * s.val = t.val / 2 * 256 + s.val
    rw [(index2 t).1]; omega
  | ⟨1, _⟩ =>
    show win0_2.index t 1 * 128 + 1 * d.val = 2304 + t.val % 2 * 128 + d.val
    rw [(index2 t).2]; omega

/-- The sinks' tile: row `h` holds the sink of head `h` in every column. -/
theorem tile_apply (c : Dev nD) (h : Fin 8) (k : Fin 128) :
    V m c main_v1 (ix2 h k) = m ((c : Thread nD τ).loc main_arg1) (ix1 h) := by
  have e : V m c main_v1 = broadcastInDim S8x128 ![0, 1] bcast_S8x1_S8x128_0_1 (broadcastInDim S8x1 ![0] bcast_S8_S8x1_0 (m ((c : Thread nD τ).loc main_arg1))) := by
    show StableHlo.after hostOps0 (fun b => m (c, b)) _ = _
    after_results_simp
  rw [e]
  refine (broadcastInDim_apply _ _ _ _ (ix2 h (0 : Fin 1)) (fun a => by
    match a with
    | ⟨0, _⟩ => rfl
    | ⟨1, _⟩ => rfl)).trans ?_
  exact broadcastInDim_apply _ _ _ _ (ix1 h) (fun a => by
    match a with
    | ⟨0, _⟩ => rfl)

theorem sinks_read (c : Dev nD) (t : Fin cfg0.N) (h : Fin 8) :
    iblk m c 3 t (ix2 h (0 : Fin 128)) = m ((c : Thread nD τ).loc main_arg1) (ix1 h) := by
  refine Eq.trans ?_ (tile_apply m c h 0)
  show V m c main_v1 ((win0_3.rect t).emb (ix2 h (0 : Fin 128))) = _
  refine congrArg _ (funext fun a => Fin.ext ?_)
  match a with
  | ⟨0, _⟩ =>
    show win0_3.index t 0 * 8 + 1 * h.val = h.val
    rw [(index3 t).1]; omega
  | ⟨1, _⟩ =>
    show win0_3.index t 1 * 128 + 1 * 0 = 0
    rw [(index3 t).2]

/-- What a point writes of the keys is its block of the reference's keys. -/
theorem flushed5_eq (c : Dev nD) (t : Fin cfg0.N) :
    (dats m 0 c).flushed 5 t = ((cfg0.win 5).blk t).view.read (Elt Ideal) (whole5 m c) := by
  have ht : t.val < 32 := t.isLt
  rw [Value.flushed5_A, out_5]
  refine funext fun (j : S256x128.Idx) => ?_
  obtain ⟨s, d, rfl⟩ : ∃ (s : Fin 256) (d : Fin 128), j = ix2 s d := ⟨j 0, j 1, eq_ix2 j⟩
  show iblk m c 1 t (ix2 s d) = Cert.ReferenceIdeal.Read.val_main_v33 (F := Ideal) (m ((c : Thread nD τ).loc main_arg0)) ((win0_5.rect t).emb (ix2 s d))
  rw [keys_read]
  refine Eq.trans (Cert.AttnRef.keys_apply _ (bOf t) s (gOf t) d).symm (congrArg _ (funext fun a => Fin.ext ?_))
  match a with
  | ⟨0, _⟩ =>
    show t.val / 2 * 256 + s.val = win0_5.index t 0 * 256 + 1 * s.val
    rw [(index5 t).1]; omega
  | ⟨1, _⟩ =>
    show t.val % 2 * 128 + d.val = win0_5.index t 1 * 128 + 1 * d.val
    rw [(index5 t).2]; omega

/-- What a point writes of the values is its block of the reference's values. -/
theorem flushed6_eq (c : Dev nD) (t : Fin cfg0.N) :
    (dats m 0 c).flushed 6 t = ((cfg0.win 6).blk t).view.read (Elt Ideal) (whole6 m c) := by
  have ht : t.val < 32 := t.isLt
  rw [Value.flushed6_A, out_6]
  refine funext fun (j : S256x128.Idx) => ?_
  obtain ⟨s, d, rfl⟩ : ∃ (s : Fin 256) (d : Fin 128), j = ix2 s d := ⟨j 0, j 1, eq_ix2 j⟩
  show iblk m c 2 t (ix2 s d) = Cert.ReferenceIdeal.Read.val_main_v34 (F := Ideal) (m ((c : Thread nD τ).loc main_arg0)) ((win0_6.rect t).emb (ix2 s d))
  rw [values_read]
  refine Eq.trans (Cert.AttnRef.vals_apply _ (bOf t) s (gOf t) d).symm (congrArg _ (funext fun a => Fin.ext ?_))
  match a with
  | ⟨0, _⟩ =>
    show t.val / 2 * 256 + s.val = win0_6.index t 0 * 256 + 1 * s.val
    rw [(index6 t).1]; omega
  | ⟨1, _⟩ =>
    show t.val % 2 * 128 + d.val = win0_6.index t 1 * 128 + 1 * d.val
    rw [(index6 t).2]; omega

variable [Cert.Pre_scores_finite.Facts]

/-- What a point writes of the attention is its block of the reference's. -/
theorem flushed4_eq (hpre : Cert.Pre_KernelIdeal_scores_finite m) (c : Dev nD) (t : Fin cfg0.N) :
    (dats m 0 c).flushed 4 t = ((cfg0.win 4).blk t).view.read (Elt Ideal) (whole4 m c) := by
  have ht : t.val < 32 := t.isLt
  rw [Value.flushed4_A, out_4, coord1]
  refine funext fun (j : S256x512.Idx) => ?_
  obtain ⟨q, k, rfl⟩ : ∃ (q : Fin 256) (k : Fin 512), j = ix2 q k := ⟨j 0, j 1, eq_ix2 j⟩
  obtain ⟨r, d, rfl⟩ : ∃ (r : Fin 4) (d : Fin 128), k = ⟨r.val * 128 + d.val, col_lt r d⟩ :=
    ⟨⟨k.val / 128, by omega⟩, ⟨k.val % 128, by omega⟩, Fin.ext (by show k.val = k.val / 128 * 128 + k.val % 128; omega)⟩
  show block (gOf t) (iblk m c 0 t) (iblk m c 1 t) (iblk m c 2 t) (iblk m c 3 t) (ix2 q ⟨r.val * 128 + d.val, col_lt r d⟩)
    = Cert.ReferenceIdeal.Read.val_main_v32 (F := Ideal) (m ((c : Thread nD τ).loc main_arg0)) (m ((c : Thread nD τ).loc main_arg1)) ((win0_4.rect t).emb (ix2 q ⟨r.val * 128 + d.val, col_lt r d⟩))
  rw [← block_emb (gOf t) (iblk m c 0 t) (iblk m c 1 t) (iblk m c 2 t) (iblk m c 3 t)
    (fun y => iblk m c 0 t (ix2 (y 0) (⟨r.val * 128 + (y 1).val, col_lt r (y 1)⟩ : Fin 512)))
    (fun _ => iblk m c 3 t (ix2 (⟨(gOf t).val * 4 + r.val, by omega⟩ : Fin 8) (0 : Fin 128))) r q d _ (fun _ => rfl) rfl rfl rfl]
  obtain ⟨⟨a, ha⟩, z, hz'⟩ := Cert.AttnFinite.scores _ _ (hpre c) (bOf t) (gOf t) r q
  have e := (attn_eq _ a ha _ z hz' (fun s => vAt (m ((c : Thread nD τ).loc main_arg0)) (bOf t) (gOf t) s d)).trans
    (Cert.AttnRef.ctx_apply (m ((c : Thread nD τ).loc main_arg0)) (m ((c : Thread nD τ).loc main_arg1)) (bOf t) q (gOf t) r d).symm
  refine (Eq.trans ?_ e).trans (congrArg _ (funext fun a => Fin.ext ?_))
  · unfold row
    refine congr (congr (congrArg attn (funext fun k => congrArg (· * _) (Finset.sum_congr rfl fun e _ => congrArg₂ (· * ·) ?_ ?_))) ?_) (funext fun k => ?_)
    · exact queries_read m c t r q e
    · exact keys_read m c t k e
    · exact sinks_read m c t _
    · exact values_read m c t k d
  · match a with
    | ⟨0, _⟩ =>
      show t.val / 2 * 256 + q.val = win0_4.index t 0 * 256 + 1 * q.val
      rw [(index4 t).1]; omega
    | ⟨1, _⟩ =>
      show t.val % 2 * 512 + r.val * 128 + d.val = win0_4.index t 1 * 512 + 1 * (r.val * 128 + d.val)
      rw [(index4 t).2]; omega

/-! An element of a result array is in the block of the point its coordinates name. -/

theorem cover4 (i : S4096x1024.Idx) :
    ∃ t : Fin cfg0.N, (cfg0.win 4).flush t = true ∧ i ∈ ((cfg0.win 4).blk t).view.set := by
  have h0 : (i 0 : Nat) < 4096 := (i 0).isLt
  have h1 : (i 1 : Nat) < 1024 := (i 1).isLt
  have hN : cfg0.N = 32 := N_0
  refine ⟨⟨(i 0 : Nat) / 256 * 2 + (i 1 : Nat) / 512, by omega⟩, flush0_4 _, ?_⟩
  generalize ht : (⟨(i 0 : Nat) / 256 * 2 + (i 1 : Nat) / 512, _⟩ : Fin cfg0.N) = t
  have htv : t.val = (i 0 : Nat) / 256 * 2 + (i 1 : Nat) / 512 := by rw [← ht]
  show i ∈ ((View.whole main_v2_0).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [(index4 t).1]; omega
  | ⟨1, _⟩ =>
    show win0_4.index t 1 * 512 ≤ (i 1 : Nat) ∧ (i 1 : Nat) < win0_4.index t 1 * 512 + 512
    rw [(index4 t).2]; omega

theorem cover5 (i : S4096x256.Idx) :
    ∃ t : Fin cfg0.N, (cfg0.win 5).flush t = true ∧ i ∈ ((cfg0.win 5).blk t).view.set := by
  have h0 : (i 0 : Nat) < 4096 := (i 0).isLt
  have h1 : (i 1 : Nat) < 256 := (i 1).isLt
  have hN : cfg0.N = 32 := N_0
  refine ⟨⟨(i 0 : Nat) / 256 * 2 + (i 1 : Nat) / 128, by omega⟩, flush0_5 _, ?_⟩
  generalize ht : (⟨(i 0 : Nat) / 256 * 2 + (i 1 : Nat) / 128, _⟩ : Fin cfg0.N) = t
  have htv : t.val = (i 0 : Nat) / 256 * 2 + (i 1 : Nat) / 128 := by rw [← ht]
  show i ∈ ((View.whole main_v2_1).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [(index5 t).1]; omega
  | ⟨1, _⟩ =>
    show win0_5.index t 1 * 128 ≤ (i 1 : Nat) ∧ (i 1 : Nat) < win0_5.index t 1 * 128 + 128
    rw [(index5 t).2]; omega

theorem cover6 (i : S4096x256.Idx) :
    ∃ t : Fin cfg0.N, (cfg0.win 6).flush t = true ∧ i ∈ ((cfg0.win 6).blk t).view.set := by
  have h0 : (i 0 : Nat) < 4096 := (i 0).isLt
  have h1 : (i 1 : Nat) < 256 := (i 1).isLt
  have hN : cfg0.N = 32 := N_0
  refine ⟨⟨(i 0 : Nat) / 256 * 2 + (i 1 : Nat) / 128, by omega⟩, flush0_6 _, ?_⟩
  generalize ht : (⟨(i 0 : Nat) / 256 * 2 + (i 1 : Nat) / 128, _⟩ : Fin cfg0.N) = t
  have htv : t.val = (i 0 : Nat) / 256 * 2 + (i 1 : Nat) / 128 := by rw [← ht]
  show i ∈ ((View.whole main_v2_2).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [(index6 t).1]; omega
  | ⟨1, _⟩ =>
    show win0_6.index t 1 * 128 ≤ (i 1 : Nat) ∧ (i 1 : Nat) < win0_6.index t 1 * 128 + 128
    rw [(index6 t).2]; omega

/-- The run, read: the result arrays at the reference's results, the arguments unchanged. -/
theorem run (hpre : Cert.Pre_KernelIdeal_scores_finite m) :
    θ_run defs (onTc (τ := τ) (main (F := Ideal))) ⟨m, fun _ => 0, ρ⟩ fun r => ∀ c : Dev nD,
      r.2.mem ((c : Thread nD τ).loc main_v2_0) = whole4 m c
      ∧ r.2.mem ((c : Thread nD τ).loc main_v2_1) = whole5 m c
      ∧ r.2.mem ((c : Thread nD τ).loc main_v2_2) = whole6 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 4 (whole4 m c) (fun t _ => flushed4_eq m hpre c t) cover4),
      (h c).2.1.trans ((dats m 0 c).arrAt_eq_of_cover 5 (whole5 m c) (fun t _ => flushed5_eq m c t) cover5),
      (h c).2.2.1.trans ((dats m 0 c).arrAt_eq_of_cover 6 (whole6 m c) (fun t _ => flushed6_eq m c t) cover6),
      (h c).2.2.2⟩) (Value.run_blocks m ρ)

end Cert.KernelIdeal.Attention

namespace Cert.Proof.AttnClaims

variable [Cert.Pre_scores_finite.Facts]

/-- The kernel's attention and the reference's are the same function of arguments that agree, where the queries, the
    keys and the sinks are finite. -/
theorem algebraic : Cert.algebraic_KernelIdeal_ReferenceIdeal_pre_scores_finite := by
  intro m ρ m' ρ' hpre hag
  refine ⟨fun c => Cert.KernelIdeal.Attention.whole4 m c, fun c => Cert.KernelIdeal.Attention.whole5 m c,
    fun c => Cert.KernelIdeal.Attention.whole6 m c, Cert.KernelIdeal.Attention.run m ρ hpre, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v32_eq]
    show Cert.ReferenceIdeal.Read.val_main_v32 (F := Ideal) _ _ = Cert.ReferenceIdeal.Read.val_main_v32 (F := Ideal) _ _
    rw [(hag c).1, (hag c).2]
  · show Cert.ReferenceIdeal.Read.val_main_v33 (F := Ideal) _ = Cert.ReferenceIdeal.Read.val_main_v33 (F := Ideal) _
    rw [(hag c).1]
  · show Cert.ReferenceIdeal.Read.val_main_v34 (F := Ideal) _ = Cert.ReferenceIdeal.Read.val_main_v34 (F := Ideal) _
    rw [(hag c).1]

end Cert.Proof.AttnClaims

end
-- ==== Proof.ProjValue.lean ====
/-
  The value claim of `Kernel3`: the input projection's first 3584 columns, computed in blocks of 2048 rows by 512
  columns, against the product of the whole arrays.

  Every point of the grid writes back the product of one block of rows of `h` with one block of columns of the weight;
  the contracted axis is never cut. So an element of the result is the same sum of 2048 products on both sides, and
  what has to be shown is that the two programs read the same elements of the arguments: the windows' index maps on one
  side, the slices and the reshape of the host program on the other.
-/
module

public import proofs.«01_k».proof.Defs
public import proofs.«01_k».proof.Proof.Gen.Kernel3Ideal.Value
public import proofs.«01_k».proof.Proof.Gen.Reference3Ideal.Read
public import Idealize.ShloMosaic.Lib.Pipeline.Value
public import Idealize.ShloMosaic.Lib.ValueIdx
public import Idealize.ShloMosaic.Lib.MatmulPlain
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel3Ideal.Product

open Cert.Kernel3Ideal Cert.Kernel3Ideal.Gen

variable (m : (ℓ : Loc nD τ sig) → Buf (Elt Ideal) ℓ) (ρ : Dev nD → PrngReg)

/-- The host program's result at device `c`'s arguments: what the kernel's result array is shown to hold. -/
abbrev whole (c : Dev nD) : Buf (Elt Ideal) ((c : Thread nD τ).loc main_v0) :=
  Cert.Reference3Ideal.Read.val_main_v4 (F := Ideal) (m ((c : Thread nD τ).loc main_arg0)) (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

/-- Where a point's blocks lie: `t / 7` numbers the block of rows, `t % 7` the block of columns. -/
theorem index0 : ∀ t : Fin cfg0.N, win0_0.index t 0 = t.val / 7 ∧ win0_0.index t 1 = 0 :=
  (by decide +kernel : ∀ t : Fin grid0.N, win0_0.index t 0 = t.val / 7 ∧ win0_0.index t 1 = 0)
theorem index1 : ∀ t : Fin cfg0.N, win0_1.index t 0 = 0 ∧ win0_1.index t 1 = 0 ∧ win0_1.index t 2 = t.val % 7 :=
  (by decide +kernel : ∀ t : Fin grid0.N, win0_1.index t 0 = 0 ∧ win0_1.index t 1 = 0 ∧ win0_1.index t 2 = t.val % 7)
theorem index2 : ∀ t : Fin cfg0.N, win0_2.index t 0 = t.val / 7 ∧ win0_2.index t 1 = t.val % 7 :=
  (by decide +kernel : ∀ t : Fin grid0.N, win0_2.index t 0 = t.val / 7 ∧ win0_2.index t 1 = t.val % 7)

theorem hdot : dot_S2048x2048_S2048x512_S2048x512_1_0_0_1_n_n = DotDims.plain 2048 2048 512 := rfl

/-- The body's product at an element: the sum over the contracted axis. -/
theorem pay_apply (x0 : Vec Ideal S2048x2048 .bf16) (x1 : Vec Ideal S1x2048x512 .f32) (r : Fin 2048) (q : Fin 512) :
    k0_pay1 x0 x1 (ix2 r q) = ∑ k : Fin 2048, x0 (ix2 r k) * x1 (ix3 0 k q) := by
  unfold k0_pay1
  rw [hdot]
  refine (Ideal.matmul_plain_apply _ _ _ _ r q).trans ?_
  rw [constant_apply, Ideal.ofBits_zero_f32, zero_add]
  refine Finset.sum_congr rfl fun k _ => congrArg (x0 (ix2 r k) * ·) ?_
  rw [truncf_apply]
  refine shapeCast_apply x1 _ _ _ ?_
  rw [Shape.rowMajor_val_three, Shape.rowMajor_val_two]
  show (0 * 2048 + k.val) * 512 + q.val = k.val * 512 + q.val
  omega

/-- What point `t` writes back is its block of the whole product. -/
theorem flushed_eq (c : Dev nD) (t : Fin cfg0.N) :
    (dats m 0 c).flushed 2 t = ((cfg0.win 2).blk t).view.read (Elt Ideal) (whole m c) := by
  rw [Value.flushed2]
  unfold out0_2
  rw [View.canon_unit_zero hz2, View.ld_unit_zero hz2, View.ld_unit_zero hz3]
  refine funext fun (j : S2048x512.Idx) => ?_
  obtain ⟨r, q, rfl⟩ : ∃ (r : Fin 2048) (q : Fin 512), j = ix2 r q := ⟨j 0, j 1, eq_ix2 j⟩
  have hr : r.val < 2048 := r.isLt
  have hq : q.val < 512 := q.isLt
  have ht : t.val < 28 := lt_of_lt_of_eq t.isLt N_0
  show k0_pay1 (iblk m c 0 t) (iblk m c 1 t) (ix2 r q)
    = Cert.Reference3Ideal.Read.val_main_v4 (F := Ideal) _ _ ((win0_2.rect t).emb (ix2 r q))
  rw [Cert.Reference3Ideal.Read.val_main_v4_apply, Cert.Reference3Ideal.Read.val_main_v3_apply, pay_apply]
  refine Finset.sum_congr rfl fun k _ => ?_
  have hk : k.val < 2048 := k.isLt
  rw [Cert.Reference3Ideal.Read.val_main_v0_apply, Cert.Reference3Ideal.Read.val_main_v2_apply, Cert.Reference3Ideal.Read.val_main_v1_apply]
  refine congrArg₂ (· * ·) ?_ ?_
  · show m ((c : Thread nD τ).loc main_arg0) ((win0_0.rect t).emb (ix2 r k)) = m ((c : Thread nD τ).loc main_arg0) _
    refine congrArg _ (funext fun a => Fin.ext ?_)
    match a with
    | ⟨0, _⟩ =>
      show win0_0.index t 0 * 2048 + 1 * r.val = win0_2.index t 0 * 2048 + 1 * r.val
      rw [(index0 t).1, (index2 t).1]
    | ⟨1, _⟩ =>
      show win0_0.index t 1 * 2048 + 1 * k.val = k.val
      rw [(index0 t).2]; omega
  · show m ((c : Thread nD τ).loc main_arg1) ((win0_1.rect t).emb (ix3 0 k q)) = m ((c : Thread nD τ).loc main_arg1) _
    refine congrArg _ (funext fun a => Fin.ext ?_)
    match a with
    | ⟨0, _⟩ =>
      show win0_1.index t 0 * 1 + 1 * 0 = 0
      rw [(index1 t).1]
    | ⟨1, _⟩ =>
      show win0_1.index t 1 * 2048 + 1 * k.val = (k.val * 11776 + (win0_2.index t 1 * 512 + 1 * q.val)) / 11776 % 2048
      rw [(index1 t).2.1, (index2 t).2]; omega
    | ⟨2, _⟩ =>
      show win0_1.index t 2 * 512 + 1 * q.val = (k.val * 11776 + (win0_2.index t 1 * 512 + 1 * q.val)) % 11776
      rw [(index1 t).2.2, (index2 t).2]; omega

/-- An element of the result array is in the block of the point its coordinates name. -/
theorem cover (i : S8192x3584.Idx) :
    ∃ t : Fin cfg0.N, (cfg0.win 2).flush t = true ∧ i ∈ ((cfg0.win 2).blk t).view.set := by
  have h0 : (i 0 : Nat) < 8192 := (i 0).isLt
  have h1 : (i 1 : Nat) < 3584 := (i 1).isLt
  have hN : cfg0.N = 28 := N_0
  refine ⟨⟨(i 0 : Nat) / 2048 * 7 + (i 1 : Nat) / 512, by omega⟩, flush0_2 _, ?_⟩
  generalize ht : (⟨(i 0 : Nat) / 2048 * 7 + (i 1 : Nat) / 512, _⟩ : Fin cfg0.N) = t
  have htv : t.val = (i 0 : Nat) / 2048 * 7 + (i 1 : Nat) / 512 := by rw [← ht]
  show i ∈ ((View.whole main_v0).slice (win0_2.rect t)).set
  rw [View.set_slice_whole, Rect.mem_set_unit]
  intro a
  match a with
  | ⟨0, _⟩ =>
    show win0_2.index t 0 * 2048 ≤ (i 0 : Nat) ∧ (i 0 : Nat) < win0_2.index t 0 * 2048 + 2048
    rw [(index2 t).1]; omega
  | ⟨1, _⟩ =>
    show win0_2.index t 1 * 512 ≤ (i 1 : Nat) ∧ (i 1 : Nat) < win0_2.index t 1 * 512 + 512
    rw [(index2 t).2]; omega

/-- So the result array ends holding the whole product, -/
theorem final (c : Dev nD) : (dats m 0 c).arrAt 2 cfg0.N = whole m c :=
  (dats m 0 c).arrAt_eq_of_cover 2 (whole m c) (fun t _ => flushed_eq m c t) cover

/-- and the run, read: the result array at the whole product, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel3Ideal.Product

namespace Cert.Proof.ProjClaims

/-- The blocked product and the whole one are the same function of arguments that agree. -/
theorem algebraic : Cert.algebraic_Kernel3Ideal_Reference3Ideal := by
  intro m ρ m' ρ' _ hag
  refine ⟨fun c => Cert.Kernel3Ideal.Product.whole m c, Cert.Kernel3Ideal.Product.run m ρ, ?_⟩
  refine (θ_run Cert.Reference3Ideal.defs _ _).mono (fun _ h c => ⟨(h c).1.trans ?_, (h c).2⟩)
    (Cert.Reference3Ideal.Value.run (F := Ideal) m' ρ')
  show Cert.Reference3Ideal.Read.val_main_v4 (F := Ideal) _ _ = Cert.Reference3Ideal.Read.val_main_v4 (F := Ideal) _ _
  rw [(hag c).1, (hag c).2]

end Cert.Proof.ProjClaims

end
-- ==== Proof.GateValue.lean ====
/-
  The value claim of `Kernel4`: the gates, the logistic function of the input projection's columns from 3584 on, computed
  in blocks of 2048 rows by 512 columns, against the whole result.

  As for the projection's first columns (`ProjValue`) the contracted axis is never cut, so each side's element is the
  same sum of 2048 products; here both sides then apply the logistic function, the host as `1 / (1 + exp (-x))`, which is
  what the one operation of the kernel means. The kernel's blocks of columns begin at column 3584 of the weight.
-/
module

public import proofs.«01_k».proof.Defs
public import proofs.«01_k».proof.Proof.Gen.Kernel4Ideal.Value
public import proofs.«01_k».proof.Proof.Gen.Reference4Ideal.Read
public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel4Ideal.Product

open Cert.Kernel4Ideal Cert.Kernel4Ideal.Gen

variable (m : (ℓ : Loc nD τ sig) → Buf (Elt Ideal) ℓ) (ρ : Dev nD → PrngReg)

/-- The host program's result at device `c`'s arguments: what the kernel's result array is shown to hold. -/
abbrev whole (c : Dev nD) : Buf (Elt Ideal) ((c : Thread nD τ).loc main_v0) :=
  Cert.Reference4Ideal.Read.val_main_v11 (F := Ideal) (m ((c : Thread nD τ).loc main_arg0)) (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

/-- Where a point's blocks lie: `t / 16` numbers the block of rows, `t % 16` the block of columns. -/
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index1 : ∀ t : Fin cfg0.N, win0_1.index t 0 = 0 ∧ win0_1.index t 1 = 0 ∧ win0_1.index t 2 = t.val % 16 + 7 :=
  (by decide +kernel : ∀ t : Fin grid0.N, win0_1.index t 0 = 0 ∧ win0_1.index t 1 = 0 ∧ win0_1.index t 2 = t.val % 16 + 7)
theorem index2 : ∀ t : Fin cfg0.N, win0_2.index t 0 = t.val / 16 ∧ win0_2.index t 1 = t.val % 16 :=
  (by decide +kernel : ∀ t : Fin grid0.N, win0_2.index t 0 = t.val / 16 ∧ win0_2.index t 1 = t.val % 16)

theorem hdot : dot_S2048x2048_S2048x512_S2048x512_1_0_0_1_n_n = DotDims.plain 2048 2048 512 := rfl

/-- The body's result at an element: the logistic function of the sum over the contracted axis. -/
theorem pay_apply (x0 : Vec Ideal S2048x2048 .bf16) (x1 : Vec Ideal S1x2048x512 .f32) (r : Fin 2048) (q : Fin 512) :
    k0_pay1 x0 x1 (ix2 r q) = Ideal.logistic (∑ k : Fin 2048, x0 (ix2 r k) * x1 (ix3 0 k q)) := by
  unfold k0_pay1
  rw [hdot]
  refine congrArg Ideal.logistic ?_
  refine (Ideal.matmul_plain_apply _ _ _ _ r q).trans ?_
  rw [constant_apply, Ideal.ofBits_zero_f32, zero_add]
  refine Finset.sum_congr rfl fun k _ => congrArg (x0 (ix2 r k) * ·) ?_
  rw [truncf_apply]
  refine shapeCast_apply x1 _ _ _ ?_
  rw [Shape.rowMajor_val_three, Shape.rowMajor_val_two]
  show (0 * 2048 + k.val) * 512 + q.val = k.val * 512 + q.val
  omega

/-- The host's result at an element: the logistic function of the product there. -/
theorem host_apply (x0 : (⟨S8192x2048, .bf16⟩ : BufTy).Contents (Elt Ideal)) (x1 : (⟨S2x2048x11776, .f32⟩ : BufTy).Contents (Elt Ideal))
    (i : S8192x8192.Idx) : Cert.Reference4Ideal.Read.val_main_v11 (F := Ideal) x0 x1 i
      = Ideal.logistic (Cert.Reference4Ideal.Read.val_main_v4 (F := Ideal) x0 x1 i) := by
  rw [Cert.Reference4Ideal.Read.val_main_v11_apply, Cert.Reference4Ideal.Read.val_main_v10_apply, Cert.Reference4Ideal.Read.val_main_v8_apply,
    Cert.Reference4Ideal.Read.val_main_v9_apply, Cert.Reference4Ideal.Read.val_main_v7_apply, Cert.Reference4Ideal.Read.val_main_cst_apply,
    Cert.Reference4Ideal.Read.val_main_cst_0_apply, Cert.Reference4Ideal.Read.val_main_v6_apply, Cert.Reference4Ideal.Read.val_main_v5_apply]
  show Ideal.div (Ideal.ofBits .f32 0x3F800000#32) (Ideal.ofBits .f32 0x3F800000#32 + Ideal.exp (-_)) = _
  rw [Ideal.ofBits_one_f32]; rfl

/-- What point `t` writes back is its block of the whole result. -/
theorem flushed_eq (c : Dev nD) (t : Fin cfg0.N) :
    (dats m 0 c).flushed 2 t = ((cfg0.win 2).blk t).view.read (Elt Ideal) (whole m c) := by
  rw [Value.flushed2]
  unfold out0_2
  rw [View.canon_unit_zero hz2, View.ld_unit_zero hz2, View.ld_unit_zero hz3]
  refine funext fun (j : S2048x512.Idx) => ?_
  obtain ⟨r, q, rfl⟩ : ∃ (r : Fin 2048) (q : Fin 512), j = ix2 r q := ⟨j 0, j 1, eq_ix2 j⟩
  have hr : r.val < 2048 := r.isLt
  have hq : q.val < 512 := q.isLt
  have ht : t.val < 64 := lt_of_lt_of_eq t.isLt N_0
  show k0_pay1 (iblk m c 0 t) (iblk m c 1 t) (ix2 r q)
    = Cert.Reference4Ideal.Read.val_main_v11 (F := Ideal) _ _ ((win0_2.rect t).emb (ix2 r q))
  rw [host_apply, Cert.Reference4Ideal.Read.val_main_v4_apply, Cert.Reference4Ideal.Read.val_main_v3_apply, pay_apply]
  refine congrArg Ideal.logistic ?_
  refine Finset.sum_congr rfl fun k _ => ?_
  have hk : k.val < 2048 := k.isLt
  rw [Cert.Reference4Ideal.Read.val_main_v0_apply, Cert.Reference4Ideal.Read.val_main_v2_apply, Cert.Reference4Ideal.Read.val_main_v1_apply]
  refine congrArg₂ (· * ·) ?_ ?_
  · show m ((c : Thread nD τ).loc main_arg0) ((win0_0.rect t).emb (ix2 r k)) = m ((c : Thread nD τ).loc main_arg0) _
    refine congrArg _ (funext fun a => Fin.ext ?_)
    match a with
    | ⟨0, _⟩ =>
      show win0_0.index t 0 * 2048 + 1 * r.val = win0_2.index t 0 * 2048 + 1 * r.val
      rw [(index0 t).1, (index2 t).1]
    | ⟨1, _⟩ =>
      show win0_0.index t 1 * 2048 + 1 * k.val = k.val
      rw [(index0 t).2]; omega
  · show m ((c : Thread nD τ).loc main_arg1) ((win0_1.rect t).emb (ix3 0 k q)) = m ((c : Thread nD τ).loc main_arg1) _
    refine congrArg _ (funext fun a => Fin.ext ?_)
    match a with
    | ⟨0, _⟩ =>
      show win0_1.index t 0 * 1 + 1 * 0 = 0
      rw [(index1 t).1]
    | ⟨1, _⟩ =>
      show win0_1.index t 1 * 2048 + 1 * k.val = (k.val * 11776 + (3584 + (win0_2.index t 1 * 512 + 1 * q.val))) / 11776 % 2048
      rw [(index1 t).2.1, (index2 t).2]; omega
    | ⟨2, _⟩ =>
      show win0_1.index t 2 * 512 + 1 * q.val = (k.val * 11776 + (3584 + (win0_2.index t 1 * 512 + 1 * q.val))) % 11776
      rw [(index1 t).2.2, (index2 t).2]; omega

/-- An element of the result array is in the block of the point its coordinates name. -/
theorem cover (i : S8192x8192.Idx) :
    ∃ t : Fin cfg0.N, (cfg0.win 2).flush t = true ∧ i ∈ ((cfg0.win 2).blk t).view.set := by
  have h0 : (i 0 : Nat) < 8192 := (i 0).isLt
  have h1 : (i 1 : Nat) < 8192 := (i 1).isLt
  have hN : cfg0.N = 64 := N_0
  refine ⟨⟨(i 0 : Nat) / 2048 * 16 + (i 1 : Nat) / 512, by omega⟩, flush0_2 _, ?_⟩
  generalize ht : (⟨(i 0 : Nat) / 2048 * 16 + (i 1 : Nat) / 512, _⟩ : Fin cfg0.N) = t
  have htv : t.val = (i 0 : Nat) / 2048 * 16 + (i 1 : Nat) / 512 := by rw [← ht]
  show i ∈ ((View.whole main_v0).slice (win0_2.rect t)).set
  rw [View.set_slice_whole, Rect.mem_set_unit]
  intro a
  match a with
  | ⟨0, _⟩ =>
    show win0_2.index t 0 * 2048 ≤ (i 0 : Nat) ∧ (i 0 : Nat) < win0_2.index t 0 * 2048 + 2048
    rw [(index2 t).1]; omega
  | ⟨1, _⟩ =>
    show win0_2.index t 1 * 512 ≤ (i 1 : Nat) ∧ (i 1 : Nat) < win0_2.index t 1 * 512 + 512
    rw [(index2 t).2]; omega

/-- So the result array ends holding the whole result, -/
theorem final (c : Dev nD) : (dats m 0 c).arrAt 2 cfg0.N = whole m c :=
  (dats m 0 c).arrAt_eq_of_cover 2 (whole m c) (fun t _ => flushed_eq m c t) cover

/-- and the run, read: the result array at the whole result, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel4Ideal.Product

namespace Cert.Proof.GateClaims

/-- The blocked gates and the whole ones are the same function of arguments that agree. -/
theorem algebraic : Cert.algebraic_Kernel4Ideal_Reference4Ideal := by
  intro m ρ m' ρ' _ hag
  refine ⟨fun c => Cert.Kernel4Ideal.Product.whole m c, Cert.Kernel4Ideal.Product.run m ρ, ?_⟩
  refine (θ_run Cert.Reference4Ideal.defs _ _).mono (fun _ h c => ⟨(h c).1.trans ?_, (h c).2⟩)
    (Cert.Reference4Ideal.Value.run (F := Ideal) m' ρ')
  show Cert.Reference4Ideal.Read.val_main_v11 (F := Ideal) _ _ = Cert.Reference4Ideal.Read.val_main_v11 (F := Ideal) _ _
  rw [(hag c).1, (hag c).2]

end Cert.Proof.GateClaims

end
-- ==== Proof.FfnRun.lean ====
/-
  The body of `Kernel2`'s pallas_call, one run per kind of point of its grid of 8 row tiles by 12 steps.

  Step 0 clears the running sum and projects the tile's rows by the first block of columns into the lower half of each
  scratch (`first`). Steps 1 to 10 project the next block into one half while the block projected the step before, lying
  in the other half, is convolved along the rows, gated, activated and projected back onto the running sum (`odd`, `even`).
  Step 11 does the second part alone and writes the sum out (`last`). The runs hold for any values of the elements.
-/
module

public import proofs.«01_k».proof.Proof.Gen.Kernel2Ideal.Skeleton
public import proofs.«01_k».proof.Proof.Gen.Kernel2Ideal.Frame
public import Idealize.ShloMosaic.Lib.Pipeline.Value
public import Idealize.ShloMosaic.Lib.VecWindow

@[expose] public section

set_option maxRecDepth 16384

noncomputable section

namespace Cert.Proof.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- Whether a point is the first of its row tile. -/
def isFirst (i : grid0.Coords) : BitVec 1 :=
  Scalar.cmpi .ne (Scalar.extui (Scalar.cmpi .eq (BitVec.ofNat 32 (i 1).val) 0#32) : BitVec 32) 0#32

/-- Whether a point lies strictly between the first and the last of its row tile. -/
def isInner (i : grid0.Coords) : BitVec 1 :=
  Scalar.andi (Scalar.cmpi .sgt (BitVec.ofNat 32 (i 1).val) 0#32) (Scalar.cmpi .slt (BitVec.ofNat 32 (i 1).val) 11#32)

/-- A point's position in its row tile modulo two, as the body computes it. -/
def half (i : grid0.Coords) : BitVec 32 :=
  Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32))
    (Scalar.addi (Scalar.remsi (BitVec.ofNat 32 (i 1).val) (Scalar.select (Scalar.cmpi .eq 2#32 0#32) 1#32 2#32)) (Scalar.select (Scalar.cmpi .eq 2#32 0#32) 1#32 2#32))
    (Scalar.remsi (BitVec.ofNat 32 (i 1).val) (Scalar.select (Scalar.cmpi .eq 2#32 0#32) 1#32 2#32))

/-- Whether a point is an inner one of even position. -/
def isEven (i : grid0.Coords) : BitVec 1 :=
  Scalar.cmpi .ne (Scalar.extui (Scalar.andi (isInner i) (Scalar.cmpi .eq (half i) 0#32)) : BitVec 32) 0#32

/-- Whether a point is an inner one of odd position. -/
def isOdd (i : grid0.Coords) : BitVec 1 :=
  Scalar.cmpi .ne (Scalar.extui (Scalar.andi (isInner i) (Scalar.cmpi .eq (half i) 1#32)) : BitVec 32) 0#32

theorem isFirst_iff : ∀ t : Fin grid0.N, isFirst (grid0.coords t) = 1#1 ↔ t.val % 12 = 0 := by decide +kernel
theorem isEven_iff : ∀ t : Fin grid0.N, isEven (grid0.coords t) = 1#1 ↔ (t.val % 12 ≠ 0 ∧ t.val % 12 ≠ 11 ∧ t.val % 12 % 2 = 0) := by decide +kernel
theorem isOdd_iff : ∀ t : Fin grid0.N, isOdd (grid0.coords t) = 1#1 ↔ (t.val % 12 ≠ 11 ∧ t.val % 12 % 2 = 1) := by decide +kernel
theorem isLast_iff : ∀ t : Fin grid0.N, k0_cond4 (grid0.coords t) = 1#1 ↔ t.val % 12 = 11 := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem ld_bias (x : Vec F S1x1x512 .f32) : View.ld x (Rect.unit (s := S1x1x512) ![0, 0, 0] ![1, 1, 512] inb_S1x1x512_S1x1x512_0_0_0) = x :=
  View.ld_unit_zero (S := S1x1x512) hz3 _ _
theorem ld_acc (x : Vec F S1024x2048 .f32) : View.ld x (Rect.unit (s := S1024x2048) ![0, 0] ![1024, 2048] inb_S1024x2048_S1024x2048_0_0) = x :=
  View.ld_unit_zero (S := S1024x2048) hz2 _ _
theorem ld_back (x : Vec F S1x512x2048 .f32) : View.ld x (Rect.unit (s := S1x512x2048) ![0, 0, 0] ![1, 512, 2048] inb_S1x512x2048_S1x512x2048_0_0_0) = x :=
  View.ld_unit_zero (S := S1x512x2048) hz3 _ _

/-- The two halves of a projection's scratch. -/
abbrev lower : Rect S2x1024x512 := Rect.unit (s := S2x1024x512) ![0, 0, 0] S1x1024x512.size inb_S2x1024x512_S1x1024x512_0_0_0
abbrev upper : Rect S2x1024x512 := Rect.unit (s := S2x1024x512) ![1, 0, 0] S1x1024x512.size inb_S2x1024x512_S1x1024x512_1_0_0

/-- The three rows of a convolution's weights. -/
abbrev tap0 : Rect S1x3x512 := Rect.unit (s := S1x3x512) ![0, 0, 0] S1x1x512.size inb_S1x3x512_S1x1x512_0_0_0
abbrev tap1 : Rect S1x3x512 := Rect.unit (s := S1x3x512) ![0, 1, 0] S1x1x512.size inb_S1x3x512_S1x1x512_0_1_0
abbrev tap2 : Rect S1x3x512 := Rect.unit (s := S1x3x512) ![0, 2, 0] S1x1x512.size inb_S1x3x512_S1x1x512_0_2_0

/-- The rows' projection by one block of columns. -/
def up (h : Vec F S1024x2048 .bf16) (w : Vec F S1x2048x512 .f32) : Vec F S1x1024x512 .f32 := k0_pay4 h w

/-- The convolved, gated and activated tile, projected back and added to the running sum. -/
def down (a : BitVec 32) (u v : Vec F S1x1024x512 .f32) (x5 x6 : Vec F S1x3x512 .f32) (x7 x8 : Vec F S1x1x512 .f32)
    (x9 : Vec F S1x512x2048 .f32) (acc : Vec F S1024x2048 .f32) : Vec F S1024x2048 .f32 :=
  k0_pay36 (k0_pay12 (k0_pay8 a) (k0_pay9 u) (k0_pay10 u) (Scalar.ofBits .f32 0x00000000#32) (k0_pay11 a) (View.ld x5 tap0) (View.ld x5 tap1) (View.ld x5 tap2) x7)
    (k0_pay13 v) (k0_pay14 (k0_pay7 a) v) (k0_pay15 (k0_pay8 a) v) (View.ld x6 tap0) (View.ld x6 tap1) (View.ld x6 tap2) x8 acc x9

set_option maxHeartbeats 1000000 in
/-- The first point of a row tile: the running sum is cleared and the first columns projected into the lower halves. -/
theorem first (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .f32) (harg9 : arg9.IsWhole) (arg10 : Memref sig .tc .vmem S1024x2048 .bf16) (harg10 : arg10.IsWhole) (arg11 : Memref sig .tc .vmem S2x1024x512 .f32) (harg11 : arg11.IsWhole) (arg12 : Memref sig .tc .vmem S2x1024x512 .f32) (harg12 : arg12.IsWhole) (arg13 : Memref sig .tc .vmem S1024x2048 .f32) (harg13 : arg13.IsWhole)
    (h1 : isFirst i = 1#1) (h2 : ¬ isEven i = 1#1) (h3 : ¬ isOdd i = 1#1) (h4 : ¬ k0_cond4 i = 1#1)
    (x2 : Vec F S1024x2048 .bf16) (x3 x4 : Vec F S1x2048x512 .f32) (x5 x6 : Vec F S1x3x512 .f32) (x7 x8 : Vec F S1x1x512 .f32) (x9 : Vec F S1x512x2048 .f32)
    (x11 x12 : Vec F S2x1024x512 .f32) (x13 : Vec F S1024x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ y : Vec F S2x1024x512 .f32, ⌜View.ld y lower = up x2 x3⌝ ∗ owns (c : Thread nD τ) arg11 fullShare y) ∗ (∃ y : Vec F S2x1024x512 .f32, ⌜View.ld y lower = up x2 x4⌝ ∗ owns (c : Thread nD τ) arg12 fullShare y) ∗ owns (c : Thread nD τ) arg13 fullShare (k0_pay33 (F := F))) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13) K := by
  unfold isFirst at h1
  unfold isEven isInner half at h2
  unfold isOdd isInner half at h3
  simp only [cc0_conv_ffn_eq_skeleton]; unfold cc0_conv_ffn_skel
  simp only [k0_part7_eq_skeleton]
  unfold k0_part7_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H11]
  · iexists _; isplitr
    swap
    · iexists _; isplitr
      swap; · iexact H11
      ipureintro; rfl
    ipureintro
    refine (funext fun z => View.read_writes_cons_emb _ _ _ _ _ z).trans ?_
    rw [View.readAt_eq_ld, View.readAt_eq_ld, harg2.read_unread, harg3.read_unread, View.ld_unit_zero hz2, View.ld_unit_zero hz3]
    rfl
  isplitl [H12]
  · iexists _; isplitr
    swap
    · iexists _; isplitr
      swap; · iexact H12
      ipureintro; rfl
    ipureintro
    refine (funext fun z => View.read_writes_cons_emb _ _ _ _ _ z).trans ?_
    rw [View.readAt_eq_ld, View.readAt_eq_ld, harg2.read_unread, harg4.read_unread, View.ld_unit_zero hz2, View.ld_unit_zero hz3]
    rfl
  iexists _; isplitr
  swap; · iexact H13
  ipureintro
  exact View.read_writes_full _ _ _ _ _

set_option maxHeartbeats 1000000 in
/-- An inner point of even position: it projects into the lower halves and takes the upper ones further. -/
theorem even (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .f32) (harg9 : arg9.IsWhole) (arg10 : Memref sig .tc .vmem S1024x2048 .bf16) (harg10 : arg10.IsWhole) (arg11 : Memref sig .tc .vmem S2x1024x512 .f32) (harg11 : arg11.IsWhole) (arg12 : Memref sig .tc .vmem S2x1024x512 .f32) (harg12 : arg12.IsWhole) (arg13 : Memref sig .tc .vmem S1024x2048 .f32) (harg13 : arg13.IsWhole)
    (h1 : ¬ isFirst i = 1#1) (h2 : isEven i = 1#1) (h3 : ¬ isOdd i = 1#1) (h4 : ¬ k0_cond4 i = 1#1)
    (x2 : Vec F S1024x2048 .bf16) (x3 x4 : Vec F S1x2048x512 .f32) (x5 x6 : Vec F S1x3x512 .f32) (x7 x8 : Vec F S1x1x512 .f32) (x9 : Vec F S1x512x2048 .f32)
    (x11 x12 : Vec F S2x1024x512 .f32) (x13 : Vec F S1024x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ y : Vec F S2x1024x512 .f32, ⌜View.ld y lower = up x2 x3⌝ ∗ owns (c : Thread nD τ) arg11 fullShare y) ∗ (∃ y : Vec F S2x1024x512 .f32, ⌜View.ld y lower = up x2 x4⌝ ∗ owns (c : Thread nD τ) arg12 fullShare y) ∗ owns (c : Thread nD τ) arg13 fullShare (down (BitVec.ofNat 32 (i 0).val) (View.ld x11 upper) (View.ld x12 upper) x5 x6 x7 x8 x9 x13)) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13) K := by
  unfold isFirst at h1
  unfold isEven isInner half at h2
  unfold isOdd isInner half at h3
  simp only [cc0_conv_ffn_eq_skeleton]; unfold cc0_conv_ffn_skel
  simp only [k0_part7_eq_skeleton]
  unfold k0_part7_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H11]
  · iexists _; isplitr
    swap
    · iexists _; isplitr
      swap; · iexact H11
      ipureintro; rfl
    ipureintro
    refine (funext fun z => View.read_writes_cons_emb _ _ _ _ _ z).trans ?_
    rw [View.readAt_eq_ld, View.readAt_eq_ld, harg2.read_unread, harg3.read_unread, View.ld_unit_zero hz2, View.ld_unit_zero hz3]
    rfl
  isplitl [H12]
  · iexists _; isplitr
    swap
    · iexists _; isplitr
      swap; · iexact H12
      ipureintro; rfl
    ipureintro
    refine (funext fun z => View.read_writes_cons_emb _ _ _ _ _ z).trans ?_
    rw [View.readAt_eq_ld, View.readAt_eq_ld, harg2.read_unread, harg4.read_unread, View.ld_unit_zero hz2, View.ld_unit_zero hz3]
    rfl
  iexists _; isplitr
  swap; · iexact H13
  ipureintro
  refine (View.read_writes_full _ _ _ _ _).trans ?_
  unfold even.sl.r_5 even.sl.r_6 even.sl.r_7 even.sl.r_8 even.sl.r_2 even.sl.r_3 even.sl.r even.sl.r_1 even.sl.r_4 even.sl.cst_40 even.sl.v96 even.sl.v66
  simp only [View.readAt_eq_ld, harg5.read_unread, harg6.read_unread, harg7.read_unread, harg8.read_unread, harg9.read_unread, harg11.read_unread, harg12.read_unread, harg13.read_unread]
  rw [ld_bias, ld_bias, ld_acc, ld_back]
  rfl

set_option maxHeartbeats 1000000 in
/-- An inner point of odd position: it projects into the upper halves and takes the lower ones further. -/
theorem odd (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .f32) (harg9 : arg9.IsWhole) (arg10 : Memref sig .tc .vmem S1024x2048 .bf16) (harg10 : arg10.IsWhole) (arg11 : Memref sig .tc .vmem S2x1024x512 .f32) (harg11 : arg11.IsWhole) (arg12 : Memref sig .tc .vmem S2x1024x512 .f32) (harg12 : arg12.IsWhole) (arg13 : Memref sig .tc .vmem S1024x2048 .f32) (harg13 : arg13.IsWhole)
    (h1 : ¬ isFirst i = 1#1) (h2 : ¬ isEven i = 1#1) (h3 : isOdd i = 1#1) (h4 : ¬ k0_cond4 i = 1#1)
    (x2 : Vec F S1024x2048 .bf16) (x3 x4 : Vec F S1x2048x512 .f32) (x5 x6 : Vec F S1x3x512 .f32) (x7 x8 : Vec F S1x1x512 .f32) (x9 : Vec F S1x512x2048 .f32)
    (x11 x12 : Vec F S2x1024x512 .f32) (x13 : Vec F S1024x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ y : Vec F S2x1024x512 .f32, ⌜View.ld y upper = up x2 x3⌝ ∗ owns (c : Thread nD τ) arg11 fullShare y) ∗ (∃ y : Vec F S2x1024x512 .f32, ⌜View.ld y upper = up x2 x4⌝ ∗ owns (c : Thread nD τ) arg12 fullShare y) ∗ owns (c : Thread nD τ) arg13 fullShare (down (BitVec.ofNat 32 (i 0).val) (View.ld x11 lower) (View.ld x12 lower) x5 x6 x7 x8 x9 x13)) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13) K := by
  unfold isFirst at h1
  unfold isEven isInner half at h2
  unfold isOdd isInner half at h3
  simp only [cc0_conv_ffn_eq_skeleton]; unfold cc0_conv_ffn_skel
  simp only [k0_part7_eq_skeleton]
  unfold k0_part7_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H11]
  · iexists _; isplitr
    swap
    · iexists _; isplitr
      swap; · iexact H11
      ipureintro; rfl
    ipureintro
    refine (funext fun z => View.read_writes_cons_emb _ _ _ _ _ z).trans ?_
    rw [View.readAt_eq_ld, View.readAt_eq_ld, harg2.read_unread, harg3.read_unread, View.ld_unit_zero hz2, View.ld_unit_zero hz3]
    rfl
  isplitl [H12]
  · iexists _; isplitr
    swap
    · iexists _; isplitr
      swap; · iexact H12
      ipureintro; rfl
    ipureintro
    refine (funext fun z => View.read_writes_cons_emb _ _ _ _ _ z).trans ?_
    rw [View.readAt_eq_ld, View.readAt_eq_ld, harg2.read_unread, harg4.read_unread, View.ld_unit_zero hz2, View.ld_unit_zero hz3]
    rfl
  iexists _; isplitr
  swap; · iexact H13
  ipureintro
  refine (View.read_writes_full _ _ _ _ _).trans ?_
  unfold odd.sl.r_5 odd.sl.r_6 odd.sl.r_7 odd.sl.r_8 odd.sl.r_2 odd.sl.r_3 odd.sl.r odd.sl.r_1 odd.sl.r_4 odd.sl.cst_40 odd.sl.v96 odd.sl.v66
  simp only [View.readAt_eq_ld, harg5.read_unread, harg6.read_unread, harg7.read_unread, harg8.read_unread, harg9.read_unread, harg11.read_unread, harg12.read_unread, harg13.read_unread]
  rw [ld_bias, ld_bias, ld_acc, ld_back]
  rfl

set_option maxHeartbeats 1000000 in
/-- The last point of a row tile: the last projected columns are taken further and the sum written out. -/
theorem last (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .f32) (harg9 : arg9.IsWhole) (arg10 : Memref sig .tc .vmem S1024x2048 .bf16) (harg10 : arg10.IsWhole) (arg11 : Memref sig .tc .vmem S2x1024x512 .f32) (harg11 : arg11.IsWhole) (arg12 : Memref sig .tc .vmem S2x1024x512 .f32) (harg12 : arg12.IsWhole) (arg13 : Memref sig .tc .vmem S1024x2048 .f32) (harg13 : arg13.IsWhole)
    (h1 : ¬ isFirst i = 1#1) (h2 : ¬ isEven i = 1#1) (h3 : ¬ isOdd i = 1#1) (h4 : k0_cond4 i = 1#1)
    (x2 : Vec F S1024x2048 .bf16) (x3 x4 : Vec F S1x2048x512 .f32) (x5 x6 : Vec F S1x3x512 .f32) (x7 x8 : Vec F S1x1x512 .f32) (x9 : Vec F S1x512x2048 .f32)
    (x11 x12 : Vec F S2x1024x512 .f32) (x13 : Vec F S1024x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d10, owns (c : Thread nD τ) arg10 fullShare d10) ∗ owns (c : Thread nD τ) arg11 fullShare x11 ∗ owns (c : Thread nD τ) arg12 fullShare x12 ∗ owns (c : Thread nD τ) arg13 fullShare x13
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay3 (down (BitVec.ofNat 32 (i 0).val) (View.ld x11 lower) (View.ld x12 lower) x5 x6 x7 x8 x9 x13)) ∗ owns (c : Thread nD τ) arg11 fullShare x11 ∗ owns (c : Thread nD τ) arg12 fullShare x12 ∗ owns (c : Thread nD τ) arg13 fullShare (down (BitVec.ofNat 32 (i 0).val) (View.ld x11 lower) (View.ld x12 lower) x5 x6 x7 x8 x9 x13)) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13) K := by
  unfold isFirst at h1
  unfold isEven isInner half at h2
  unfold isOdd isInner half at h3
  simp only [cc0_conv_ffn_eq_skeleton]; unfold cc0_conv_ffn_skel
  simp only [k0_part7_eq_skeleton]
  unfold k0_part7_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    refine (View.read_writes_full _ _ _ _ _).trans (congrArg k0_pay3 ?_)
    unfold last.sl.v124 last.sl.H13_1
    refine (View.readCov_full _ _ _ _ _).trans ?_
    simp only [View.readAt_eq_ld, harg5.read_unread, harg6.read_unread, harg7.read_unread, harg8.read_unread, harg9.read_unread, harg11.read_unread, harg12.read_unread, harg13.read_unread]
    unfold last.sl.r_3 last.sl.r_2 last.sl.r_1 last.sl.r
    simp only [View.readAt_eq_ld, harg5.read_unread, harg6.read_unread, harg7.read_unread, harg8.read_unread, harg9.read_unread, harg11.read_unread, harg12.read_unread, harg13.read_unread]
    rw [ld_bias, ld_bias, ld_acc, ld_back]
    rfl
  isplitl [H11]
  · iexists _; isplitr
    swap; · iexact H11
    ipureintro
    exact harg11.read_unread _
  isplitl [H12]
  · iexists _; isplitr
    swap; · iexact H12
    ipureintro
    exact harg12.read_unread _
  iexists _; isplitr
  swap; · iexact H13
  ipureintro
  unfold last.sl.H13_1
  refine (View.read_writes_full _ _ _ _ _).trans ?_
  simp only [View.readAt_eq_ld, harg5.read_unread, harg6.read_unread, harg7.read_unread, harg8.read_unread, harg9.read_unread, harg11.read_unread, harg12.read_unread, harg13.read_unread]
  unfold last.sl.r_3 last.sl.r_2 last.sl.r_1 last.sl.r
  simp only [View.readAt_eq_ld, harg5.read_unread, harg6.read_unread, harg7.read_unread, harg8.read_unread, harg9.read_unread, harg11.read_unread, harg12.read_unread, harg13.read_unread]
  rw [ld_bias, ld_bias, ld_acc, ld_back]
  rfl

end Cert.Proof.FfnRun
-- ==== Proof.FfnFrame.lean ====
/-
  The frame of `Kernel2`, for any values of the elements: what the three scratches hold from point to point, the body's
  obligation at every point from the four runs of `FfnRun`, and the run of the whole program.

  Within a row tile the invariant says: the half of each scratch the last point wrote holds that point's projection
  (`gateAt`, `valAt`), and the running sum is `accAt`. At a row tile's first point nothing is known of them.
-/
module

public import Idealize.ShloMosaic.Lib.Claim
public import proofs.«01_k».proof.Proof.FfnRun

@[expose] public section

set_option maxRecDepth 16384

noncomputable section

namespace Cert.Proof.FfnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Proof.FfnRun

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratches hold -/

/-- The first projection a point computes (of the gates), -/
def gateAt (c : Dev nD) (t : Fin cfg0.N) : Vec F S1x1024x512 .f32 := up (iblk m c 0 t) (iblk m c 1 t)
/-- and the second (of the values). -/
def valAt (c : Dev nD) (t : Fin cfg0.N) : Vec F S1x1024x512 .f32 := up (iblk m c 0 t) (iblk m c 2 t)

/-- What point `t` adds the last point's projections to, and makes of it. -/
def stepAt (c : Dev nD) (u v : Vec F S1x1024x512 .f32) (t : Fin cfg0.N) (acc : Vec F S1024x2048 .f32) : Vec F S1024x2048 .f32 :=
  down (BitVec.ofNat 32 (grid0.coords t 0).val) u v (iblk m c 3 t) (iblk m c 4 t) (iblk m c 5 t) (iblk m c 6 t) (iblk m c 7 t) acc

/-- The running sum after point `n`: cleared at a row tile's first point. -/
def accAt (c : Dev nD) : (n : ℕ) → n < cfg0.N → Vec F S1024x2048 .f32
  | 0, _ => k0_pay33 (F := F)
  | n + 1, h => if (n + 1) % 12 = 0 then k0_pay33 (F := F)
      else stepAt m c (gateAt m c ⟨n, Nat.lt_of_succ_lt h⟩) (valAt m c ⟨n, Nat.lt_of_succ_lt h⟩) ⟨n + 1, h⟩ (accAt c n (Nat.lt_of_succ_lt h))

theorem accAt_reset (c : Dev nD) (n : ℕ) (h : n < cfg0.N) (hn : n % 12 = 0) : accAt m c n h = k0_pay33 (F := F) := by
  cases n with
  | zero => rfl
  | succ n => unfold accAt; rw [if_pos hn]

theorem accAt_step (c : Dev nD) (n : ℕ) (h : n + 1 < cfg0.N) (hn : (n + 1) % 12 ≠ 0) : accAt m c (n + 1) h
    = stepAt m c (gateAt m c ⟨n, Nat.lt_of_succ_lt h⟩) (valAt m c ⟨n, Nat.lt_of_succ_lt h⟩) ⟨n + 1, h⟩ (accAt m c n (Nat.lt_of_succ_lt h)) := by
  conv_lhs => unfold accAt
  rw [if_neg hn]

/-- What is known of the scratches' contents before point `n`. -/
def Holds (c : Dev nD) : (n : ℕ) → n ≤ cfg0.N → Vec F S2x1024x512 .f32 → Vec F S2x1024x512 .f32 → Vec F S1024x2048 .f32 → Prop
  | 0, _, _, _, _ => True
  | n + 1, h, x11, x12, x13 => (n + 1) % 12 ≠ 0 →
      (n % 2 = 0 → View.ld x11 lower = gateAt m c ⟨n, h⟩ ∧ View.ld x12 lower = valAt m c ⟨n, h⟩)
      ∧ (n % 2 = 1 → View.ld x11 upper = gateAt m c ⟨n, h⟩ ∧ View.ld x12 upper = valAt m c ⟨n, h⟩)
      ∧ x13 = accAt m c n h

theorem holds_last (c : Dev nD) (n : ℕ) (h : n ≤ cfg0.N) (hn : n % 12 = 0) (x11 x12 : Vec F S2x1024x512 .f32) (x13 : Vec F S1024x2048 .f32) :
    Holds m c n h x11 x12 x13 := by
  cases n with
  | zero => trivial
  | succ n => exact fun h' => absurd hn h'

/-- What a point past a row tile's first makes of the sum, from contents so known. -/
theorem accAt_of_holds (c : Dev nD) : ∀ (n : ℕ) (h : n < cfg0.N), n % 12 ≠ 0 → ∀ (x11 x12 : Vec F S2x1024x512 .f32) (x13 : Vec F S1024x2048 .f32),
    Holds m c n (Nat.le_of_lt h) x11 x12 x13 →
      (n % 2 = 1 → accAt m c n h = stepAt m c (View.ld x11 lower) (View.ld x12 lower) ⟨n, h⟩ x13)
      ∧ (n % 2 = 0 → accAt m c n h = stepAt m c (View.ld x11 upper) (View.ld x12 upper) ⟨n, h⟩ x13)
  | 0, _, hn, _, _, _, _ => absurd rfl hn
  | n + 1, h, hn, x11, x12, x13, hx => by
    have hx := hx hn
    constructor
    · intro hp
      obtain ⟨hg, hv⟩ := hx.1 (by omega)
      rw [accAt_step m c n h hn, hg, hv, hx.2.2]
    · intro hp
      obtain ⟨hg, hv⟩ := hx.2.1 (by omega)
      rw [accAt_step m c n h hn, hg, hv, hx.2.2]

/-- The invariant before point `n`: the scratches at contents so known, and the generator register at some state. -/
def PhiS (c : Dev nD) (n : ℕ) (h : n ≤ cfg0.N) : sProp 𝕄 :=
  iprop((∃ x11, ∃ x12, ∃ x13, ⌜Holds m c n h x11 x12 x13⌝
      ∗ owns (c : Thread nD τ) (Memref.whole cc0_scratch0) fullShare x11
      ∗ owns (c : Thread nD τ) (Memref.whole cc0_scratch1) fullShare x12
      ∗ owns (c : Thread nD τ) (Memref.whole cc0_scratch2) fullShare x13) ∗ ∃ r, prngReg c r)

/-! ## The pipeline's proof data -/

/-- The proof data on core `c`: each input's buffer at its block, the output's at the rounded running sum (read only where
    it is written back), the scratches' invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay3 (accAt m c t.val t.isLt)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay3 (accAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-! ## Where the output is idle -/

theorem idle8 : ∀ t : Fin grid0.N, t.val % 12 ≠ 11 → idle0 8 (grid0.coords t) = true := fun t ht => by
  have h := mt (isLast_iff t).mp ht
  show (!(k0_cond4 (grid0.coords t) == 1#1)) = true
  rw [beq_false_of_ne h]; rfl
theorem live8 : ∀ t : Fin grid0.N, t.val % 12 = 11 → idle0 8 (grid0.coords t) = false := fun t ht => by
  have h := (isLast_iff t).mpr ht
  show (!(k0_cond4 (grid0.coords t) == 1#1)) = false
  rw [h]; rfl

theorem leaves8_idle (c : Dev nD) (t : Fin cfg0.N) (ht : t.val % 12 ≠ 11) :
    (dats m 0 c).leavesExact 8 t = iprop(∃ d, owns (c : Thread nD τ) (st0_8 t) fullShare ((dats m 0 c).before 8 t d)) :=
  (dats m 0 c).leavesExact_idle 8 t (idle8 t ht) (Bool.eq_false_iff.mpr fun h => ht ((flush0_8 t).mp h))

theorem leaves8_live (c : Dev nD) (t : Fin cfg0.N) (ht : t.val % 12 = 11) :
    (dats m 0 c).leavesExact 8 t = owns (c : Thread nD τ) (st0_8 t) fullShare (k0_pay3 (accAt m c t.val t.isLt)) := by
  unfold Dat.leavesExact
  rw [show cfg0.idle 8 (cfg0.grid.coords t) = false from live8 t ht, after0_8]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

/-- The body at a row tile's first point. -/
theorem sound_first (c : Dev nD) (t : Fin cfg0.N) (ht : t.val % 12 = 0) :
    bodyPre m c t ⊢ wp frame (wpE (defs₀ (F := F)) Variants.none c none) Set.univ (bodyAt0 t) (fun _ => bodyPost m c t) := by
  have h1 := (isFirst_iff t).mpr (by omega)
  have h2 := mt (isEven_iff t).mp (by omega)
  have h3 := mt (isOdd_iff t).mp (by omega)
  have h4 := mt (isLast_iff t).mp (by omega)
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, leaves8_idle m c t (by omega)]
  unfold PhiS
  iintro ⟨⟨⟨%x11, %x12, %x13, %hx, H11, H12, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (first c (grid0.coords t) _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) x11 x12 x13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  isplitl [H13]; · iexact H13
  iintro ⟨H0, H1, H2, H3, H4, H5, H6, H7, ⟨%y11, %h11, H11⟩, ⟨%y12, %h12, H12⟩, H13⟩
  isplitl [H11 H12 H13 Hr]
  · isplitr [Hr]
    · iexists y11; iexists y12; iexists _
      isplitr
      · ipureintro; exact fun _ => ⟨fun _ => ⟨h11, h12⟩, fun h => by omega, (accAt_reset m c t.val t.isLt ht).symm⟩
      isplitl [H11]; · iexact H11
      isplitl [H12]; · iexact H12
      iexact H13
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The body at an inner point of even position. -/
theorem sound_even (c : Dev nD) (t : Fin cfg0.N) (ht : t.val % 12 ≠ 0 ∧ t.val % 12 ≠ 11 ∧ t.val % 12 % 2 = 0) :
    bodyPre m c t ⊢ wp frame (wpE (defs₀ (F := F)) Variants.none c none) Set.univ (bodyAt0 t) (fun _ => bodyPost m c t) := by
  have h1 := mt (isFirst_iff t).mp (by omega)
  have h2 := (isEven_iff t).mpr (by omega)
  have h3 := mt (isOdd_iff t).mp (by omega)
  have h4 := mt (isLast_iff t).mp (by omega)
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, leaves8_idle m c t (by omega)]
  unfold PhiS
  iintro ⟨⟨⟨%x11, %x12, %x13, %hx, H11, H12, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ha := (accAt_of_holds m c t.val t.isLt (by omega) x11 x12 x13 hx).2 (by omega)
  iapply (even c (grid0.coords t) _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) x11 x12 x13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  isplitl [H13]; · iexact H13
  iintro ⟨H0, H1, H2, H3, H4, H5, H6, H7, ⟨%y11, %h11, H11⟩, ⟨%y12, %h12, H12⟩, H13⟩
  isplitl [H11 H12 H13 Hr]
  · isplitr [Hr]
    · iexists y11; iexists y12; iexists _
      isplitr
      · ipureintro; exact fun _ => ⟨fun _ => ⟨h11, h12⟩, fun h => by omega, ha.symm⟩
      isplitl [H11]; · iexact H11
      isplitl [H12]; · iexact H12
      iexact H13
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The body at an inner point of odd position. -/
theorem sound_odd (c : Dev nD) (t : Fin cfg0.N) (ht : t.val % 12 ≠ 11 ∧ t.val % 12 % 2 = 1) :
    bodyPre m c t ⊢ wp frame (wpE (defs₀ (F := F)) Variants.none c none) Set.univ (bodyAt0 t) (fun _ => bodyPost m c t) := by
  have h1 := mt (isFirst_iff t).mp (by omega)
  have h2 := mt (isEven_iff t).mp (by omega)
  have h3 := (isOdd_iff t).mpr (by omega)
  have h4 := mt (isLast_iff t).mp (by omega)
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, leaves8_idle m c t (by omega)]
  unfold PhiS
  iintro ⟨⟨⟨%x11, %x12, %x13, %hx, H11, H12, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ha := (accAt_of_holds m c t.val t.isLt (by omega) x11 x12 x13 hx).1 (by omega)
  iapply (odd c (grid0.coords t) _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) x11 x12 x13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  isplitl [H13]; · iexact H13
  iintro ⟨H0, H1, H2, H3, H4, H5, H6, H7, ⟨%y11, %h11, H11⟩, ⟨%y12, %h12, H12⟩, H13⟩
  isplitl [H11 H12 H13 Hr]
  · isplitr [Hr]
    · iexists y11; iexists y12; iexists _
      isplitr
      · ipureintro; exact fun _ => ⟨fun h => by omega, fun _ => ⟨h11, h12⟩, ha.symm⟩
      isplitl [H11]; · iexact H11
      isplitl [H12]; · iexact H12
      iexact H13
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The body at a row tile's last point. -/
theorem sound_last (c : Dev nD) (t : Fin cfg0.N) (ht : t.val % 12 = 11) :
    bodyPre m c t ⊢ wp frame (wpE (defs₀ (F := F)) Variants.none c none) Set.univ (bodyAt0 t) (fun _ => bodyPost m c t) := by
  have h1 := mt (isFirst_iff t).mp (by omega)
  have h2 := mt (isEven_iff t).mp (by omega)
  have h3 := mt (isOdd_iff t).mp (by omega)
  have h4 := (isLast_iff t).mpr (by omega)
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, leaves8_live m c t ht]
  unfold PhiS
  iintro ⟨⟨⟨%x11, %x12, %x13, %hx, H11, H12, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ha := (accAt_of_holds m c t.val t.isLt (by omega) x11 x12 x13 hx).1 (by omega)
  iapply (last c (grid0.coords t) _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) x11 x12 x13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H11]; · iexact H11
  isplitl [H12]; · iexact H12
  isplitl [H13]; · iexact H13
  iintro ⟨H0, H1, H2, H3, H4, H5, H6, H7, H8, H11, H12, H13⟩
  isplitl [H11 H12 H13 Hr]
  · isplitr [Hr]
    · iexists x11; iexists x12; iexists (stepAt m c (View.ld x11 lower) (View.ld x12 lower) t x13)
      isplitr
      · ipureintro; exact holds_last m c _ _ (by omega) _ _ _
      isplitl [H11]; · iexact H11
      isplitl [H12]; · iexact H12
      iexact H13
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [ha]
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_first m c t h0
  by_cases h11 : t.val % 12 = 11
  · exact sound_last m c t h11
  by_cases h2 : t.val % 12 % 2 = 0
  · exact sound_even m c t ⟨h0, h11, h2⟩
  · exact sound_odd m c t ⟨h11, by omega⟩

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The region enters the invariant, knowing nothing of the scratches, -/
theorem enter (c : Dev nD) : Pipeline.ΦA spec0 c ⊢ (dats (F := F) m 0 c).Φ 0 := by
  show Pipeline.ΦA spec0 c ⊢ PhiS m c 0 (Nat.zero_le _)
  unfold Pipeline.ΦA PhiS
  rw [scopedRest0_eq]
  iintro ⟨⟨⟨%f11, H11⟩, ⟨%f12, H12⟩, ⟨%f13, H13⟩⟩, Hr⟩
  isplitr [Hr]
  · iexists f11; iexists f12; iexists f13
    isplitr; · ipureintro; trivial
    rw [owns_whole, owns_whole, owns_whole]
    isplitl [H11]; · iexact H11
    isplitl [H12]; · iexact H12
    iexact H13
  iexact Hr

/-- and leaves it, forgetting them. -/
theorem leave (c : Dev nD) : (dats (F := F) m 0 c).Φ (Fin.last cfg0.N) ⊢ Pipeline.ΦA spec0 c := by
  show PhiS m c cfg0.N (le_refl _) ⊢ Pipeline.ΦA spec0 c
  unfold Pipeline.ΦA PhiS
  rw [scopedRest0_eq]
  simp only [owns_whole]
  iintro ⟨⟨%x11, %x12, %x13, -, H11, H12, H13⟩, Hr⟩
  isplitr [Hr]
  · isplitl [H11]; · iexists x11; iexact H11
    isplitl [H12]; · iexists x12; iexact H12
    iexists x13; iexact H13
  iexact Hr

-- the launch's implicit arguments are found by unifying its conclusion with this one
set_option backward.isDefEq.respectTransparency.types false in
/-- The run of the whole program: every array at what the proof data compute, every other buffer as the region found it,
    every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The argument arrays end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Proof.FfnFrame
-- ==== Proof.FfnSpec.lean ====
/- One element of the gated feed-forward layer with its convolution along the rows, in the arguments' own indices. Both
   programs are read against these. -/
module

public import Idealize.ShloMosaic.Lib.ValueIdx
public import Idealize.ShloMosaic.Lib.IdealHost

@[expose] public section

noncomputable section

namespace Cert.FfnSpec

open Idealize.ShloMosaic Idealize.ShloMosaic.ValueIdx

/-- The arrays: the rows, the first projection's weights, the convolution's taps and bias, the second projection's weights. -/
abbrev SRows : Shape := ⟨2, ![8192, 2048]⟩
abbrev SUp : Shape := ⟨3, ![2, 2048, 11264]⟩
abbrev STaps : Shape := ⟨3, ![2, 3, 11264]⟩
abbrev SBias : Shape := ⟨2, ![2, 11264]⟩
abbrev SDown : Shape := ⟨3, ![2, 5632, 2048]⟩

/-- The length of the sequences a row is among: the first half of the rows are context, the rest latents. -/
def seqLen (r : Fin 8192) : ℕ := if r.val < 4096 then 256 else 1024

variable (h : SRows.Idx → EReal) (w : SUp.Idx → EReal) (k : STaps.Idx → EReal) (b : SBias.Idx → EReal) (d : SDown.Idx → EReal)

/-- The first projection's element at row `r`, column `j`, -/
def upAt (r : Fin 8192) (j : Fin 11264) : EReal := ∑ e : Fin 2048, h (ix2 r e) * w (ix3 (0 : Fin 2) e j)

/-- that of the row before it in its sequence, zero at the sequence's first row, -/
def prevAt (r : Fin 8192) (j : Fin 11264) : EReal :=
  if r.val % seqLen r = 0 then 0 else upAt h w ⟨r.val - 1, lt_of_le_of_lt (Nat.sub_le _ _) r.isLt⟩ j

/-- and that of the row after it, zero at the sequence's last row. -/
def nextAt (r : Fin 8192) (j : Fin 11264) : EReal :=
  if r.val % seqLen r = seqLen r - 1 then 0 else upAt h w ⟨(r.val + 1) % 8192, Nat.mod_lt _ (by decide)⟩ j

/-- The convolution of three taps along the rows, with its bias. -/
def convAt (r : Fin 8192) (j : Fin 11264) : EReal :=
  prevAt h w r j * k (ix3 (0 : Fin 2) (0 : Fin 3) j) + upAt h w r j * k (ix3 (0 : Fin 2) (1 : Fin 3) j)
    + nextAt h w r j * k (ix3 (0 : Fin 2) (2 : Fin 3) j) + b (ix2 (0 : Fin 2) j)

/-- The gated activation: the first half of the columns gates the second. -/
def actAt (r : Fin 8192) (j : Fin 5632) : EReal :=
  convAt h w k b r ⟨j.val, by omega⟩ * Ideal.logistic (convAt h w k b r ⟨j.val, by omega⟩)
    * convAt h w k b r ⟨5632 + j.val, by omega⟩

/-- The layer's element at row `r`, column `n`. -/
def outAt (r : Fin 8192) (n : Fin 2048) : EReal := ∑ j : Fin 5632, actAt h w k b r j * d (ix3 (0 : Fin 2) j n)

end Cert.FfnSpec

end
-- ==== Proof.FfnRef.lean ====
/- The reference's result read at an index: the context rows and the latent rows by the same steps. -/
module

public import proofs.«01_k».proof.Proof.FfnSpec
public import proofs.«01_k».proof.Proof.Gen.Reference2Ideal.Read
public import Idealize.ShloMosaic.Lib.KernelVsHost

@[expose] public section

set_option maxRecDepth 16384

noncomputable section

namespace Cert.FfnRef

open Idealize.ShloMosaic Idealize.ShloMosaic.ValueIdx Idealize.ShloMosaic.TcCoe
open Cert.Reference2Ideal Cert.Reference2Ideal.Read Cert.FfnSpec

variable (x0 : SRows.Idx → EReal) (x1 : SUp.Idx → EReal) (x2 : STaps.Idx → EReal) (x3 : SBias.Idx → EReal) (x4 : SDown.Idx → EReal)

/-! ## The weights of the first layer -/

theorem v1_apply (e : Fin 2048) (j : Fin 11264) : val_main_v1 (F := Ideal) x1 (ix2 e j) = x1 (ix3 (0 : Fin 2) e j) := by
  rw [val_main_v1_apply, val_main_v0_apply]
  refine congrArg x1 (funext fun a => Fin.ext ?_)
  match a with
  | ⟨0, _⟩ => rfl
  | ⟨1, _⟩ => show (e.val * 11264 + j.val) / 11264 % 2048 = e.val; omega
  | ⟨2, _⟩ => show (e.val * 11264 + j.val) % 11264 = j.val; omega

theorem v3_apply (p : Fin 3) (j : Fin 11264) : val_main_v3 (F := Ideal) x2 (ix2 p j) = x2 (ix3 (0 : Fin 2) p j) := by
  rw [val_main_v3_apply, val_main_v2_apply]
  refine congrArg x2 (funext fun a => Fin.ext ?_)
  match a with
  | ⟨0, _⟩ => rfl
  | ⟨1, _⟩ => show (p.val * 11264 + j.val) / 11264 % 3 = p.val; omega
  | ⟨2, _⟩ => show (p.val * 11264 + j.val) % 11264 = j.val; omega

theorem v5_apply (j : Fin 11264) : val_main_v5 (F := Ideal) x3 (ix1 j) = x3 (ix2 (0 : Fin 2) j) := by
  rw [val_main_v5_apply, val_main_v4_apply]
  refine congrArg x3 (funext fun a => Fin.ext ?_)
  match a with
  | ⟨0, _⟩ => rfl
  | ⟨1, _⟩ => show j.val % 11264 = j.val; omega

theorem v7_apply (j : Fin 5632) (n : Fin 2048) : val_main_v7 (F := Ideal) x4 (ix2 j n) = x4 (ix3 (0 : Fin 2) j n) := by
  rw [val_main_v7_apply, val_main_v6_apply]
  refine congrArg x4 (funext fun a => Fin.ext ?_)
  match a with
  | ⟨0, _⟩ => rfl
  | ⟨1, _⟩ => show (j.val * 2048 + n.val) / 2048 % 5632 = j.val; omega
  | ⟨2, _⟩ => show (j.val * 2048 + n.val) % 2048 = n.val; omega

/-! ## The context rows -/

/-- The row numbered `s` of sequence `b`. -/
def rowCtx (b : Fin 16) (s : Fin 256) : Fin 8192 := ⟨b.val * 256 + s.val, by omega⟩

theorem seqLen_Ctx (b : Fin 16) (s : Fin 256) : seqLen (rowCtx b s) = 256 := by
  unfold seqLen rowCtx
  rw [if_pos (by show b.val * 256 + s.val < 4096; omega)]

theorem rowCtx_mod (b : Fin 16) (s : Fin 256) : (rowCtx b s).val % 256 = s.val := by
  show (b.val * 256 + s.val) % 256 = s.val; omega

theorem v10_apply (b : Fin 16) (s : Fin 256) (e : Fin 2048) : val_main_v10 (F := Ideal) x0 (ix3 b s e) = x0 (ix2 (rowCtx b s) e) := by
  rw [val_main_v10_apply, val_main_v9_apply, val_main_v8_apply]
  show x0 _ = _
  refine congrArg x0 (funext fun a => Fin.ext ?_)
  match a with
  | ⟨0, _⟩ => show ((b.val * 256 + s.val) * 2048 + e.val) / 2048 = b.val * 256 + s.val; omega
  | ⟨1, _⟩ => show ((b.val * 256 + s.val) * 2048 + e.val) % 2048 = e.val; omega

theorem v11_apply (b : Fin 16) (s : Fin 256) (j : Fin 11264) : val_main_v11 (F := Ideal) x0 x1 (ix3 b s j) = upAt x0 x1 (rowCtx b s) j := by
  rw [val_main_v11_apply]
  exact Finset.sum_congr rfl fun e _ => congrArg₂ (· * ·)
    ((congrArg (val_main_v10 (F := Ideal) x0) (eq_ix3 _)).trans (v10_apply x0 b s e))
    ((congrArg (val_main_v1 (F := Ideal) x1) (eq_ix2 _)).trans (v1_apply x1 e j))

/-- The padded rows: inside, the projection; -/
theorem v12_in (b : Fin 16) (s : Fin 256) (j : Fin 11264) (p : Fin 258) (hp : p.val = 1 + s.val) :
    val_main_v12 (F := Ideal) x0 x1 (ix3 b p j) = upAt x0 x1 (rowCtx b s) j := by
  unfold val_main_v12
  refine (pad_apply_of_inside _ _ _ _ _ _ _ (ix3 b p j) (ix3 b s j) fun a => ?_).trans (v11_apply x0 x1 b s j)
  match a with
  | ⟨0, _⟩ => show b.val = 0 + b.val * (0 + 1); omega
  | ⟨1, _⟩ => show p.val = 1 + s.val * (0 + 1); omega
  | ⟨2, _⟩ => show j.val = 0 + j.val * (0 + 1); omega

/-- on either side of them, zero. -/
theorem v12_out (b : Fin 16) (j : Fin 11264) (p : Fin 258) (hp : p.val = 0 ∨ p.val = 257) :
    val_main_v12 (F := Ideal) x0 x1 (ix3 b p j) = 0 := by
  unfold val_main_v12
  refine (pad_apply_of_not_inside _ _ _ _ _ _ _ (ix3 b p j) (1 : Fin 3) ?_).trans ?_
  · show ¬(1 ≤ p.val ∧ (p.val - 1) % (0 + 1) = 0 ∧ (p.val - 1) / (0 + 1) < 256)
    omega
  · rw [val_main_call0_v0_apply, val_main_c_apply]
    exact sitofp_zero (φ := .f32)

theorem v13_apply (b : Fin 16) (s : Fin 256) (j : Fin 11264) : val_main_v13 (F := Ideal) x0 x1 (ix3 b s j) = prevAt x0 x1 (rowCtx b s) j := by
  have hs := s.isLt
  rw [val_main_v13_apply]
  unfold prevAt
  rw [seqLen_Ctx, rowCtx_mod]
  refine (congrArg (val_main_v12 (F := Ideal) x0 x1) (funext fun a => Fin.ext ?_ : _ = ix3 b (⟨s.val, by omega⟩ : Fin 258) j)).trans ?_
  · match a with
    | ⟨0, _⟩ => rfl
    | ⟨1, _⟩ => rfl
    | ⟨2, _⟩ => rfl
  by_cases h0 : s.val = 0
  · rw [if_pos h0]; exact v12_out x0 x1 b j _ (.inl h0)
  · rw [if_neg h0]
    refine (v12_in x0 x1 b ⟨s.val - 1, by omega⟩ j _ (by show s.val = 1 + (s.val - 1); omega)).trans (congrArg (upAt x0 x1 · j) (Fin.ext ?_))
    show b.val * 256 + (s.val - 1) = b.val * 256 + s.val - 1
    omega

theorem v19_apply (b : Fin 16) (s : Fin 256) (j : Fin 11264) : val_main_v19 (F := Ideal) x0 x1 (ix3 b s j) = upAt x0 x1 (rowCtx b s) j := by
  have hs := s.isLt
  rw [val_main_v19_apply]
  refine (congrArg (val_main_v12 (F := Ideal) x0 x1) (funext fun a => Fin.ext ?_ : _ = ix3 b (⟨1 + s.val, by omega⟩ : Fin 258) j)).trans
    (v12_in x0 x1 b s j _ rfl)
  match a with
  | ⟨0, _⟩ => rfl
  | ⟨1, _⟩ => rfl
  | ⟨2, _⟩ => rfl

theorem v26_apply (b : Fin 16) (s : Fin 256) (j : Fin 11264) : val_main_v26 (F := Ideal) x0 x1 (ix3 b s j) = nextAt x0 x1 (rowCtx b s) j := by
  have hs := s.isLt
  rw [val_main_v26_apply]
  unfold nextAt
  rw [seqLen_Ctx, rowCtx_mod]
  refine (congrArg (val_main_v12 (F := Ideal) x0 x1) (funext fun a => Fin.ext ?_ : _ = ix3 b (⟨2 + s.val, by omega⟩ : Fin 258) j)).trans ?_
  · match a with
    | ⟨0, _⟩ => rfl
    | ⟨1, _⟩ => rfl
    | ⟨2, _⟩ => rfl
  by_cases h0 : s.val = 256 - 1
  · rw [if_pos h0]; exact v12_out x0 x1 b j _ (.inr (by show 2 + s.val = 257; omega))
  · rw [if_neg h0]
    refine (v12_in x0 x1 b ⟨s.val + 1, by omega⟩ j _ (by show 2 + s.val = 1 + (s.val + 1); omega)).trans (congrArg (upAt x0 x1 · j) (Fin.ext ?_))
    show b.val * 256 + (s.val + 1) = (b.val * 256 + s.val + 1) % 8192
    omega

theorem v17_apply (b : Fin 16) (s : Fin 256) (j : Fin 11264) :
    val_main_v17 (F := Ideal) x2 (ix3 b s j) = x2 (ix3 (0 : Fin 2) (0 : Fin 3) j) := by
  rw [val_main_v17_apply, val_main_v16_apply, val_main_v15_apply, val_main_v14_apply]
  refine (congrArg (val_main_v3 (F := Ideal) x2) (funext fun a => Fin.ext ?_ : _ = ix2 (0 : Fin 3) j)).trans (v3_apply x2 _ _)
  match a with
  | ⟨0, _⟩ => rfl
  | ⟨1, _⟩ => show j.val % 11264 = j.val; omega

theorem v23_apply (b : Fin 16) (s : Fin 256) (j : Fin 11264) :
    val_main_v23 (F := Ideal) x2 (ix3 b s j) = x2 (ix3 (0 : Fin 2) (1 : Fin 3) j) := by
  rw [val_main_v23_apply, val_main_v22_apply, val_main_v21_apply, val_main_v20_apply]
  refine (congrArg (val_main_v3 (F := Ideal) x2) (funext fun a => Fin.ext ?_ : _ = ix2 (1 : Fin 3) j)).trans (v3_apply x2 _ _)
  match a with
  | ⟨0, _⟩ => rfl
  | ⟨1, _⟩ => show j.val % 11264 = j.val; omega

theorem v30_apply (b : Fin 16) (s : Fin 256) (j : Fin 11264) :
    val_main_v30 (F := Ideal) x2 (ix3 b s j) = x2 (ix3 (0 : Fin 2) (2 : Fin 3) j) := by
  rw [val_main_v30_apply, val_main_v29_apply, val_main_v28_apply, val_main_v27_apply]
  refine (congrArg (val_main_v3 (F := Ideal) x2) (funext fun a => Fin.ext ?_ : _ = ix2 (2 : Fin 3) j)).trans (v3_apply x2 _ _)
  match a with
  | ⟨0, _⟩ => rfl
  | ⟨1, _⟩ => show j.val % 11264 = j.val; omega

theorem v34_apply (b : Fin 16) (s : Fin 256) (j : Fin 11264) :
    val_main_v34 (F := Ideal) x3 (ix3 b s j) = x3 (ix2 (0 : Fin 2) j) := by
  rw [val_main_v34_apply, val_main_v33_apply]
  exact (congrArg (val_main_v5 (F := Ideal) x3) (eq_ix1 _)).trans (v5_apply x3 j)

theorem v35_apply (b : Fin 16) (s : Fin 256) (j : Fin 11264) :
    val_main_v35 (F := Ideal) x0 x1 x2 x3 (ix3 b s j) = convAt x0 x1 x2 x3 (rowCtx b s) j := by
  rw [val_main_v35_apply, val_main_v32_apply, val_main_v25_apply, val_main_v31_apply, val_main_v18_apply, val_main_v24_apply,
    v34_apply, v26_apply, v30_apply, v19_apply, v23_apply, v13_apply, v17_apply]
  rfl

/-- The gated activation. -/
theorem v39_apply (b : Fin 16) (s : Fin 256) (j : Fin 5632) :
    val_main_v39 (F := Ideal) x0 x1 x2 x3 (ix3 b s j) = actAt x0 x1 x2 x3 (rowCtx b s) j := by
  have hg : val_main_v36 (F := Ideal) x0 x1 x2 x3 (ix3 b s j) = convAt x0 x1 x2 x3 (rowCtx b s) ⟨j.val, by omega⟩ := by
    rw [val_main_v36_apply]
    refine (congrArg (val_main_v35 (F := Ideal) x0 x1 x2 x3) (funext fun a => Fin.ext ?_ : _ = ix3 b s (⟨j.val, by omega⟩ : Fin 11264))).trans
      (v35_apply x0 x1 x2 x3 b s _)
    match a with
    | ⟨0, _⟩ => rfl
    | ⟨1, _⟩ => rfl
    | ⟨2, _⟩ => rfl
  have hv : val_main_v37 (F := Ideal) x0 x1 x2 x3 (ix3 b s j) = convAt x0 x1 x2 x3 (rowCtx b s) ⟨5632 + j.val, by omega⟩ := by
    rw [val_main_v37_apply]
    refine (congrArg (val_main_v35 (F := Ideal) x0 x1 x2 x3) (funext fun a => Fin.ext ?_ : _ = ix3 b s (⟨5632 + j.val, by omega⟩ : Fin 11264))).trans
      (v35_apply x0 x1 x2 x3 b s _)
    match a with
    | ⟨0, _⟩ => rfl
    | ⟨1, _⟩ => rfl
    | ⟨2, _⟩ => rfl
  rw [val_main_v39_apply, val_main_v38_apply, val_main_call1_v5_apply, val_main_call1_v4_apply, val_main_call1_v3_apply,
    val_main_call1_cst_0_apply, val_main_call1_v2_apply, val_main_call1_cst_apply, val_main_call1_v1_apply, val_main_call1_v0_apply, hg, hv]
  show _ * Ideal.div (Ideal.ofBits .f32 0x3F800000#32) (Ideal.ofBits .f32 0x3F800000#32 + Ideal.exp (-_)) * _ = _
  rw [Ideal.ofBits_one_f32]; rfl

theorem v40_apply (b : Fin 16) (s : Fin 256) (n : Fin 2048) :
    val_main_v40 (F := Ideal) x0 x1 x2 x3 x4 (ix3 b s n) = outAt x0 x1 x2 x3 x4 (rowCtx b s) n := by
  rw [val_main_v40_apply]
  exact Finset.sum_congr rfl fun j _ => congrArg₂ (· * ·)
    ((congrArg (val_main_v39 (F := Ideal) x0 x1 x2 x3) (eq_ix3 _)).trans (v39_apply x0 x1 x2 x3 b s j))
    ((congrArg (val_main_v7 (F := Ideal) x4) (eq_ix2 _)).trans (v7_apply x4 j n))

theorem v41_apply (r : Fin 4096) (n : Fin 2048) :
    val_main_v41 (F := Ideal) x0 x1 x2 x3 x4 (ix2 r n) = outAt x0 x1 x2 x3 x4 ⟨r.val, by omega⟩ n := by
  have hr := r.isLt
  rw [val_main_v41_apply]
  refine (congrArg (val_main_v40 (F := Ideal) x0 x1 x2 x3 x4) (funext fun a => Fin.ext ?_ :
    _ = ix3 (⟨r.val / 256, by omega⟩ : Fin 16) (⟨r.val % 256, by omega⟩ : Fin 256) n)).trans
    ((v40_apply x0 x1 x2 x3 x4 _ _ n).trans (congrArg (outAt x0 x1 x2 x3 x4 · n) (Fin.ext ?_)))
  · match a with
    | ⟨0, _⟩ => show (r.val * 2048 + n.val) / 524288 = r.val / 256; omega
    | ⟨1, _⟩ => show (r.val * 2048 + n.val) / 2048 % 256 = r.val % 256; omega
    | ⟨2, _⟩ => show (r.val * 2048 + n.val) % 2048 = n.val; omega
  · show r.val / 256 * 256 + r.val % 256 = r.val
    omega

/-! ## The latent rows -/

/-- The row numbered `s` of sequence `b`. -/
def rowLat (b : Fin 4) (s : Fin 1024) : Fin 8192 := ⟨4096 + b.val * 1024 + s.val, by omega⟩

theorem seqLen_Lat (b : Fin 4) (s : Fin 1024) : seqLen (rowLat b s) = 1024 := by
  unfold seqLen rowLat
  rw [if_neg (by show ¬ 4096 + b.val * 1024 + s.val < 4096; omega)]

theorem rowLat_mod (b : Fin 4) (s : Fin 1024) : (rowLat b s).val % 1024 = s.val := by
  show (4096 + b.val * 1024 + s.val) % 1024 = s.val; omega

theorem v43_apply (b : Fin 4) (s : Fin 1024) (e : Fin 2048) : val_main_v43 (F := Ideal) x0 (ix3 b s e) = x0 (ix2 (rowLat b s) e) := by
  rw [val_main_v43_apply, val_main_v42_apply, val_main_v8_apply]
  show x0 _ = _
  refine congrArg x0 (funext fun a => Fin.ext ?_)
  match a with
  | ⟨0, _⟩ => show 4096 + ((b.val * 1024 + s.val) * 2048 + e.val) / 2048 = 4096 + b.val * 1024 + s.val; omega
  | ⟨1, _⟩ => show ((b.val * 1024 + s.val) * 2048 + e.val) % 2048 = e.val; omega

theorem v44_apply (b : Fin 4) (s : Fin 1024) (j : Fin 11264) : val_main_v44 (F := Ideal) x0 x1 (ix3 b s j) = upAt x0 x1 (rowLat b s) j := by
  rw [val_main_v44_apply]
  exact Finset.sum_congr rfl fun e _ => congrArg₂ (· * ·)
    ((congrArg (val_main_v43 (F := Ideal) x0) (eq_ix3 _)).trans (v43_apply x0 b s e))
    ((congrArg (val_main_v1 (F := Ideal) x1) (eq_ix2 _)).trans (v1_apply x1 e j))

/-- The padded rows: inside, the projection; -/
theorem v45_in (b : Fin 4) (s : Fin 1024) (j : Fin 11264) (p : Fin 1026) (hp : p.val = 1 + s.val) :
    val_main_v45 (F := Ideal) x0 x1 (ix3 b p j) = upAt x0 x1 (rowLat b s) j := by
  unfold val_main_v45
  refine (pad_apply_of_inside _ _ _ _ _ _ _ (ix3 b p j) (ix3 b s j) fun a => ?_).trans (v44_apply x0 x1 b s j)
  match a with
  | ⟨0, _⟩ => show b.val = 0 + b.val * (0 + 1); omega
  | ⟨1, _⟩ => show p.val = 1 + s.val * (0 + 1); omega
  | ⟨2, _⟩ => show j.val = 0 + j.val * (0 + 1); omega

/-- on either side of them, zero. -/
theorem v45_out (b : Fin 4) (j : Fin 11264) (p : Fin 1026) (hp : p.val = 0 ∨ p.val = 1025) :
    val_main_v45 (F := Ideal) x0 x1 (ix3 b p j) = 0 := by
  unfold val_main_v45
  refine (pad_apply_of_not_inside _ _ _ _ _ _ _ (ix3 b p j) (1 : Fin 3) ?_).trans ?_
  · show ¬(1 ≤ p.val ∧ (p.val - 1) % (0 + 1) = 0 ∧ (p.val - 1) / (0 + 1) < 1024)
    omega
  · rw [val_main_call2_v0_apply, val_main_c_0_apply]
    exact sitofp_zero (φ := .f32)

theorem v46_apply (b : Fin 4) (s : Fin 1024) (j : Fin 11264) : val_main_v46 (F := Ideal) x0 x1 (ix3 b s j) = prevAt x0 x1 (rowLat b s) j := by
  have hs := s.isLt
  rw [val_main_v46_apply]
  unfold prevAt
  rw [seqLen_Lat, rowLat_mod]
  refine (congrArg (val_main_v45 (F := Ideal) x0 x1) (funext fun a => Fin.ext ?_ : _ = ix3 b (⟨s.val, by omega⟩ : Fin 1026) j)).trans ?_
  · match a with
    | ⟨0, _⟩ => rfl
    | ⟨1, _⟩ => rfl
    | ⟨2, _⟩ => rfl
  by_cases h0 : s.val = 0
  · rw [if_pos h0]; exact v45_out x0 x1 b j _ (.inl h0)
  · rw [if_neg h0]
    refine (v45_in x0 x1 b ⟨s.val - 1, by omega⟩ j _ (by show s.val = 1 + (s.val - 1); omega)).trans (congrArg (upAt x0 x1 · j) (Fin.ext ?_))
    show 4096 + b.val * 1024 + (s.val - 1) = 4096 + b.val * 1024 + s.val - 1
    omega

theorem v52_apply (b : Fin 4) (s : Fin 1024) (j : Fin 11264) : val_main_v52 (F := Ideal) x0 x1 (ix3 b s j) = upAt x0 x1 (rowLat b s) j := by
  have hs := s.isLt
  rw [val_main_v52_apply]
  refine (congrArg (val_main_v45 (F := Ideal) x0 x1) (funext fun a => Fin.ext ?_ : _ = ix3 b (⟨1 + s.val, by omega⟩ : Fin 1026) j)).trans
    (v45_in x0 x1 b s j _ rfl)
  match a with
  | ⟨0, _⟩ => rfl
  | ⟨1, _⟩ => rfl
  | ⟨2, _⟩ => rfl

theorem v59_apply (b : Fin 4) (s : Fin 1024) (j : Fin 11264) : val_main_v59 (F := Ideal) x0 x1 (ix3 b s j) = nextAt x0 x1 (rowLat b s) j := by
  have hs := s.isLt
  rw [val_main_v59_apply]
  unfold nextAt
  rw [seqLen_Lat, rowLat_mod]
  refine (congrArg (val_main_v45 (F := Ideal) x0 x1) (funext fun a => Fin.ext ?_ : _ = ix3 b (⟨2 + s.val, by omega⟩ : Fin 1026) j)).trans ?_
  · match a with
    | ⟨0, _⟩ => rfl
    | ⟨1, _⟩ => rfl
    | ⟨2, _⟩ => rfl
  by_cases h0 : s.val = 1024 - 1
  · rw [if_pos h0]; exact v45_out x0 x1 b j _ (.inr (by show 2 + s.val = 1025; omega))
  · rw [if_neg h0]
    refine (v45_in x0 x1 b ⟨s.val + 1, by omega⟩ j _ (by show 2 + s.val = 1 + (s.val + 1); omega)).trans (congrArg (upAt x0 x1 · j) (Fin.ext ?_))
    show 4096 + b.val * 1024 + (s.val + 1) = (4096 + b.val * 1024 + s.val + 1) % 8192
    omega

theorem v50_apply (b : Fin 4) (s : Fin 1024) (j : Fin 11264) :
    val_main_v50 (F := Ideal) x2 (ix3 b s j) = x2 (ix3 (0 : Fin 2) (0 : Fin 3) j) := by
  rw [val_main_v50_apply, val_main_v49_apply, val_main_v48_apply, val_main_v47_apply]
  refine (congrArg (val_main_v3 (F := Ideal) x2) (funext fun a => Fin.ext ?_ : _ = ix2 (0 : Fin 3) j)).trans (v3_apply x2 _ _)
  match a with
  | ⟨0, _⟩ => rfl
  | ⟨1, _⟩ => show j.val % 11264 = j.val; omega

theorem v56_apply (b : Fin 4) (s : Fin 1024) (j : Fin 11264) :
    val_main_v56 (F := Ideal) x2 (ix3 b s j) = x2 (ix3 (0 : Fin 2) (1 : Fin 3) j) := by
  rw [val_main_v56_apply, val_main_v55_apply, val_main_v54_apply, val_main_v53_apply]
  refine (congrArg (val_main_v3 (F := Ideal) x2) (funext fun a => Fin.ext ?_ : _ = ix2 (1 : Fin 3) j)).trans (v3_apply x2 _ _)
  match a with
  | ⟨0, _⟩ => rfl
  | ⟨1, _⟩ => show j.val % 11264 = j.val; omega

theorem v63_apply (b : Fin 4) (s : Fin 1024) (j : Fin 11264) :
    val_main_v63 (F := Ideal) x2 (ix3 b s j) = x2 (ix3 (0 : Fin 2) (2 : Fin 3) j) := by
  rw [val_main_v63_apply, val_main_v62_apply, val_main_v61_apply, val_main_v60_apply]
  refine (congrArg (val_main_v3 (F := Ideal) x2) (funext fun a => Fin.ext ?_ : _ = ix2 (2 : Fin 3) j)).trans (v3_apply x2 _ _)
  match a with
  | ⟨0, _⟩ => rfl
  | ⟨1, _⟩ => show j.val % 11264 = j.val; omega

theorem v67_apply (b : Fin 4) (s : Fin 1024) (j : Fin 11264) :
    val_main_v67 (F := Ideal) x3 (ix3 b s j) = x3 (ix2 (0 : Fin 2) j) := by
  rw [val_main_v67_apply, val_main_v66_apply]
  exact (congrArg (val_main_v5 (F := Ideal) x3) (eq_ix1 _)).trans (v5_apply x3 j)

theorem v68_apply (b : Fin 4) (s : Fin 1024) (j : Fin 11264) :
    val_main_v68 (F := Ideal) x0 x1 x2 x3 (ix3 b s j) = convAt x0 x1 x2 x3 (rowLat b s) j := by
  rw [val_main_v68_apply, val_main_v65_apply, val_main_v58_apply, val_main_v64_apply, val_main_v51_apply, val_main_v57_apply,
    v67_apply, v59_apply, v63_apply, v52_apply, v56_apply, v46_apply, v50_apply]
  rfl

/-- The gated activation. -/
theorem v72_apply (b : Fin 4) (s : Fin 1024) (j : Fin 5632) :
    val_main_v72 (F := Ideal) x0 x1 x2 x3 (ix3 b s j) = actAt x0 x1 x2 x3 (rowLat b s) j := by
  have hg : val_main_v69 (F := Ideal) x0 x1 x2 x3 (ix3 b s j) = convAt x0 x1 x2 x3 (rowLat b s) ⟨j.val, by omega⟩ := by
    rw [val_main_v69_apply]
    refine (congrArg (val_main_v68 (F := Ideal) x0 x1 x2 x3) (funext fun a => Fin.ext ?_ : _ = ix3 b s (⟨j.val, by omega⟩ : Fin 11264))).trans
      (v68_apply x0 x1 x2 x3 b s _)
    match a with
    | ⟨0, _⟩ => rfl
    | ⟨1, _⟩ => rfl
    | ⟨2, _⟩ => rfl
  have hv : val_main_v70 (F := Ideal) x0 x1 x2 x3 (ix3 b s j) = convAt x0 x1 x2 x3 (rowLat b s) ⟨5632 + j.val, by omega⟩ := by
    rw [val_main_v70_apply]
    refine (congrArg (val_main_v68 (F := Ideal) x0 x1 x2 x3) (funext fun a => Fin.ext ?_ : _ = ix3 b s (⟨5632 + j.val, by omega⟩ : Fin 11264))).trans
      (v68_apply x0 x1 x2 x3 b s _)
    match a with
    | ⟨0, _⟩ => rfl
    | ⟨1, _⟩ => rfl
    | ⟨2, _⟩ => rfl
  rw [val_main_v72_apply, val_main_v71_apply, val_main_call3_v5_apply, val_main_call3_v4_apply, val_main_call3_v3_apply,
    val_main_call3_cst_0_apply, val_main_call3_v2_apply, val_main_call3_cst_apply, val_main_call3_v1_apply, val_main_call3_v0_apply, hg, hv]
  show _ * Ideal.div (Ideal.ofBits .f32 0x3F800000#32) (Ideal.ofBits .f32 0x3F800000#32 + Ideal.exp (-_)) * _ = _
  rw [Ideal.ofBits_one_f32]; rfl

theorem v73_apply (b : Fin 4) (s : Fin 1024) (n : Fin 2048) :
    val_main_v73 (F := Ideal) x0 x1 x2 x3 x4 (ix3 b s n) = outAt x0 x1 x2 x3 x4 (rowLat b s) n := by
  rw [val_main_v73_apply]
  exact Finset.sum_congr rfl fun j _ => congrArg₂ (· * ·)
    ((congrArg (val_main_v72 (F := Ideal) x0 x1 x2 x3) (eq_ix3 _)).trans (v72_apply x0 x1 x2 x3 b s j))
    ((congrArg (val_main_v7 (F := Ideal) x4) (eq_ix2 _)).trans (v7_apply x4 j n))

theorem v74_apply (r : Fin 4096) (n : Fin 2048) :
    val_main_v74 (F := Ideal) x0 x1 x2 x3 x4 (ix2 r n) = outAt x0 x1 x2 x3 x4 ⟨4096 + r.val, by omega⟩ n := by
  have hr := r.isLt
  rw [val_main_v74_apply]
  refine (congrArg (val_main_v73 (F := Ideal) x0 x1 x2 x3 x4) (funext fun a => Fin.ext ?_ :
    _ = ix3 (⟨r.val / 1024, by omega⟩ : Fin 4) (⟨r.val % 1024, by omega⟩ : Fin 1024) n)).trans
    ((v73_apply x0 x1 x2 x3 x4 _ _ n).trans (congrArg (outAt x0 x1 x2 x3 x4 · n) (Fin.ext ?_)))
  · match a with
    | ⟨0, _⟩ => show (r.val * 2048 + n.val) / 2097152 = r.val / 1024; omega
    | ⟨1, _⟩ => show (r.val * 2048 + n.val) / 2048 % 1024 = r.val % 1024; omega
    | ⟨2, _⟩ => show (r.val * 2048 + n.val) % 2048 = n.val; omega
  · show 4096 + r.val / 1024 * 1024 + r.val % 1024 = 4096 + r.val
    omega

/-! ## All rows -/

/-- The reference's result at an element. -/
theorem v76_apply (r : Fin 8192) (n : Fin 2048) :
    val_main_v76 (F := Ideal) x0 x1 x2 x3 x4 (ix2 r n) = outAt x0 x1 x2 x3 x4 r n := by
  rw [val_main_v76_apply]
  show val_main_v75 (F := Ideal) x0 x1 x2 x3 x4 (ix2 r n) = _
  unfold val_main_v75
  by_cases h : r.val < 4096
  · refine (concatenate_pair_apply_left (t := S8192x2048) (0 : Fin 2) (val_main_v41 (F := Ideal) x0 x1 x2 x3 x4) (val_main_v74 (F := Ideal) x0 x1 x2 x3 x4)
      (by decide) (ix2 r n) rfl (ix2 (⟨r.val, h⟩ : Fin 4096) n) fun a => ?_).trans (v41_apply x0 x1 x2 x3 x4 _ _)
    match a with
    | ⟨0, _⟩ => rfl
    | ⟨1, _⟩ => rfl
  · have hr := r.isLt
    refine (concatenate_pair_apply_right (t := S8192x2048) (0 : Fin 2) (val_main_v41 (F := Ideal) x0 x1 x2 x3 x4) (val_main_v74 (F := Ideal) x0 x1 x2 x3 x4)
      (by decide) (ix2 r n) rfl rfl (ix2 (⟨r.val - 4096, by omega⟩ : Fin 4096) n) (fun a ha => ?_) ?_).trans
      ((v74_apply x0 x1 x2 x3 x4 _ _).trans (congrArg (outAt x0 x1 x2 x3 x4 · n) (Fin.ext ?_)))
    · match a, ha with
      | ⟨1, _⟩, _ => rfl
      | ⟨0, _⟩, ha => exact absurd rfl ha
    · show r.val - 4096 + 4096 = r.val; omega
    · show 4096 + (r.val - 4096) = r.val; omega

end Cert.FfnRef

end
-- ==== Proof.FfnPay.lean ====
/- What the body computes, read at an index: the first projection of a block of columns, and what a step adds to the
   running sum. -/
module

public import proofs.«01_k».proof.Proof.FfnRun
public import Idealize.ShloMosaic.Lib.IdealHost
public import Idealize.ShloMosaic.Lib.ValueIdx
public import Idealize.ShloMosaic.Lib.KernelVsHost
public import Idealize.ShloMosaic.Lib.MatmulPlain
public import Idealize.ShloMosaic.Lib.Pipeline.ValueKit.Tiles

@[expose] public section

set_option maxRecDepth 16384

noncomputable section

namespace Cert.FfnPay

open Idealize.ShloMosaic Idealize.ShloMosaic.ValueIdx
open Cert.Kernel2Ideal Cert.Kernel2Ideal.Gen Cert.Proof.FfnRun

theorem hdotUp : dot_S1024x2048_S2048x512_S1024x512_1_0_0_1_n_n = DotDims.plain 1024 2048 512 := rfl
theorem hdotDown : dot_S1024x512_S512x2048_S1024x2048_1_0_0_1_n_n = DotDims.plain 1024 512 2048 := rfl

/-- The first projection at an element. -/
theorem up_apply (h : Vec Ideal S1024x2048 .bf16) (w : Vec Ideal S1x2048x512 .f32) (r : Fin 1024) (j : Fin 512) :
    up h w (ix3 (0 : Fin 1) r j) = ∑ e : Fin 2048, h (ix2 r e) * w (ix3 (0 : Fin 1) e j) := by
  unfold up k0_pay4
  rw [hdotUp]
  refine (shapeCast_apply _ _ (ix3 (0 : Fin 1) r j) (ix2 r j) ?_).trans ?_
  · rw [Shape.rowMajor_val_three, Shape.rowMajor_val_two]
    show r.val * 512 + j.val = (0 * 1024 + r.val) * 512 + j.val
    omega
  refine (Ideal.matmul_plain_apply _ _ _ _ r j).trans ?_
  rw [constant_apply, Ideal.ofBits_zero_f32, zero_add]
  refine Finset.sum_congr rfl fun e _ => congrArg (h (ix2 r e) * ·) ?_
  rw [truncf_apply]
  refine shapeCast_apply w _ _ _ ?_
  rw [Shape.rowMajor_val_three, Shape.rowMajor_val_two]
  show (0 * 2048 + e.val) * 512 + j.val = e.val * 512 + j.val
  omega

/-! ## The sequence's ends -/

/-- The length of the sequences of row tile `i`. -/
def tileLen (i : Fin 8) : ℕ := if i.val < 4 then 256 else 1024

theorem pos_and (i : Fin 8) (r : Fin 1024) :
    (BitVec.ofNat 32 r.val &&& (Scalar.subi (Scalar.select (Scalar.cmpi .slt (BitVec.ofNat 32 i.val) 4#32) 256#32 1024#32) 1#32 : BitVec 32))
      = BitVec.ofNat 32 (r.val % tileLen i) := by
  have hr := r.isLt
  unfold tileLen
  by_cases hi : i.val < 4
  · have h1 : (Scalar.subi (Scalar.select (Scalar.cmpi .slt (BitVec.ofNat 32 i.val) 4#32) 256#32 1024#32) 1#32 : BitVec 32) = 255#32 :=
      (by decide : ∀ i : Fin 8, i.val < 4 → (Scalar.subi (Scalar.select (Scalar.cmpi .slt (BitVec.ofNat 32 i.val) 4#32) 256#32 1024#32) 1#32 : BitVec 32) = 255#32) i hi
    rw [h1, if_pos hi]
    refine BitVec.eq_of_toNat_eq ?_
    rw [BitVec.toNat_and, BitVec.toNat_ofNat, BitVec.toNat_ofNat, BitVec.toNat_ofNat, Nat.mod_eq_of_lt (show r.val < 2 ^ 32 by omega),
      Nat.mod_eq_of_lt (show r.val % 256 < 2 ^ 32 by omega), Nat.mod_eq_of_lt (show 255 < 2 ^ 32 by omega)]
    exact Nat.and_two_pow_sub_one_eq_mod r.val 8
  · have h1 : (Scalar.subi (Scalar.select (Scalar.cmpi .slt (BitVec.ofNat 32 i.val) 4#32) 256#32 1024#32) 1#32 : BitVec 32) = 1023#32 :=
      (by decide : ∀ i : Fin 8, ¬ i.val < 4 → (Scalar.subi (Scalar.select (Scalar.cmpi .slt (BitVec.ofNat 32 i.val) 4#32) 256#32 1024#32) 1#32 : BitVec 32) = 1023#32) i hi
    rw [h1, if_neg hi]
    refine BitVec.eq_of_toNat_eq ?_
    rw [BitVec.toNat_and, BitVec.toNat_ofNat, BitVec.toNat_ofNat, BitVec.toNat_ofNat, Nat.mod_eq_of_lt (show r.val < 2 ^ 32 by omega),
      Nat.mod_eq_of_lt (show r.val % 1024 < 2 ^ 32 by omega), Nat.mod_eq_of_lt (show 1023 < 2 ^ 32 by omega)]
    exact Nat.and_two_pow_sub_one_eq_mod r.val 10

theorem pay6_apply (i : Fin 8) (r : Fin 1024) (z : Fin 1) :
    k0_pay6 (BitVec.ofNat 32 i.val) (ix2 r z) = BitVec.ofNat 32 (r.val % tileLen i) := by
  refine Eq.trans ?_ (pos_and i r)
  show BitVec.ofNat 32 (0 * 1024 + r.val) &&& _ = _
  rw [Nat.zero_mul, Nat.zero_add]
  rfl

theorem eq_word (n l : ℕ) (hn : n < 2 ^ 32) (hl : l < 2 ^ 32) :
    IntOp.cmpi .eq (BitVec.ofNat 32 n) (BitVec.ofNat 32 l) = if n = l then 1#1 else 0#1 := by
  show BitVec.ofBool (BitVec.ofNat 32 n == BitVec.ofNat 32 l) = _
  by_cases h : n = l
  · subst h; rw [if_pos rfl, beq_self_eq_true]; rfl
  · rw [if_neg h, beq_false_of_ne fun h' => h (by
      have := congrArg BitVec.toNat h'
      rwa [BitVec.toNat_ofNat, BitVec.toNat_ofNat, Nat.mod_eq_of_lt hn, Nat.mod_eq_of_lt hl] at this)]
    rfl

/-- The first rows of the sequences, -/
theorem pay7_apply (i : Fin 8) (r : Fin 1024) (z : Fin 1) :
    k0_pay7 (BitVec.ofNat 32 i.val) (ix2 r z) = if r.val % tileLen i = 0 then 1#1 else 0#1 := by
  have hr := r.isLt
  show IntOp.cmpi .eq (k0_pay6 (BitVec.ofNat 32 i.val) (ix2 r z)) (BitVec.ofNat 32 0) = _
  rw [pay6_apply]
  exact eq_word _ _ (lt_of_le_of_lt (Nat.mod_le _ _) (by omega)) (by omega)

theorem len_word (i : Fin 8) :
    (Scalar.subi (Scalar.select (Scalar.cmpi .slt (BitVec.ofNat 32 i.val) 4#32) 256#32 1024#32) 1#32 : BitVec 32) = BitVec.ofNat 32 (tileLen i - 1) :=
  (by decide : ∀ i : Fin 8, (Scalar.subi (Scalar.select (Scalar.cmpi .slt (BitVec.ofNat 32 i.val) 4#32) 256#32 1024#32) 1#32 : BitVec 32)
    = BitVec.ofNat 32 (tileLen i - 1)) i

theorem tileLen_le (i : Fin 8) : tileLen i ≤ 1024 := by unfold tileLen; split <;> omega

/-- and their last rows. -/
theorem pay8_apply (i : Fin 8) (r : Fin 1024) (z : Fin 1) :
    k0_pay8 (BitVec.ofNat 32 i.val) (ix2 r z) = if r.val % tileLen i = tileLen i - 1 then 1#1 else 0#1 := by
  have hr := r.isLt
  have hl := tileLen_le i
  show IntOp.cmpi .eq (k0_pay6 (BitVec.ofNat 32 i.val) (ix2 r z))
    (Scalar.subi (Scalar.select (Scalar.cmpi .slt (BitVec.ofNat 32 i.val) 4#32) 256#32 1024#32) 1#32) = _
  rw [pay6_apply, len_word]
  exact eq_word _ _ (lt_of_le_of_lt (Nat.mod_le _ _) (by omega)) (by omega)

/-! ## The pieces of the convolution -/

theorem pay9_apply (u : Vec Ideal S1x1024x512 .f32) (r : Fin 1024) (j : Fin 512) : k0_pay9 u (ix2 r j) = u (ix3 (0 : Fin 1) r j) := by
  unfold k0_pay9
  refine shapeCast_apply u _ _ _ ?_
  rw [Shape.rowMajor_val_three, Shape.rowMajor_val_two]
  show (0 * 1024 + r.val) * 512 + j.val = r.val * 512 + j.val
  omega

theorem rot_prev {α : Type} (x : S1024x512.Idx → α) (r : Fin 1024) (j : Fin 512) :
    dynamicRotate 0 1#32 none x rotates_S1024x512_d0 (ix2 r j) = x (ix2 (⟨(r.val + 1023) % 1024, Nat.mod_lt _ (by decide)⟩ : Fin 1024) j) := by
  refine dynamicRotate_apply _ _ _ _ _ _ fun a => ?_
  match a with
  | ⟨0, _⟩ => rfl
  | ⟨1, _⟩ => rfl

theorem rot_next {α : Type} (x : S1024x512.Idx → α) (r : Fin 1024) (j : Fin 512) :
    dynamicRotate 0 1023#32 none x rotates_S1024x512_d0 (ix2 r j) = x (ix2 (⟨(r.val + 1) % 1024, Nat.mod_lt _ (by decide)⟩ : Fin 1024) j) := by
  refine dynamicRotate_apply _ _ _ _ _ _ fun a => ?_
  match a with
  | ⟨0, _⟩ => show (r.val + 1) % 1024 = (r.val + 1024 - 1023 % 1024) % 1024; omega
  | ⟨1, _⟩ => rfl

/-- A row mask spread over the columns. -/
theorem mask_apply (x : IVec S1024x1 1) (r : Fin 1024) (j : Fin 512) :
    broadcastTo S1024x512 (shapeCast S1024x1 x shapeCasts_S1024x1_S1024x1) broadcasts_S1024x1_S1024x512 (ix2 r j) = x (ix2 r (0 : Fin 1)) := by
  refine (broadcastTo_apply _ _ (ix2 r j) (ix2 r (0 : Fin 1)) fun a => ?_).trans ?_
  · match a with
    | ⟨0, _⟩ => rfl
    | ⟨1, _⟩ => rfl
  · exact shapeCast_apply x _ _ _ rfl

/-- A row of weights spread over the rows. -/
theorem tap_apply {α : Type} (w : S1x1x512.Idx → α) (r : Fin 1024) (j : Fin 512) :
    broadcastTo S1024x512 (shapeCast S1x512 w shapeCasts_S1x1x512_S1x512) broadcasts_S1x512_S1024x512 (ix2 r j) = w (ix3 (0 : Fin 1) (0 : Fin 1) j) := by
  refine (broadcastTo_apply _ _ (ix2 r j) (ix2 (0 : Fin 1) j) fun a => ?_).trans ?_
  · match a with
    | ⟨0, _⟩ => rfl
    | ⟨1, _⟩ => rfl
  · refine shapeCast_apply w _ _ _ ?_
    rw [Shape.rowMajor_val_three, Shape.rowMajor_val_two]
    show (0 * 1 + 0) * 512 + j.val = 0 * 512 + j.val
    omega

theorem ld_tap0 (x : Vec Ideal S1x3x512 .f32) (j : Fin 512) : View.ld x tap0 (ix3 (0 : Fin 1) (0 : Fin 1) j) = x (ix3 (0 : Fin 1) (0 : Fin 3) j) :=
  congrArg x (funext fun a => Fin.ext (match a with
    | ⟨0, _⟩ => rfl
    | ⟨1, _⟩ => rfl
    | ⟨2, _⟩ => by show 0 + 1 * j.val = j.val; omega))
theorem ld_tap1 (x : Vec Ideal S1x3x512 .f32) (j : Fin 512) : View.ld x tap1 (ix3 (0 : Fin 1) (0 : Fin 1) j) = x (ix3 (0 : Fin 1) (1 : Fin 3) j) :=
  congrArg x (funext fun a => Fin.ext (match a with
    | ⟨0, _⟩ => rfl
    | ⟨1, _⟩ => rfl
    | ⟨2, _⟩ => by show 0 + 1 * j.val = j.val; omega))
theorem ld_tap2 (x : Vec Ideal S1x3x512 .f32) (j : Fin 512) : View.ld x tap2 (ix3 (0 : Fin 1) (0 : Fin 1) j) = x (ix3 (0 : Fin 1) (2 : Fin 3) j) :=
  congrArg x (funext fun a => Fin.ext (match a with
    | ⟨0, _⟩ => rfl
    | ⟨1, _⟩ => rfl
    | ⟨2, _⟩ => by show 0 + 1 * j.val = j.val; omega))

/-- The convolution of a block at an element. -/
def conv (i : Fin 8) (u : Vec Ideal S1x1024x512 .f32) (w : Vec Ideal S1x3x512 .f32) (b : Vec Ideal S1x1x512 .f32) (r : Fin 1024) (j : Fin 512) : EReal :=
  (if r.val % tileLen i = 0 then 0 else u (ix3 (0 : Fin 1) (⟨(r.val + 1023) % 1024, Nat.mod_lt _ (by decide)⟩ : Fin 1024) j)) * w (ix3 (0 : Fin 1) (0 : Fin 3) j)
    + u (ix3 (0 : Fin 1) r j) * w (ix3 (0 : Fin 1) (1 : Fin 3) j)
    + (if r.val % tileLen i = tileLen i - 1 then 0 else u (ix3 (0 : Fin 1) (⟨(r.val + 1) % 1024, Nat.mod_lt _ (by decide)⟩ : Fin 1024) j)) * w (ix3 (0 : Fin 1) (2 : Fin 3) j)
    + b (ix3 (0 : Fin 1) (0 : Fin 1) j)

theorem select_if (p : Prop) [Decidable p] (x y : EReal) : Scalar.select (if p then 1#1 else 0#1) x y = if p then x else y := by
  unfold Scalar.select
  by_cases h : p
  · rw [if_pos h, if_pos h]; exact if_pos rfl
  · rw [if_neg h, if_neg h]; exact if_neg (by decide)

theorem if_else {p : Prop} [Decidable p] {x y : EReal} (h : x = y) : (if p then 0 else x) = if p then 0 else y := by rw [h]

theorem zero_word : (Scalar.ofBits .f32 0x00000000#32 : Ideal .f32) = (0 : EReal) := Ideal.ofBits_zero_f32

/-- The gates' convolution, -/
theorem gate_apply (i : Fin 8) (u : Vec Ideal S1x1024x512 .f32) (w : Vec Ideal S1x3x512 .f32) (b : Vec Ideal S1x1x512 .f32) (r : Fin 1024) (j : Fin 512) :
    k0_pay12 (k0_pay8 (BitVec.ofNat 32 i.val)) (k0_pay9 u) (k0_pay10 u) (Scalar.ofBits .f32 0x00000000#32) (k0_pay11 (BitVec.ofNat 32 i.val))
      (View.ld w tap0) (View.ld w tap1) (View.ld w tap2) b (ix2 r j) = conv i u w b r j := by
  unfold k0_pay12 k0_pay10 k0_pay11 conv
  simp only [addf_apply, mulf_apply, select_apply, broadcast_apply, mask_apply, tap_apply, pay7_apply, pay8_apply, pay9_apply,
    select_if, zero_word]
  exact congrArg₂ (· + ·) (congrArg₂ (· + ·) (congrArg₂ (· + ·)
    (congrArg₂ (· * ·) (if_else ((rot_prev _ r j).trans (pay9_apply u _ j))) (ld_tap0 w j)) (congrArg (_ * ·) (ld_tap1 w j)))
    (congrArg₂ (· * ·) (if_else ((rot_next _ r j).trans (pay9_apply u _ j))) (ld_tap2 w j))) rfl

/-- and a step's new sum: the old one plus the product of the activations with the second projection's block. -/
theorem down_apply (i : Fin 8) (u v : Vec Ideal S1x1024x512 .f32) (x5 x6 : Vec Ideal S1x3x512 .f32) (x7 x8 : Vec Ideal S1x1x512 .f32)
    (x9 : Vec Ideal S1x512x2048 .f32) (acc : Vec Ideal S1024x2048 .f32) (r : Fin 1024) (n : Fin 2048) :
    down (BitVec.ofNat 32 i.val) u v x5 x6 x7 x8 x9 acc (ix2 r n)
      = acc (ix2 r n) + ∑ j : Fin 512, (conv i u x5 x7 r j * Ideal.logistic (conv i u x5 x7 r j) * conv i v x6 x8 r j) * x9 (ix3 (0 : Fin 1) j n) := by
  unfold down k0_pay36
  rw [hdotDown]
  refine (shapeCast_apply _ _ (ix2 r n) (ix2 r n) rfl).trans ?_
  rw [addf_apply]
  refine congrArg (acc (ix2 r n) + ·) ?_
  refine (Ideal.matmul_plain_apply _ _ _ _ r n).trans ?_
  rw [constant_apply, Ideal.ofBits_zero_f32, zero_add]
  refine Finset.sum_congr rfl fun j _ => congrArg₂ (· * ·) ?_ ?_
  · rw [truncf_apply, mulf_apply, mulf_apply]
    refine congrArg₂ (· * ·) ?_ ?_
    · refine congrArg₂ (· * ·) (gate_apply i u x5 x7 r j) ?_
      exact congrArg Ideal.logistic (gate_apply i u x5 x7 r j)
    · unfold k0_pay14 k0_pay15 conv
      simp only [addf_apply, mulf_apply, select_apply, broadcast_apply, mask_apply, tap_apply, pay7_apply, pay8_apply,
        show k0_pay13 v = k0_pay9 v from rfl, pay9_apply, select_if, zero_word]
      exact congrArg₂ (· + ·) (congrArg₂ (· + ·) (congrArg₂ (· + ·)
        (congrArg₂ (· * ·) (if_else ((rot_prev _ r j).trans (pay9_apply v _ j))) (ld_tap0 x6 j)) (congrArg (_ * ·) (ld_tap1 x6 j)))
        (congrArg₂ (· * ·) (if_else ((rot_next _ r j).trans (pay9_apply v _ j))) (ld_tap2 x6 j))) rfl
  · rw [truncf_apply]
    refine shapeCast_apply x9 _ _ _ ?_
    rw [Shape.rowMajor_val_three, Shape.rowMajor_val_two]
    show (0 * 512 + j.val) * 2048 + n.val = j.val * 2048 + n.val
    omega

/-- The cleared sum. -/
theorem clear_apply (r : Fin 1024) (n : Fin 2048) : k0_pay33 (F := Ideal) (ix2 r n) = 0 := by
  unfold k0_pay33
  exact (shapeCast_apply _ _ (ix2 r n) (ix2 r n) rfl).trans zero_word

end Cert.FfnPay

end
-- ==== Proof.FfnValue.lean ====
/-
  The value claim of `Kernel2`: the feed-forward layer, a tile of 1024 rows and a block of 512 gated columns at a point of
  the grid, against the whole layer.

  A point projects its block of columns and, of the block the point before it projected, convolves along the rows, gates,
  and adds the second projection's product to the tile's running sum. So the sum after point `f` of a tile is over the
  columns of the first `f` blocks, and the last point's is over all of them, which is what the reference sums.
-/
module

public import proofs.«01_k».proof.Proof.FfnFrame
public import proofs.«01_k».proof.Proof.FfnSpec
public import proofs.«01_k».proof.Proof.FfnRef
public import proofs.«01_k».proof.Proof.FfnPay
public import proofs.«01_k».proof.Defs
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel2Ideal.Layer

open Cert.Kernel2Ideal Cert.Kernel2Ideal.Gen Cert.Proof.FfnRun Cert.Proof.FfnFrame Cert.FfnSpec Cert.FfnPay

/-! ## Rows and columns -/

/-- Row `r` of tile `i`. -/
def row (i : Fin 8) (r : Fin 1024) : Fin 8192 := ⟨i.val * 1024 + r.val, by omega⟩
/-- Column `j` of block `f`, -/
def col (f : Fin 11) (j : Fin 512) : Fin 5632 := ⟨f.val * 512 + j.val, by omega⟩
/-- among the gates' columns -/
def colG (f : Fin 11) (j : Fin 512) : Fin 11264 := ⟨(col f j).val, by have := (col f j).isLt; omega⟩
/-- and among the values'. -/
def colV (f : Fin 11) (j : Fin 512) : Fin 11264 := ⟨5632 + (col f j).val, by have := (col f j).isLt; omega⟩

theorem seqLen_row (i : Fin 8) (r : Fin 1024) : seqLen (row i r) = tileLen i := by
  have h : (row i r).val = i.val * 1024 + r.val := rfl
  unfold seqLen tileLen
  rw [h]
  split <;> split <;> first | rfl | omega

theorem row_mod (i : Fin 8) (r : Fin 1024) : (row i r).val % tileLen i = r.val % tileLen i := by
  show (i.val * 1024 + r.val) % tileLen i = _
  unfold tileLen
  split <;> omega

theorem row_prev (i : Fin 8) (r : Fin 1024) (h : r.val % tileLen i ≠ 0) :
    row i (⟨(r.val + 1023) % 1024, Nat.mod_lt _ (by decide)⟩ : Fin 1024) = ⟨(row i r).val - 1, lt_of_le_of_lt (Nat.sub_le _ _) (row i r).isLt⟩ := by
  have hr : r.val ≠ 0 := fun e => h (by rw [e]; exact Nat.zero_mod _)
  refine Fin.ext ?_
  show i.val * 1024 + (r.val + 1023) % 1024 = i.val * 1024 + r.val - 1
  omega

theorem row_next (i : Fin 8) (r : Fin 1024) (h : r.val % tileLen i ≠ tileLen i - 1) :
    row i (⟨(r.val + 1) % 1024, Nat.mod_lt _ (by decide)⟩ : Fin 1024) = ⟨((row i r).val + 1) % 8192, Nat.mod_lt _ (by decide)⟩ := by
  have hr : r.val ≠ 1023 := fun e => h (by rw [e]; unfold tileLen; split <;> rfl)
  refine Fin.ext ?_
  show i.val * 1024 + (r.val + 1) % 1024 = (i.val * 1024 + r.val + 1) % 8192
  omega

/-- A block's convolution is the layer's, where the block holds the layer's projections. -/
theorem conv_eq (H : SRows.Idx → EReal) (W : SUp.Idx → EReal) (K : STaps.Idx → EReal) (B : SBias.Idx → EReal)
    (i : Fin 8) (u : Vec Ideal S1x1024x512 .f32) (w : Vec Ideal S1x3x512 .f32) (b : Vec Ideal S1x1x512 .f32) (j : Fin 512) (J : Fin 11264)
    (hu : ∀ r : Fin 1024, u (ix3 (0 : Fin 1) r j) = upAt H W (row i r) J)
    (hw : ∀ k : Fin 3, w (ix3 (0 : Fin 1) k j) = K (ix3 (0 : Fin 2) k J))
    (hb : b (ix3 (0 : Fin 1) (0 : Fin 1) j) = B (ix2 (0 : Fin 2) J)) (r : Fin 1024) :
    conv i u w b r j = convAt H W K B (row i r) J := by
  unfold conv convAt prevAt nextAt
  rw [hu, hu, hu, hw, hw, hw, hb, seqLen_row, row_mod]
  by_cases h0 : r.val % tileLen i = 0
  · rw [if_pos h0, if_pos h0]
    by_cases h1 : r.val % tileLen i = tileLen i - 1
    · rw [if_pos h1, if_pos h1]
    · rw [if_neg h1, if_neg h1, row_next i r h1]
  · rw [if_neg h0, if_neg h0, row_prev i r h0]
    by_cases h1 : r.val % tileLen i = tileLen i - 1
    · rw [if_pos h1, if_pos h1]
    · rw [if_neg h1, if_neg h1, row_next i r h1]

/-- A sum over the columns, block by block. -/
theorem sum_cols (g : Fin 5632 → EReal) : ∑ p : Fin 11, ∑ j : Fin 512, g (col p j) = ∑ j : Fin 5632, g j := by
  rw [← Fintype.sum_prod_type' (fun p j => g (col p j))]
  refine Fintype.sum_equiv (finProdFinEquiv (m := 11) (n := 512)) _ _ fun x => congrArg g (Fin.ext ?_)
  show x.1.val * 512 + x.2.val = x.2.val + 512 * x.1.val
  omega

/-! ## The blocks, read -/

variable (m : (ℓ : Loc nD τ sig) → Buf (Elt Ideal) ℓ) (ρ : Dev nD → PrngReg)

/-- The arguments: the rows, the first projection's weights, the taps, the bias, the second projection's weights. -/
abbrev aH (c : Dev nD) : SRows.Idx → EReal := m ((c : Thread nD τ).loc main_arg0)
abbrev aW (c : Dev nD) : SUp.Idx → EReal := m ((c : Thread nD τ).loc main_arg1)
abbrev aK (c : Dev nD) : STaps.Idx → EReal := m ((c : Thread nD τ).loc main_arg2)
abbrev aB (c : Dev nD) : SBias.Idx → EReal := m ((c : Thread nD τ).loc main_arg3)
abbrev aD (c : Dev nD) : SDown.Idx → EReal := m ((c : Thread nD τ).loc main_arg4)

/-- Where a point's blocks lie: `t / 12` numbers the tile, `t % 12` the block it projects, the one before it the block it
    gates. -/
theorem index0 : ∀ t : Fin cfg0.N, win0_0.index t 0 = t.val / 12 ∧ win0_0.index t 1 = 0 :=
  (by decide +kernel : ∀ t : Fin grid0.N, win0_0.index t 0 = t.val / 12 ∧ win0_0.index t 1 = 0)
theorem index1 : ∀ t : Fin cfg0.N, win0_1.index t 0 = 0 ∧ win0_1.index t 1 = 0 ∧ win0_1.index t 2 = min (t.val % 12) 10 :=
  (by decide +kernel : ∀ t : Fin grid0.N, win0_1.index t 0 = 0 ∧ win0_1.index t 1 = 0 ∧ win0_1.index t 2 = min (t.val % 12) 10)
theorem index2 : ∀ t : Fin cfg0.N, win0_2.index t 0 = 0 ∧ win0_2.index t 1 = 0 ∧ win0_2.index t 2 = 11 + min (t.val % 12) 10 :=
  (by decide +kernel : ∀ t : Fin grid0.N, win0_2.index t 0 = 0 ∧ win0_2.index t 1 = 0 ∧ win0_2.index t 2 = 11 + min (t.val % 12) 10)
theorem index3 : ∀ t : Fin cfg0.N, win0_3.index t 0 = 0 ∧ win0_3.index t 1 = 0 ∧ win0_3.index t 2 = t.val % 12 - 1 :=
  (by decide +kernel : ∀ t : Fin grid0.N, win0_3.index t 0 = 0 ∧ win0_3.index t 1 = 0 ∧ win0_3.index t 2 = t.val % 12 - 1)
theorem index4 : ∀ t : Fin cfg0.N, win0_4.index t 0 = 0 ∧ win0_4.index t 1 = 0 ∧ win0_4.index t 2 = 11 + (t.val % 12 - 1) :=
  (by decide +kernel : ∀ t : Fin grid0.N, win0_4.index t 0 = 0 ∧ win0_4.index t 1 = 0 ∧ win0_4.index t 2 = 11 + (t.val % 12 - 1))
theorem index5 : ∀ t : Fin cfg0.N, win0_5.index t 0 = 0 ∧ win0_5.index t 1 = 0 ∧ win0_5.index t 2 = t.val % 12 - 1 :=
  (by decide +kernel : ∀ t : Fin grid0.N, win0_5.index t 0 = 0 ∧ win0_5.index t 1 = 0 ∧ win0_5.index t 2 = t.val % 12 - 1)
theorem index6 : ∀ t : Fin cfg0.N, win0_6.index t 0 = 0 ∧ win0_6.index t 1 = 0 ∧ win0_6.index t 2 = 11 + (t.val % 12 - 1) :=
  (by decide +kernel : ∀ t : Fin grid0.N, win0_6.index t 0 = 0 ∧ win0_6.index t 1 = 0 ∧ win0_6.index t 2 = 11 + (t.val % 12 - 1))
theorem index7 : ∀ t : Fin cfg0.N, win0_7.index t 0 = 0 ∧ win0_7.index t 1 = t.val % 12 - 1 ∧ win0_7.index t 2 = 0 :=
  (by decide +kernel : ∀ t : Fin grid0.N, win0_7.index t 0 = 0 ∧ win0_7.index t 1 = t.val % 12 - 1 ∧ win0_7.index t 2 = 0)
theorem index8 : ∀ t : Fin cfg0.N, win0_8.index t 0 = t.val / 12 ∧ win0_8.index t 1 = 0 :=
  (by decide +kernel : ∀ t : Fin grid0.N, win0_8.index t 0 = t.val / 12 ∧ win0_8.index t 1 = 0)

theorem coord0_val : ∀ t : Fin cfg0.N, (grid0.coords t 0).val = t.val / 12 :=
  (by decide +kernel : ∀ t : Fin grid0.N, (grid0.coords t 0).val = t.val / 12)

/-- A point's tile. -/
def tile (t : Fin cfg0.N) : Fin 8 := ⟨t.val / 12, by have : t.val < 96 := lt_of_lt_of_eq t.isLt N_0; omega⟩

/-- The bias as the grid reads it: a row of one between its two axes. -/
theorem bias_apply (c : Dev nD) (l : Fin 2) (z : Fin 1) (j : Fin 11264) :
    V m c main_v0 (ix3 l z j) = m ((c : Thread nD τ).loc main_arg3) (ix2 l j) := by
  have e : V m c main_v0 = shapeCast (s := S2x11264) (t := S2x1x11264) (m ((c : Thread nD τ).loc main_arg3)) shapeCasts_S2x11264_S2x1x11264 := by
    show StableHlo.after hostOps0 (fun b => m (c, b)) _ = _
    after_results_simp
    rfl
  rw [e]
  refine shapeCast_apply _ _ _ (ix2 l j) ?_
  rw [Shape.rowMajor_val_three, Shape.rowMajor_val_two]
  show l.val * 11264 + j.val = (l.val * 1 + z.val) * 11264 + j.val
  omega

theorem rows_read (c : Dev nD) (t : Fin cfg0.N) (r : Fin 1024) (e : Fin 2048) :
    iblk m c 0 t (ix2 r e) = aH m c (ix2 (row (tile t) r) e) := by
  show V m c main_arg0 ((win0_0.rect t).emb (ix2 r e)) = _
  rw [V_main_arg0]
  refine congrArg _ (funext fun a => Fin.ext ?_)
  match a with
  | ⟨0, _⟩ =>
    show win0_0.index t 0 * 1024 + 1 * r.val = t.val / 12 * 1024 + r.val
    rw [(index0 t).1]; omega
  | ⟨1, _⟩ =>
    show win0_0.index t 1 * 2048 + 1 * e.val = e.val
    rw [(index0 t).2]; omega

theorem gateW_read (c : Dev nD) (t : Fin cfg0.N) (f : Fin 11) (hf : t.val % 12 = f.val) (e : Fin 2048) (j : Fin 512) :
    iblk m c 1 t (ix3 (0 : Fin 1) e j) = aW m c (ix3 (0 : Fin 2) e (colG f j)) := by
  show V m c main_arg1 ((win0_1.rect t).emb (ix3 (0 : Fin 1) e j)) = _
  rw [V_main_arg1]
  refine congrArg _ (funext fun a => Fin.ext ?_)
  match a with
  | ⟨0, _⟩ =>
    show win0_1.index t 0 * 1 + 1 * 0 = 0
    rw [(index1 t).1]
  | ⟨1, _⟩ =>
    show win0_1.index t 1 * 2048 + 1 * e.val = e.val
    rw [(index1 t).2.1]; omega
  | ⟨2, _⟩ =>
    show win0_1.index t 2 * 512 + 1 * j.val = f.val * 512 + j.val
    rw [(index1 t).2.2]; omega

theorem valW_read (c : Dev nD) (t : Fin cfg0.N) (f : Fin 11) (hf : t.val % 12 = f.val) (e : Fin 2048) (j : Fin 512) :
    iblk m c 2 t (ix3 (0 : Fin 1) e j) = aW m c (ix3 (0 : Fin 2) e (colV f j)) := by
  show V m c main_arg1 ((win0_2.rect t).emb (ix3 (0 : Fin 1) e j)) = _
  rw [V_main_arg1]
  refine congrArg _ (funext fun a => Fin.ext ?_)
  match a with
  | ⟨0, _⟩ =>
    show win0_2.index t 0 * 1 + 1 * 0 = 0
    rw [(index2 t).1]
  | ⟨1, _⟩ =>
    show win0_2.index t 1 * 2048 + 1 * e.val = e.val
    rw [(index2 t).2.1]; omega
  | ⟨2, _⟩ =>
    show win0_2.index t 2 * 512 + 1 * j.val = 5632 + (f.val * 512 + j.val)
    rw [(index2 t).2.2]; omega

theorem gateK_read (c : Dev nD) (t : Fin cfg0.N) (f : Fin 11) (hf : t.val % 12 = f.val + 1) (k : Fin 3) (j : Fin 512) :
    iblk m c 3 t (ix3 (0 : Fin 1) k j) = aK m c (ix3 (0 : Fin 2) k (colG f j)) := by
  show V m c main_arg2 ((win0_3.rect t).emb (ix3 (0 : Fin 1) k j)) = _
  rw [V_main_arg2]
  refine congrArg _ (funext fun a => Fin.ext ?_)
  match a with
  | ⟨0, _⟩ =>
    show win0_3.index t 0 * 1 + 1 * 0 = 0
    rw [(index3 t).1]
  | ⟨1, _⟩ =>
    show win0_3.index t 1 * 3 + 1 * k.val = k.val
    rw [(index3 t).2.1]; omega
  | ⟨2, _⟩ =>
    show win0_3.index t 2 * 512 + 1 * j.val = f.val * 512 + j.val
    rw [(index3 t).2.2]; omega

theorem valK_read (c : Dev nD) (t : Fin cfg0.N) (f : Fin 11) (hf : t.val % 12 = f.val + 1) (k : Fin 3) (j : Fin 512) :
    iblk m c 4 t (ix3 (0 : Fin 1) k j) = aK m c (ix3 (0 : Fin 2) k (colV f j)) := by
  show V m c main_arg2 ((win0_4.rect t).emb (ix3 (0 : Fin 1) k j)) = _
  rw [V_main_arg2]
  refine congrArg _ (funext fun a => Fin.ext ?_)
  match a with
  | ⟨0, _⟩ =>
    show win0_4.index t 0 * 1 + 1 * 0 = 0
    rw [(index4 t).1]
  | ⟨1, _⟩ =>
    show win0_4.index t 1 * 3 + 1 * k.val = k.val
    rw [(index4 t).2.1]; omega
  | ⟨2, _⟩ =>
    show win0_4.index t 2 * 512 + 1 * j.val = 5632 + (f.val * 512 + j.val)
    rw [(index4 t).2.2]; omega

theorem gateB_read (c : Dev nD) (t : Fin cfg0.N) (f : Fin 11) (hf : t.val % 12 = f.val + 1) (j : Fin 512) :
    iblk m c 5 t (ix3 (0 : Fin 1) (0 : Fin 1) j) = aB m c (ix2 (0 : Fin 2) (colG f j)) := by
  refine Eq.trans ?_ (bias_apply m c 0 0 (colG f j))
  show V m c main_v0 ((win0_5.rect t).emb (ix3 (0 : Fin 1) (0 : Fin 1) j)) = _
  refine congrArg _ (funext fun a => Fin.ext ?_)
  match a with
  | ⟨0, _⟩ =>
    show win0_5.index t 0 * 1 + 1 * 0 = 0
    rw [(index5 t).1]
  | ⟨1, _⟩ =>
    show win0_5.index t 1 * 1 + 1 * 0 = 0
    rw [(index5 t).2.1]
  | ⟨2, _⟩ =>
    show win0_5.index t 2 * 512 + 1 * j.val = f.val * 512 + j.val
    rw [(index5 t).2.2]; omega

theorem valB_read (c : Dev nD) (t : Fin cfg0.N) (f : Fin 11) (hf : t.val % 12 = f.val + 1) (j : Fin 512) :
    iblk m c 6 t (ix3 (0 : Fin 1) (0 : Fin 1) j) = aB m c (ix2 (0 : Fin 2) (colV f j)) := by
  refine Eq.trans ?_ (bias_apply m c 0 0 (colV f j))
  show V m c main_v0 ((win0_6.rect t).emb (ix3 (0 : Fin 1) (0 : Fin 1) j)) = _
  refine congrArg _ (funext fun a => Fin.ext ?_)
  match a with
  | ⟨0, _⟩ =>
    show win0_6.index t 0 * 1 + 1 * 0 = 0
    rw [(index6 t).1]
  | ⟨1, _⟩ =>
    show win0_6.index t 1 * 1 + 1 * 0 = 0
    rw [(index6 t).2.1]
  | ⟨2, _⟩ =>
    show win0_6.index t 2 * 512 + 1 * j.val = 5632 + (f.val * 512 + j.val)
    rw [(index6 t).2.2]; omega

theorem down_read (c : Dev nD) (t : Fin cfg0.N) (f : Fin 11) (hf : t.val % 12 = f.val + 1) (j : Fin 512) (n : Fin 2048) :
    iblk m c 7 t (ix3 (0 : Fin 1) j n) = aD m c (ix3 (0 : Fin 2) (col f j) n) := by
  show V m c main_arg4 ((win0_7.rect t).emb (ix3 (0 : Fin 1) j n)) = _
  rw [V_main_arg4]
  refine congrArg _ (funext fun a => Fin.ext ?_)
  match a with
  | ⟨0, _⟩ =>
    show win0_7.index t 0 * 1 + 1 * 0 = 0
    rw [(index7 t).1]
  | ⟨1, _⟩ =>
    show win0_7.index t 1 * 512 + 1 * j.val = f.val * 512 + j.val
    rw [(index7 t).2.1]; omega
  | ⟨2, _⟩ =>
    show win0_7.index t 2 * 2048 + 1 * n.val = n.val
    rw [(index7 t).2.2]; omega

theorem gate_read (c : Dev nD) (t : Fin cfg0.N) (f : Fin 11) (hf : t.val % 12 = f.val) (r : Fin 1024) (j : Fin 512) :
    gateAt m c t (ix3 (0 : Fin 1) r j) = upAt (aH m c) (aW m c) (row (tile t) r) (colG f j) := by
  unfold gateAt upAt
  refine (up_apply (iblk m c 0 t) (iblk m c 1 t) r j).trans (Finset.sum_congr rfl fun e _ => congrArg₂ (· * ·) ?_ ?_)
  · exact rows_read m c t r e
  · exact gateW_read m c t f hf e j

theorem val_read (c : Dev nD) (t : Fin cfg0.N) (f : Fin 11) (hf : t.val % 12 = f.val) (r : Fin 1024) (j : Fin 512) :
    valAt m c t (ix3 (0 : Fin 1) r j) = upAt (aH m c) (aW m c) (row (tile t) r) (colV f j) := by
  unfold valAt upAt
  refine (up_apply (iblk m c 0 t) (iblk m c 2 t) r j).trans (Finset.sum_congr rfl fun e _ => congrArg₂ (· * ·) ?_ ?_)
  · exact rows_read m c t r e
  · exact valW_read m c t f hf e j

/-! ## The running sum -/

/-- What block `f`'s columns add to the layer's element. -/
def part (c : Dev nD) (i : Fin 8) (r : Fin 1024) (n : Fin 2048) (f : Fin 11) : EReal :=
  ∑ j : Fin 512, actAt (aH m c) (aW m c) (aK m c) (aB m c) (row i r) (col f j) * aD m c (ix3 (0 : Fin 2) (col f j) n)

/-- What a point adds: the block's part that the point before it projected. -/
theorem step_read (c : Dev nD) (t s : Fin cfg0.N) (f : Fin 11) (hs : s.val % 12 = f.val + 1) (ht : t.val % 12 = f.val) (hst : tile t = tile s)
    (acc : Vec Ideal S1024x2048 .f32) (r : Fin 1024) (n : Fin 2048) :
    stepAt m c (gateAt m c t) (valAt m c t) s acc (ix2 r n) = acc (ix2 r n) + part m c (tile s) r n f := by
  unfold stepAt part
  rw [coord0_val s]
  refine (down_apply (tile s) (gateAt m c t) (valAt m c t) (iblk m c 3 s) (iblk m c 4 s) (iblk m c 5 s) (iblk m c 6 s) (iblk m c 7 s) acc r n).trans ?_
  refine congrArg (acc (ix2 r n) + ·) (Finset.sum_congr rfl fun j _ => ?_)
  unfold actAt
  have hg := conv_eq (aH m c) (aW m c) (aK m c) (aB m c) (tile s) (gateAt m c t) (iblk m c 3 s) (iblk m c 5 s) j (colG f j)
    (fun r => by rw [← hst]; exact gate_read m c t f ht r j) (fun k => gateK_read m c s f hs k j) (gateB_read m c s f hs j) r
  have hv := conv_eq (aH m c) (aW m c) (aK m c) (aB m c) (tile s) (valAt m c t) (iblk m c 4 s) (iblk m c 6 s) j (colV f j)
    (fun r => by rw [← hst]; exact val_read m c t f ht r j) (fun k => valK_read m c s f hs k j) (valB_read m c s f hs j) r
  exact congrArg₂ (· * ·) (congrArg₂ (· * ·) (congrArg₂ (fun a b => a * Ideal.logistic b) hg hg) hv) (down_read m c s f hs j n)

/-- The part of a block by its number, nothing past the last. -/
def partN (c : Dev nD) (i : Fin 8) (r : Fin 1024) (n : Fin 2048) (f : ℕ) : EReal :=
  if h : f < 11 then part m c i r n ⟨f, h⟩ else 0

theorem acc_read (c : Dev nD) (i : Fin 8) (r : Fin 1024) (n : Fin 2048) : ∀ (f : ℕ) (hf : f ≤ 11) (h : 12 * i.val + f < cfg0.N),
    accAt m c (12 * i.val + f) h (ix2 r n) = ∑ p ∈ Finset.range f, partN m c i r n p
  | 0, _, h => by
    rw [Finset.sum_range_zero]
    refine (congrFun (accAt_reset m c (12 * i.val + 0) h (by omega)) (ix2 r n)).trans (clear_apply r n)
  | f + 1, hf, h => by
    have hf' : f < 11 := by omega
    have ih := acc_read c i r n f (by omega) (by omega)
    rw [Finset.sum_range_succ, ← ih]
    refine (congrFun (accAt_step m c (12 * i.val + f) h (by omega)) (ix2 r n)).trans ?_
    have e : tile ⟨12 * i.val + f + 1, h⟩ = i := Fin.ext (by show (12 * i.val + f + 1) / 12 = i.val; omega)
    refine (step_read m c ⟨12 * i.val + f, Nat.lt_of_succ_lt h⟩ ⟨12 * i.val + f + 1, h⟩ ⟨f, hf'⟩ (by show (12 * i.val + f + 1) % 12 = f + 1; omega)
      (by show (12 * i.val + f) % 12 = f; omega) (Fin.ext (by show (12 * i.val + f) / 12 = (12 * i.val + f + 1) / 12; omega)) _ r n).trans ?_
    rw [e]
    unfold partN
    rw [dif_pos hf']

/-- At a tile's last point the sum is the layer's element. -/
theorem acc_last (c : Dev nD) (t : Fin cfg0.N) (ht : t.val % 12 = 11) (r : Fin 1024) (n : Fin 2048) :
    accAt m c t.val t.isLt (ix2 r n) = outAt (aH m c) (aW m c) (aK m c) (aB m c) (aD m c) (row (tile t) r) n := by
  have hv : t.val = 12 * (tile t).val + 11 := by show t.val = 12 * (t.val / 12) + 11; omega
  have h := acc_read m c (tile t) r n 11 le_rfl (hv ▸ t.isLt)
  have e : accAt m c t.val t.isLt = accAt m c (12 * (tile t).val + 11) (hv ▸ t.isLt) := by congr 1
  rw [e, h, Finset.sum_range]
  refine Eq.trans (Finset.sum_congr rfl fun p _ => ?_)
    (sum_cols (fun J => actAt (aH m c) (aW m c) (aK m c) (aB m c) (row (tile t) r) J * aD m c (ix3 (0 : Fin 2) J n)))
  unfold partN
  rw [dif_pos p.isLt]
  rfl

/-! ## The result -/

/-- The reference's result at device `c`'s arguments: what the kernel's result array is shown to hold. -/
abbrev whole (c : Dev nD) : Buf (Elt Ideal) ((c : Thread nD τ).loc main_v1) :=
  Cert.Reference2Ideal.Read.val_main_v76 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a tile's last point writes back is its block of the whole. -/
theorem flushed_eq (c : Dev nD) (t : Fin cfg0.N) (ht : t.val % 12 = 11) :
    (dats m 0 c).flushed 8 t = ((cfg0.win 8).blk t).view.read (Elt Ideal) (whole m c) := by
  show (cfg0.win 8).cut (grid0.coords t) ((dats m 0 c).after 8 t) = _
  rw [after0_8]
  refine funext fun (j : S1024x2048.Idx) => ?_
  obtain ⟨r, n, rfl⟩ : ∃ (r : Fin 1024) (n : Fin 2048), j = ix2 r n := ⟨j 0, j 1, eq_ix2 j⟩
  show accAt m c t.val t.isLt (ix2 r n)
    = Cert.Reference2Ideal.Read.val_main_v76 (F := Ideal) _ _ _ _ _ ((win0_8.rect t).emb (ix2 r n))
  refine (acc_last m c t ht r n).trans ?_
  refine Eq.trans (Cert.FfnRef.v76_apply (aH m c) (aW m c) (aK m c) (aB m c) (aD m c) (row (tile t) r) n).symm (congrArg _ (funext fun a => Fin.ext ?_))
  match a with
  | ⟨0, _⟩ =>
    show t.val / 12 * 1024 + r.val = win0_8.index t 0 * 1024 + 1 * r.val
    rw [(index8 t).1]; omega
  | ⟨1, _⟩ =>
    show n.val = win0_8.index t 1 * 2048 + 1 * n.val
    rw [(index8 t).2]; omega

/-- An element of the result array is in the block its row's tile writes back. -/
theorem cover (i : S8192x2048.Idx) :
    ∃ t : Fin cfg0.N, (cfg0.win 8).flush t = true ∧ i ∈ ((cfg0.win 8).blk t).view.set := by
  have h0 : (i 0 : Nat) < 8192 := (i 0).isLt
  have h1 : (i 1 : Nat) < 2048 := (i 1).isLt
  have hN : cfg0.N = 96 := N_0
  refine ⟨⟨12 * ((i 0 : Nat) / 1024) + 11, by omega⟩, (flush0_8 _).2 (by show (12 * ((i 0 : Nat) / 1024) + 11) % 12 = 11; omega), ?_⟩
  generalize ht : (⟨12 * ((i 0 : Nat) / 1024) + 11, _⟩ : Fin cfg0.N) = t
  have htv : t.val = 12 * ((i 0 : Nat) / 1024) + 11 := by rw [← ht]
  show i ∈ ((View.whole main_v1).slice (win0_8.rect t)).set
  rw [View.set_slice_whole, Rect.mem_set_unit]
  intro a
  match a with
  | ⟨0, _⟩ =>
    show win0_8.index t 0 * 1024 ≤ (i 0 : Nat) ∧ (i 0 : Nat) < win0_8.index t 0 * 1024 + 1024
    rw [(index8 t).1]; omega
  | ⟨1, _⟩ =>
    show win0_8.index t 1 * 2048 ≤ (i 1 : Nat) ∧ (i 1 : Nat) < win0_8.index t 1 * 2048 + 2048
    rw [(index8 t).2]; omega

/-- So the result array ends holding the whole result, -/
theorem final (c : Dev nD) : (dats m 0 c).arrAt 8 cfg0.N = whole m c :=
  (dats m 0 c).arrAt_eq_of_cover 8 (whole m c) (fun t hf => flushed_eq m c t ((flush0_8 t).1 hf)) cover

/-- and the run, read: the result array at the whole result, the arguments unchanged. -/
theorem run : θ_run defs (onTc (τ := τ) (main (F := Ideal))) ⟨m, fun _ => 0, ρ⟩ fun r => ∀ c : Dev nD,
      r.2.mem ((c : Thread nD τ).loc main_v1) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1.1 c).1 8).trans (final m c), h.2.1 c⟩)
    (θ_run_and (run_all m ρ) (frame_run m ρ))

end Cert.Kernel2Ideal.Layer

namespace Cert.Proof.FfnClaims

/-- The tiled layer and the whole one are the same function of arguments that agree. -/
theorem algebraic : Cert.algebraic_Kernel2Ideal_Reference2Ideal := by
  intro m ρ m' ρ' _ hag
  refine ⟨fun c => Cert.Kernel2Ideal.Layer.whole m c, Cert.Kernel2Ideal.Layer.run m ρ, ?_⟩
  refine (θ_run Cert.Reference2Ideal.defs _ _).mono (fun _ h c => ⟨(h c).1.trans ?_, (h c).2⟩)
    (Cert.Reference2Ideal.Value.run (F := Ideal) m' ρ')
  rw [Cert.Reference2Ideal.Read.val_main_v76_eq]
  show Cert.Reference2Ideal.Read.val_main_v76 (F := Ideal) _ _ _ _ _ = Cert.Reference2Ideal.Read.val_main_v76 (F := Ideal) _ _ _ _ _
  rw [(hag c).1, (hag c).2.1, (hag c).2.2.1, (hag c).2.2.2.1, (hag c).2.2.2.2]

end Cert.Proof.FfnClaims

end
-- ==== Proof.OutValue.lean ====
/-
  The value claim of `Kernel5`: the output projection, computed in blocks of 2048 rows by 512 columns, against the whole
  product.

  The contracted axis is never cut, so each side's element is the same sum of 2048 products.
-/
module

public import proofs.«01_k».proof.Defs
public import proofs.«01_k».proof.Proof.Gen.Kernel5Ideal.Value
public import proofs.«01_k».proof.Proof.Gen.Reference5Ideal.Read
public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel5Ideal.Product

open Cert.Kernel5Ideal Cert.Kernel5Ideal.Gen

variable (m : (ℓ : Loc nD τ sig) → Buf (Elt Ideal) ℓ) (ρ : Dev nD → PrngReg)

/-- The host program's result at device `c`'s arguments: what the kernel's result array is shown to hold. -/
abbrev whole (c : Dev nD) : Buf (Elt Ideal) ((c : Thread nD τ).loc main_v0) :=
  Cert.Reference5Ideal.Read.val_main_v4 (F := Ideal) (m ((c : Thread nD τ).loc main_arg0)) (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

/-- Where a point's blocks lie: `t / 4` numbers the block of rows, `t % 4` the block of columns. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 0 ∧ win0_1.index t 1 = 0 ∧ win0_1.index t 2 = t.val % 4 :=
  (by decide +kernel : ∀ t : Fin grid0.N, win0_1.index t 0 = 0 ∧ win0_1.index t 1 = 0 ∧ win0_1.index t 2 = t.val % 4)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem hdot : dot_S2048x2048_S2048x512_S2048x512_1_0_0_1_n_n = DotDims.plain 2048 2048 512 := rfl

/-- The body's result at an element: the sum over the contracted axis. -/
theorem pay_apply (x0 : Vec Ideal S2048x2048 .bf16) (x1 : Vec Ideal S1x2048x512 .f32) (r : Fin 2048) (q : Fin 512) :
    k0_pay1 x0 x1 (ix2 r q) = ∑ k : Fin 2048, x0 (ix2 r k) * x1 (ix3 0 k q) := by
  unfold k0_pay1
  rw [hdot, truncf_apply]
  refine (Ideal.matmul_plain_apply _ _ _ _ r q).trans ?_
  rw [constant_apply, Ideal.ofBits_zero_f32, zero_add]
  refine Finset.sum_congr rfl fun k _ => congrArg (x0 (ix2 r k) * ·) ?_
  rw [truncf_apply]
  refine shapeCast_apply x1 _ _ _ ?_
  rw [Shape.rowMajor_val_three, Shape.rowMajor_val_two]
  show (0 * 2048 + k.val) * 512 + q.val = k.val * 512 + q.val
  omega

/-- The host's result at an element is the product there. -/
theorem host_apply (x0 : (⟨S8192x2048, .bf16⟩ : BufTy).Contents (Elt Ideal)) (x1 : (⟨S2x2048x2048, .f32⟩ : BufTy).Contents (Elt Ideal))
    (i : S8192x2048.Idx) : Cert.Reference5Ideal.Read.val_main_v4 (F := Ideal) x0 x1 i
      = Cert.Reference5Ideal.Read.val_main_v3 (F := Ideal) x0 x1 i := rfl

/-- What point `t` writes back is its block of the whole result. -/
theorem flushed_eq (c : Dev nD) (t : Fin cfg0.N) :
    (dats m 0 c).flushed 2 t = ((cfg0.win 2).blk t).view.read (Elt Ideal) (whole m c) := by
  rw [Value.flushed2]
  unfold out0_2
  rw [View.canon_unit_zero hz2, View.ld_unit_zero hz2, View.ld_unit_zero hz3]
  refine funext fun (j : S2048x512.Idx) => ?_
  obtain ⟨r, q, rfl⟩ : ∃ (r : Fin 2048) (q : Fin 512), j = ix2 r q := ⟨j 0, j 1, eq_ix2 j⟩
  have hr : r.val < 2048 := r.isLt
  have hq : q.val < 512 := q.isLt
  have ht : t.val < 16 := lt_of_lt_of_eq t.isLt N_0
  show k0_pay1 (iblk m c 0 t) (iblk m c 1 t) (ix2 r q)
    = Cert.Reference5Ideal.Read.val_main_v4 (F := Ideal) _ _ ((win0_2.rect t).emb (ix2 r q))
  rw [host_apply, Cert.Reference5Ideal.Read.val_main_v3_apply, pay_apply]
  refine Finset.sum_congr rfl fun k _ => ?_
  have hk : k.val < 2048 := k.isLt
  rw [Cert.Reference5Ideal.Read.val_main_v0_apply, Cert.Reference5Ideal.Read.val_main_v2_apply, Cert.Reference5Ideal.Read.val_main_v1_apply]
  refine congrArg₂ (· * ·) ?_ ?_
  · show m ((c : Thread nD τ).loc main_arg0) ((win0_0.rect t).emb (ix2 r k)) = m ((c : Thread nD τ).loc main_arg0) _
    refine congrArg _ (funext fun a => Fin.ext ?_)
    match a with
    | ⟨0, _⟩ =>
      show win0_0.index t 0 * 2048 + 1 * r.val = win0_2.index t 0 * 2048 + 1 * r.val
      rw [(index0 t).1, (index2 t).1]
    | ⟨1, _⟩ =>
      show win0_0.index t 1 * 2048 + 1 * k.val = k.val
      rw [(index0 t).2]; omega
  · show m ((c : Thread nD τ).loc main_arg1) ((win0_1.rect t).emb (ix3 0 k q)) = m ((c : Thread nD τ).loc main_arg1) _
    refine congrArg _ (funext fun a => Fin.ext ?_)
    match a with
    | ⟨0, _⟩ =>
      show win0_1.index t 0 * 1 + 1 * 0 = 0
      rw [(index1 t).1]
    | ⟨1, _⟩ =>
      show win0_1.index t 1 * 2048 + 1 * k.val = (k.val * 2048 + (win0_2.index t 1 * 512 + 1 * q.val)) / 2048 % 2048
      rw [(index1 t).2.1, (index2 t).2]; omega
    | ⟨2, _⟩ =>
      show win0_1.index t 2 * 512 + 1 * q.val = (k.val * 2048 + (win0_2.index t 1 * 512 + 1 * q.val)) % 2048
      rw [(index1 t).2.2, (index2 t).2]; omega

/-- An element of the result array is in the block of the point its coordinates name. -/
theorem cover (i : S8192x2048.Idx) :
    ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 16 := N_0
  refine ⟨⟨(i 0 : Nat) / 2048 * 4 + (i 1 : Nat) / 512, by omega⟩, flush0_2 _, ?_⟩
  generalize ht : (⟨(i 0 : Nat) / 2048 * 4 + (i 1 : Nat) / 512, _⟩ : Fin cfg0.N) = t
  have htv : t.val = (i 0 : Nat) / 2048 * 4 + (i 1 : Nat) / 512 := by rw [← ht]
  show i ∈ ((View.whole main_v0).slice (win0_2.rect t)).set
  rw [View.set_slice_whole, Rect.mem_set_unit]
  intro a
  match a with
  | ⟨0, _⟩ =>
    show win0_2.index t 0 * 2048 ≤ (i 0 : Nat) ∧ (i 0 : Nat) < win0_2.index t 0 * 2048 + 2048
    rw [(index2 t).1]; omega
  | ⟨1, _⟩ =>
    show win0_2.index t 1 * 512 ≤ (i 1 : Nat) ∧ (i 1 : Nat) < win0_2.index t 1 * 512 + 512
    rw [(index2 t).2]; omega

/-- So the result array ends holding the whole result, -/
theorem final (c : Dev nD) : (dats m 0 c).arrAt 2 cfg0.N = whole m c :=
  (dats m 0 c).arrAt_eq_of_cover 2 (whole m c) (fun t _ => flushed_eq m c t) cover

/-- and the run, read: the result array at the whole result, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel5Ideal.Product

namespace Cert.Proof.OutClaims

/-- The blocked product and the whole one are the same function of arguments that agree. -/
theorem algebraic : Cert.algebraic_Kernel5Ideal_Reference5Ideal := by
  intro m ρ m' ρ' _ hag
  refine ⟨fun c => Cert.Kernel5Ideal.Product.whole m c, Cert.Kernel5Ideal.Product.run m ρ, ?_⟩
  refine (θ_run Cert.Reference5Ideal.defs _ _).mono (fun _ h c => ⟨(h c).1.trans ?_, (h c).2⟩)
    (Cert.Reference5Ideal.Value.run (F := Ideal) m' ρ')
  show Cert.Reference5Ideal.Read.val_main_v4 (F := Ideal) _ _ = Cert.Reference5Ideal.Read.val_main_v4 (F := Ideal) _ _
  rw [(hag c).1, (hag c).2]

end Cert.Proof.OutClaims

end
-- ==== Proof.MergeValue.lean ====
/-
  The value claim of `Kernel7`: the four branches' outputs, each projected and gated, summed in blocks of 1024 rows by
  512 columns, against the same sum over the whole arrays.

  No contracted axis is cut, so each side's element is the same four gates times the same four sums of products. The
  kernel keeps the context's and the latents' rows of two branches in separate arrays and picks the block by its number;
  the host lays them end to end.
-/
module

public import proofs.«01_k».proof.Defs
public import proofs.«01_k».proof.Proof.Gen.Kernel7Ideal.Value
public import proofs.«01_k».proof.Proof.Gen.Reference7Ideal.Read
public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Reference7Ideal.Read

open Cert.Reference7Ideal Cert.Reference7Ideal.Gen

variable (x0 : (⟨S8192x8192, .bf16⟩ : BufTy).Contents (Elt Ideal)) (x1 : (⟨S8192x512, .bf16⟩ : BufTy).Contents (Elt Ideal))
  (x2 x3 : (⟨S4096x512, .bf16⟩ : BufTy).Contents (Elt Ideal)) (x4 x5 : (⟨S4096x1024, .bf16⟩ : BufTy).Contents (Elt Ideal))
  (x6 : (⟨S8192x512, .bf16⟩ : BufTy).Contents (Elt Ideal)) (x7 x8 : (⟨S2x512x2048, .f32⟩ : BufTy).Contents (Elt Ideal))
  (x9 : (⟨S2x1024x2048, .f32⟩ : BufTy).Contents (Elt Ideal)) (x10 : (⟨S2x512x2048, .f32⟩ : BufTy).Contents (Elt Ideal))

/-- The recurrent branch's rows laid end to end: a context row, -/
theorem v1_context (R : Fin 8192) (k : Fin 512) (h : R.val < 4096) :
    val_main_v1 (F := Ideal) x2 x3 (ix2 R k) = x2 (ix2 (⟨R.val, h⟩ : Fin 4096) k) := by
  unfold val_main_v1
  refine concatenate_pair_apply_left (t := S8192x512) (s₁ := S4096x512) (s₂ := S4096x512) (0 : Fin 2) x2 x3 (by decide) (ix2 R k) rfl (ix2 (⟨R.val, h⟩ : Fin 4096) k) fun a => ?_
  match a with
  | ⟨0, _⟩ => rfl
  | ⟨1, _⟩ => rfl

/-- and a latent row. -/
theorem v1_latent (R : Fin 8192) (k : Fin 512) (n : Fin 4096) (h : n.val + 4096 = R.val) :
    val_main_v1 (F := Ideal) x2 x3 (ix2 R k) = x3 (ix2 n k) := by
  unfold val_main_v1
  have hi : ∀ b : Fin 2, b ≠ 0 → ((ix2 n k : S4096x512.Idx) b).val = ((ix2 R k : S8192x512.Idx) b).val := by
    clear h
    intro b hb
    match b, hb with
    | ⟨0, _⟩, hb => exact absurd (Fin.ext rfl) hb
    | ⟨1, _⟩, _ => rfl
  exact concatenate_pair_apply_right (t := S8192x512) (s₁ := S4096x512) (s₂ := S4096x512) (0 : Fin 2) x2 x3 (by decide) (ix2 R k) rfl rfl
    (ix2 n k) hi h

/-- The attention branch's rows laid end to end: a context row, -/
theorem v2_context (R : Fin 8192) (k : Fin 1024) (h : R.val < 4096) :
    val_main_v2 (F := Ideal) x4 x5 (ix2 R k) = x4 (ix2 (⟨R.val, h⟩ : Fin 4096) k) := by
  unfold val_main_v2
  refine concatenate_pair_apply_left (t := S8192x1024) (s₁ := S4096x1024) (s₂ := S4096x1024) (0 : Fin 2) x4 x5 (by decide) (ix2 R k) rfl (ix2 (⟨R.val, h⟩ : Fin 4096) k) fun a => ?_
  match a with
  | ⟨0, _⟩ => rfl
  | ⟨1, _⟩ => rfl

/-- and a latent row. -/
theorem v2_latent (R : Fin 8192) (k : Fin 1024) (n : Fin 4096) (h : n.val + 4096 = R.val) :
    val_main_v2 (F := Ideal) x4 x5 (ix2 R k) = x5 (ix2 n k) := by
  unfold val_main_v2
  have hi : ∀ b : Fin 2, b ≠ 0 → ((ix2 n k : S4096x1024.Idx) b).val = ((ix2 R k : S8192x1024.Idx) b).val := by
    clear h
    intro b hb
    match b, hb with
    | ⟨0, _⟩, hb => exact absurd (Fin.ext rfl) hb
    | ⟨1, _⟩, _ => rfl
  exact concatenate_pair_apply_right (t := S8192x1024) (s₁ := S4096x1024) (s₂ := S4096x1024) (0 : Fin 2) x4 x5 (by decide) (ix2 R k) rfl rfl
    (ix2 n k) hi h

/-- The pool branch's gated projection at an element. -/
theorem v8_at (R : Fin 8192) (C : Fin 2048) (hC : 0 + C.val < 8192) :
    val_main_v8 (F := Ideal) x0 x1 x7 (ix2 R C)
      = (x0 (ix2 R (⟨0 + C.val, hC⟩ : Fin 8192)) : EReal) * ∑ k : Fin 512, ((x1) (ix2 R k) : EReal) * x7 (ix3 0 k C) := by
  rw [val_main_v8_apply, val_main_v3_apply, val_main_v7_apply]
  refine congrArg₂ (fun a b : EReal => a * b) ?_ (Finset.sum_congr rfl fun k _ => ?_)
  · show x0 _ = x0 _
    refine congrArg _ (funext fun a => Fin.ext ?_)
    match a with
    | ⟨0, _⟩ => rfl
    | ⟨1, _⟩ =>
      show C.val = 0 + C.val
      omega
  · have hk : k.val < 512 := k.isLt
    have hc : C.val < 2048 := C.isLt
    rw [val_main_v4_apply, val_main_v6_apply, val_main_v5_apply]
    refine congrArg₂ (fun a b : EReal => a * b) ?_ ?_
    · show (x1) _ = (x1) _
      refine congrArg _ (funext fun a => Fin.ext ?_)
      match a with
      | ⟨0, _⟩ => rfl
      | ⟨1, _⟩ => rfl
    · refine congrArg x7 (funext fun a => Fin.ext ?_)
      match a with
      | ⟨0, _⟩ => rfl
      | ⟨1, _⟩ =>
        show (k.val * 2048 + C.val) / 2048 % 512 = k.val
        omega
      | ⟨2, _⟩ =>
        show (k.val * 2048 + C.val) % 2048 = C.val
        omega

/-- The recurrent branch's gated projection at an element. -/
theorem v14_at (R : Fin 8192) (C : Fin 2048) (hC : 2048 + C.val < 8192) :
    val_main_v14 (F := Ideal) x0 x2 x3 x8 (ix2 R C)
      = (x0 (ix2 R (⟨2048 + C.val, hC⟩ : Fin 8192)) : EReal) * ∑ k : Fin 512, ((val_main_v1 (F := Ideal) x2 x3) (ix2 R k) : EReal) * x8 (ix3 0 k C) := by
  rw [val_main_v14_apply, val_main_v9_apply, val_main_v13_apply]
  refine congrArg₂ (fun a b : EReal => a * b) ?_ (Finset.sum_congr rfl fun k _ => ?_)
  · show x0 _ = x0 _
    refine congrArg _ (funext fun a => Fin.ext ?_)
    match a with
    | ⟨0, _⟩ => rfl
    | ⟨1, _⟩ =>
      show 2048 + C.val = 2048 + C.val
      rfl
  · have hk : k.val < 512 := k.isLt
    have hc : C.val < 2048 := C.isLt
    rw [val_main_v10_apply, val_main_v12_apply, val_main_v11_apply]
    refine congrArg₂ (fun a b : EReal => a * b) ?_ ?_
    · show (val_main_v1 (F := Ideal) x2 x3) _ = (val_main_v1 (F := Ideal) x2 x3) _
      refine congrArg _ (funext fun a => Fin.ext ?_)
      match a with
      | ⟨0, _⟩ => rfl
      | ⟨1, _⟩ => rfl
    · refine congrArg x8 (funext fun a => Fin.ext ?_)
      match a with
      | ⟨0, _⟩ => rfl
      | ⟨1, _⟩ =>
        show (k.val * 2048 + C.val) / 2048 % 512 = k.val
        omega
      | ⟨2, _⟩ =>
        show (k.val * 2048 + C.val) % 2048 = C.val
        omega

/-- The attention branch's gated projection at an element. -/
theorem v21_at (R : Fin 8192) (C : Fin 2048) (hC : 4096 + C.val < 8192) :
    val_main_v21 (F := Ideal) x0 x4 x5 x9 (ix2 R C)
      = (x0 (ix2 R (⟨4096 + C.val, hC⟩ : Fin 8192)) : EReal) * ∑ k : Fin 1024, ((val_main_v2 (F := Ideal) x4 x5) (ix2 R k) : EReal) * x9 (ix3 0 k C) := by
  rw [val_main_v21_apply, val_main_v16_apply, val_main_v20_apply]
  refine congrArg₂ (fun a b : EReal => a * b) ?_ (Finset.sum_congr rfl fun k _ => ?_)
  · show x0 _ = x0 _
    refine congrArg _ (funext fun a => Fin.ext ?_)
    match a with
    | ⟨0, _⟩ => rfl
    | ⟨1, _⟩ =>
      show 4096 + C.val = 4096 + C.val
      rfl
  · have hk : k.val < 1024 := k.isLt
    have hc : C.val < 2048 := C.isLt
    rw [val_main_v17_apply, val_main_v19_apply, val_main_v18_apply]
    refine congrArg₂ (fun a b : EReal => a * b) ?_ ?_
    · show (val_main_v2 (F := Ideal) x4 x5) _ = (val_main_v2 (F := Ideal) x4 x5) _
      refine congrArg _ (funext fun a => Fin.ext ?_)
      match a with
      | ⟨0, _⟩ => rfl
      | ⟨1, _⟩ => rfl
    · refine congrArg x9 (funext fun a => Fin.ext ?_)
      match a with
      | ⟨0, _⟩ => rfl
      | ⟨1, _⟩ =>
        show (k.val * 2048 + C.val) / 2048 % 1024 = k.val
        omega
      | ⟨2, _⟩ =>
        show (k.val * 2048 + C.val) % 2048 = C.val
        omega

/-- The convolution branch's gated projection at an element. -/
theorem v28_at (R : Fin 8192) (C : Fin 2048) (hC : 6144 + C.val < 8192) :
    val_main_v28 (F := Ideal) x0 x6 x10 (ix2 R C)
      = (x0 (ix2 R (⟨6144 + C.val, hC⟩ : Fin 8192)) : EReal) * ∑ k : Fin 512, ((x6) (ix2 R k) : EReal) * x10 (ix3 0 k C) := by
  rw [val_main_v28_apply, val_main_v23_apply, val_main_v27_apply]
  refine congrArg₂ (fun a b : EReal => a * b) ?_ (Finset.sum_congr rfl fun k _ => ?_)
  · show x0 _ = x0 _
    refine congrArg _ (funext fun a => Fin.ext ?_)
    match a with
    | ⟨0, _⟩ => rfl
    | ⟨1, _⟩ =>
      show 6144 + C.val = 6144 + C.val
      rfl
  · have hk : k.val < 512 := k.isLt
    have hc : C.val < 2048 := C.isLt
    rw [val_main_v24_apply, val_main_v26_apply, val_main_v25_apply]
    refine congrArg₂ (fun a b : EReal => a * b) ?_ ?_
    · show (x6) _ = (x6) _
      refine congrArg _ (funext fun a => Fin.ext ?_)
      match a with
      | ⟨0, _⟩ => rfl
      | ⟨1, _⟩ => rfl
    · refine congrArg x10 (funext fun a => Fin.ext ?_)
      match a with
      | ⟨0, _⟩ => rfl
      | ⟨1, _⟩ =>
        show (k.val * 2048 + C.val) / 2048 % 512 = k.val
        omega
      | ⟨2, _⟩ =>
        show (k.val * 2048 + C.val) % 2048 = C.val
        omega

/-- The host's result at an element: the four gated projections, summed from the left. -/
theorem v30_at (R : Fin 8192) (C : Fin 2048) (h0 : 0 + C.val < 8192) (h1 : 2048 + C.val < 8192) (h2 : 4096 + C.val < 8192)
    (h3 : 6144 + C.val < 8192) :
    val_main_v30 (F := Ideal) x0 x1 x2 x3 x4 x5 x6 x7 x8 x9 x10 (ix2 R C)
      = (x0 (ix2 R (⟨0 + C.val, h0⟩ : Fin 8192)) : EReal) * ∑ k : Fin 512, ((x1) (ix2 R k) : EReal) * x7 (ix3 0 k C)
        + (x0 (ix2 R (⟨2048 + C.val, h1⟩ : Fin 8192)) : EReal) * ∑ k : Fin 512, ((val_main_v1 (F := Ideal) x2 x3) (ix2 R k) : EReal) * x8 (ix3 0 k C)
        + (x0 (ix2 R (⟨4096 + C.val, h2⟩ : Fin 8192)) : EReal) * ∑ k : Fin 1024, ((val_main_v2 (F := Ideal) x4 x5) (ix2 R k) : EReal) * x9 (ix3 0 k C)
        + (x0 (ix2 R (⟨6144 + C.val, h3⟩ : Fin 8192)) : EReal) * ∑ k : Fin 512, ((x6) (ix2 R k) : EReal) * x10 (ix3 0 k C) := by
  rw [← v8_at x0 x1 x7 R C h0, ← v14_at x0 x2 x3 x8 R C h1, ← v21_at x0 x4 x5 x9 R C h2, ← v28_at x0 x6 x10 R C h3]
  rfl

end Cert.Reference7Ideal.Read

namespace Cert.Kernel7Ideal.Product

open Cert.Kernel7Ideal Cert.Kernel7Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

theorem hdot512 : dot_S1024x512_S512x512_S1024x512_1_0_0_1_n_n = DotDims.plain 1024 512 512 := rfl
theorem hdot1024 : dot_S1024x1024_S1024x512_S1024x512_1_0_0_1_n_n = DotDims.plain 1024 1024 512 := rfl

/-- A block's product of 512 terms at an element. -/
theorem mm512_apply (x : Vec Ideal S1024x512 .bf16) (w : Vec Ideal S1x512x512 .f32) (r : Fin 1024) (q : Fin 512) :
    (matmul (φ₁ := .bf16) (φ₂ := .bf16) dot_S1024x512_S512x512_S1024x512_1_0_0_1_n_n none x
        (truncf .bf16 (shapeCast S512x512 w shapeCasts_S1x512x512_S512x512 : FVec Ideal S512x512 .f32) bitsLt_bf16_f32)
        (constant S1024x512 .f32 0x00000000#32) : FVec Ideal S1024x512 .f32) (ix2 r q)
      = ∑ k : Fin 512, (x (ix2 r k) : EReal) * w (ix3 0 k q) := by
  rw [hdot512]
  refine (Ideal.matmul_plain_apply _ _ _ _ r q).trans ?_
  rw [constant_apply, Ideal.ofBits_zero_f32, zero_add]
  refine Finset.sum_congr rfl fun k _ => congrArg (x (ix2 r k) * ·) ?_
  rw [truncf_apply]
  refine shapeCast_apply w _ _ _ ?_
  rw [Shape.rowMajor_val_three, Shape.rowMajor_val_two]
  show (0 * 512 + k.val) * 512 + q.val = k.val * 512 + q.val
  omega

/-- A block's product of 1024 terms at an element. -/
theorem mm1024_apply (x : Vec Ideal S1024x1024 .bf16) (w : Vec Ideal S1x1024x512 .f32) (r : Fin 1024) (q : Fin 512) :
    (matmul (φ₁ := .bf16) (φ₂ := .bf16) dot_S1024x1024_S1024x512_S1024x512_1_0_0_1_n_n none x
        (truncf .bf16 (shapeCast S1024x512 w shapeCasts_S1x1024x512_S1024x512 : FVec Ideal S1024x512 .f32) bitsLt_bf16_f32)
        (constant S1024x512 .f32 0x00000000#32) : FVec Ideal S1024x512 .f32) (ix2 r q)
      = ∑ k : Fin 1024, (x (ix2 r k) : EReal) * w (ix3 0 k q) := by
  rw [hdot1024]
  refine (Ideal.matmul_plain_apply _ _ _ _ r q).trans ?_
  rw [constant_apply, Ideal.ofBits_zero_f32, zero_add]
  refine Finset.sum_congr rfl fun k _ => congrArg (x (ix2 r k) * ·) ?_
  rw [truncf_apply]
  refine shapeCast_apply w _ _ _ ?_
  rw [Shape.rowMajor_val_three, Shape.rowMajor_val_two]
  show (0 * 1024 + k.val) * 512 + q.val = k.val * 512 + q.val
  omega

/-- The choice between the context's block and the latents' is by the block's number. -/
theorem pick {α : Type} (n : Fin 8) (a b : α) :
    Scalar.select (Scalar.cmpi .slt (BitVec.ofNat 32 n.val) 4#32) a b = if n.val < 4 then a else b := by
  by_cases h : n.val < 4
  · rw [if_pos h, (by decide : ∀ n : Fin 8, n.val < 4 → Scalar.cmpi .slt (BitVec.ofNat 32 n.val) 4#32 = 1#1) n h]; rfl
  · rw [if_neg h, (by decide : ∀ n : Fin 8, ¬ n.val < 4 → Scalar.cmpi .slt (BitVec.ofNat 32 n.val) 4#32 = 0#1) n h]; rfl

/-- The body's result at an element, from the blocks it reads. -/
theorem out_apply (i : grid0.Coords) (x0 : Vec Ideal S1024x512 .bf16) (x1 : Vec Ideal S1024x512 .bf16) (x2 : Vec Ideal S1024x512 .bf16) (x3 : Vec Ideal S1024x1024 .bf16) (x4 : Vec Ideal S1024x1024 .bf16) (x5 : Vec Ideal S1024x512 .bf16) (x6 : Vec Ideal S1024x512 .bf16) (x7 : Vec Ideal S1024x512 .bf16) (x8 : Vec Ideal S1024x512 .bf16) (x9 : Vec Ideal S1024x512 .bf16) (x10 : Vec Ideal S1x512x512 .f32) (x11 : Vec Ideal S1x512x512 .f32) (x12 : Vec Ideal S1x1024x512 .f32) (x13 : Vec Ideal S1x512x512 .f32)
    (r : Fin 1024) (q : Fin 512) :
    out0_14 (F := Ideal) i x0 x1 x2 x3 x4 x5 x6 x7 x8 x9 x10 x11 x12 x13 (ix2 r q)
      = (x6 (ix2 r q) : EReal) * ∑ k : Fin 512, (x0 (ix2 r k) : EReal) * x10 (ix3 0 k q)
        + (x7 (ix2 r q) : EReal) * ∑ k : Fin 512, ((if (i 1).val < 4 then x1 else x2) (ix2 r k) : EReal) * x11 (ix3 0 k q)
        + (x8 (ix2 r q) : EReal) * ∑ k : Fin 1024, ((if (i 1).val < 4 then x3 else x4) (ix2 r k) : EReal) * x12 (ix3 0 k q)
        + (x9 (ix2 r q) : EReal) * ∑ k : Fin 512, (x5 (ix2 r k) : EReal) * x13 (ix3 0 k q) := by
  unfold out0_14
  rw [View.canon_unit_zero hz2]
  rw [View.ld_unit_zero (S := S1024x512) hz2 _ x0, View.ld_unit_zero (S := S1024x512) hz2 _ x1, View.ld_unit_zero (S := S1024x512) hz2 _ x2, View.ld_unit_zero (S := S1024x1024) hz2 _ x3, View.ld_unit_zero (S := S1024x1024) hz2 _ x4, View.ld_unit_zero (S := S1024x512) hz2 _ x5, View.ld_unit_zero (S := S1024x512) hz2 _ x6, View.ld_unit_zero (S := S1024x512) hz2 _ x7, View.ld_unit_zero (S := S1024x512) hz2 _ x8, View.ld_unit_zero (S := S1024x512) hz2 _ x9, View.ld_unit_zero (S := S1x512x512) hz3 _ x10, View.ld_unit_zero (S := S1x512x512) hz3 _ x11, View.ld_unit_zero (S := S1x1024x512) hz3 _ x12, View.ld_unit_zero (S := S1x512x512) hz3 _ x13]
  rw [← pick (i 1) x1 x2, ← pick (i 1) x3 x4]
  exact congrArg₂ (fun a b : EReal => a + b) (congrArg₂ (fun a b : EReal => a + b) (congrArg₂ (fun a b : EReal => a + b)
    (congrArg (fun b : EReal => (x6 (ix2 r q) : EReal) * b) (mm512_apply x0 x10 r q))
    (congrArg (fun b : EReal => (x7 (ix2 r q) : EReal) * b) (mm512_apply _ x11 r q)))
    (congrArg (fun b : EReal => (x8 (ix2 r q) : EReal) * b) (mm1024_apply _ x12 r q)))
    (congrArg (fun b : EReal => (x9 (ix2 r q) : EReal) * b) (mm512_apply x5 x13 r q))

variable (m : (ℓ : Loc nD τ sig) → Buf (Elt Ideal) ℓ) (ρ : Dev nD → PrngReg)

/-- The host program's result at device `c`'s arguments: what the kernel's result array is shown to hold. -/
abbrev whole (c : Dev nD) : Buf (Elt Ideal) ((c : Thread nD τ).loc main_v0) :=
  Cert.Reference7Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Where a point's blocks lie: `t / 8` numbers the block of columns, `t % 8` the block of rows. -/
theorem coord : ∀ t : Fin cfg0.N, (grid0.coords t 1).val = t.val % 8 :=
  (by decide +kernel : ∀ t : Fin grid0.N, (grid0.coords t 1).val = t.val % 8)
theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = min (t.val % 8) 3 ∧ win0_1.index t 1 = 0 :=
  (by decide +kernel : ∀ t : Fin grid0.N, win0_1.index t 0 = min (t.val % 8) 3 ∧ win0_1.index t 1 = 0)
theorem index2 : ∀ t : Fin cfg0.N, win0_2.index t 0 = t.val % 8 - 4 ∧ win0_2.index t 1 = 0 :=
  (by decide +kernel : ∀ t : Fin grid0.N, win0_2.index t 0 = t.val % 8 - 4 ∧ win0_2.index t 1 = 0)
theorem index3 : ∀ t : Fin cfg0.N, win0_3.index t 0 = min (t.val % 8) 3 ∧ win0_3.index t 1 = 0 :=
  (by decide +kernel : ∀ t : Fin grid0.N, win0_3.index t 0 = min (t.val % 8) 3 ∧ win0_3.index t 1 = 0)
theorem index4 : ∀ t : Fin cfg0.N, win0_4.index t 0 = t.val % 8 - 4 ∧ win0_4.index t 1 = 0 :=
  (by decide +kernel : ∀ t : Fin grid0.N, win0_4.index t 0 = t.val % 8 - 4 ∧ win0_4.index t 1 = 0)
theorem index5 : ∀ t : Fin cfg0.N, win0_5.index t 0 = t.val % 8 ∧ win0_5.index t 1 = 0 :=
  (by decide +kernel : ∀ t : Fin grid0.N, win0_5.index t 0 = t.val % 8 ∧ win0_5.index t 1 = 0)
theorem index6 : ∀ t : Fin cfg0.N, win0_6.index t 0 = t.val % 8 ∧ win0_6.index t 1 = 0 + t.val / 8 :=
  (by decide +kernel : ∀ t : Fin grid0.N, win0_6.index t 0 = t.val % 8 ∧ win0_6.index t 1 = 0 + t.val / 8)
theorem index7 : ∀ t : Fin cfg0.N, win0_7.index t 0 = t.val % 8 ∧ win0_7.index t 1 = 4 + t.val / 8 :=
  (by decide +kernel : ∀ t : Fin grid0.N, win0_7.index t 0 = t.val % 8 ∧ win0_7.index t 1 = 4 + t.val / 8)
theorem index8 : ∀ t : Fin cfg0.N, win0_8.index t 0 = t.val % 8 ∧ win0_8.index t 1 = 8 + t.val / 8 :=
  (by decide +kernel : ∀ t : Fin grid0.N, win0_8.index t 0 = t.val % 8 ∧ win0_8.index t 1 = 8 + t.val / 8)
theorem index9 : ∀ t : Fin cfg0.N, win0_9.index t 0 = t.val % 8 ∧ win0_9.index t 1 = 12 + t.val / 8 :=
  (by decide +kernel : ∀ t : Fin grid0.N, win0_9.index t 0 = t.val % 8 ∧ win0_9.index t 1 = 12 + t.val / 8)
theorem index10 : ∀ t : Fin cfg0.N, win0_10.index t 0 = 0 ∧ win0_10.index t 1 = 0 ∧ win0_10.index t 2 = t.val / 8 :=
  (by decide +kernel : ∀ t : Fin grid0.N, win0_10.index t 0 = 0 ∧ win0_10.index t 1 = 0 ∧ win0_10.index t 2 = t.val / 8)
theorem index11 : ∀ t : Fin cfg0.N, win0_11.index t 0 = 0 ∧ win0_11.index t 1 = 0 ∧ win0_11.index t 2 = t.val / 8 :=
  (by decide +kernel : ∀ t : Fin grid0.N, win0_11.index t 0 = 0 ∧ win0_11.index t 1 = 0 ∧ win0_11.index t 2 = t.val / 8)
theorem index12 : ∀ t : Fin cfg0.N, win0_12.index t 0 = 0 ∧ win0_12.index t 1 = 0 ∧ win0_12.index t 2 = t.val / 8 :=
  (by decide +kernel : ∀ t : Fin grid0.N, win0_12.index t 0 = 0 ∧ win0_12.index t 1 = 0 ∧ win0_12.index t 2 = t.val / 8)
theorem index13 : ∀ t : Fin cfg0.N, win0_13.index t 0 = 0 ∧ win0_13.index t 1 = 0 ∧ win0_13.index t 2 = t.val / 8 :=
  (by decide +kernel : ∀ t : Fin grid0.N, win0_13.index t 0 = 0 ∧ win0_13.index t 1 = 0 ∧ win0_13.index t 2 = t.val / 8)
theorem index14 : ∀ t : Fin cfg0.N, win0_14.index t 0 = t.val % 8 ∧ win0_14.index t 1 = t.val / 8 :=
  (by decide +kernel : ∀ t : Fin grid0.N, win0_14.index t 0 = t.val % 8 ∧ win0_14.index t 1 = t.val / 8)

theorem row_lt (t : Fin cfg0.N) (r : Fin 1024) : t.val % 8 * 1024 + r.val < 8192 := by omega
theorem col_lt (t : Fin cfg0.N) (q : Fin 512) (o : Nat) (ho : o ≤ 6144) : o + (t.val / 8 * 512 + q.val) < 8192 := by
  have ht : t.val < 32 := lt_of_lt_of_eq t.isLt N_0
  omega

/-- The row and the column of the whole arrays that an element of a point's block is. -/
abbrev row (t : Fin cfg0.N) (r : Fin 1024) : Fin 8192 := ⟨t.val % 8 * 1024 + r.val, row_lt t r⟩
abbrev col (t : Fin cfg0.N) (q : Fin 512) : Fin 2048 :=
  ⟨t.val / 8 * 512 + q.val, by have ht : t.val < 32 := lt_of_lt_of_eq t.isLt N_0; omega⟩

theorem block0 (c : Dev nD) (t : Fin cfg0.N) (r : Fin 1024) (k : Fin 512) :
    iblk m c 0 t (ix2 r k) = m ((c : Thread nD τ).loc main_arg1) (ix2 (row t r) k) := by
  show m ((c : Thread nD τ).loc main_arg1) ((win0_0.rect t).emb (ix2 r k)) = m ((c : Thread nD τ).loc main_arg1) _
  refine congrArg _ (funext fun a => Fin.ext ?_)
  match a with
  | ⟨0, _⟩ =>
    show win0_0.index t 0 * 1024 + 1 * r.val = t.val % 8 * 1024 + r.val
    rw [(index0 t).1]; omega
  | ⟨1, _⟩ =>
    show win0_0.index t 1 * 512 + 1 * k.val = k.val
    rw [(index0 t).2]; omega

theorem block5 (c : Dev nD) (t : Fin cfg0.N) (r : Fin 1024) (k : Fin 512) :
    iblk m c 5 t (ix2 r k) = m ((c : Thread nD τ).loc main_arg6) (ix2 (row t r) k) := by
  show m ((c : Thread nD τ).loc main_arg6) ((win0_5.rect t).emb (ix2 r k)) = m ((c : Thread nD τ).loc main_arg6) _
  refine congrArg _ (funext fun a => Fin.ext ?_)
  match a with
  | ⟨0, _⟩ =>
    show win0_5.index t 0 * 1024 + 1 * r.val = t.val % 8 * 1024 + r.val
    rw [(index5 t).1]; omega
  | ⟨1, _⟩ =>
    show win0_5.index t 1 * 512 + 1 * k.val = k.val
    rw [(index5 t).2]; omega

theorem block1 (c : Dev nD) (t : Fin cfg0.N) (h : t.val % 8 < 4) (r : Fin 1024) (k : Fin 512) :
    iblk m c 1 t (ix2 r k) = m ((c : Thread nD τ).loc main_arg2) (ix2 (⟨t.val % 8 * 1024 + r.val, by omega⟩ : Fin 4096) k) := by
  show m ((c : Thread nD τ).loc main_arg2) ((win0_1.rect t).emb (ix2 r k)) = m ((c : Thread nD τ).loc main_arg2) _
  refine congrArg _ (funext fun a => Fin.ext ?_)
  match a with
  | ⟨0, _⟩ =>
    show win0_1.index t 0 * 1024 + 1 * r.val = t.val % 8 * 1024 + r.val
    rw [(index1 t).1]; omega
  | ⟨1, _⟩ =>
    show win0_1.index t 1 * 512 + 1 * k.val = k.val
    rw [(index1 t).2]; omega

theorem block3 (c : Dev nD) (t : Fin cfg0.N) (h : t.val % 8 < 4) (r : Fin 1024) (k : Fin 1024) :
    iblk m c 3 t (ix2 r k) = m ((c : Thread nD τ).loc main_arg4) (ix2 (⟨t.val % 8 * 1024 + r.val, by omega⟩ : Fin 4096) k) := by
  show m ((c : Thread nD τ).loc main_arg4) ((win0_3.rect t).emb (ix2 r k)) = m ((c : Thread nD τ).loc main_arg4) _
  refine congrArg _ (funext fun a => Fin.ext ?_)
  match a with
  | ⟨0, _⟩ =>
    show win0_3.index t 0 * 1024 + 1 * r.val = t.val % 8 * 1024 + r.val
    rw [(index3 t).1]; omega
  | ⟨1, _⟩ =>
    show win0_3.index t 1 * 1024 + 1 * k.val = k.val
    rw [(index3 t).2]; omega

theorem block2 (c : Dev nD) (t : Fin cfg0.N) (h : ¬ t.val % 8 < 4) (r : Fin 1024) (k : Fin 512) :
    iblk m c 2 t (ix2 r k) = m ((c : Thread nD τ).loc main_arg3) (ix2 (⟨t.val % 8 * 1024 + r.val - 4096, by omega⟩ : Fin 4096) k) := by
  show m ((c : Thread nD τ).loc main_arg3) ((win0_2.rect t).emb (ix2 r k)) = m ((c : Thread nD τ).loc main_arg3) _
  refine congrArg _ (funext fun a => Fin.ext ?_)
  match a with
  | ⟨0, _⟩ =>
    show win0_2.index t 0 * 1024 + 1 * r.val = t.val % 8 * 1024 + r.val - 4096
    rw [(index2 t).1]; omega
  | ⟨1, _⟩ =>
    show win0_2.index t 1 * 512 + 1 * k.val = k.val
    rw [(index2 t).2]; omega

theorem block4 (c : Dev nD) (t : Fin cfg0.N) (h : ¬ t.val % 8 < 4) (r : Fin 1024) (k : Fin 1024) :
    iblk m c 4 t (ix2 r k) = m ((c : Thread nD τ).loc main_arg5) (ix2 (⟨t.val % 8 * 1024 + r.val - 4096, by omega⟩ : Fin 4096) k) := by
  show m ((c : Thread nD τ).loc main_arg5) ((win0_4.rect t).emb (ix2 r k)) = m ((c : Thread nD τ).loc main_arg5) _
  refine congrArg _ (funext fun a => Fin.ext ?_)
  match a with
  | ⟨0, _⟩ =>
    show win0_4.index t 0 * 1024 + 1 * r.val = t.val % 8 * 1024 + r.val - 4096
    rw [(index4 t).1]; omega
  | ⟨1, _⟩ =>
    show win0_4.index t 1 * 1024 + 1 * k.val = k.val
    rw [(index4 t).2]; omega

theorem block6 (c : Dev nD) (t : Fin cfg0.N) (r : Fin 1024) (q : Fin 512) :
    iblk m c 6 t (ix2 r q) = m ((c : Thread nD τ).loc main_arg0) (ix2 (row t r) (⟨0 + (col t q).val, col_lt t q 0 (by omega)⟩ : Fin 8192)) := by
  show m ((c : Thread nD τ).loc main_arg0) ((win0_6.rect t).emb (ix2 r q)) = m ((c : Thread nD τ).loc main_arg0) _
  refine congrArg _ (funext fun a => Fin.ext ?_)
  match a with
  | ⟨0, _⟩ =>
    show win0_6.index t 0 * 1024 + 1 * r.val = t.val % 8 * 1024 + r.val
    rw [(index6 t).1]; omega
  | ⟨1, _⟩ =>
    show win0_6.index t 1 * 512 + 1 * q.val = 0 + (t.val / 8 * 512 + q.val)
    rw [(index6 t).2]; omega

theorem block7 (c : Dev nD) (t : Fin cfg0.N) (r : Fin 1024) (q : Fin 512) :
    iblk m c 7 t (ix2 r q) = m ((c : Thread nD τ).loc main_arg0) (ix2 (row t r) (⟨2048 + (col t q).val, col_lt t q 2048 (by omega)⟩ : Fin 8192)) := by
  show m ((c : Thread nD τ).loc main_arg0) ((win0_7.rect t).emb (ix2 r q)) = m ((c : Thread nD τ).loc main_arg0) _
  refine congrArg _ (funext fun a => Fin.ext ?_)
  match a with
  | ⟨0, _⟩ =>
    show win0_7.index t 0 * 1024 + 1 * r.val = t.val % 8 * 1024 + r.val
    rw [(index7 t).1]; omega
  | ⟨1, _⟩ =>
    show win0_7.index t 1 * 512 + 1 * q.val = 2048 + (t.val / 8 * 512 + q.val)
    rw [(index7 t).2]; omega

theorem block8 (c : Dev nD) (t : Fin cfg0.N) (r : Fin 1024) (q : Fin 512) :
    iblk m c 8 t (ix2 r q) = m ((c : Thread nD τ).loc main_arg0) (ix2 (row t r) (⟨4096 + (col t q).val, col_lt t q 4096 (by omega)⟩ : Fin 8192)) := by
  show m ((c : Thread nD τ).loc main_arg0) ((win0_8.rect t).emb (ix2 r q)) = m ((c : Thread nD τ).loc main_arg0) _
  refine congrArg _ (funext fun a => Fin.ext ?_)
  match a with
  | ⟨0, _⟩ =>
    show win0_8.index t 0 * 1024 + 1 * r.val = t.val % 8 * 1024 + r.val
    rw [(index8 t).1]; omega
  | ⟨1, _⟩ =>
    show win0_8.index t 1 * 512 + 1 * q.val = 4096 + (t.val / 8 * 512 + q.val)
    rw [(index8 t).2]; omega

theorem block9 (c : Dev nD) (t : Fin cfg0.N) (r : Fin 1024) (q : Fin 512) :
    iblk m c 9 t (ix2 r q) = m ((c : Thread nD τ).loc main_arg0) (ix2 (row t r) (⟨6144 + (col t q).val, col_lt t q 6144 (by omega)⟩ : Fin 8192)) := by
  show m ((c : Thread nD τ).loc main_arg0) ((win0_9.rect t).emb (ix2 r q)) = m ((c : Thread nD τ).loc main_arg0) _
  refine congrArg _ (funext fun a => Fin.ext ?_)
  match a with
  | ⟨0, _⟩ =>
    show win0_9.index t 0 * 1024 + 1 * r.val = t.val % 8 * 1024 + r.val
    rw [(index9 t).1]; omega
  | ⟨1, _⟩ =>
    show win0_9.index t 1 * 512 + 1 * q.val = 6144 + (t.val / 8 * 512 + q.val)
    rw [(index9 t).2]; omega

theorem block10 (c : Dev nD) (t : Fin cfg0.N) (k : Fin 512) (q : Fin 512) :
    iblk m c 10 t (ix3 0 k q) = m ((c : Thread nD τ).loc main_arg7) (ix3 0 k (col t q)) := by
  show m ((c : Thread nD τ).loc main_arg7) ((win0_10.rect t).emb (ix3 0 k q)) = m ((c : Thread nD τ).loc main_arg7) _
  refine congrArg _ (funext fun a => Fin.ext ?_)
  match a with
  | ⟨0, _⟩ =>
    show win0_10.index t 0 * 1 + 1 * 0 = 0
    rw [(index10 t).1]
  | ⟨1, _⟩ =>
    show win0_10.index t 1 * 512 + 1 * k.val = k.val
    rw [(index10 t).2.1]; omega
  | ⟨2, _⟩ =>
    show win0_10.index t 2 * 512 + 1 * q.val = t.val / 8 * 512 + q.val
    rw [(index10 t).2.2]; omega

theorem block11 (c : Dev nD) (t : Fin cfg0.N) (k : Fin 512) (q : Fin 512) :
    iblk m c 11 t (ix3 0 k q) = m ((c : Thread nD τ).loc main_arg8) (ix3 0 k (col t q)) := by
  show m ((c : Thread nD τ).loc main_arg8) ((win0_11.rect t).emb (ix3 0 k q)) = m ((c : Thread nD τ).loc main_arg8) _
  refine congrArg _ (funext fun a => Fin.ext ?_)
  match a with
  | ⟨0, _⟩ =>
    show win0_11.index t 0 * 1 + 1 * 0 = 0
    rw [(index11 t).1]
  | ⟨1, _⟩ =>
    show win0_11.index t 1 * 512 + 1 * k.val = k.val
    rw [(index11 t).2.1]; omega
  | ⟨2, _⟩ =>
    show win0_11.index t 2 * 512 + 1 * q.val = t.val / 8 * 512 + q.val
    rw [(index11 t).2.2]; omega

theorem block12 (c : Dev nD) (t : Fin cfg0.N) (k : Fin 1024) (q : Fin 512) :
    iblk m c 12 t (ix3 0 k q) = m ((c : Thread nD τ).loc main_arg9) (ix3 0 k (col t q)) := by
  show m ((c : Thread nD τ).loc main_arg9) ((win0_12.rect t).emb (ix3 0 k q)) = m ((c : Thread nD τ).loc main_arg9) _
  refine congrArg _ (funext fun a => Fin.ext ?_)
  match a with
  | ⟨0, _⟩ =>
    show win0_12.index t 0 * 1 + 1 * 0 = 0
    rw [(index12 t).1]
  | ⟨1, _⟩ =>
    show win0_12.index t 1 * 1024 + 1 * k.val = k.val
    rw [(index12 t).2.1]; omega
  | ⟨2, _⟩ =>
    show win0_12.index t 2 * 512 + 1 * q.val = t.val / 8 * 512 + q.val
    rw [(index12 t).2.2]; omega

theorem block13 (c : Dev nD) (t : Fin cfg0.N) (k : Fin 512) (q : Fin 512) :
    iblk m c 13 t (ix3 0 k q) = m ((c : Thread nD τ).loc main_arg10) (ix3 0 k (col t q)) := by
  show m ((c : Thread nD τ).loc main_arg10) ((win0_13.rect t).emb (ix3 0 k q)) = m ((c : Thread nD τ).loc main_arg10) _
  refine congrArg _ (funext fun a => Fin.ext ?_)
  match a with
  | ⟨0, _⟩ =>
    show win0_13.index t 0 * 1 + 1 * 0 = 0
    rw [(index13 t).1]
  | ⟨1, _⟩ =>
    show win0_13.index t 1 * 512 + 1 * k.val = k.val
    rw [(index13 t).2.1]; omega
  | ⟨2, _⟩ =>
    show win0_13.index t 2 * 512 + 1 * q.val = t.val / 8 * 512 + q.val
    rw [(index13 t).2.2]; omega

/-- The block of the recurrent branch a point picks holds the rows of the two arrays laid end to end. -/
theorem picked1 (c : Dev nD) (t : Fin cfg0.N) (r : Fin 1024) (k : Fin 512) :
    (if (grid0.coords t 1).val < 4 then iblk m c 1 t else iblk m c 2 t) (ix2 r k)
      = Cert.Reference7Ideal.Read.val_main_v1 (F := Ideal) (m ((c : Thread nD τ).loc main_arg2)) (m ((c : Thread nD τ).loc main_arg3)) (ix2 (row t r) k) := by
  rw [coord t]
  have hr := r.isLt
  by_cases h : t.val % 8 < 4
  · rw [if_pos h, Cert.Reference7Ideal.Read.v1_context _ _ (row t r) k (by show t.val % 8 * 1024 + r.val < 4096; omega)]
    exact block1 m c t h r k
  · rw [if_neg h, Cert.Reference7Ideal.Read.v1_latent _ _ (row t r) k ⟨t.val % 8 * 1024 + r.val - 4096, by omega⟩
      (by show t.val % 8 * 1024 + r.val - 4096 + 4096 = t.val % 8 * 1024 + r.val; omega)]
    exact block2 m c t h r k

/-- The block of the attention branch a point picks holds the rows of the two arrays laid end to end. -/
theorem picked3 (c : Dev nD) (t : Fin cfg0.N) (r : Fin 1024) (k : Fin 1024) :
    (if (grid0.coords t 1).val < 4 then iblk m c 3 t else iblk m c 4 t) (ix2 r k)
      = Cert.Reference7Ideal.Read.val_main_v2 (F := Ideal) (m ((c : Thread nD τ).loc main_arg4)) (m ((c : Thread nD τ).loc main_arg5)) (ix2 (row t r) k) := by
  rw [coord t]
  have hr := r.isLt
  by_cases h : t.val % 8 < 4
  · rw [if_pos h, Cert.Reference7Ideal.Read.v2_context _ _ (row t r) k (by show t.val % 8 * 1024 + r.val < 4096; omega)]
    exact block3 m c t h r k
  · rw [if_neg h, Cert.Reference7Ideal.Read.v2_latent _ _ (row t r) k ⟨t.val % 8 * 1024 + r.val - 4096, by omega⟩
      (by show t.val % 8 * 1024 + r.val - 4096 + 4096 = t.val % 8 * 1024 + r.val; omega)]
    exact block4 m c t h r k

/-- What point `t` writes back is its block of the whole result. -/
theorem flushed_eq (c : Dev nD) (t : Fin cfg0.N) :
    (dats m 0 c).flushed 14 t = ((cfg0.win 14).blk t).view.read (Elt Ideal) (whole m c) := by
  rw [Value.flushed14]
  refine funext fun (j : S1024x512.Idx) => ?_
  obtain ⟨r, q, rfl⟩ : ∃ (r : Fin 1024) (q : Fin 512), j = ix2 r q := ⟨j 0, j 1, eq_ix2 j⟩
  have hemb : (win0_14.rect t).emb (ix2 r q) = (ix2 (row t r) (col t q) : S8192x2048.Idx) := by
    refine funext fun a => Fin.ext ?_
    match a with
    | ⟨0, _⟩ =>
      show win0_14.index t 0 * 1024 + 1 * r.val = t.val % 8 * 1024 + r.val
      rw [(index14 t).1]; omega
    | ⟨1, _⟩ =>
      show win0_14.index t 1 * 512 + 1 * q.val = t.val / 8 * 512 + q.val
      rw [(index14 t).2]; omega
  show out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q)
    = whole m c ((win0_14.rect t).emb (ix2 r q))
  rw [hemb, out_apply]
  refine Eq.trans ?_ (Cert.Reference7Ideal.Read.v30_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (row t r) (col t q)
    (col_lt t q 0 (by omega)) (col_lt t q 2048 (by omega)) (col_lt t q 4096 (by omega)) (col_lt t q 6144 (by omega))).symm
  exact congrArg₂ (fun a b : EReal => a + b) (congrArg₂ (fun a b : EReal => a + b) (congrArg₂ (fun a b : EReal => a + b)
    (congrArg₂ (fun a b : EReal => a * b) (block6 m c t r q) (Finset.sum_congr rfl fun k _ => congrArg₂ (fun a b : EReal => a * b) (block0 m c t r k) (block10 m c t k q)))
    (congrArg₂ (fun a b : EReal => a * b) (block7 m c t r q) (Finset.sum_congr rfl fun k _ => congrArg₂ (fun a b : EReal => a * b) (picked1 m c t r k) (block11 m c t k q))))
    (congrArg₂ (fun a b : EReal => a * b) (block8 m c t r q) (Finset.sum_congr rfl fun k _ => congrArg₂ (fun a b : EReal => a * b) (picked3 m c t r k) (block12 m c t k q))))
    (congrArg₂ (fun a b : EReal => a * b) (block9 m c t r q) (Finset.sum_congr rfl fun k _ => congrArg₂ (fun a b : EReal => a * b) (block5 m c t r k) (block13 m c t k q)))

/-- An element of the result array is in the block of the point its coordinates name. -/
theorem cover (i : S8192x2048.Idx) :
    ∃ t : Fin cfg0.N, (cfg0.win 14).flush t = true ∧ i ∈ ((cfg0.win 14).blk t).view.set := by
  have h0 : (i 0 : Nat) < 8192 := (i 0).isLt
  have h1 : (i 1 : Nat) < 2048 := (i 1).isLt
  have hN : cfg0.N = 32 := N_0
  refine ⟨⟨(i 1 : Nat) / 512 * 8 + (i 0 : Nat) / 1024, by omega⟩, flush0_14 _, ?_⟩
  generalize ht : (⟨(i 1 : Nat) / 512 * 8 + (i 0 : Nat) / 1024, _⟩ : Fin cfg0.N) = t
  have htv : t.val = (i 1 : Nat) / 512 * 8 + (i 0 : Nat) / 1024 := by rw [← ht]
  show i ∈ ((View.whole main_v0).slice (win0_14.rect t)).set
  rw [View.set_slice_whole, Rect.mem_set_unit]
  intro a
  match a with
  | ⟨0, _⟩ =>
    show win0_14.index t 0 * 1024 ≤ (i 0 : Nat) ∧ (i 0 : Nat) < win0_14.index t 0 * 1024 + 1024
    rw [(index14 t).1]; omega
  | ⟨1, _⟩ =>
    show win0_14.index t 1 * 512 ≤ (i 1 : Nat) ∧ (i 1 : Nat) < win0_14.index t 1 * 512 + 512
    rw [(index14 t).2]; omega

/-- So the result array ends holding the whole result, -/
theorem final (c : Dev nD) : (dats m 0 c).arrAt 14 cfg0.N = whole m c :=
  (dats m 0 c).arrAt_eq_of_cover 14 (whole m c) (fun t _ => flushed_eq m c t) cover

/-- and the run, read: the result array at the whole result, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Value.run_blocks m ρ)

end Cert.Kernel7Ideal.Product

namespace Cert.Proof.MergeClaims

/-- The blocked merge and the whole one are the same function of arguments that agree. -/
theorem algebraic : Cert.algebraic_Kernel7Ideal_Reference7Ideal := by
  intro m ρ m' ρ' _ hag
  refine ⟨fun c => Cert.Kernel7Ideal.Product.whole m c, Cert.Kernel7Ideal.Product.run m ρ, ?_⟩
  refine (θ_run Cert.Reference7Ideal.defs _ _).mono (fun _ h c => ⟨(h c).1.trans ?_, (h c).2⟩)
    (Cert.Reference7Ideal.Value.run (F := Ideal) m' ρ')
  show Cert.Reference7Ideal.Read.val_main_v30 (F := Ideal) _ _ _ _ _ _ _ _ _ _ _
    = Cert.Reference7Ideal.Read.val_main_v30 (F := Ideal) _ _ _ _ _ _ _ _ _ _ _
  obtain ⟨h0, h1, h2, h3, h4, h5, h6, h7, h8, h9, h10⟩ := hag c
  rw [h0, h1, h2, h3, h4, h5, h6, h7, h8, h9, h10]

end Cert.Proof.MergeClaims

end
-- ==== Proof.ResFrame.lean ====
/-
  The frame of `Kernel6`, for any values of the elements: the body's two runs, the body's obligation at every point, and
  the run of the whole program.

  The grid's first eight points are the context's row tiles and write the first result, the other eight the latents' and
  write the second. Each result's buffer is left alone at the other path's points; the first result's last tile is
  written back only after the last point, and until then its buffer carries it.
-/
module

public import proofs.«01_k».proof.Proof.Gen.Kernel6Ideal.Skeleton
public import proofs.«01_k».proof.Proof.Gen.Kernel6Ideal.Frame
public import Idealize.ShloMosaic.Lib.Pipeline.Value
public import Idealize.ShloMosaic.Lib.Pipeline.TableIdle
public import Idealize.ShloMosaic.Lib.VecWindow
public import Idealize.ShloMosaic.Lib.Claim

@[expose] public section

set_option maxRecDepth 16384

noncomputable section

namespace Cert.Proof.ResFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

theorem isCtx_iff : ∀ t : Fin grid0.N, k0_cond1 (grid0.coords t) = 1#1 ↔ t.val < 8 := by decide +kernel
theorem isLat_iff : ∀ t : Fin grid0.N, k0_cond2 (grid0.coords t) = 1#1 ↔ 8 ≤ t.val := by decide +kernel

theorem hz2 : (![0, 0] : Fin 2 → Nat) = fun _ => 0 := funext fun a => by fin_cases a <;> rfl

theorem ld_rows {e : EltTy} (x : Vec F S512x2048 e) : View.ld x (Rect.unit (s := S512x2048) ![0, 0] S512x2048.size inb_S512x2048_S512x2048_0_0) = x :=
  View.ld_unit_zero (S := S512x2048) hz2 _ _
theorem ld_row {e : EltTy} (x : Vec F S1x2048 e) : View.ld x (Rect.unit (s := S1x2048) ![0, 0] S1x2048.size inb_S1x2048_S1x2048_0_0) = x :=
  View.ld_unit_zero (S := S1x2048) hz2 _ _

/-- The modulation's last row: the gate of the residual. -/
abbrev gateRow : Rect S1x6x2048 := Rect.unit (s := S1x6x2048) ![0, 5, 0] S1x1x2048.size inb_S1x6x2048_S1x1x2048_0_5_0

/-- What the body makes of its blocks: the residual sum, normalised along each row, scaled and shifted. -/
def norm (x1 : Vec F S512x2048 .f32) (x2 : Vec F S512x2048 .bf16) (x3 : Vec F S1x6x2048 .f32) (x4 x5 : Vec F S1x2048 .f32) : Vec F S512x2048 .f32 :=
  k0_pay1 (View.ld x3 gateRow) x1 x2 x4 x5

set_option maxHeartbeats 1000000 in
/-- A point of the context: the first result's tile is written. -/
theorem context (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (h1 : k0_cond1 i = 1#1) (h2 : ¬ k0_cond2 i = 1#1)
    (x1 : Vec F S512x2048 .f32) (x2 : Vec F S512x2048 .bf16) (x3 : Vec F S1x6x2048 .f32) (x4 x5 : Vec F S1x2048 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (norm x1 x2 x3 x4 x5)) -∗ K ⟨⟩))
      ⊢ wp frame (wpE (defs₀ (F := F)) Variants.none c none) E (cc0_res_ln i arg1 harg1 arg2 harg2 arg3 harg3 arg4 harg4 arg5 harg5 arg6 harg6 arg7 harg7) K := by
  simp only [cc0_res_ln_eq_skeleton]; unfold cc0_res_ln_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d, %fo, -, Ho⟩, Hk⟩
  obtain rfl := harg1.eq_unread hf1; obtain rfl := harg2.eq_unread hf2; obtain rfl := harg3.eq_unread hf3; obtain rfl := harg4.eq_unread hf4; obtain rfl := harg5.eq_unread hf5
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact Ho
  ipureintro
  refine (View.read_writes_full _ _ _ _ _).trans ?_
  simp only [View.readAt_eq_ld, harg1.read_unread, harg2.read_unread, harg3.read_unread, harg4.read_unread, harg5.read_unread]
  rw [ld_rows, ld_rows, ld_row, ld_row]
  rfl

set_option maxHeartbeats 1000000 in
/-- A point of the latents: the second result's tile is written. -/
theorem latent (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (h1 : ¬ k0_cond1 i = 1#1) (h2 : k0_cond2 i = 1#1)
    (x1 : Vec F S512x2048 .f32) (x2 : Vec F S512x2048 .bf16) (x3 : Vec F S1x6x2048 .f32) (x4 x5 : Vec F S1x2048 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare (norm x1 x2 x3 x4 x5)) -∗ K ⟨⟩))
      ⊢ wp frame (wpE (defs₀ (F := F)) Variants.none c none) E (cc0_res_ln i arg1 harg1 arg2 harg2 arg3 harg3 arg4 harg4 arg5 harg5 arg6 harg6 arg7 harg7) K := by
  simp only [cc0_res_ln_eq_skeleton]; unfold cc0_res_ln_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d, %fo, -, Ho⟩, Hk⟩
  obtain rfl := harg1.eq_unread hf1; obtain rfl := harg2.eq_unread hf2; obtain rfl := harg3.eq_unread hf3; obtain rfl := harg4.eq_unread hf4; obtain rfl := harg5.eq_unread hf5
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact Ho
  ipureintro
  refine (View.read_writes_full _ _ _ _ _).trans ?_
  unfold latent.sl.r
  simp only [View.readAt_eq_ld, harg1.read_unread, harg2.read_unread, harg3.read_unread, harg4.read_unread, harg5.read_unread]
  rw [ld_rows, ld_rows, ld_row, ld_row]
  rfl

variable (m : (ℓ : Loc nD τ sig) → Buf (Elt F) ℓ) (ρ : Dev nD → PrngReg)

/-! ## The pipeline's proof data -/

/-- The tile point `t` computes. -/
def normAt (c : Dev nD) (t : Fin cfg0.N) : Vec F S512x2048 .f32 :=
  norm (iblk m c 0 t) (iblk m c 1 t) (iblk m c 2 t) (iblk m c 3 t) (iblk m c 4 t)

/-- The last of the context's points up to point `t`. -/
def ctxPoint (t : Fin cfg0.N) : Fin cfg0.N := ⟨min t.val 7, Nat.lt_of_le_of_lt (Nat.min_le_left _ _) t.isLt⟩

theorem ctxPoint_of_lt (t : Fin cfg0.N) (ht : t.val < 8) : ctxPoint t = t := Fin.ext (by show min t.val 7 = t.val; omega)
theorem ctxPoint_eq (t s : Fin cfg0.N) (ht : 7 ≤ t.val) (hs : 7 ≤ s.val) : ctxPoint t = ctxPoint s :=
  Fin.ext (by show min t.val 7 = min s.val 7; omega)

/-- The proof data on core `c`: each input's buffer at its block; the first result's at the last context tile computed, the
    second's at the point's tile (read only at the latents' points); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => normAt m c (ctxPoint t)
    | ⟨6, _⟩ => normAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = normAt m c (ctxPoint t) := by dsimp only [dats]
theorem after0_6 (c : Dev nD) (t : Fin cfg0.N) : (dats m 0 c).after 6 t = normAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem Phi_castSucc (c : Dev nD) (t : Fin cfg0.N) : (dats m 0 c).Φ t.castSucc = Pipeline.ΦA spec0 c := by dsimp only [dats]
theorem Phi_succ (c : Dev nD) (t : Fin cfg0.N) : (dats m 0 c).Φ t.succ = Pipeline.ΦA spec0 c := by dsimp only [dats]

/-! ## Where the results are idle -/

theorem idle5 : ∀ t : Fin grid0.N, 8 ≤ t.val → idle0 5 (grid0.coords t) = true := fun t ht => by
  have h := mt (isCtx_iff t).mp (by omega)
  show (!(k0_cond1 (grid0.coords t) == 1#1)) = true
  rw [beq_false_of_ne h]; rfl
theorem live5 : ∀ t : Fin grid0.N, t.val < 8 → idle0 5 (grid0.coords t) = false := fun t ht => by
  have h := (isCtx_iff t).mpr ht
  show (!(k0_cond1 (grid0.coords t) == 1#1)) = false
  rw [h]; rfl
theorem idle6 : ∀ t : Fin grid0.N, t.val < 8 → idle0 6 (grid0.coords t) = true := fun t ht => by
  have h := mt (isLat_iff t).mp (by omega)
  show (!(k0_cond2 (grid0.coords t) == 1#1)) = true
  rw [beq_false_of_ne h]; rfl
theorem live6 : ∀ t : Fin grid0.N, 8 ≤ t.val → idle0 6 (grid0.coords t) = false := fun t ht => by
  have h := (isLat_iff t).mpr ht
  show (!(k0_cond2 (grid0.coords t) == 1#1)) = false
  rw [h]; rfl

/-- The first result is written back after each of its tiles but the last, which is written back at the end; -/
theorem flush5 : ∀ t : Fin cfg0.N, (cfg0.win 5).flush t = true ↔ (t.val < 7 ∨ t.val = 15) :=
  (by decide +kernel : ∀ t : Fin grid0.N, win0_5.flush t = true ↔ (t.val < 7 ∨ t.val = 15))
/-- the second after each of its tiles. -/
theorem flush6 : ∀ t : Fin cfg0.N, (cfg0.win 6).flush t = true ↔ 8 ≤ t.val :=
  (by decide +kernel : ∀ t : Fin grid0.N, win0_6.flush t = true ↔ 8 ≤ t.val)
/-- From the context's last tile on, the first result's buffer holds what was stored. -/
theorem fresh5 : ∀ t : Fin cfg0.N, 8 ≤ t.val → cfg0.fresh 5 t.val = false := by decide +kernel

/-- So at a latents' point it holds the context's last tile. -/
theorem before5 (c : Dev nD) (t : Fin cfg0.N) (ht : 8 ≤ t.val) (d) : (dats m 0 c).before 5 t d = normAt m c (ctxPoint t) := by
  have h := (dats m 0 c).before_out_traj 5 rfl (fun _ _ => rfl) (fun s hs hi _ => by
    have h8 : 8 ≤ s.val := by
      by_contra hlt
      have hl : cfg0.idle 5 (cfg0.grid.coords s) = false := live5 s (by omega)
      rw [hl] at hi; exact Bool.false_ne_true hi
    rw [after0_5, after0_5]
    exact congrArg _ (ctxPoint_eq _ _ (by omega) (by show 7 ≤ s.val - 1; omega))) t.val t rfl d
  rw [h, fresh5 t ht, if_neg Bool.false_ne_true, after0_5]
  exact congrArg _ (ctxPoint_eq _ _ (by show 7 ≤ t.val - 1; omega) (by omega))

theorem leaves5_live (c : Dev nD) (t : Fin cfg0.N) (ht : t.val < 8) :
    (dats m 0 c).leavesExact 5 t = owns (c : Thread nD τ) (st0_5 t) fullShare (normAt m c t) := by
  unfold Dat.leavesExact
  rw [show cfg0.idle 5 (cfg0.grid.coords t) = false from live5 t ht, after0_5, ctxPoint_of_lt t ht]

theorem leaves5_keep (c : Dev nD) (t : Fin cfg0.N) (ht : 8 ≤ t.val) (d) :
    owns (c : Thread nD τ) (st0_5 t) fullShare ((dats m 0 c).before 5 t d) ⊢ (dats m 0 c).leavesExact 5 t := by
  by_cases hf : (cfg0.win 5).flush t = true
  · unfold Dat.leavesExact
    rw [show cfg0.idle 5 (cfg0.grid.coords t) = true from idle5 t ht, hf, after0_5, before5 m c t ht d]
  · rw [(dats m 0 c).leavesExact_idle 5 t (idle5 t ht) (Bool.eq_false_iff.mpr hf)]
    iintro H
    iexists d; iexact H

theorem leaves6_idle (c : Dev nD) (t : Fin cfg0.N) (ht : t.val < 8) :
    (dats m 0 c).leavesExact 6 t = iprop(∃ d, owns (c : Thread nD τ) (st0_6 t) fullShare ((dats m 0 c).before 6 t d)) :=
  (dats m 0 c).leavesExact_idle 6 t (idle6 t ht) (Bool.eq_false_iff.mpr fun h => by have := (flush6 t).mp h; omega)

theorem leaves6_live (c : Dev nD) (t : Fin cfg0.N) (ht : 8 ≤ t.val) :
    (dats m 0 c).leavesExact 6 t = owns (c : Thread nD τ) (st0_6 t) fullShare (normAt m c t) := by
  unfold Dat.leavesExact
  rw [show cfg0.idle 6 (cfg0.grid.coords t) = false from live6 t ht, after0_6]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

/-- The body at a point of the context. -/
theorem sound_context (c : Dev nD) (t : Fin cfg0.N) (ht : t.val < 8) :
    bodyPre m c t ⊢ wp frame (wpE (defs₀ (F := F)) Variants.none c none) Set.univ (bodyAt0 t) (fun _ => bodyPost m c t) := by
  have h1 := (isCtx_iff t).mpr ht
  have h2 := mt (isLat_iff t).mp (by omega)
  unfold bodyPre bodyPost bodyAt0
  simp only [before0_0, before0_1, before0_2, before0_3, before0_4]
  rw [Phi_castSucc, Phi_succ, show (dats m 0 c).owesAt () t.succ = (dats m 0 c).owesAt () t.castSucc from rfl,
    after0_0, after0_1, after0_2, after0_3, after0_4, leaves5_live m c t ht, leaves6_idle m c t ht]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (context c (grid0.coords t) _ _ _ _ _ _ _ _ _ _ _ _ _ _ h1 h2 (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at a point of the latents. -/
theorem sound_latent (c : Dev nD) (t : Fin cfg0.N) (ht : 8 ≤ t.val) :
    bodyPre m c t ⊢ wp frame (wpE (defs₀ (F := F)) Variants.none c none) Set.univ (bodyAt0 t) (fun _ => bodyPost m c t) := by
  have h1 := mt (isCtx_iff t).mp (by omega)
  have h2 := (isLat_iff t).mpr ht
  unfold bodyPre bodyPost bodyAt0
  simp only [before0_0, before0_1, before0_2, before0_3, before0_4]
  rw [Phi_castSucc, Phi_succ, show (dats m 0 c).owesAt () t.succ = (dats m 0 c).owesAt () t.castSucc from rfl,
    after0_0, after0_1, after0_2, after0_3, after0_4, leaves6_live m c t ht]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (latent c (grid0.coords t) _ _ _ _ _ _ _ _ _ _ _ _ _ _ h1 h2 (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H6]; · iexists _; iexact H6
  iintro ⟨H0, H1, H2, H3, H4, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (leaves5_keep m c t ht d5); iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val < 8
  · exact sound_context m c t h
  · exact sound_latent m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : Pipeline.ΦA spec0 c ⊢ (dats (F := F) m 0 c).Φ 0 := .rfl
theorem leave (c : Dev nD) : (dats (F := F) m 0 c).Φ (Fin.last cfg0.N) ⊢ Pipeline.ΦA spec0 c := .rfl

-- the launch's implicit arguments are found by unifying its conclusion with this one
set_option backward.isDefEq.respectTransparency.types false in
/-- The run of the whole program: every array at what the proof data compute, every other buffer as the region found it,
    every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The argument arrays end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Proof.ResFrame
-- ==== Proof.ResPay.lean ====
/-
  The layer's closing norm at one row, and what the body of `Kernel6` makes of its blocks, read at an element.
-/
module

public import proofs.«01_k».proof.Proof.Gen.Kernel6Ideal.Skeleton
public import Idealize.ShloMosaic.Lib.Pipeline.Value
public import Idealize.ShloMosaic.Lib.ValueIdx
public import Idealize.ShloMosaic.Lib.IdealHost

@[expose] public section

set_option maxRecDepth 16384

noncomputable section

namespace Cert.ResPay

open Idealize.ShloMosaic Idealize.ShloMosaic.ValueIdx Idealize.ShloMosaic.TcCoe
open Cert.Kernel6Ideal Cert.Kernel6Ideal.Gen

/-- The residual's rounded scale, the row's length and the norm's rounded epsilon, as both sides write them. -/
abbrev alpha : EReal := Ideal.ofBits .f32 0x3FB504F3#32
abbrev len : EReal := Ideal.ofBits .f32 0x45000000#32
abbrev eps : EReal := Ideal.ofBits .f32 0x3727C5AC#32

/-- A row's mean, -/
def mean (z : Fin 2048 → EReal) : EReal := Ideal.div (∑ k : Fin 2048, z k) len
/-- its variance, -/
def var (z : Fin 2048 → EReal) : EReal := mean fun k => (z k - mean z) * (z k - mean z)
/-- and an element of it normalised, scaled and shifted. -/
def ln (z : Fin 2048 → EReal) (g b : EReal) (n : Fin 2048) : EReal := (z n - mean z) * Ideal.rsqrt (var z + eps) * g + b

/-- The residual sum's row: the scaled row and the gated one. -/
def resid (x f a : Fin 2048 → EReal) : Fin 2048 → EReal := fun k => alpha * x k + a k * f k

/-! ## The body, in its stages -/

/-- The column of the rows' means. -/
def means (z : FVec Ideal S512x2048 .f32) : FVec Ideal S512x1 .f32 :=
  divf (shapeCast S512x1 (multiReduction .add [1] S512 z 0x00000000#32 reduces_S512x2048_S512 (.inl rfl) rfl) shapeCasts_S512_S512x1)
    (broadcast S512x1 (Scalar.ofBits .f32 0x45000000#32))

theorem means_apply (z : FVec Ideal S512x2048 .f32) (r : Fin 512) (k : Fin 1) : means z (ix2 r k) = mean fun k => z (ix2 r k) := by
  obtain rfl : k = 0 := Subsingleton.elim _ _
  refine congrArg (fun s : EReal => Ideal.div s len) ?_
  rw [shapeCast_apply _ _ _ (ix1 r) (by rw [Shape.rowMajor_val_one, Shape.rowMajor_val_two]; show r.val = r.val * 1 + 0; omega)]
  refine (Ideal.multiReduction_add_single z _ reduces_S512x2048_S512 (.inl rfl) rfl (ix1 r)).trans ?_
  exact Finset.sum_congr rfl fun k _ => congrArg z (eq_ix2 _)

/-- A column broadcast along the rows. -/
theorem along_apply (u : FVec Ideal S512x1 .f32) (r : Fin 512) (n : Fin 2048) :
    broadcastTo S512x2048 u broadcasts_S512x1_S512x2048 (ix2 r n) = u (ix2 r (0 : Fin 1)) :=
  broadcastTo_apply u _ _ (ix2 r (0 : Fin 1)) fun a => by
    match a with
    | ⟨0, _⟩ => rfl
    | ⟨1, _⟩ => rfl

/-- A row broadcast down the rows. -/
theorem down_apply (u : FVec Ideal S1x2048 .f32) (r : Fin 512) (n : Fin 2048) :
    broadcastTo S512x2048 u broadcasts_S1x2048_S512x2048 (ix2 r n) = u (ix2 (0 : Fin 1) n) :=
  broadcastTo_apply u _ _ (ix2 (0 : Fin 1) n) fun a => by
    match a with
    | ⟨0, _⟩ => rfl
    | ⟨1, _⟩ => rfl

/-- The rows less their means. -/
def centred (z : FVec Ideal S512x2048 .f32) : FVec Ideal S512x2048 .f32 :=
  subf z (broadcastTo S512x2048 (means z) broadcasts_S512x1_S512x2048)

theorem centred_apply (z : FVec Ideal S512x2048 .f32) (r : Fin 512) (n : Fin 2048) :
    centred z (ix2 r n) = z (ix2 r n) - mean fun k => z (ix2 r k) :=
  congrArg (fun s : EReal => z (ix2 r n) - s) ((along_apply _ r n).trans (means_apply z r 0))

/-- The residual sum of the blocks. -/
def sum (v0 : FVec Ideal S1x1x2048 .f32) (v2 : FVec Ideal S512x2048 .f32) (v5 : FVec Ideal S512x2048 .bf16) : FVec Ideal S512x2048 .f32 :=
  addf (mulf (broadcast S512x2048 (Scalar.ofBits .f32 0x3FB504F3#32)) v2)
    (mulf (broadcastTo S512x2048 (shapeCast S1x2048 v0 shapeCasts_S1x1x2048_S1x2048) broadcasts_S1x2048_S512x2048) (extf .f32 v5 bitsLt_bf16_f32))

theorem sum_apply (v0 : FVec Ideal S1x1x2048 .f32) (v2 : FVec Ideal S512x2048 .f32) (v5 : FVec Ideal S512x2048 .bf16) (r : Fin 512) (n : Fin 2048) :
    sum v0 v2 v5 (ix2 r n) = resid (fun k => v2 (ix2 r k)) (fun k => v5 (ix2 r k)) (fun k => v0 (ix3 (0 : Fin 1) (0 : Fin 1) k)) n := by
  refine congrArg (fun s : EReal => alpha * v2 (ix2 r n) + s * v5 (ix2 r n)) ?_
  rw [down_apply]
  refine shapeCast_apply _ _ _ (ix3 (0 : Fin 1) (0 : Fin 1) n) ?_
  rw [Shape.rowMajor_val_three, Shape.rowMajor_val_two]
  show (0 * 1 + 0) * 2048 + n.val = 0 * 2048 + n.val
  omega

theorem pay_eq (v0 : FVec Ideal S1x1x2048 .f32) (v2 : FVec Ideal S512x2048 .f32) (v5 : FVec Ideal S512x2048 .bf16) (v26 v30 : FVec Ideal S1x2048 .f32) :
    k0_pay1 (F := Ideal) v0 v2 v5 v26 v30
      = addf (mulf (mulf (centred (sum v0 v2 v5))
            (broadcastTo S512x2048 (rsqrt (addf (means (mulf (centred (sum v0 v2 v5)) (centred (sum v0 v2 v5)))) (broadcast S512x1 (Scalar.ofBits .f32 0x3727C5AC#32)))) broadcasts_S512x1_S512x2048))
          (broadcastTo S512x2048 (shapeCast S1x2048 v26 shapeCasts_S1x2048_S1x2048) broadcasts_S1x2048_S512x2048))
        (broadcastTo S512x2048 (shapeCast S1x2048 v30 shapeCasts_S1x2048_S1x2048) broadcasts_S1x2048_S512x2048) := rfl

/-- The body's result at an element: the residual's row, normalised. -/
theorem pay_apply (v0 : FVec Ideal S1x1x2048 .f32) (v2 : FVec Ideal S512x2048 .f32) (v5 : FVec Ideal S512x2048 .bf16) (v26 v30 : FVec Ideal S1x2048 .f32)
    (r : Fin 512) (n : Fin 2048) :
    k0_pay1 (F := Ideal) v0 v2 v5 v26 v30 (ix2 r n)
      = ln (resid (fun k => v2 (ix2 r k)) (fun k => v5 (ix2 r k)) (fun k => v0 (ix3 (0 : Fin 1) (0 : Fin 1) k)))
          (v26 (ix2 (0 : Fin 1) n)) (v30 (ix2 (0 : Fin 1) n)) n := by
  rw [pay_eq]
  simp only [shapeCast_self]
  have hz := sum_apply v0 v2 v5 r
  generalize sum v0 v2 v5 = z at hz ⊢
  have hz' : (fun k => z (ix2 r k)) = resid (fun k => v2 (ix2 r k)) (fun k => v5 (ix2 r k)) (fun k => v0 (ix3 (0 : Fin 1) (0 : Fin 1) k)) := funext hz
  rw [← hz']
  have hc := centred_apply z r
  generalize centred z = d at hc ⊢
  have hv : rsqrt (addf (means (mulf d d)) (broadcast S512x1 (Scalar.ofBits (F := Ideal) .f32 0x3727C5AC#32))) (ix2 r (0 : Fin 1))
      = Ideal.rsqrt (var (fun k => z (ix2 r k)) + eps) := by
    refine congrArg (fun s : EReal => Ideal.rsqrt (s + eps)) ?_
    refine (means_apply _ r 0).trans (congrArg mean (funext fun k => ?_))
    exact congrArg₂ (fun a b : EReal => a * b) (hc k) (hc k)
  refine congrArg₂ (fun a b : EReal => a + b) (congrArg₂ (fun a b : EReal => a * b) (congrArg₂ (fun a b : EReal => a * b) (hc n) ?_) ?_) ?_
  · exact (along_apply _ r n).trans hv
  · exact down_apply v26 r n
  · exact down_apply v30 r n

end Cert.ResPay

end
-- ==== Proof.ResRef.lean ====
/-
  The host's closing norm of `Reference6` at an element: on the context's rows, which share one modulation, and on the
  latents' rows, cut into their four sequences.
-/
module

public import proofs.«01_k».proof.Proof.ResPay
public import proofs.«01_k».proof.Proof.Gen.Reference6Ideal.Read

@[expose] public section

set_option maxRecDepth 16384

noncomputable section

namespace Cert.ResRef

open Idealize.ShloMosaic Idealize.ShloMosaic.ValueIdx Idealize.ShloMosaic.TcCoe
open Cert.Reference6Ideal Cert.Reference6Ideal.Read Cert.ResPay

variable (x0 : (⟨S8192x2048, .f32⟩ : BufTy).Contents (Elt Ideal)) (x1 : (⟨S8192x2048, .bf16⟩ : BufTy).Contents (Elt Ideal))
  (x2 : (⟨S8x6x2048, .f32⟩ : BufTy).Contents (Elt Ideal)) (x3 x4 : (⟨S2048, .f32⟩ : BufTy).Contents (Elt Ideal))

/-- A context row's residual sum, -/
def rowCtx (r : Fin 4096) : Fin 2048 → EReal :=
  resid (fun k => x0 (ix2 (⟨r.val, by omega⟩ : Fin 8192) k)) (fun k => x1 (ix2 (⟨r.val, by omega⟩ : Fin 8192) k)) (fun k => x2 (ix3 (0 : Fin 8) (5 : Fin 6) k))
/-- and that of a latents' row `q` of sequence `s`. -/
def rowLat (s : Fin 4) (q : Fin 1024) : Fin 2048 → EReal :=
  resid (fun k => x0 (ix2 (⟨4096 + (s.val * 1024 + q.val), by omega⟩ : Fin 8192) k)) (fun k => x1 (ix2 (⟨4096 + (s.val * 1024 + q.val), by omega⟩ : Fin 8192) k))
    (fun k => x2 (ix3 (⟨1 + s.val, by omega⟩ : Fin 8) (5 : Fin 6) k))

/-! ## The context -/

theorem ctx_sum (r : Fin 4096) (k : Fin 2048) : val_main_v10 (F := Ideal) x0 x1 x2 (ix2 r k) = rowCtx x0 x1 x2 r k := by
  rw [val_main_v10_apply, val_main_v3_apply, val_main_v2_apply, val_main_cst_apply, val_main_v1_apply, val_main_v9_apply, val_main_v8_apply, val_main_v7_apply,
    val_main_v5_apply, val_main_v4_apply, val_main_v6_apply, val_main_v0_apply]
  refine congrArg₂ (fun a b : EReal => a + b) (congrArg (fun a : EReal => alpha * a) (congrArg x0 (funext fun a => ?_)))
    (congrArg₂ (fun a b : EReal => a * b) (congrArg x2 (funext fun a => ?_)) (congrArg x1 (funext fun a => ?_)))
  · match a with
    | ⟨0, _⟩ => rfl
    | ⟨1, _⟩ => rfl
  · match a with
    | ⟨0, _⟩ => rfl
    | ⟨1, _⟩ => rfl
    | ⟨2, _⟩ => exact Fin.ext (Nat.mod_eq_of_lt k.isLt)
  · match a with
    | ⟨0, _⟩ => rfl
    | ⟨1, _⟩ => rfl

theorem ctx_mean (r : Fin 4096) (k : Fin 1) : val_main_v14 (F := Ideal) x0 x1 x2 (ix2 r k) = mean (rowCtx x0 x1 x2 r) := by
  rw [val_main_v14_apply, val_main_v12_apply, val_main_v11_apply, val_main_cst_0_apply, val_main_v13_apply, val_main_cst_1_apply]
  show Ideal.div (Ideal.ofBits .f32 0x00000000#32 + _) len = _
  rw [Ideal.ofBits_zero_f32, zero_add]
  refine congrArg (fun s : EReal => Ideal.div s len) (Finset.sum_congr rfl fun k _ => ?_)
  refine Eq.trans (congrArg _ (funext fun a => ?_)) (ctx_sum x0 x1 x2 r k)
  match a with
  | ⟨0, _⟩ => rfl
  | ⟨1, _⟩ => rfl

theorem ctx_centred (r : Fin 4096) (n : Fin 2048) : val_main_v16 (F := Ideal) x0 x1 x2 (ix2 r n) = rowCtx x0 x1 x2 r n - mean (rowCtx x0 x1 x2 r) := by
  rw [val_main_v16_apply, val_main_v15_apply]
  refine congrArg₂ (fun a b : EReal => a - b) (ctx_sum x0 x1 x2 r n) ?_
  refine Eq.trans (congrArg _ (funext fun a => ?_)) (ctx_mean x0 x1 x2 r 0)
  match a with
  | ⟨0, _⟩ => rfl
  | ⟨1, _⟩ => rfl

theorem ctx_centred' (r : Fin 4096) (n : Fin 2048) : val_main_v23 (F := Ideal) x0 x1 x2 (ix2 r n) = rowCtx x0 x1 x2 r n - mean (rowCtx x0 x1 x2 r) := by
  rw [val_main_v23_apply, val_main_v22_apply]
  refine congrArg₂ (fun a b : EReal => a - b) (ctx_sum x0 x1 x2 r n) ?_
  refine Eq.trans (congrArg _ (funext fun a => ?_)) (ctx_mean x0 x1 x2 r 0)
  match a with
  | ⟨0, _⟩ => rfl
  | ⟨1, _⟩ => rfl

theorem ctx_var (r : Fin 4096) (k : Fin 1) : val_main_v21 (F := Ideal) x0 x1 x2 (ix2 r k) = var (rowCtx x0 x1 x2 r) := by
  rw [val_main_v21_apply, val_main_v19_apply, val_main_v18_apply, val_main_cst_2_apply, val_main_v20_apply, val_main_cst_3_apply]
  show Ideal.div (Ideal.ofBits .f32 0x00000000#32 + _) len = _
  rw [Ideal.ofBits_zero_f32, zero_add]
  refine congrArg (fun s : EReal => Ideal.div s len) (Finset.sum_congr rfl fun k _ => ?_)
  have h := ctx_centred x0 x1 x2 r k
  refine Eq.trans (congrArg _ (funext fun a => ?_)) (Eq.trans (val_main_v17_apply x0 x1 x2 (ix2 r k)) (congrArg₂ (fun a b : EReal => a * b) h h))
  match a with
  | ⟨0, _⟩ => rfl
  | ⟨1, _⟩ => rfl

theorem ctx_norm (r : Fin 4096) (n : Fin 2048) : val_main_v34 (F := Ideal) x0 x1 x2 x3 x4 (ix2 r n) = ln (rowCtx x0 x1 x2 r) (x3 (ix1 n)) (x4 (ix1 n)) n := by
  rw [val_main_v34_apply, val_main_v31_apply, val_main_v28_apply, val_main_v27_apply, val_main_v26_apply, val_main_v25_apply, val_main_v24_apply, val_main_cst_4_apply,
    val_main_v30_apply, val_main_v29_apply, val_main_v33_apply, val_main_v32_apply]
  refine congrArg₂ (fun a b : EReal => a + b) (congrArg₂ (fun a b : EReal => a * b) (congrArg₂ (fun a b : EReal => a * b) (ctx_centred' x0 x1 x2 r n)
    (congrArg (fun s : EReal => Ideal.rsqrt (s + eps)) ?_)) ?_) ?_
  · refine Eq.trans (congrArg _ (funext fun a => ?_)) (ctx_var x0 x1 x2 r 0)
    match a with
    | ⟨0, _⟩ => rfl
    | ⟨1, _⟩ => rfl
  · refine congrArg x3 (funext fun a => ?_)
    match a with
    | ⟨0, _⟩ => rfl
  · refine congrArg x4 (funext fun a => ?_)
    match a with
    | ⟨0, _⟩ => rfl

/-! ## The latents -/

theorem lat_sum (s : Fin 4) (q : Fin 1024) (k : Fin 2048) : val_main_v46 (F := Ideal) x0 x1 x2 (ix3 s q k) = rowLat x0 x1 x2 s q k := by
  have hq : q.val < 1024 := q.isLt
  have hs : s.val < 4 := s.isLt
  have hk : k.val < 2048 := k.isLt
  rw [val_main_v46_apply, val_main_v40_apply, val_main_v39_apply, val_main_cst_5_apply, val_main_v36_apply, val_main_v35_apply, val_main_v45_apply, val_main_v44_apply, val_main_v43_apply,
    val_main_v42_apply, val_main_v41_apply, val_main_v38_apply, val_main_v37_apply, val_main_v0_apply]
  refine congrArg₂ (fun a b : EReal => a + b) (congrArg (fun a : EReal => alpha * a) (congrArg x0 (funext fun a => Fin.ext ?_)))
    (congrArg₂ (fun a b : EReal => a * b) (congrArg x2 (funext fun a => Fin.ext ?_)) (congrArg x1 (funext fun a => Fin.ext ?_)))
  · match a with
    | ⟨0, _⟩ => show 4096 + ((s.val * 1024 + q.val) * 2048 + k.val) / 2048 = 4096 + (s.val * 1024 + q.val); omega
    | ⟨1, _⟩ => show ((s.val * 1024 + q.val) * 2048 + k.val) % 2048 = k.val; omega
  · match a with
    | ⟨0, _⟩ => show 1 + (s.val * 2048 + k.val) / 2048 = 1 + s.val; omega
    | ⟨1, _⟩ => rfl
    | ⟨2, _⟩ => show (s.val * 2048 + k.val) % 2048 = k.val; omega
  · match a with
    | ⟨0, _⟩ => show 4096 + ((s.val * 1024 + q.val) * 2048 + k.val) / 2048 = 4096 + (s.val * 1024 + q.val); omega
    | ⟨1, _⟩ => show ((s.val * 1024 + q.val) * 2048 + k.val) % 2048 = k.val; omega

theorem lat_mean (s : Fin 4) (q : Fin 1024) (k : Fin 1) : val_main_v50 (F := Ideal) x0 x1 x2 (ix3 s q k) = mean (rowLat x0 x1 x2 s q) := by
  rw [val_main_v50_apply, val_main_v48_apply, val_main_v47_apply, val_main_cst_6_apply, val_main_v49_apply, val_main_cst_7_apply]
  show Ideal.div (Ideal.ofBits .f32 0x00000000#32 + _) len = _
  rw [Ideal.ofBits_zero_f32, zero_add]
  refine congrArg (fun s : EReal => Ideal.div s len) (Finset.sum_congr rfl fun k _ => ?_)
  refine Eq.trans (congrArg _ (funext fun a => ?_)) (lat_sum x0 x1 x2 s q k)
  match a with
  | ⟨0, _⟩ => rfl
  | ⟨1, _⟩ => rfl
  | ⟨2, _⟩ => rfl

theorem lat_centred (s : Fin 4) (q : Fin 1024) (n : Fin 2048) : val_main_v52 (F := Ideal) x0 x1 x2 (ix3 s q n) = rowLat x0 x1 x2 s q n - mean (rowLat x0 x1 x2 s q) := by
  rw [val_main_v52_apply, val_main_v51_apply]
  refine congrArg₂ (fun a b : EReal => a - b) (lat_sum x0 x1 x2 s q n) ?_
  refine Eq.trans (congrArg _ (funext fun a => ?_)) (lat_mean x0 x1 x2 s q 0)
  match a with
  | ⟨0, _⟩ => rfl
  | ⟨1, _⟩ => rfl
  | ⟨2, _⟩ => rfl

theorem lat_centred' (s : Fin 4) (q : Fin 1024) (n : Fin 2048) : val_main_v59 (F := Ideal) x0 x1 x2 (ix3 s q n) = rowLat x0 x1 x2 s q n - mean (rowLat x0 x1 x2 s q) := by
  rw [val_main_v59_apply, val_main_v58_apply]
  refine congrArg₂ (fun a b : EReal => a - b) (lat_sum x0 x1 x2 s q n) ?_
  refine Eq.trans (congrArg _ (funext fun a => ?_)) (lat_mean x0 x1 x2 s q 0)
  match a with
  | ⟨0, _⟩ => rfl
  | ⟨1, _⟩ => rfl
  | ⟨2, _⟩ => rfl

theorem lat_var (s : Fin 4) (q : Fin 1024) (k : Fin 1) : val_main_v57 (F := Ideal) x0 x1 x2 (ix3 s q k) = var (rowLat x0 x1 x2 s q) := by
  rw [val_main_v57_apply, val_main_v55_apply, val_main_v54_apply, val_main_cst_8_apply, val_main_v56_apply, val_main_cst_9_apply]
  show Ideal.div (Ideal.ofBits .f32 0x00000000#32 + _) len = _
  rw [Ideal.ofBits_zero_f32, zero_add]
  refine congrArg (fun s : EReal => Ideal.div s len) (Finset.sum_congr rfl fun k _ => ?_)
  have h := lat_centred x0 x1 x2 s q k
  refine Eq.trans (congrArg _ (funext fun a => ?_)) (Eq.trans (val_main_v53_apply x0 x1 x2 (ix3 s q k)) (congrArg₂ (fun a b : EReal => a * b) h h))
  match a with
  | ⟨0, _⟩ => rfl
  | ⟨1, _⟩ => rfl
  | ⟨2, _⟩ => rfl

theorem lat_norm (s : Fin 4) (q : Fin 1024) (n : Fin 2048) : val_main_v70 (F := Ideal) x0 x1 x2 x3 x4 (ix3 s q n) = ln (rowLat x0 x1 x2 s q) (x3 (ix1 n)) (x4 (ix1 n)) n := by
  rw [val_main_v70_apply, val_main_v67_apply, val_main_v64_apply, val_main_v63_apply, val_main_v62_apply, val_main_v61_apply, val_main_v60_apply, val_main_cst_10_apply,
    val_main_v66_apply, val_main_v65_apply, val_main_v69_apply, val_main_v68_apply]
  refine congrArg₂ (fun a b : EReal => a + b) (congrArg₂ (fun a b : EReal => a * b) (congrArg₂ (fun a b : EReal => a * b) (lat_centred' x0 x1 x2 s q n)
    (congrArg (fun s : EReal => Ideal.rsqrt (s + eps)) ?_)) ?_) ?_
  · refine Eq.trans (congrArg _ (funext fun a => ?_)) (lat_var x0 x1 x2 s q 0)
    match a with
    | ⟨0, _⟩ => rfl
    | ⟨1, _⟩ => rfl
    | ⟨2, _⟩ => rfl
  · refine congrArg x3 (funext fun a => ?_)
    match a with
    | ⟨0, _⟩ => rfl
  · refine congrArg x4 (funext fun a => ?_)
    match a with
    | ⟨0, _⟩ => rfl

/-- The latents' rows stacked. -/
theorem lat_stacked (s : Fin 4) (q : Fin 1024) (r : Fin 4096) (hr : r.val = s.val * 1024 + q.val) (n : Fin 2048) :
    val_main_v71 (F := Ideal) x0 x1 x2 x3 x4 (ix2 r n) = ln (rowLat x0 x1 x2 s q) (x3 (ix1 n)) (x4 (ix1 n)) n := by
  have hq : q.val < 1024 := q.isLt
  have hs : s.val < 4 := s.isLt
  have hn : n.val < 2048 := n.isLt
  rw [val_main_v71_apply]
  refine Eq.trans (congrArg _ (funext fun a => Fin.ext ?_)) (lat_norm x0 x1 x2 x3 x4 s q n)
  match a with
  | ⟨0, _⟩ => show (r.val * 2048 + n.val) / 2097152 = s.val; omega
  | ⟨1, _⟩ => show (r.val * 2048 + n.val) / 2048 % 1024 = q.val; omega
  | ⟨2, _⟩ => show (r.val * 2048 + n.val) % 2048 = n.val; omega

end Cert.ResRef

end
-- ==== Proof.ResValue.lean ====
/-
  The value claim of `Kernel6`: the layer's closing residual and norm, a tile of 512 rows at a point of the grid, against
  the norm of all the rows.

  The context's tiles share the first row of the modulation; a latents' tile lies inside one of the four sequences of 1024
  rows and takes that sequence's row. The context's last tile is written back only after the last point.
-/
module

public import proofs.«01_k».proof.Proof.ResFrame
public import proofs.«01_k».proof.Proof.ResPay
public import proofs.«01_k».proof.Proof.ResRef
public import proofs.«01_k».proof.Defs
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel6Ideal.Norm

open Cert.Kernel6Ideal Cert.Kernel6Ideal.Gen Cert.Proof.ResFrame Cert.ResPay

/-! ## The blocks, read -/

variable (m : (ℓ : Loc nD τ sig) → Buf (Elt Ideal) ℓ) (ρ : Dev nD → PrngReg)

/-- The arguments: the rows, the feed-forward layer's rows, the modulation, the norm's scale and shift. -/
abbrev aX (c : Dev nD) : S8192x2048.Idx → EReal := m ((c : Thread nD τ).loc main_arg0)
abbrev aF (c : Dev nD) : S8192x2048.Idx → EReal := m ((c : Thread nD τ).loc main_arg1)
abbrev aM (c : Dev nD) : S8x6x2048.Idx → EReal := m ((c : Thread nD τ).loc main_arg2)
abbrev aG (c : Dev nD) : S2048.Idx → EReal := m ((c : Thread nD τ).loc main_arg3)
abbrev aB (c : Dev nD) : S2048.Idx → EReal := m ((c : Thread nD τ).loc main_arg4)

/-- Where a point's blocks lie. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val / 2 - 3 ∧ win0_2.index t 1 = 0 ∧ win0_2.index t 2 = 0 :=
  (by decide +kernel : ∀ t : Fin grid0.N, win0_2.index t 0 = t.val / 2 - 3 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = min t.val 7 ∧ win0_5.index t 1 = 0 :=
  (by decide +kernel : ∀ t : Fin grid0.N, win0_5.index t 0 = min t.val 7 ∧ win0_5.index t 1 = 0)
theorem index6 : ∀ t : Fin cfg0.N, win0_6.index t 0 = t.val - 8 ∧ win0_6.index t 1 = 0 :=
  (by decide +kernel : ∀ t : Fin grid0.N, win0_6.index t 0 = t.val - 8 ∧ win0_6.index t 1 = 0)

theorem point_lt (t : Fin cfg0.N) : t.val < 16 := lt_of_lt_of_eq t.isLt N_0

/-- Row `r` of the point's tile, and its row of the modulation. -/
def row (t : Fin cfg0.N) (r : Fin 512) : Fin 8192 := ⟨t.val * 512 + r.val, by have := point_lt t; omega⟩
def modRow (t : Fin cfg0.N) : Fin 8 := ⟨t.val / 2 - 3, by have := point_lt t; omega⟩

theorem x_read (c : Dev nD) (t : Fin cfg0.N) (r : Fin 512) (k : Fin 2048) : iblk m c 0 t (ix2 r k) = aX m c (ix2 (row t r) k) := by
  show V m c main_arg0 ((win0_0.rect t).emb (ix2 r k)) = _
  rw [V_main_arg0]
  refine congrArg _ (funext fun a => Fin.ext ?_)
  match a with
  | ⟨0, _⟩ =>
    show win0_0.index t 0 * 512 + 1 * r.val = t.val * 512 + r.val
    rw [(index0 t).1]; omega
  | ⟨1, _⟩ =>
    show win0_0.index t 1 * 2048 + 1 * k.val = k.val
    rw [(index0 t).2]; omega

theorem f_read (c : Dev nD) (t : Fin cfg0.N) (r : Fin 512) (k : Fin 2048) : iblk m c 1 t (ix2 r k) = aF m c (ix2 (row t r) k) := by
  show V m c main_arg1 ((win0_1.rect t).emb (ix2 r k)) = _
  rw [V_main_arg1]
  refine congrArg _ (funext fun a => Fin.ext ?_)
  match a with
  | ⟨0, _⟩ =>
    show win0_1.index t 0 * 512 + 1 * r.val = t.val * 512 + r.val
    rw [(index1 t).1]; omega
  | ⟨1, _⟩ =>
    show win0_1.index t 1 * 2048 + 1 * k.val = k.val
    rw [(index1 t).2]; omega

theorem gate_read (c : Dev nD) (t : Fin cfg0.N) (k : Fin 2048) :
    View.ld (iblk m c 2 t) gateRow (ix3 (0 : Fin 1) (0 : Fin 1) k) = aM m c (ix3 (modRow t) (5 : Fin 6) k) := by
  show V m c main_arg2 ((win0_2.rect t).emb (gateRow.idx (ix3 (0 : Fin 1) (0 : Fin 1) k))) = _
  rw [V_main_arg2]
  refine congrArg _ (funext fun a => Fin.ext ?_)
  match a with
  | ⟨0, _⟩ =>
    show win0_2.index t 0 * 1 + 1 * (0 + 1 * 0) = t.val / 2 - 3
    rw [(index2 t).1]; omega
  | ⟨1, _⟩ =>
    show win0_2.index t 1 * 6 + 1 * (5 + 1 * 0) = 5
    rw [(index2 t).2.1]
  | ⟨2, _⟩ =>
    show win0_2.index t 2 * 2048 + 1 * (0 + 1 * k.val) = k.val
    rw [(index2 t).2.2]; omega

/-- The norm's scale as the grid reads it: a row. -/
theorem scale_apply (c : Dev nD) (z : Fin 1) (k : Fin 2048) : V m c main_v0 (ix2 z k) = aG m c (ix1 k) := by
  have e : V m c main_v0 = shapeCast (s := S2048) (t := S1x2048) (m ((c : Thread nD τ).loc main_arg3)) shapeCasts_S2048_S1x2048 := by
    show StableHlo.after hostOps0 (fun b => m (c, b)) _ = _
    after_results_simp
    rfl
  rw [e]
  refine shapeCast_apply _ _ _ (ix1 k) ?_
  rw [Shape.rowMajor_val_one, Shape.rowMajor_val_two]
  show k.val = z.val * 2048 + k.val
  omega

theorem scale_read (c : Dev nD) (t : Fin cfg0.N) (k : Fin 2048) : iblk m c 3 t (ix2 (0 : Fin 1) k) = aG m c (ix1 k) := by
  refine Eq.trans ?_ (scale_apply m c 0 k)
  show V m c main_v0 ((win0_3.rect t).emb (ix2 (0 : Fin 1) k)) = _
  refine congrArg _ (funext fun a => Fin.ext ?_)
  match a with
  | ⟨0, _⟩ =>
    show win0_3.index t 0 * 1 + 1 * 0 = 0
    rw [(index3 t).1]
  | ⟨1, _⟩ =>
    show win0_3.index t 1 * 2048 + 1 * k.val = k.val
    rw [(index3 t).2]; omega

/-- The norm's shift as the grid reads it: a row. -/
theorem shift_apply (c : Dev nD) (z : Fin 1) (k : Fin 2048) : V m c main_v1 (ix2 z k) = aB m c (ix1 k) := by
  have e : V m c main_v1 = shapeCast (s := S2048) (t := S1x2048) (m ((c : Thread nD τ).loc main_arg4)) shapeCasts_S2048_S1x2048 := by
    show StableHlo.after hostOps0 (fun b => m (c, b)) _ = _
    after_results_simp
    rfl
  rw [e]
  refine shapeCast_apply _ _ _ (ix1 k) ?_
  rw [Shape.rowMajor_val_one, Shape.rowMajor_val_two]
  show k.val = z.val * 2048 + k.val
  omega

theorem shift_read (c : Dev nD) (t : Fin cfg0.N) (k : Fin 2048) : iblk m c 4 t (ix2 (0 : Fin 1) k) = aB m c (ix1 k) := by
  refine Eq.trans ?_ (shift_apply m c 0 k)
  show V m c main_v1 ((win0_4.rect t).emb (ix2 (0 : Fin 1) k)) = _
  refine congrArg _ (funext fun a => Fin.ext ?_)
  match a with
  | ⟨0, _⟩ =>
    show win0_4.index t 0 * 1 + 1 * 0 = 0
    rw [(index4 t).1]
  | ⟨1, _⟩ =>
    show win0_4.index t 1 * 2048 + 1 * k.val = k.val
    rw [(index4 t).2]; omega

/-- A point's tile at an element: its row of the residual sum, normalised. -/
theorem tile_read (c : Dev nD) (t : Fin cfg0.N) (r : Fin 512) (n : Fin 2048) :
    normAt m c t (ix2 r n)
      = ln (resid (fun k => aX m c (ix2 (row t r) k)) (fun k => aF m c (ix2 (row t r) k)) (fun k => aM m c (ix3 (modRow t) (5 : Fin 6) k)))
          (aG m c (ix1 n)) (aB m c (ix1 n)) n := by
  unfold normAt Cert.Proof.ResFrame.norm
  refine (pay_apply (View.ld (iblk m c 2 t) gateRow) (iblk m c 0 t) (iblk m c 1 t) (iblk m c 3 t) (iblk m c 4 t) r n).trans ?_
  rw [funext (x_read m c t r), funext (f_read m c t r), funext (gate_read m c t), scale_read m c t n, shift_read m c t n]

/-- A context's tile is the reference's, -/
theorem ctx_read (c : Dev nD) (t : Fin cfg0.N) (ht : t.val < 8) (r : Fin 512) (n : Fin 2048) :
    normAt m c t (ix2 r n)
      = Cert.Reference6Ideal.Read.val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (⟨t.val * 512 + r.val, by omega⟩ : Fin 4096) n) := by
  have e : modRow t = 0 := Fin.ext (by show t.val / 2 - 3 = 0; omega)
  rw [tile_read, e]
  exact (Cert.ResRef.ctx_norm (aX m c) (aF m c) (aM m c) (aG m c) (aB m c) ⟨t.val * 512 + r.val, by omega⟩ n).symm

/-- and so is a latents'. -/
theorem lat_read (c : Dev nD) (t : Fin cfg0.N) (ht : 8 ≤ t.val) (r : Fin 512) (n : Fin 2048) :
    normAt m c t (ix2 r n)
      = Cert.Reference6Ideal.Read.val_main_v71 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (⟨(t.val - 8) * 512 + r.val, by have := point_lt t; omega⟩ : Fin 4096) n) := by
  have hN := point_lt t
  have hr : r.val < 512 := r.isLt
  obtain ⟨s, hs⟩ : ∃ s : Fin 4, s.val = (t.val - 8) / 2 := ⟨⟨(t.val - 8) / 2, by omega⟩, rfl⟩
  obtain ⟨q, hq⟩ : ∃ q : Fin 1024, q.val = (t.val - 8) % 2 * 512 + r.val := ⟨⟨(t.val - 8) % 2 * 512 + r.val, by omega⟩, rfl⟩
  have hm : modRow t = (⟨1 + s.val, by omega⟩ : Fin 8) := Fin.ext (by show t.val / 2 - 3 = 1 + s.val; omega)
  have hrow : row t r = (⟨4096 + (s.val * 1024 + q.val), by omega⟩ : Fin 8192) := Fin.ext (by show t.val * 512 + r.val = 4096 + (s.val * 1024 + q.val); omega)
  rw [tile_read, hm, hrow]
  exact (Cert.ResRef.lat_stacked (aX m c) (aF m c) (aM m c) (aG m c) (aB m c) s q _ (by show (t.val - 8) * 512 + r.val = s.val * 1024 + q.val; omega) n).symm

/-! ## The results -/

/-- The reference's results at device `c`'s arguments: what the kernel's result arrays are shown to hold. -/
abbrev wholeCtx (c : Dev nD) : Buf (Elt Ideal) ((c : Thread nD τ).loc main_v2_0) :=
  Cert.Reference6Ideal.Read.val_main_v34 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
abbrev wholeLat (c : Dev nD) : Buf (Elt Ideal) ((c : Thread nD τ).loc main_v2_1) :=
  Cert.Reference6Ideal.Read.val_main_v71 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a point writes back of the first result is its block of the context's rows, -/
theorem flushed_ctx (c : Dev nD) (t : Fin cfg0.N) :
    (dats m 0 c).flushed 5 t = ((cfg0.win 5).blk t).view.read (Elt Ideal) (wholeCtx m c) := by
  show (cfg0.win 5).cut (grid0.coords t) ((dats m 0 c).after 5 t) = _
  rw [after0_5]
  refine funext fun (j : S512x2048.Idx) => ?_
  obtain ⟨r, n, rfl⟩ : ∃ (r : Fin 512) (n : Fin 2048), j = ix2 r n := ⟨j 0, j 1, eq_ix2 j⟩
  show normAt m c (ctxPoint t) (ix2 r n) = Cert.Reference6Ideal.Read.val_main_v34 (F := Ideal) _ _ _ _ _ ((win0_5.rect t).emb (ix2 r n))
  refine (ctx_read m c (ctxPoint t) (by show min t.val 7 < 8; omega) r n).trans (congrArg _ (funext fun a => Fin.ext ?_))
  match a with
  | ⟨0, _⟩ =>
    show min t.val 7 * 512 + r.val = win0_5.index t 0 * 512 + 1 * r.val
    rw [(index5 t).1]; omega
  | ⟨1, _⟩ =>
    show n.val = win0_5.index t 1 * 2048 + 1 * n.val
    rw [(index5 t).2]; omega

/-- and of the second, of the latents'. -/
theorem flushed_lat (c : Dev nD) (t : Fin cfg0.N) (ht : 8 ≤ t.val) :
    (dats m 0 c).flushed 6 t = ((cfg0.win 6).blk t).view.read (Elt Ideal) (wholeLat m c) := by
  show (cfg0.win 6).cut (grid0.coords t) ((dats m 0 c).after 6 t) = _
  rw [after0_6]
  refine funext fun (j : S512x2048.Idx) => ?_
  obtain ⟨r, n, rfl⟩ : ∃ (r : Fin 512) (n : Fin 2048), j = ix2 r n := ⟨j 0, j 1, eq_ix2 j⟩
  show normAt m c t (ix2 r n) = Cert.Reference6Ideal.Read.val_main_v71 (F := Ideal) _ _ _ _ _ ((win0_6.rect t).emb (ix2 r n))
  refine (lat_read m c t ht r n).trans (congrArg _ (funext fun a => Fin.ext ?_))
  match a with
  | ⟨0, _⟩ =>
    show (t.val - 8) * 512 + r.val = win0_6.index t 0 * 512 + 1 * r.val
    rw [(index6 t).1]; omega
  | ⟨1, _⟩ =>
    show n.val = win0_6.index t 1 * 2048 + 1 * n.val
    rw [(index6 t).2]; omega

/-- An element of the first result is in the block of its row's tile, the last of them written back at the last point; -/
theorem cover_ctx (i : S4096x2048.Idx) :
    ∃ t : Fin cfg0.N, (cfg0.win 5).flush t = true ∧ i ∈ ((cfg0.win 5).blk t).view.set := by
  have h0 : (i 0 : Nat) < 4096 := (i 0).isLt
  have h1 : (i 1 : Nat) < 2048 := (i 1).isLt
  obtain ⟨t, htv, htf⟩ : ∃ t : Fin cfg0.N, min t.val 7 = (i 0 : Nat) / 512 ∧ (t.val < 7 ∨ t.val = 15) := by
    by_cases h : (i 0 : Nat) / 512 < 7
    · refine ⟨⟨(i 0 : Nat) / 512, by rw [show cfg0.N = 16 from N_0]; omega⟩, ?_, .inl h⟩
      show min ((i 0 : Nat) / 512) 7 = (i 0 : Nat) / 512
      omega
    · refine ⟨⟨15, by rw [show cfg0.N = 16 from N_0]; omega⟩, ?_, .inr rfl⟩
      show min 15 7 = (i 0 : Nat) / 512
      omega
  refine ⟨t, (flush5 t).2 htf, ?_⟩
  show i ∈ ((View.whole main_v2_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(index5 t).1, htv]; omega
  | ⟨1, _⟩ =>
    show win0_5.index t 1 * 2048 ≤ (i 1 : Nat) ∧ (i 1 : Nat) < win0_5.index t 1 * 2048 + 2048
    rw [(index5 t).2]; omega

/-- one of the second in the block of its row's tile. -/
theorem cover_lat (i : S4096x2048.Idx) :
    ∃ t : Fin cfg0.N, (cfg0.win 6).flush t = true ∧ i ∈ ((cfg0.win 6).blk t).view.set := by
  have h0 : (i 0 : Nat) < 4096 := (i 0).isLt
  have h1 : (i 1 : Nat) < 2048 := (i 1).isLt
  obtain ⟨t, htv⟩ : ∃ t : Fin cfg0.N, t.val = (8 + (i 0 : Nat) / 512) := ⟨⟨(8 + (i 0 : Nat) / 512), by rw [show cfg0.N = 16 from N_0]; omega⟩, rfl⟩
  refine ⟨t, (flush6 t).2 (by rw [htv]; omega), ?_⟩
  show i ∈ ((View.whole main_v2_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(index6 t).1, htv]; omega
  | ⟨1, _⟩ =>
    show win0_6.index t 1 * 2048 ≤ (i 1 : Nat) ∧ (i 1 : Nat) < win0_6.index t 1 * 2048 + 2048
    rw [(index6 t).2]; omega

/-- So the result arrays end holding the whole results, -/
theorem final_ctx (c : Dev nD) : (dats m 0 c).arrAt 5 cfg0.N = wholeCtx m c :=
  (dats m 0 c).arrAt_eq_of_cover 5 (wholeCtx m c) (fun t _ => flushed_ctx m c t) cover_ctx
theorem final_lat (c : Dev nD) : (dats m 0 c).arrAt 6 cfg0.N = wholeLat m c :=
  (dats m 0 c).arrAt_eq_of_cover 6 (wholeLat m c) (fun t hf => flushed_lat m c t ((flush6 t).1 hf)) cover_lat

/-- and the run, read: the result arrays at the whole results, the arguments unchanged. -/
theorem run : θ_run defs (onTc (τ := τ) (main (F := Ideal))) ⟨m, fun _ => 0, ρ⟩ fun r => ∀ c : Dev nD,
      r.2.mem ((c : Thread nD τ).loc main_v2_0) = wholeCtx m c
      ∧ r.2.mem ((c : Thread nD τ).loc main_v2_1) = wholeLat m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1.1 c).1 5).trans (final_ctx m c), ((h.1.1 c).1 6).trans (final_lat m c), h.2.1 c⟩)
    (θ_run_and (run_all m ρ) (frame_run m ρ))

end Cert.Kernel6Ideal.Norm

namespace Cert.Proof.ResClaims

/-- The tiled norm and the whole one are the same function of arguments that agree. -/
theorem algebraic : Cert.algebraic_Kernel6Ideal_Reference6Ideal := by
  intro m ρ m' ρ' _ hag
  refine ⟨fun c => Cert.Kernel6Ideal.Norm.wholeCtx m c, fun c => Cert.Kernel6Ideal.Norm.wholeLat m c, Cert.Kernel6Ideal.Norm.run m ρ, ?_⟩
  refine (θ_run Cert.Reference6Ideal.defs _ _).mono (fun _ h c => ⟨(h c).1.trans ?_, (h c).2.1.trans ?_, (h c).2.2⟩)
    (Cert.Reference6Ideal.Value.run (F := Ideal) m' ρ')
  · rw [Cert.Reference6Ideal.Read.val_main_v34_eq]
    show Cert.Reference6Ideal.Read.val_main_v34 (F := Ideal) _ _ _ _ _ = Cert.Reference6Ideal.Read.val_main_v34 (F := Ideal) _ _ _ _ _
    rw [(hag c).1, (hag c).2.1, (hag c).2.2.1, (hag c).2.2.2.1, (hag c).2.2.2.2]
  · rw [Cert.Reference6Ideal.Read.val_main_v71_eq]
    show Cert.Reference6Ideal.Read.val_main_v71 (F := Ideal) _ _ _ _ _ = Cert.Reference6Ideal.Read.val_main_v71 (F := Ideal) _ _ _ _ _
    rw [(hag c).1, (hag c).2.1, (hag c).2.2.1, (hag c).2.2.2.1, (hag c).2.2.2.2]

end Cert.Proof.ResClaims

end
-- ==== Proof.S5Run8.lean ====
/-
  The body of `Kernel8`'s pallas_call, one run per kind of point of its grid: the first point takes its state from the
  initial one, the last writes its state out. What a run leaves is found by the run itself.
-/
module

public import proofs.«01_k».proof.Proof.Gen.Kernel8Ideal.Skeleton
public import proofs.«01_k».proof.Proof.Gen.Kernel8Ideal.Frame
public import proofs.«01_k».proof.Proof.Gen.Kernel8Ideal.Loops
public import Idealize.ShloMosaic.Lib.Pipeline.Value
public import Idealize.ShloMosaic.Lib.VecWindow

@[expose] public section

set_option maxRecDepth 16384

noncomputable section

namespace Cert.Proof.S5Run8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

/-- Whether a point is the first of the grid. -/
def isFirst (i : grid0.Coords) : BitVec 1 :=
  Scalar.cmpi .ne (Scalar.extui (Scalar.cmpi .eq (BitVec.ofNat 32 (i 0).val) 0#32) : BitVec 32) 0#32

theorem isFirst_iff : ∀ t : Fin grid0.N, isFirst (grid0.coords t) = 1#1 ↔ t.val = 0 := by decide +kernel
theorem isLast_iff : ∀ t : Fin grid0.N, k0_cond2 (grid0.coords t) = 1#1 ↔ t.val = 7 := by decide +kernel

set_option maxHeartbeats 1000000 in
/-- A point that is neither the first nor the last. -/
def inner (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S16x4096 .f32) (harg7 : arg7.IsWhole) (arg8 : Memref sig .tc .vmem S32x16x512 .f32) (harg8 : arg8.IsWhole) (arg9 : Memref sig .tc .vmem S512x4096 .f32) (harg9 : arg9.IsWhole) (arg10 : Memref sig .tc .vmem S16x4096 .f32) (harg10 : arg10.IsWhole)
    (h1 : ¬ isFirst i = 1#1) (h2 : ¬ k0_cond2 i = 1#1) :
    Σ' (Y : Vec F S16x32x512 .f32 → Vec F S1x4x128x1024 .bf16 → Vec F S1x4x1024x128 .bf16 → Vec F S1x1x4096 .f32 → Vec F S16x4096 .f32 → Vec F S16x32x512 .f32), { S : Vec F S16x32x512 .f32 → Vec F S1x4x128x1024 .bf16 → Vec F S1x4x1024x128 .bf16 → Vec F S1x1x4096 .f32 → Vec F S16x4096 .f32 → Vec F S16x4096 .f32 // ∀ (x1 : Vec F S16x32x512 .f32) (x2 : Vec F S1x4x128x1024 .bf16) (x3 : Vec F S1x4x1024x128 .bf16) (x4 : Vec F S1x1x4096 .f32) (x10 : Vec F S16x4096 .f32) (E : Set ℕ),
      (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg10 fullShare x10 ∗ (∃ d, owns (c : Thread nD τ) arg6 fullShare d) ∗ (∃ d, owns (c : Thread nD τ) arg8 fullShare d) ∗ (∃ d, owns (c : Thread nD τ) arg9 fullShare d)) : sProp 𝕄)
      ⊢ wp frame (wpE (defs₀ (F := F)) Variants.none c none) E (cc0_s5_pass i arg1 harg1 arg2 harg2 arg3 harg3 arg4 harg4 arg5 harg5 arg6 harg6 arg7 harg7 arg8 harg8 arg9 harg9 arg10 harg10)
          (fun _ => (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare (Y x1 x2 x3 x4 x10) ∗ owns (c : Thread nD τ) arg10 fullShare (S x1 x2 x3 x4 x10) ∗ (∃ d, owns (c : Thread nD τ) arg8 fullShare d) ∗ (∃ d, owns (c : Thread nD τ) arg9 fullShare d)) : sProp 𝕄)) } := by
  refine ⟨?_, ?_, fun x1 x2 x3 x4 x10 E => ?run⟩
  case run =>
    unfold isFirst at h1
    simp only [cc0_s5_pass_eq_skeleton]; unfold cc0_s5_pass_skel
    simp only [k0_part8_eq_skeleton]
    unfold k0_part8_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f10, %hf10, H10⟩, ⟨%d6, %f6, -, H6⟩, ⟨%d8, %f8, -, H8⟩, ⟨%d9, %f9, -, H9⟩⟩
    obtain rfl := harg1.eq_unread hf1; obtain rfl := harg2.eq_unread hf2; obtain rfl := harg3.eq_unread hf3; obtain rfl := harg4.eq_unread hf4; obtain rfl := harg10.eq_unread hf10
    sl_exec
    sl_step
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr
      swap; · iexact H6
      ipureintro; exact View.read_writes_full _ _ _ _ _
    isplitl [H10]
    · iexists _; isplitr
      swap; · iexact H10
      ipureintro; rfl
    isplitl [H8]
    · iexists _; iexists _; isplitr
      swap; · iexact H8
      ipureintro; rfl
    iexists _; iexists _; isplitr
    swap; · iexact H9
    ipureintro; rfl

set_option maxHeartbeats 1000000 in
/-- The first point. -/
def first (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S16x4096 .f32) (harg7 : arg7.IsWhole) (arg8 : Memref sig .tc .vmem S32x16x512 .f32) (harg8 : arg8.IsWhole) (arg9 : Memref sig .tc .vmem S512x4096 .f32) (harg9 : arg9.IsWhole) (arg10 : Memref sig .tc .vmem S16x4096 .f32) (harg10 : arg10.IsWhole)
    (h1 : isFirst i = 1#1) (h2 : ¬ k0_cond2 i = 1#1) :
    Σ' (Y : Vec F S16x32x512 .f32 → Vec F S1x4x128x1024 .bf16 → Vec F S1x4x1024x128 .bf16 → Vec F S1x1x4096 .f32 → Vec F S1x16x4096 .f32 → Vec F S16x32x512 .f32), { S : Vec F S16x32x512 .f32 → Vec F S1x4x128x1024 .bf16 → Vec F S1x4x1024x128 .bf16 → Vec F S1x1x4096 .f32 → Vec F S1x16x4096 .f32 → Vec F S16x4096 .f32 // ∀ (x1 : Vec F S16x32x512 .f32) (x2 : Vec F S1x4x128x1024 .bf16) (x3 : Vec F S1x4x1024x128 .bf16) (x4 : Vec F S1x1x4096 .f32) (x5 : Vec F S1x16x4096 .f32) (E : Set ℕ),
      (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg8 fullShare d) ∗ (∃ d, owns (c : Thread nD τ) arg9 fullShare d) ∗ (∃ d, owns (c : Thread nD τ) arg10 fullShare d)) : sProp 𝕄)
      ⊢ wp frame (wpE (defs₀ (F := F)) Variants.none c none) E (cc0_s5_pass i arg1 harg1 arg2 harg2 arg3 harg3 arg4 harg4 arg5 harg5 arg6 harg6 arg7 harg7 arg8 harg8 arg9 harg9 arg10 harg10)
          (fun _ => (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (Y x1 x2 x3 x4 x5) ∗ owns (c : Thread nD τ) arg10 fullShare (S x1 x2 x3 x4 x5) ∗ (∃ d, owns (c : Thread nD τ) arg8 fullShare d) ∗ (∃ d, owns (c : Thread nD τ) arg9 fullShare d)) : sProp 𝕄)) } := by
  refine ⟨?_, ?_, fun x1 x2 x3 x4 x5 E => ?run⟩
  case run =>
    unfold isFirst at h1
    simp only [cc0_s5_pass_eq_skeleton]; unfold cc0_s5_pass_skel
    simp only [k0_part8_eq_skeleton]
    unfold k0_part8_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d8, %f8, -, H8⟩, ⟨%d9, %f9, -, H9⟩, ⟨%d10, %f10, -, H10⟩⟩
    obtain rfl := harg1.eq_unread hf1; obtain rfl := harg2.eq_unread hf2; obtain rfl := harg3.eq_unread hf3; obtain rfl := harg4.eq_unread hf4; obtain rfl := harg5.eq_unread hf5
    sl_exec
    sl_step
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro; exact View.read_writes_full _ _ _ _ _
    isplitl [H10]
    · iexists _; isplitr
      swap; · iexact H10
      ipureintro; rfl
    isplitl [H8]
    · iexists _; iexists _; isplitr
      swap; · iexact H8
      ipureintro; rfl
    iexists _; iexists _; isplitr
    swap; · iexact H9
    ipureintro; rfl

set_option maxHeartbeats 1000000 in
/-- The last point. -/
def last (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S16x4096 .f32) (harg7 : arg7.IsWhole) (arg8 : Memref sig .tc .vmem S32x16x512 .f32) (harg8 : arg8.IsWhole) (arg9 : Memref sig .tc .vmem S512x4096 .f32) (harg9 : arg9.IsWhole) (arg10 : Memref sig .tc .vmem S16x4096 .f32) (harg10 : arg10.IsWhole)
    (h1 : ¬ isFirst i = 1#1) (h2 : k0_cond2 i = 1#1) :
    Σ' (Y : Vec F S16x32x512 .f32 → Vec F S1x4x128x1024 .bf16 → Vec F S1x4x1024x128 .bf16 → Vec F S1x1x4096 .f32 → Vec F S16x4096 .f32 → Vec F S16x32x512 .f32), Σ' (O : Vec F S16x32x512 .f32 → Vec F S1x4x128x1024 .bf16 → Vec F S1x4x1024x128 .bf16 → Vec F S1x1x4096 .f32 → Vec F S16x4096 .f32 → Vec F S16x4096 .f32), { S : Vec F S16x32x512 .f32 → Vec F S1x4x128x1024 .bf16 → Vec F S1x4x1024x128 .bf16 → Vec F S1x1x4096 .f32 → Vec F S16x4096 .f32 → Vec F S16x4096 .f32 // ∀ (x1 : Vec F S16x32x512 .f32) (x2 : Vec F S1x4x128x1024 .bf16) (x3 : Vec F S1x4x1024x128 .bf16) (x4 : Vec F S1x1x4096 .f32) (x10 : Vec F S16x4096 .f32) (E : Set ℕ),
      (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg10 fullShare x10 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) : sProp 𝕄)
      ⊢ wp frame (wpE (defs₀ (F := F)) Variants.none c none) E (cc0_s5_pass i arg1 harg1 arg2 harg2 arg3 harg3 arg4 harg4 arg5 harg5 arg6 harg6 arg7 harg7 arg8 harg8 arg9 harg9 arg10 harg10)
          (fun _ => (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare (Y x1 x2 x3 x4 x10) ∗ owns (c : Thread nD τ) arg10 fullShare (S x1 x2 x3 x4 x10) ∗ owns (c : Thread nD τ) arg7 fullShare (O x1 x2 x3 x4 x10) ∗ (∃ d, owns (c : Thread nD τ) arg8 fullShare d) ∗ (∃ d, owns (c : Thread nD τ) arg9 fullShare d)) : sProp 𝕄)) } := by
  refine ⟨?_, ?_, ?_, fun x1 x2 x3 x4 x10 E => ?run⟩
  case run =>
    unfold isFirst at h1
    simp only [cc0_s5_pass_eq_skeleton]; unfold cc0_s5_pass_skel
    simp only [k0_part8_eq_skeleton]
    unfold k0_part8_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f10, %hf10, H10⟩, ⟨%d6, %f6, -, H6⟩, ⟨%d7, %f7, -, H7⟩, ⟨%d8, %f8, -, H8⟩, ⟨%d9, %f9, -, H9⟩⟩
    obtain rfl := harg1.eq_unread hf1; obtain rfl := harg2.eq_unread hf2; obtain rfl := harg3.eq_unread hf3; obtain rfl := harg4.eq_unread hf4; obtain rfl := harg10.eq_unread hf10
    sl_exec
    sl_step
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr
      swap; · iexact H6
      ipureintro; exact View.read_writes_full _ _ _ _ _
    isplitl [H10]
    · iexists _; isplitr
      swap; · iexact H10
      ipureintro; rfl
    isplitl [H7]
    · iexists _; isplitr
      swap; · iexact H7
      ipureintro; exact View.read_writes_full _ _ _ _ _
    isplitl [H8]
    · iexists _; iexists _; isplitr
      swap; · iexact H8
      ipureintro; rfl
    iexists _; iexists _; isplitr
    swap; · iexact H9
    ipureintro; rfl

end Cert.Proof.S5Run8
-- ==== Proof.S5Frame8.lean ====
/-
  The frame of `Kernel8`, for any values of the elements: the state the recurrence's scratch holds from point to point,
  the body's obligation at every point from the three runs of `S5Run8`, and the run of the whole program.
-/
module

public import Idealize.ShloMosaic.Lib.Claim
public import proofs.«01_k».proof.Proof.S5Run8

@[expose] public section

set_option maxRecDepth 16384

noncomputable section

namespace Cert.Proof.S5Frame8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen Cert.Proof.S5Run8

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The run of the first point, -/
abbrev firstRun (c : Dev nD) (t : Fin cfg0.N) (h : t.val = 0) :=
  first (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) ((isFirst_iff t).mpr h) (mt (isLast_iff t).mp (by omega))
/-- of the last, -/
abbrev lastRun (c : Dev nD) (t : Fin cfg0.N) (h : t.val = 7) :=
  last (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (mt (isFirst_iff t).mp (by omega)) ((isLast_iff t).mpr h)
/-- and of any other. -/
abbrev innerRun (c : Dev nD) (t : Fin cfg0.N) (h : t.val ≠ 0) (h' : t.val ≠ 7) :=
  inner (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (mt (isFirst_iff t).mp h) (mt (isLast_iff t).mp h')

/-- The state point `t` leaves, from the one it finds: the first starts from the initial state. -/
def nextAt (c : Dev nD) (t : Fin cfg0.N) (x : Vec F S16x4096 .f32) : Vec F S16x4096 .f32 :=
  if h : t.val = 0 then (firstRun c t h).2.1 (iblk m c 0 t) (iblk m c 1 t) (iblk m c 2 t) (iblk m c 3 t) (iblk m c 4 t)
  else if h' : t.val = 7 then (lastRun c t h').2.2.1 (iblk m c 0 t) (iblk m c 1 t) (iblk m c 2 t) (iblk m c 3 t) x
  else (innerRun c t h h').2.1 (iblk m c 0 t) (iblk m c 1 t) (iblk m c 2 t) (iblk m c 3 t) x

/-- The state before point `n`. -/
def stAt (c : Dev nD) : (n : ℕ) → n ≤ cfg0.N → Vec F S16x4096 .f32
  | 0, _ => k0_pay1 (iblk m c 4 ⟨0, by decide⟩)
  | n + 1, h => nextAt m c ⟨n, h⟩ (stAt c n (Nat.le_of_lt h))

/-- The output block of point `t`. -/
def yAt (c : Dev nD) (t : Fin cfg0.N) : Vec F S16x32x512 .f32 :=
  if h : t.val = 0 then (firstRun c t h).1 (iblk m c 0 t) (iblk m c 1 t) (iblk m c 2 t) (iblk m c 3 t) (iblk m c 4 t)
  else if h' : t.val = 7 then (lastRun c t h').1 (iblk m c 0 t) (iblk m c 1 t) (iblk m c 2 t) (iblk m c 3 t) (stAt m c t.val (Nat.le_of_lt t.isLt))
  else (innerRun c t h h').1 (iblk m c 0 t) (iblk m c 1 t) (iblk m c 2 t) (iblk m c 3 t) (stAt m c t.val (Nat.le_of_lt t.isLt))

/-- What the last point writes out of the state. -/
def finalAt (c : Dev nD) (t : Fin cfg0.N) : Vec F S16x4096 .f32 :=
  if h' : t.val = 7 then (lastRun c t h').2.1 (iblk m c 0 t) (iblk m c 1 t) (iblk m c 2 t) (iblk m c 3 t) (stAt m c t.val (Nat.le_of_lt t.isLt))
  else stAt m c t.val (Nat.le_of_lt t.isLt)

/-- The invariant before point `n`: past the first point the state's scratch holds `stAt`; of the other two scratches
    nothing is known, and the generator register is at some state. -/
def PhiS (c : Dev nD) (n : ℕ) (h : n ≤ cfg0.N) : sProp 𝕄 :=
  iprop((∃ x0, ∃ x1, ∃ x2, ⌜n ≠ 0 → x2 = stAt m c n h⌝
      ∗ owns (c : Thread nD τ) (Memref.whole cc0_scratch0) fullShare x0
      ∗ owns (c : Thread nD τ) (Memref.whole cc0_scratch1) fullShare x1
      ∗ owns (c : Thread nD τ) (Memref.whole cc0_scratch2) fullShare x2) ∗ ∃ r, prngReg c r)

/-! ## The pipeline's proof data -/

/-- The proof data on core `c`: each input's buffer at its block, the outputs' at what the point leaves (the state's is
    read only where it is written back), the scratches' invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => finalAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = finalAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-! ## Where the state's output is idle -/

theorem idle6 : ∀ t : Fin grid0.N, t.val ≠ 7 → idle0 6 (grid0.coords t) = true := fun t ht => by
  have h := mt (isLast_iff t).mp ht
  show (!(k0_cond2 (grid0.coords t) == 1#1)) = true
  rw [beq_false_of_ne h]; rfl
theorem live6 : ∀ t : Fin grid0.N, t.val = 7 → idle0 6 (grid0.coords t) = false := fun t ht => by
  have h := (isLast_iff t).mpr ht
  show (!(k0_cond2 (grid0.coords t) == 1#1)) = false
  rw [h]; rfl

theorem t_lt : ∀ t : Fin cfg0.N, t.val < 8 := by decide +kernel

theorem leaves6_idle (c : Dev nD) (t : Fin cfg0.N) (ht : t.val ≠ 7) :
    (dats m 0 c).leavesExact 6 t = iprop(∃ d, owns (c : Thread nD τ) (st0_6 t) fullShare ((dats m 0 c).before 6 t d)) :=
  (dats m 0 c).leavesExact_idle 6 t (idle6 t ht) (Bool.eq_false_iff.mpr fun h => by
    have := (flush0_6 t).mp h; have := t_lt t; omega)

theorem leaves6_live (c : Dev nD) (t : Fin cfg0.N) (ht : t.val = 7) :
    (dats m 0 c).leavesExact 6 t = owns (c : Thread nD τ) (st0_6 t) fullShare (finalAt m c t) := by
  unfold Dat.leavesExact
  rw [show cfg0.idle 6 (cfg0.grid.coords t) = false from live6 t ht, after0_6]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  have hy : yAt m c t = (firstRun (F := F) c t h).1 (iblk m c 0 t) (iblk m c 1 t) (iblk m c 2 t) (iblk m c 3 t) (iblk m c 4 t) := by
    unfold yAt; rw [dif_pos h]
  have hs : stAt m c (t.val + 1) t.isLt = (firstRun (F := F) c t h).2.1 (iblk m c 0 t) (iblk m c 1 t) (iblk m c 2 t) (iblk m c 3 t) (iblk m c 4 t) := by
    show nextAt m c ⟨t.val, t.isLt⟩ _ = _
    unfold nextAt; rw [dif_pos h]
  unfold bodyPre bodyPost bodyAt0
  simp only [before0_0, before0_1, before0_2, before0_3, before0_4]
  rw [Phi_castSucc, Phi_succ, show (dats m 0 c).owesAt () t.succ = (dats m 0 c).owesAt () t.castSucc from rfl,
    after0_0, after0_1, after0_2, after0_3, after0_4, after0_5, leaves6_idle m c t (by omega), hy]
  unfold PhiS
  rw [hs]
  iintro ⟨⟨⟨%x0, %x1, %x2, %hx, Hs0, Hs1, Hs2⟩, Hr⟩, Ho, ⟨%d0, H0⟩, ⟨%d1, H1⟩, ⟨%d2, H2⟩, ⟨%d3, H3⟩, ⟨%d4, H4⟩, ⟨%d5, H5⟩, ⟨%d6, H6⟩⟩
  iapply (wp_wand_r Idealize.ShloMosaic.frame (wpE (defs₀ (F := F)) Variants.none (c : Thread nD τ) none) Set.univ)
  isplitl [H0 H1 H2 H3 H4 H5 Hs0 Hs1 Hs2]
  · iapply ((firstRun (F := F) c t h).2.2 (iblk m c 0 t) (iblk m c 1 t) (iblk m c 2 t) (iblk m c 3 t) (iblk m c 4 t) Set.univ)
    isplitl [H0]; · iexact H0
    isplitl [H1]; · iexact H1
    isplitl [H2]; · iexact H2
    isplitl [H3]; · iexact H3
    isplitl [H4]; · iexact H4
    isplitl [H5]; · iexists _; iexact H5
    isplitl [Hs0]; · iexists _; iexact Hs0
    isplitl [Hs1]; · iexists _; iexact Hs1
    iexists _; iexact Hs2
  · iintro %yld ⟨H0, H1, H2, H3, H4, H5, Hs2, ⟨%e0, Hs0⟩, ⟨%e1, Hs1⟩⟩
    isplitl [Hs0 Hs1 Hs2 Hr]
    · isplitr [Hr]
      · iexists e0; iexists e1; iexists _
        isplitr; · ipureintro; exact fun _ => rfl
        isplitl [Hs0]; · iexact Hs0
        isplitl [Hs1]; · iexact Hs1
        iexact Hs2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6

/-- The body at any other point. -/
theorem sound_inner (c : Dev nD) (t : Fin cfg0.N) (h : t.val ≠ 0) (h' : t.val ≠ 7) :
    bodyPre m c t ⊢ wp frame (wpE (defs₀ (F := F)) Variants.none c none) Set.univ (bodyAt0 t) (fun _ => bodyPost m c t) := by
  have hy : yAt m c t = (innerRun (F := F) c t h h').1 (iblk m c 0 t) (iblk m c 1 t) (iblk m c 2 t) (iblk m c 3 t) (stAt m c t.val (Nat.le_of_lt t.isLt)) := by
    unfold yAt; rw [dif_neg h, dif_neg h']
  have hs : stAt m c (t.val + 1) t.isLt = (innerRun (F := F) c t h h').2.1 (iblk m c 0 t) (iblk m c 1 t) (iblk m c 2 t) (iblk m c 3 t) (stAt m c t.val (Nat.le_of_lt t.isLt)) := by
    show nextAt m c ⟨t.val, t.isLt⟩ _ = _
    unfold nextAt; rw [dif_neg h, dif_neg h']
  unfold bodyPre bodyPost bodyAt0
  simp only [before0_0, before0_1, before0_2, before0_3, before0_4]
  rw [Phi_castSucc, Phi_succ, show (dats m 0 c).owesAt () t.succ = (dats m 0 c).owesAt () t.castSucc from rfl,
    after0_0, after0_1, after0_2, after0_3, after0_4, after0_5, leaves6_idle m c t (by omega), hy]
  unfold PhiS
  rw [hs]
  iintro ⟨⟨⟨%x0, %x1, %x2, %hx, Hs0, Hs1, Hs2⟩, Hr⟩, Ho, ⟨%d0, H0⟩, ⟨%d1, H1⟩, ⟨%d2, H2⟩, ⟨%d3, H3⟩, ⟨%d4, H4⟩, ⟨%d5, H5⟩, ⟨%d6, H6⟩⟩
  obtain rfl := hx (by omega)
  iapply (wp_wand_r Idealize.ShloMosaic.frame (wpE (defs₀ (F := F)) Variants.none (c : Thread nD τ) none) Set.univ)
  isplitl [H0 H1 H2 H3 H5 Hs0 Hs1 Hs2]
  · iapply ((innerRun (F := F) c t h h').2.2 (iblk m c 0 t) (iblk m c 1 t) (iblk m c 2 t) (iblk m c 3 t) (stAt m c t.val (Nat.le_of_lt t.isLt)) Set.univ)
    isplitl [H0]; · iexact H0
    isplitl [H1]; · iexact H1
    isplitl [H2]; · iexact H2
    isplitl [H3]; · iexact H3
    isplitl [Hs2]; · iexact Hs2
    isplitl [H5]; · iexists _; iexact H5
    isplitl [Hs0]; · iexists _; iexact Hs0
    iexists _; iexact Hs1
  · iintro %yld ⟨H0, H1, H2, H3, H5, Hs2, ⟨%e0, Hs0⟩, ⟨%e1, Hs1⟩⟩
    isplitl [Hs0 Hs1 Hs2 Hr]
    · isplitr [Hr]
      · iexists e0; iexists e1; iexists _
        isplitr; · ipureintro; exact fun _ => rfl
        isplitl [Hs0]; · iexact Hs0
        isplitl [Hs1]; · iexact Hs1
        iexact Hs2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6

/-- The body at the last point. -/
theorem sound_last (c : Dev nD) (t : Fin cfg0.N) (h : t.val = 7) :
    bodyPre m c t ⊢ wp frame (wpE (defs₀ (F := F)) Variants.none c none) Set.univ (bodyAt0 t) (fun _ => bodyPost m c t) := by
  have hy : yAt m c t = (lastRun (F := F) c t h).1 (iblk m c 0 t) (iblk m c 1 t) (iblk m c 2 t) (iblk m c 3 t) (stAt m c t.val (Nat.le_of_lt t.isLt)) := by
    unfold yAt; rw [dif_neg (show t.val ≠ 0 by omega), dif_pos h]
  have hs : stAt m c (t.val + 1) t.isLt = (lastRun (F := F) c t h).2.2.1 (iblk m c 0 t) (iblk m c 1 t) (iblk m c 2 t) (iblk m c 3 t) (stAt m c t.val (Nat.le_of_lt t.isLt)) := by
    show nextAt m c ⟨t.val, t.isLt⟩ _ = _
    unfold nextAt; rw [dif_neg (show t.val ≠ 0 by omega), dif_pos h]
  have hf : finalAt m c t = (lastRun (F := F) c t h).2.1 (iblk m c 0 t) (iblk m c 1 t) (iblk m c 2 t) (iblk m c 3 t) (stAt m c t.val (Nat.le_of_lt t.isLt)) := by
    unfold finalAt; rw [dif_pos h]
  unfold bodyPre bodyPost bodyAt0
  simp only [before0_0, before0_1, before0_2, before0_3, before0_4]
  rw [Phi_castSucc, Phi_succ, show (dats m 0 c).owesAt () t.succ = (dats m 0 c).owesAt () t.castSucc from rfl,
    after0_0, after0_1, after0_2, after0_3, after0_4, after0_5, leaves6_live m c t h, hy, hf]
  unfold PhiS
  rw [hs]
  iintro ⟨⟨⟨%x0, %x1, %x2, %hx, Hs0, Hs1, Hs2⟩, Hr⟩, Ho, ⟨%d0, H0⟩, ⟨%d1, H1⟩, ⟨%d2, H2⟩, ⟨%d3, H3⟩, ⟨%d4, H4⟩, ⟨%d5, H5⟩, ⟨%d6, H6⟩⟩
  obtain rfl := hx (by omega)
  iapply (wp_wand_r Idealize.ShloMosaic.frame (wpE (defs₀ (F := F)) Variants.none (c : Thread nD τ) none) Set.univ)
  isplitl [H0 H1 H2 H3 H5 H6 Hs0 Hs1 Hs2]
  · iapply ((lastRun (F := F) c t h).2.2.2 (iblk m c 0 t) (iblk m c 1 t) (iblk m c 2 t) (iblk m c 3 t) (stAt m c t.val (Nat.le_of_lt t.isLt)) Set.univ)
    isplitl [H0]; · iexact H0
    isplitl [H1]; · iexact H1
    isplitl [H2]; · iexact H2
    isplitl [H3]; · iexact H3
    isplitl [Hs2]; · iexact Hs2
    isplitl [H5]; · iexists _; iexact H5
    isplitl [H6]; · iexists _; iexact H6
    isplitl [Hs0]; · iexists _; iexact Hs0
    iexists _; iexact Hs1
  · iintro %yld ⟨H0, H1, H2, H3, H5, Hs2, H6, ⟨%e0, Hs0⟩, ⟨%e1, Hs1⟩⟩
    isplitl [Hs0 Hs1 Hs2 Hr]
    · isplitr [Hr]
      · iexists e0; iexists e1; iexists _
        isplitr; · ipureintro; exact fun _ => rfl
        isplitl [Hs0]; · iexact Hs0
        isplitl [Hs1]; · iexact Hs1
        iexact Hs2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h7 : t.val = 7
  · exact sound_last m c t h7
  · exact sound_inner m c t h0 h7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The region enters the invariant, knowing nothing of the scratches, -/
theorem enter (c : Dev nD) : Pipeline.ΦA spec0 c ⊢ (dats (F := F) m 0 c).Φ 0 := by
  show Pipeline.ΦA spec0 c ⊢ PhiS m c 0 (Nat.zero_le _)
  unfold Pipeline.ΦA PhiS
  rw [scopedRest0_eq]
  iintro ⟨⟨⟨%f0, H0⟩, ⟨%f1, H1⟩, ⟨%f2, H2⟩⟩, Hr⟩
  isplitr [Hr]
  · iexists f0; iexists f1; iexists f2
    isplitr; · ipureintro; exact fun h => absurd rfl h
    rw [owns_whole, owns_whole, owns_whole]
    isplitl [H0]; · iexact H0
    isplitl [H1]; · iexact H1
    iexact H2
  iexact Hr

/-- and leaves it, forgetting them. -/
theorem leave (c : Dev nD) : (dats (F := F) m 0 c).Φ (Fin.last cfg0.N) ⊢ Pipeline.ΦA spec0 c := by
  show PhiS m c cfg0.N (le_refl _) ⊢ Pipeline.ΦA spec0 c
  unfold Pipeline.ΦA PhiS
  rw [scopedRest0_eq]
  simp only [owns_whole]
  iintro ⟨⟨%x0, %x1, %x2, -, H0, H1, H2⟩, Hr⟩
  isplitr [Hr]
  · isplitl [H0]; · iexists x0; iexact H0
    isplitl [H1]; · iexists x1; iexact H1
    iexists x2; iexact H2
  iexact Hr

-- the launch's implicit arguments are found by unifying its conclusion with this one
set_option backward.isDefEq.respectTransparency.types false in
/-- The run of the whole program: every array at what the proof data compute, every other buffer as the region found it,
    every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The argument arrays end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Proof.S5Frame8
-- ==== Proof.S5Math.lean ====
/-
  The state-space recurrence one lane at a time (`cell`), and what a loop over time steps does to a pair of column strips of
  the buffer of projected inputs: it carries the recurrence and writes nothing outside its strips (`strip`).
-/
module

public import Idealize.ShloMosaic.Lib.IdealHost
public import Idealize.ShloMosaic.Lib.ValueIdx
public import Idealize.ShloMosaic.Lib.Pipeline.Value
public import Idealize.ShloMosaic.Lib.VecWindow
public import Idealize.ShloMosaic.Lib.WritesUnit

@[expose] public section

set_option maxRecDepth 16384

noncomputable section

namespace Cert.Proof.S5Math

open Idealize.ShloMosaic

/-- The buffer of projected inputs, a row to a time step and sequence, -/
abbrev SH : Shape := ⟨2, ![512, 4096]⟩
/-- and a strip of the state. -/
abbrev SC : Shape := ⟨2, ![16, 256]⟩

/-- One complex lane of the recurrence: the state after `n` steps, from `(hr, hi)`, the inputs `b`. -/
def cell (ar ai hr hi : EReal) (b : ℕ → EReal × EReal) : ℕ → EReal × EReal
  | 0 => (hr, hi)
  | n + 1 => (ar * (cell ar ai hr hi b n).1 - ai * (cell ar ai hr hi b n).2 + (b n).1,
      ar * (cell ar ai hr hi b n).2 + ai * (cell ar ai hr hi b n).1 + (b n).2)

theorem cell_congr (ar ai hr hi : EReal) (b b' : ℕ → EReal × EReal) : ∀ n, (∀ k, k < n → b k = b' k) →
    cell ar ai hr hi b n = cell ar ai hr hi b' n
  | 0, _ => rfl
  | n + 1, h => by
    show (_, _) = (_, _)
    rw [cell_congr ar ai hr hi b b' n fun k hk => h k (by omega), h n (by omega)]

theorem cell_add (ar ai hr hi : EReal) (b : ℕ → EReal × EReal) (m : ℕ) : ∀ n, cell ar ai hr hi b (m + n)
    = cell ar ai (cell ar ai hr hi b m).1 (cell ar ai hr hi b m).2 (fun k => b (m + k)) n
  | 0 => rfl
  | n + 1 => by
    show cell ar ai hr hi b ((m + n) + 1) = (_, _)
    rw [← cell_add ar ai hr hi b m n]
    rfl

/-- The lane pair `re`, `re + 512` of sequence `b` after a point's 32 steps: `a` the factors and `h` the state by lane, `BU`
    the projected inputs by row and lane, `row k` the first row of step `k`. -/
def pair (row : ℕ → ℕ) (a : ℕ → EReal) (h BU : ℕ → ℕ → EReal) (b re : ℕ) : EReal × EReal :=
  cell (a re) (a (re + 512)) (h b re) (h b (re + 512)) (fun k => (BU (row k + b) re, BU (row k + b) (re + 512))) 32

/-- The whole state after a point: of each 1024 lanes the first 512 are real parts, the others imaginary. -/
def new (row : ℕ → ℕ) (a : ℕ → EReal) (h BU : ℕ → ℕ → EReal) (b lane : ℕ) : EReal :=
  if lane % 1024 < 512 then (pair row a h BU b (lane / 1024 * 1024 + lane % 512)).1
  else (pair row a h BU b (lane / 1024 * 1024 + lane % 512)).2

theorem new_re (row : ℕ → ℕ) (a : ℕ → EReal) (h BU : ℕ → ℕ → EReal) (b q j : ℕ) (hj : j < 512) :
    new row a h BU b (q * 1024 + j) = (pair row a h BU b (q * 1024 + j)).1 := by
  unfold new
  rw [if_pos (by omega), show (q * 1024 + j) / 1024 * 1024 + (q * 1024 + j) % 512 = q * 1024 + j by omega]
theorem new_im (row : ℕ → ℕ) (a : ℕ → EReal) (h BU : ℕ → ℕ → EReal) (b q j : ℕ) (hj : j < 512) :
    new row a h BU b (q * 1024 + j + 512) = (pair row a h BU b (q * 1024 + j)).2 := by
  unfold new
  rw [if_neg (by omega), show (q * 1024 + j + 512) / 1024 * 1024 + (q * 1024 + j + 512) % 512 = q * 1024 + j by omega]

variable {sig : RefSig} {κ : Kind} {sp : Space}

/-- Writes whose newest pieces agree with one function and cover an element leave it there, whatever came before. -/
theorem read_prefix {s : Shape} {e : EltTy} {Val : EltTy → Type} (v : View sig κ sp s e) (f : v.ty.Contents Val) (G : s.Idx → Val e)
    (rest : List (View.Piece Val s e)) : ∀ L : List (View.Piece Val s e), (∀ p ∈ L, ∀ x : p.1.shape.Idx, p.2 x = G (p.1.emb x)) →
      ∀ y : s.Idx, (∃ p ∈ L, y ∈ p.1.set) → v.read Val (v.writes Val f (L ++ rest)) y = G y
  | [], _, _, h => by obtain ⟨_, hm, _⟩ := h; exact absurd hm List.not_mem_nil
  | p :: L, hG, y, h => by
    by_cases hy : y ∈ p.1.set
    · obtain ⟨x, rfl⟩ : ∃ x, p.1.emb x = y := p.1.exists_idx_of_mem hy
      obtain ⟨r, w⟩ := p
      exact (View.read_writes_cons_emb v f r w (L ++ rest) x).trans (hG ⟨r, w⟩ List.mem_cons_self x)
    · have hy' : y ∉ Finset.univ.map p.1.emb := by rwa [Rect.map_emb_univ]
      rw [List.cons_append, View.writes_cons, View.read_slice_write_of_not_mem p.1 _ _ _ hy']
      refine read_prefix v f G rest L (fun p' hp' => hG p' (List.mem_cons_of_mem _ hp')) y ?_
      obtain ⟨p', hm, hy''⟩ := h
      rcases List.mem_cons.mp hm with rfl | hm
      · exact absurd hy'' hy
      · exact ⟨p', hm, hy''⟩

/-- A loop of 32 trips over a pair of strips, trip `k` reading the inputs of step `k` and writing over them: the carried
    state runs the recurrence, and what lies outside the strips stays. -/
theorem strip (v : View sig κ sp SH .f32) (G : v.ty.Contents (Elt Ideal))
    (st : ℕ → ((SC.Idx → EReal) × (SC.Idx → EReal)) × List (View.Piece (Elt Ideal) SH .f32))
    (ar ai : SC.Idx → EReal) (row : ℕ → ℕ) (re im : ℕ) (h0 : (st 0).2 = [])
    (hs : ∀ k, k < 32 → ∃ (o1 o2 : Fin 2 → ℕ) (i1 : ∀ a, o1 a + SC.size a ≤ SH.size a) (i2 : ∀ a, o2 a + SC.size a ≤ SH.size a)
      (w1 w2 : SC.Idx → EReal), (o1 0 = row k ∧ o1 1 = re) ∧ (o2 0 = row k ∧ o2 1 = im)
      ∧ (∀ x : SC.Idx, (st (k + 1)).1.1 x = ar x * (st k).1.1 x - ai x * (st k).1.2 x
          + v.readAt (Elt Ideal) (Rect.unit (s := SH) o1 SC.size i1).toLoadRect (v.writes (Elt Ideal) G (st k).2) x)
      ∧ (∀ x : SC.Idx, (st (k + 1)).1.2 x = ar x * (st k).1.2 x + ai x * (st k).1.1 x
          + v.readAt (Elt Ideal) (Rect.unit (s := SH) o2 SC.size i2).toLoadRect (v.writes (Elt Ideal) G (st k).2) x)
      ∧ (st (k + 1)).2 = (⟨Rect.unit o2 SC.size i2, w2⟩ : View.Piece (Elt Ideal) SH .f32) :: ⟨Rect.unit o1 SC.size i1, w1⟩ :: (st k).2)
    (hrow : ∀ k k', k < k' → k' < 32 → row k + 16 ≤ row k' ∨ row k' + 16 ≤ row k) (hb : re + 256 ≤ im)
    (B : ℕ → SC.Idx → EReal × EReal)
    (hB1 : ∀ k, k < 32 → ∀ (x : SC.Idx) (y : SH.Idx), (y 0).val = row k + (x 0).val → (y 1).val = re + (x 1).val → v.read (Elt Ideal) G y = (B k x).1)
    (hB2 : ∀ k, k < 32 → ∀ (x : SC.Idx) (y : SH.Idx), (y 0).val = row k + (x 0).val → (y 1).val = im + (x 1).val → v.read (Elt Ideal) G y = (B k x).2) :
    ∀ k, k ≤ 32 → (∀ x, (st k).1.1 x = (cell (ar x) (ai x) ((st 0).1.1 x) ((st 0).1.2 x) (fun n => B n x) k).1
        ∧ (st k).1.2 x = (cell (ar x) (ai x) ((st 0).1.1 x) ((st 0).1.2 x) (fun n => B n x) k).2)
      ∧ ∀ y : SH.Idx, ((∀ k', k' < k → (y 0).val < row k' ∨ row k' + 16 ≤ (y 0).val)
          ∨ (((y 1).val < re ∨ re + 256 ≤ (y 1).val) ∧ ((y 1).val < im ∨ im + 256 ≤ (y 1).val))) →
        v.read (Elt Ideal) (v.writes (Elt Ideal) G (st k).2) y = v.read (Elt Ideal) G y
  | 0, _ => ⟨fun x => ⟨rfl, rfl⟩, fun y _ => by rw [h0]; rfl⟩
  | k + 1, hk => by
    obtain ⟨ih1, ih2⟩ := strip v G st ar ai row re im h0 hs hrow hb B hB1 hB2 k (by omega)
    obtain ⟨o1, o2, i1, i2, w1, w2, ⟨ho10, ho11⟩, ⟨ho20, ho21⟩, e1, e2, eL⟩ := hs k (by omega)
    have hx0 : ∀ x : SC.Idx, (x 0).val < 16 := fun x => (x 0).isLt
    have hx1 : ∀ x : SC.Idx, (x 1).val < 256 := fun x => (x 1).isLt
    refine ⟨fun x => ⟨?_, ?_⟩, fun y hy => ?_⟩
    · rw [e1 x, (ih1 x).1, (ih1 x).2, View.readAt_apply]
      have hr0 : (((Rect.unit (s := SH) o1 SC.size i1).toLoadRect.idx x) 0).val = row k + (x 0).val := by
        rw [← ho10]; show o1 0 + 1 * (x 0).val = _; omega
      have hr1 : (((Rect.unit (s := SH) o1 SC.size i1).toLoadRect.idx x) 1).val = re + (x 1).val := by
        rw [← ho11]; show o1 1 + 1 * (x 1).val = _; omega
      rw [ih2 _ (.inl fun k' hk' => by
        rw [hr0]; have := hrow k' k hk' (by omega); have := hx0 x; omega), hB1 k (by omega) x _ hr0 hr1]
      rfl
    · rw [e2 x, (ih1 x).1, (ih1 x).2, View.readAt_apply]
      have hr0 : (((Rect.unit (s := SH) o2 SC.size i2).toLoadRect.idx x) 0).val = row k + (x 0).val := by
        rw [← ho20]; show o2 0 + 1 * (x 0).val = _; omega
      have hr1 : (((Rect.unit (s := SH) o2 SC.size i2).toLoadRect.idx x) 1).val = im + (x 1).val := by
        rw [← ho21]; show o2 1 + 1 * (x 1).val = _; omega
      rw [ih2 _ (.inl fun k' hk' => by
        rw [hr0]; have := hrow k' k hk' (by omega); have := hx0 x; omega), hB2 k (by omega) x _ hr0 hr1]
      rfl
    · have hrest := ih2 y (hy.imp (fun h k' hk' => h k' (by omega)) id)
      rw [eL]
      rcases hy with hy | hy
      · have := hy k (by omega)
        rw [View.read_writes_cons_unit_of_not_mem v G i2 w2 _ y rfl 0 (by rw [ho20]; exact this),
          View.read_writes_cons_unit_of_not_mem v G i1 w1 _ y rfl 0 (by rw [ho10]; exact this), hrest]
      · rw [View.read_writes_cons_unit_of_not_mem v G i2 w2 _ y rfl 1 (by rw [ho21]; exact hy.2),
          View.read_writes_cons_unit_of_not_mem v G i1 w1 _ y rfl 1 (by rw [ho11]; exact hy.1), hrest]

end Cert.Proof.S5Math
-- ==== Proof.S5Chain.lean ====
/-
  A point's eight loops over pairs of column strips one after another: what each leaves (`Runs`), and that together they make
  of the state 32 steps of the recurrence on every lane (`chain`).
-/
module

public import proofs.«01_k».proof.Proof.S5Math

@[expose] public section

set_option maxRecDepth 16384

noncomputable section

namespace Cert.Proof.S5Chain

open Idealize.ShloMosaic Cert.Proof.S5Math

/-- The state, a row to a sequence. -/
abbrev SS : Shape := ⟨2, ![16, 4096]⟩

/-- A strip of factors is `a` from lane `o`, -/
def Fac (w : SC.Idx → EReal) (a : ℕ → EReal) (o : ℕ) : Prop := ∀ x : SC.Idx, w x = a (o + (x 1).val)
/-- and a strip of the state is `h` from lane `o`. -/
def Lanes (w : SC.Idx → EReal) (h : ℕ → ℕ → EReal) (o : ℕ) : Prop := ∀ x : SC.Idx, w x = h (x 0).val (o + (x 1).val)

variable {sig : RefSig} {κ : Kind} {sp : Space}

/-- The buffer holds the projected inputs `BU` on the 256 lanes from `o`. -/
def On (v : View sig κ sp SH .f32) (G : v.ty.Contents (Elt Ideal)) (BU : ℕ → ℕ → EReal) (o : ℕ) : Prop :=
  ∀ y : SH.Idx, o ≤ (y 1).val → (y 1).val < o + 256 → v.read (Elt Ideal) G y = BU (y 0).val (y 1).val

/-- What a loop carries out and writes. -/
abbrev Res : Type := ((SC.Idx → EReal) × (SC.Idx → EReal)) × List (View.Piece (Elt Ideal) SH .f32)

/-- The steps of the lane pair `re`, `im` at an element of the strips. -/
def steps (row : ℕ → ℕ) (a : ℕ → EReal) (h BU : ℕ → ℕ → EReal) (re im : ℕ) (x : SC.Idx) : EReal × EReal :=
  cell (a (re + (x 1).val)) (a (im + (x 1).val)) (h (x 0).val (re + (x 1).val)) (h (x 0).val (im + (x 1).val))
    (fun k => (BU (row k + (x 0).val) (re + (x 1).val), BU (row k + (x 0).val) (im + (x 1).val))) 32

/-- A loop over the strips from `re` and `im` runs the recurrence on them and leaves the rest of the buffer. -/
def Runs (v : View sig κ sp SH .f32) (G : v.ty.Contents (Elt Ideal)) (r : Res) (row : ℕ → ℕ) (a : ℕ → EReal)
    (h BU : ℕ → ℕ → EReal) (re im : ℕ) : Prop :=
  (∀ x : SC.Idx, r.1.1 x = (steps row a h BU re im x).1 ∧ r.1.2 x = (steps row a h BU re im x).2)
    ∧ ∀ y : SH.Idx, ((y 1).val < re ∨ re + 256 ≤ (y 1).val) → ((y 1).val < im ∨ im + 256 ≤ (y 1).val) →
      v.read (Elt Ideal) (v.writes (Elt Ideal) G r.2) y = v.read (Elt Ideal) G y

/-- `strip` with the factors, the state and the inputs by lane. -/
theorem strip_runs (v : View sig κ sp SH .f32) (G : v.ty.Contents (Elt Ideal)) (st : ℕ → Res)
    (ar ai : SC.Idx → EReal) (row : ℕ → ℕ) (re im : ℕ) (h0 : (st 0).2 = [])
    (hs : ∀ k, k < 32 → ∃ (o1 o2 : Fin 2 → ℕ) (i1 : ∀ a, o1 a + SC.size a ≤ SH.size a) (i2 : ∀ a, o2 a + SC.size a ≤ SH.size a)
      (w1 w2 : SC.Idx → EReal), (o1 0 = row k ∧ o1 1 = re) ∧ (o2 0 = row k ∧ o2 1 = im)
      ∧ (∀ x : SC.Idx, (st (k + 1)).1.1 x = ar x * (st k).1.1 x - ai x * (st k).1.2 x
          + v.readAt (Elt Ideal) (Rect.unit (s := SH) o1 SC.size i1).toLoadRect (v.writes (Elt Ideal) G (st k).2) x)
      ∧ (∀ x : SC.Idx, (st (k + 1)).1.2 x = ar x * (st k).1.2 x + ai x * (st k).1.1 x
          + v.readAt (Elt Ideal) (Rect.unit (s := SH) o2 SC.size i2).toLoadRect (v.writes (Elt Ideal) G (st k).2) x)
      ∧ (st (k + 1)).2 = (⟨Rect.unit o2 SC.size i2, w2⟩ : View.Piece (Elt Ideal) SH .f32) :: ⟨Rect.unit o1 SC.size i1, w1⟩ :: (st k).2)
    (hrow : ∀ k k', k < k' → k' < 32 → row k + 16 ≤ row k' ∨ row k' + 16 ≤ row k) (hb : re + 256 ≤ im)
    (a : ℕ → EReal) (h BU : ℕ → ℕ → EReal) (g1 : On v G BU re) (g2 : On v G BU im) (ha : Fac ar a re) (hai : Fac ai a im)
    (hp : Lanes (st 0).1.1 h re) (hq : Lanes (st 0).1.2 h im) : Runs v G (st 32) row a h BU re im := by
  have hx1 : ∀ x : SC.Idx, (x 1).val < 256 := fun x => (x 1).isLt
  have key := strip v G st ar ai row re im h0 hs hrow hb
    (fun k x => (BU (row k + (x 0).val) (re + (x 1).val), BU (row k + (x 0).val) (im + (x 1).val)))
    (fun k _ x y h0 h1 => by have := hx1 x; rw [g1 y (by omega) (by omega), h0, h1])
    (fun k _ x y h0 h1 => by have := hx1 x; rw [g2 y (by omega) (by omega), h0, h1]) 32 (le_refl _)
  refine ⟨fun x => ?_, fun y h1 h2 => key.2 y (.inr ⟨h1, h2⟩)⟩
  have := key.1 x
  unfold steps
  rw [← ha, ← hai, ← hp, ← hq]
  exact this

theorem fits (o : ℕ) (ho : o + 256 ≤ 4096) (a : Fin 2) : (![0, o] : Fin 2 → ℕ) a + SC.size a ≤ SS.size a :=
  match a with
  | ⟨0, _⟩ => le_refl _
  | ⟨1, _⟩ => ho

/-- A strip of the state written back at lane `o`. -/
abbrev back (o : ℕ) (ho : o + 256 ≤ 4096) (w : SC.Idx → EReal) : View.Piece (Elt Ideal) SS .f32 :=
  ⟨Rect.unit (s := SS) ![0, o] SC.size (fits o ho), w⟩

theorem back_re (row : ℕ → ℕ) (a : ℕ → EReal) (h BU : ℕ → ℕ → EReal) (w u : SC.Idx → EReal) (hw : ∀ x, w x = u x) (q j o im : ℕ)
    (ho : o = q * 1024 + j) (him : im = o + 512) (hj : j + 256 ≤ 512) (hu : ∀ x, u x = (steps row a h BU o im x).1) (x : SC.Idx) :
    w x = new row a h BU (0 + 1 * (x 0).val) (o + 1 * (x 1).val) := by
  have hx1 : (x 1).val < 256 := (x 1).isLt
  subst ho him
  rw [hw, hu, Nat.zero_add, Nat.one_mul, Nat.one_mul, show q * 1024 + j + (x 1).val = q * 1024 + (j + (x 1).val) by omega,
    new_re _ _ _ _ _ _ _ (by omega)]
  unfold pair steps
  rw [show q * 1024 + j + (x 1).val = q * 1024 + (j + (x 1).val) by omega,
    show q * 1024 + j + 512 + (x 1).val = q * 1024 + (j + (x 1).val) + 512 by omega]
theorem back_im (row : ℕ → ℕ) (a : ℕ → EReal) (h BU : ℕ → ℕ → EReal) (w u : SC.Idx → EReal) (hw : ∀ x, w x = u x) (q j o re : ℕ)
    (hre : re = q * 1024 + j) (ho : o = re + 512) (hj : j + 256 ≤ 512) (hu : ∀ x, u x = (steps row a h BU re o x).2) (x : SC.Idx) :
    w x = new row a h BU (0 + 1 * (x 0).val) (o + 1 * (x 1).val) := by
  have hx1 : (x 1).val < 256 := (x 1).isLt
  subst hre ho
  rw [hw, hu, Nat.zero_add, Nat.one_mul, Nat.one_mul, show q * 1024 + j + 512 + (x 1).val = q * 1024 + (j + (x 1).val) + 512 by omega,
    new_im _ _ _ _ _ _ _ (by omega)]
  unfold pair steps
  rw [show q * 1024 + j + (x 1).val = q * 1024 + (j + (x 1).val) by omega,
    show q * 1024 + j + 512 + (x 1).val = q * 1024 + (j + (x 1).val) + 512 by omega]

/-- The state's buffer after a point: 32 steps of the recurrence on every lane, where `L1` are the projected inputs' pieces,
    `r` what the loops leave and `w`, `u` the strips written back. -/
theorem chain {κ' : Kind} {sp' : Space} (v : View sig κ sp SH .f32) (vs : View sig κ' sp' SS .f32)
    (row : ℕ → ℕ) (a : ℕ → EReal) (h BU : ℕ → ℕ → EReal)
    (w1 u1 w2 u2 w3 u3 w4 u4 w5 u5 w6 u6 w7 u7 w8 u8 : SC.Idx → EReal) (r1 r2 r3 r4 r5 r6 r7 r8 : Res)
    (L1 L2 L3 L4 L5 L6 L7 L8 : List (View.Piece (Elt Ideal) SH .f32))
    (hw1 : ∀ x, w1 x = r1.1.1 x) (hu1 : ∀ x, u1 x = r1.1.2 x)
    (hw2 : ∀ x, w2 x = r2.1.1 x) (hu2 : ∀ x, u2 x = r2.1.2 x)
    (hw3 : ∀ x, w3 x = r3.1.1 x) (hu3 : ∀ x, u3 x = r3.1.2 x)
    (hw4 : ∀ x, w4 x = r4.1.1 x) (hu4 : ∀ x, u4 x = r4.1.2 x)
    (hw5 : ∀ x, w5 x = r5.1.1 x) (hu5 : ∀ x, u5 x = r5.1.2 x)
    (hw6 : ∀ x, w6 x = r6.1.1 x) (hu6 : ∀ x, u6 x = r6.1.2 x)
    (hw7 : ∀ x, w7 x = r7.1.1 x) (hu7 : ∀ x, u7 x = r7.1.2 x)
    (hw8 : ∀ x, w8 x = r8.1.1 x) (hu8 : ∀ x, u8 x = r8.1.2 x)
    (hr1 : On v (v.writes (Elt Ideal) v.junk L1) BU 0 → On v (v.writes (Elt Ideal) v.junk L1) BU 512 → Runs v (v.writes (Elt Ideal) v.junk L1) r1 row a h BU 0 512)
    (hr2 : On v (v.writes (Elt Ideal) v.junk L2) BU 256 → On v (v.writes (Elt Ideal) v.junk L2) BU 768 → Runs v (v.writes (Elt Ideal) v.junk L2) r2 row a h BU 256 768)
    (hr3 : On v (v.writes (Elt Ideal) v.junk L3) BU 1024 → On v (v.writes (Elt Ideal) v.junk L3) BU 1536 → Runs v (v.writes (Elt Ideal) v.junk L3) r3 row a h BU 1024 1536)
    (hr4 : On v (v.writes (Elt Ideal) v.junk L4) BU 1280 → On v (v.writes (Elt Ideal) v.junk L4) BU 1792 → Runs v (v.writes (Elt Ideal) v.junk L4) r4 row a h BU 1280 1792)
    (hr5 : On v (v.writes (Elt Ideal) v.junk L5) BU 2048 → On v (v.writes (Elt Ideal) v.junk L5) BU 2560 → Runs v (v.writes (Elt Ideal) v.junk L5) r5 row a h BU 2048 2560)
    (hr6 : On v (v.writes (Elt Ideal) v.junk L6) BU 2304 → On v (v.writes (Elt Ideal) v.junk L6) BU 2816 → Runs v (v.writes (Elt Ideal) v.junk L6) r6 row a h BU 2304 2816)
    (hr7 : On v (v.writes (Elt Ideal) v.junk L7) BU 3072 → On v (v.writes (Elt Ideal) v.junk L7) BU 3584 → Runs v (v.writes (Elt Ideal) v.junk L7) r7 row a h BU 3072 3584)
    (hr8 : On v (v.writes (Elt Ideal) v.junk L8) BU 3328 → On v (v.writes (Elt Ideal) v.junk L8) BU 3840 → Runs v (v.writes (Elt Ideal) v.junk L8) r8 row a h BU 3328 3840)
    (hL2 : L2 = r1.2 ++ L1) (hL3 : L3 = r2.2 ++ L2) (hL4 : L4 = r3.2 ++ L3) (hL5 : L5 = r4.2 ++ L4) (hL6 : L6 = r5.2 ++ L5) (hL7 : L7 = r6.2 ++ L6) (hL8 : L8 = r7.2 ++ L7)
    (hBU : ∀ y : SH.Idx, v.read (Elt Ideal) (v.writes (Elt Ideal) v.junk L1) y = BU (y 0).val (y 1).val)
    (f : vs.ty.Contents (Elt Ideal)) (rest : List (View.Piece (Elt Ideal) SS .f32)) (y : SS.Idx) :
    vs.read (Elt Ideal) (vs.writes (Elt Ideal) f ([back 3840 (by omega) u8, back 3328 (by omega) w8, back 3584 (by omega) u7, back 3072 (by omega) w7, back 2816 (by omega) u6, back 2304 (by omega) w6, back 2560 (by omega) u5, back 2048 (by omega) w5, back 1792 (by omega) u4, back 1280 (by omega) w4, back 1536 (by omega) u3, back 1024 (by omega) w3, back 768 (by omega) u2, back 256 (by omega) w2, back 512 (by omega) u1, back 0 (by omega) w1] ++ rest)) y = new row a h BU (y 0).val (y 1).val := by
  have l1 := hr1 (fun y _ _ => hBU y) (fun y _ _ => hBU y)
  have k1 : ∀ y : SH.Idx, (((y 1).val < 0 ∨ 256 ≤ (y 1).val) ∧ ((y 1).val < 512 ∨ 768 ≤ (y 1).val)) →
      v.read (Elt Ideal) (v.writes (Elt Ideal) v.junk L2) y = BU (y 0).val (y 1).val := fun y hy => by
    rw [hL2, View.writes_append]
    exact (l1.2 y (by omega) (by omega)).trans (hBU y)
  have l2 := hr2 (fun y h1 h2 => k1 y (by omega)) (fun y h1 h2 => k1 y (by omega))
  have k2 : ∀ y : SH.Idx, (((y 1).val < 0 ∨ 256 ≤ (y 1).val) ∧ ((y 1).val < 512 ∨ 768 ≤ (y 1).val) ∧ ((y 1).val < 256 ∨ 512 ≤ (y 1).val) ∧ ((y 1).val < 768 ∨ 1024 ≤ (y 1).val)) →
      v.read (Elt Ideal) (v.writes (Elt Ideal) v.junk L3) y = BU (y 0).val (y 1).val := fun y hy => by
    rw [hL3, View.writes_append]
    exact (l2.2 y (by omega) (by omega)).trans (k1 y (by omega))
  have l3 := hr3 (fun y h1 h2 => k2 y (by omega)) (fun y h1 h2 => k2 y (by omega))
  have k3 : ∀ y : SH.Idx, (((y 1).val < 0 ∨ 256 ≤ (y 1).val) ∧ ((y 1).val < 512 ∨ 768 ≤ (y 1).val) ∧ ((y 1).val < 256 ∨ 512 ≤ (y 1).val) ∧ ((y 1).val < 768 ∨ 1024 ≤ (y 1).val) ∧ ((y 1).val < 1024 ∨ 1280 ≤ (y 1).val) ∧ ((y 1).val < 1536 ∨ 1792 ≤ (y 1).val)) →
      v.read (Elt Ideal) (v.writes (Elt Ideal) v.junk L4) y = BU (y 0).val (y 1).val := fun y hy => by
    rw [hL4, View.writes_append]
    exact (l3.2 y (by omega) (by omega)).trans (k2 y (by omega))
  have l4 := hr4 (fun y h1 h2 => k3 y (by omega)) (fun y h1 h2 => k3 y (by omega))
  have k4 : ∀ y : SH.Idx, (((y 1).val < 0 ∨ 256 ≤ (y 1).val) ∧ ((y 1).val < 512 ∨ 768 ≤ (y 1).val) ∧ ((y 1).val < 256 ∨ 512 ≤ (y 1).val) ∧ ((y 1).val < 768 ∨ 1024 ≤ (y 1).val) ∧ ((y 1).val < 1024 ∨ 1280 ≤ (y 1).val) ∧ ((y 1).val < 1536 ∨ 1792 ≤ (y 1).val) ∧ ((y 1).val < 1280 ∨ 1536 ≤ (y 1).val) ∧ ((y 1).val < 1792 ∨ 2048 ≤ (y 1).val)) →
      v.read (Elt Ideal) (v.writes (Elt Ideal) v.junk L5) y = BU (y 0).val (y 1).val := fun y hy => by
    rw [hL5, View.writes_append]
    exact (l4.2 y (by omega) (by omega)).trans (k3 y (by omega))
  have l5 := hr5 (fun y h1 h2 => k4 y (by omega)) (fun y h1 h2 => k4 y (by omega))
  have k5 : ∀ y : SH.Idx, (((y 1).val < 0 ∨ 256 ≤ (y 1).val) ∧ ((y 1).val < 512 ∨ 768 ≤ (y 1).val) ∧ ((y 1).val < 256 ∨ 512 ≤ (y 1).val) ∧ ((y 1).val < 768 ∨ 1024 ≤ (y 1).val) ∧ ((y 1).val < 1024 ∨ 1280 ≤ (y 1).val) ∧ ((y 1).val < 1536 ∨ 1792 ≤ (y 1).val) ∧ ((y 1).val < 1280 ∨ 1536 ≤ (y 1).val) ∧ ((y 1).val < 1792 ∨ 2048 ≤ (y 1).val) ∧ ((y 1).val < 2048 ∨ 2304 ≤ (y 1).val) ∧ ((y 1).val < 2560 ∨ 2816 ≤ (y 1).val)) →
      v.read (Elt Ideal) (v.writes (Elt Ideal) v.junk L6) y = BU (y 0).val (y 1).val := fun y hy => by
    rw [hL6, View.writes_append]
    exact (l5.2 y (by omega) (by omega)).trans (k4 y (by omega))
  have l6 := hr6 (fun y h1 h2 => k5 y (by omega)) (fun y h1 h2 => k5 y (by omega))
  have k6 : ∀ y : SH.Idx, (((y 1).val < 0 ∨ 256 ≤ (y 1).val) ∧ ((y 1).val < 512 ∨ 768 ≤ (y 1).val) ∧ ((y 1).val < 256 ∨ 512 ≤ (y 1).val) ∧ ((y 1).val < 768 ∨ 1024 ≤ (y 1).val) ∧ ((y 1).val < 1024 ∨ 1280 ≤ (y 1).val) ∧ ((y 1).val < 1536 ∨ 1792 ≤ (y 1).val) ∧ ((y 1).val < 1280 ∨ 1536 ≤ (y 1).val) ∧ ((y 1).val < 1792 ∨ 2048 ≤ (y 1).val) ∧ ((y 1).val < 2048 ∨ 2304 ≤ (y 1).val) ∧ ((y 1).val < 2560 ∨ 2816 ≤ (y 1).val) ∧ ((y 1).val < 2304 ∨ 2560 ≤ (y 1).val) ∧ ((y 1).val < 2816 ∨ 3072 ≤ (y 1).val)) →
      v.read (Elt Ideal) (v.writes (Elt Ideal) v.junk L7) y = BU (y 0).val (y 1).val := fun y hy => by
    rw [hL7, View.writes_append]
    exact (l6.2 y (by omega) (by omega)).trans (k5 y (by omega))
  have l7 := hr7 (fun y h1 h2 => k6 y (by omega)) (fun y h1 h2 => k6 y (by omega))
  have k7 : ∀ y : SH.Idx, (((y 1).val < 0 ∨ 256 ≤ (y 1).val) ∧ ((y 1).val < 512 ∨ 768 ≤ (y 1).val) ∧ ((y 1).val < 256 ∨ 512 ≤ (y 1).val) ∧ ((y 1).val < 768 ∨ 1024 ≤ (y 1).val) ∧ ((y 1).val < 1024 ∨ 1280 ≤ (y 1).val) ∧ ((y 1).val < 1536 ∨ 1792 ≤ (y 1).val) ∧ ((y 1).val < 1280 ∨ 1536 ≤ (y 1).val) ∧ ((y 1).val < 1792 ∨ 2048 ≤ (y 1).val) ∧ ((y 1).val < 2048 ∨ 2304 ≤ (y 1).val) ∧ ((y 1).val < 2560 ∨ 2816 ≤ (y 1).val) ∧ ((y 1).val < 2304 ∨ 2560 ≤ (y 1).val) ∧ ((y 1).val < 2816 ∨ 3072 ≤ (y 1).val) ∧ ((y 1).val < 3072 ∨ 3328 ≤ (y 1).val) ∧ ((y 1).val < 3584 ∨ 3840 ≤ (y 1).val)) →
      v.read (Elt Ideal) (v.writes (Elt Ideal) v.junk L8) y = BU (y 0).val (y 1).val := fun y hy => by
    rw [hL8, View.writes_append]
    exact (l7.2 y (by omega) (by omega)).trans (k6 y (by omega))
  have l8 := hr8 (fun y h1 h2 => k7 y (by omega)) (fun y h1 h2 => k7 y (by omega))
  refine read_prefix vs f (fun y => new row a h BU (y 0).val (y 1).val) rest _ ?_ y ?_
  · refine List.forall_mem_cons.2 ⟨back_im row a h BU u8 _ hu8 3 256 3840 3328 rfl rfl (by omega) (fun x => (l8.1 x).2),
      List.forall_mem_cons.2 ⟨back_re row a h BU w8 _ hw8 3 256 3328 3840 rfl rfl (by omega) (fun x => (l8.1 x).1), List.forall_mem_cons.2 ⟨back_im row a h BU u7 _ hu7 3 0 3584 3072 rfl rfl (by omega) (fun x => (l7.1 x).2),
      List.forall_mem_cons.2 ⟨back_re row a h BU w7 _ hw7 3 0 3072 3584 rfl rfl (by omega) (fun x => (l7.1 x).1), List.forall_mem_cons.2 ⟨back_im row a h BU u6 _ hu6 2 256 2816 2304 rfl rfl (by omega) (fun x => (l6.1 x).2),
      List.forall_mem_cons.2 ⟨back_re row a h BU w6 _ hw6 2 256 2304 2816 rfl rfl (by omega) (fun x => (l6.1 x).1), List.forall_mem_cons.2 ⟨back_im row a h BU u5 _ hu5 2 0 2560 2048 rfl rfl (by omega) (fun x => (l5.1 x).2),
      List.forall_mem_cons.2 ⟨back_re row a h BU w5 _ hw5 2 0 2048 2560 rfl rfl (by omega) (fun x => (l5.1 x).1), List.forall_mem_cons.2 ⟨back_im row a h BU u4 _ hu4 1 256 1792 1280 rfl rfl (by omega) (fun x => (l4.1 x).2),
      List.forall_mem_cons.2 ⟨back_re row a h BU w4 _ hw4 1 256 1280 1792 rfl rfl (by omega) (fun x => (l4.1 x).1), List.forall_mem_cons.2 ⟨back_im row a h BU u3 _ hu3 1 0 1536 1024 rfl rfl (by omega) (fun x => (l3.1 x).2),
      List.forall_mem_cons.2 ⟨back_re row a h BU w3 _ hw3 1 0 1024 1536 rfl rfl (by omega) (fun x => (l3.1 x).1), List.forall_mem_cons.2 ⟨back_im row a h BU u2 _ hu2 0 256 768 256 rfl rfl (by omega) (fun x => (l2.1 x).2),
      List.forall_mem_cons.2 ⟨back_re row a h BU w2 _ hw2 0 256 256 768 rfl rfl (by omega) (fun x => (l2.1 x).1), List.forall_mem_cons.2 ⟨back_im row a h BU u1 _ hu1 0 0 512 0 rfl rfl (by omega) (fun x => (l1.1 x).2),
      List.forall_mem_cons.2 ⟨back_re row a h BU w1 _ hw1 0 0 0 512 rfl rfl (by omega) (fun x => (l1.1 x).1), fun _ hm => absurd hm List.not_mem_nil⟩⟩⟩⟩⟩⟩⟩⟩⟩⟩⟩⟩⟩⟩⟩⟩
  · have h0 : (y 0).val < 16 := (y 0).isLt
    have h1 : (y 1).val < 4096 := (y 1).isLt
    have hin : ∀ (o : ℕ) (ho : o + 256 ≤ 4096), o ≤ (y 1).val → (y 1).val < o + 256 →
        y ∈ (Rect.unit (s := SS) ![0, o] SC.size (fits o ho)).set := fun o ho h2 h3 => by
      rw [Rect.mem_set_unit]
      intro a
      match a with
      | ⟨0, _⟩ => exact ⟨Nat.zero_le _, by show (y 0).val < 0 + 16; omega⟩
      | ⟨1, _⟩ => exact ⟨h2, h3⟩
    by_cases hc0 : (y 1).val < 256
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), hin 0 (by omega) (by omega) (by omega)⟩
    by_cases hc256 : (y 1).val < 512
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), hin 256 (by omega) (by omega) (by omega)⟩
    by_cases hc512 : (y 1).val < 768
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), hin 512 (by omega) (by omega) (by omega)⟩
    by_cases hc768 : (y 1).val < 1024
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), hin 768 (by omega) (by omega) (by omega)⟩
    by_cases hc1024 : (y 1).val < 1280
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), hin 1024 (by omega) (by omega) (by omega)⟩
    by_cases hc1280 : (y 1).val < 1536
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), hin 1280 (by omega) (by omega) (by omega)⟩
    by_cases hc1536 : (y 1).val < 1792
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), hin 1536 (by omega) (by omega) (by omega)⟩
    by_cases hc1792 : (y 1).val < 2048
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), hin 1792 (by omega) (by omega) (by omega)⟩
    by_cases hc2048 : (y 1).val < 2304
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hin 2048 (by omega) (by omega) (by omega)⟩
    by_cases hc2304 : (y 1).val < 2560
    · exact ⟨_, List.mem_cons_of_mem _ (List.mem_cons_of_mem _ (List.mem_cons_of_mem _ (List.mem_cons_of_mem _ (List.mem_cons_of_mem _ (List.mem_cons_self))))), hin 2304 (by omega) (by omega) (by omega)⟩
    by_cases hc2560 : (y 1).val < 2816
    · exact ⟨_, List.mem_cons_of_mem _ (List.mem_cons_of_mem _ (List.mem_cons_of_mem _ (List.mem_cons_of_mem _ (List.mem_cons_of_mem _ (List.mem_cons_of_mem _ (List.mem_cons_self)))))), hin 2560 (by omega) (by omega) (by omega)⟩
    by_cases hc2816 : (y 1).val < 3072
    · exact ⟨_, List.mem_cons_of_mem _ (List.mem_cons_of_mem _ (List.mem_cons_of_mem _ (List.mem_cons_of_mem _ (List.mem_cons_self)))), hin 2816 (by omega) (by omega) (by omega)⟩
    by_cases hc3072 : (y 1).val < 3328
    · exact ⟨_, List.mem_cons_of_mem _ (List.mem_cons_of_mem _ (List.mem_cons_of_mem _ (List.mem_cons_self))), hin 3072 (by omega) (by omega) (by omega)⟩
    by_cases hc3328 : (y 1).val < 3584
    · exact ⟨_, List.mem_cons_of_mem _ (List.mem_cons_self), hin 3328 (by omega) (by omega) (by omega)⟩
    by_cases hc3584 : (y 1).val < 3840
    · exact ⟨_, List.mem_cons_of_mem _ (List.mem_cons_of_mem _ (List.mem_cons_self)), hin 3584 (by omega) (by omega) (by omega)⟩
    exact ⟨_, List.mem_cons_self, hin 3840 (by omega) (by omega) (by omega)⟩

end Cert.Proof.S5Chain
-- ==== Proof.S5State8.lean ====
/-
  What each of the eight loops of `Kernel8`'s body does: 32 steps of the recurrence on its pair of strips of lanes.
-/
module

public import proofs.«01_k».proof.Proof.S5Run8
public import proofs.«01_k».proof.Proof.S5Chain

@[expose] public section

set_option maxRecDepth 16384

noncomputable section

namespace Cert.Proof.S5State8

open Idealize.ShloMosaic Idealize.ShloMosaic.TcCoe Idealize.ShloMosaic.ValueIdx
open Cert.Kernel8Ideal Cert.Kernel8Ideal.Gen Cert.Proof.S5Math Cert.Proof.S5Chain Cert.Proof.S5Run8

/-- The first row of the time step a loop's trip `k` takes. -/
def row (k : ℕ) : ℕ := 16 * k

theorem row_sep (k k' : ℕ) (h : k < k') (h' : k' < 32) : row k + 16 ≤ row k' ∨ row k' + 16 ≤ row k := by
  unfold row; omega

variable (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S16x4096 .f32) (harg7 : arg7.IsWhole) (arg8 : Memref sig .tc .vmem S32x16x512 .f32) (harg8 : arg8.IsWhole) (arg9 : Memref sig .tc .vmem S512x4096 .f32) (harg9 : arg9.IsWhole) (arg10 : Memref sig .tc .vmem S16x4096 .f32) (harg10 : arg10.IsWhole)
  (G : BufTy.Contents (Elt Ideal) arg9.view.ty) (p : Vec Ideal S16x256 .f32 × Vec Ideal S16x256 .f32) (r : Res)
  (a : ℕ → EReal) (h BU : ℕ → ℕ → EReal)

theorem off_t1 : ∀ k : Fin k0_t1_loop.trips, (k0_off1 k 0 = row k.val ∧ k0_off1 k 1 = 0) ∧ (k0_off2 k 0 = row k.val ∧ k0_off2 k 1 = 512) := by
  decide +kernel
theorem loop_t1 (v28 : FVec Ideal S512x128 .bf16) (v35 : Vec Ideal S1x1x256 .f32) (v39 : Vec Ideal S1x1x256 .f32)
    (hr : r = st_k0_t1 (F := Ideal) Variants.none c none i arg1 harg1 arg2 harg2 arg3 harg3 arg4 harg4 arg5 harg5 arg6 harg6 arg7 harg7 arg8 harg8 arg9 harg9 arg10 harg10 v28 v35 v39 G p k0_t1_loop.trips)
    (g1 : On arg9.view G BU 0) (g2 : On arg9.view G BU 512) (ha : Fac (k0_pay8 v35) a 0) (hb : Fac (k0_pay9 v39) a 512)
    (hp : Lanes p.1 h 0) (hq : Lanes p.2 h 512) : Runs arg9.view G r row a h BU 0 512 := by
  have ht : k0_t1_loop.trips = 32 := by decide +kernel
  rw [hr, ht]
  refine strip_runs arg9.view G (st_k0_t1 (F := Ideal) Variants.none c none i arg1 harg1 arg2 harg2 arg3 harg3 arg4 harg4 arg5 harg5 arg6 harg6 arg7 harg7 arg8 harg8 arg9 harg9 arg10 harg10 v28 v35 v39 G p) _ _
    row 0 512 rfl (fun k hk => ?_) row_sep (by omega) a h BU g1 g2 ha hb hp hq
  have hk' := ht.symm ▸ hk
  have e := st_k0_t1_succ (F := Ideal) Variants.none c none i arg1 harg1 arg2 harg2 arg3 harg3 arg4 harg4 arg5 harg5 arg6 harg6 arg7 harg7 arg8 harg8 arg9 harg9 arg10 harg10 v28 v35 v39 G p ⟨k, hk'⟩
  refine ⟨_, _, k0_off1_inb ⟨k, hk'⟩, k0_off2_inb ⟨k, hk'⟩, ?w1, ?w2, (off_t1 ⟨k, hk'⟩).1, (off_t1 ⟨k, hk'⟩).2, fun x => ?e1, fun x => ?e2, ?eL⟩
  case eL => rw [e]; unfold tripL_k0_t1 trip_k0_t1; rfl
  case e1 => rw [e]; unfold tripR_k0_t1 trip_k0_t1; rfl
  case e2 => rw [e]; unfold tripR_k0_t1 trip_k0_t1; rfl

theorem off_t2 : ∀ k : Fin k0_t2_loop.trips, (k0_off3 k 0 = row k.val ∧ k0_off3 k 1 = 256) ∧ (k0_off4 k 0 = row k.val ∧ k0_off4 k 1 = 768) := by
  decide +kernel
theorem loop_t2 (v56 : FVec Ideal S16x256 .f32) (v57 : Vec Ideal S1x1x256 .f32)
    (hr : r = st_k0_t2 (F := Ideal) Variants.none c none i arg1 harg1 arg2 harg2 arg3 harg3 arg4 harg4 arg5 harg5 arg6 harg6 arg7 harg7 arg8 harg8 arg9 harg9 arg10 harg10 v56 v57 G p k0_t2_loop.trips)
    (g1 : On arg9.view G BU 256) (g2 : On arg9.view G BU 768) (ha : Fac v56 a 256) (hb : Fac (k0_pay17 v57) a 768)
    (hp : Lanes p.1 h 256) (hq : Lanes p.2 h 768) : Runs arg9.view G r row a h BU 256 768 := by
  have ht : k0_t2_loop.trips = 32 := by decide +kernel
  rw [hr, ht]
  refine strip_runs arg9.view G (st_k0_t2 (F := Ideal) Variants.none c none i arg1 harg1 arg2 harg2 arg3 harg3 arg4 harg4 arg5 harg5 arg6 harg6 arg7 harg7 arg8 harg8 arg9 harg9 arg10 harg10 v56 v57 G p) _ _
    row 256 768 rfl (fun k hk => ?_) row_sep (by omega) a h BU g1 g2 ha hb hp hq
  have hk' := ht.symm ▸ hk
  have e := st_k0_t2_succ (F := Ideal) Variants.none c none i arg1 harg1 arg2 harg2 arg3 harg3 arg4 harg4 arg5 harg5 arg6 harg6 arg7 harg7 arg8 harg8 arg9 harg9 arg10 harg10 v56 v57 G p ⟨k, hk'⟩
  refine ⟨_, _, k0_off3_inb ⟨k, hk'⟩, k0_off4_inb ⟨k, hk'⟩, ?w1, ?w2, (off_t2 ⟨k, hk'⟩).1, (off_t2 ⟨k, hk'⟩).2, fun x => ?e1, fun x => ?e2, ?eL⟩
  case eL => rw [e]; unfold tripL_k0_t2 trip_k0_t2; rfl
  case e1 => rw [e]; unfold tripR_k0_t2 trip_k0_t2; rfl
  case e2 => rw [e]; unfold tripR_k0_t2 trip_k0_t2; rfl

theorem off_t3 : ∀ k : Fin k0_t3_loop.trips, (k0_off5 k 0 = row k.val ∧ k0_off5 k 1 = 1024) ∧ (k0_off6 k 0 = row k.val ∧ k0_off6 k 1 = 1536) := by
  decide +kernel
theorem loop_t3 (v56 : FVec Ideal S16x256 .f32) (v71 : Vec Ideal S1x1x256 .f32) (v75 : Vec Ideal S1x1x256 .f32)
    (hr : r = st_k0_t3 (F := Ideal) Variants.none c none i arg1 harg1 arg2 harg2 arg3 harg3 arg4 harg4 arg5 harg5 arg6 harg6 arg7 harg7 arg8 harg8 arg9 harg9 arg10 harg10 v56 v71 v75 G p k0_t3_loop.trips)
    (g1 : On arg9.view G BU 1024) (g2 : On arg9.view G BU 1536) (ha : Fac (k0_pay24 v71) a 1024) (hb : Fac (k0_pay25 v75) a 1536)
    (hp : Lanes p.1 h 1024) (hq : Lanes p.2 h 1536) : Runs arg9.view G r row a h BU 1024 1536 := by
  have ht : k0_t3_loop.trips = 32 := by decide +kernel
  rw [hr, ht]
  refine strip_runs arg9.view G (st_k0_t3 (F := Ideal) Variants.none c none i arg1 harg1 arg2 harg2 arg3 harg3 arg4 harg4 arg5 harg5 arg6 harg6 arg7 harg7 arg8 harg8 arg9 harg9 arg10 harg10 v56 v71 v75 G p) _ _
    row 1024 1536 rfl (fun k hk => ?_) row_sep (by omega) a h BU g1 g2 ha hb hp hq
  have hk' := ht.symm ▸ hk
  have e := st_k0_t3_succ (F := Ideal) Variants.none c none i arg1 harg1 arg2 harg2 arg3 harg3 arg4 harg4 arg5 harg5 arg6 harg6 arg7 harg7 arg8 harg8 arg9 harg9 arg10 harg10 v56 v71 v75 G p ⟨k, hk'⟩
  refine ⟨_, _, k0_off5_inb ⟨k, hk'⟩, k0_off6_inb ⟨k, hk'⟩, ?w1, ?w2, (off_t3 ⟨k, hk'⟩).1, (off_t3 ⟨k, hk'⟩).2, fun x => ?e1, fun x => ?e2, ?eL⟩
  case eL => rw [e]; unfold tripL_k0_t3 trip_k0_t3; rfl
  case e1 => rw [e]; unfold tripR_k0_t3 trip_k0_t3; rfl
  case e2 => rw [e]; unfold tripR_k0_t3 trip_k0_t3; rfl

theorem off_t4 : ∀ k : Fin k0_t4_loop.trips, (k0_off7 k 0 = row k.val ∧ k0_off7 k 1 = 1280) ∧ (k0_off8 k 0 = row k.val ∧ k0_off8 k 1 = 1792) := by
  decide +kernel
theorem loop_t4 (v82_0 : Vec Ideal S16x256 .f32) (v82_1 : Vec Ideal S16x256 .f32) (v89 : Vec Ideal S1x1x256 .f32) (v93 : Vec Ideal S1x1x256 .f32)
    (hr : r = st_k0_t4 (F := Ideal) Variants.none c none i arg1 harg1 arg2 harg2 arg3 harg3 arg4 harg4 arg5 harg5 arg6 harg6 arg7 harg7 arg8 harg8 arg9 harg9 arg10 harg10 v82_0 v82_1 v89 v93 G p k0_t4_loop.trips)
    (g1 : On arg9.view G BU 1280) (g2 : On arg9.view G BU 1792) (ha : Fac (k0_pay32 v89) a 1280) (hb : Fac (k0_pay33 v93) a 1792)
    (hp : Lanes p.1 h 1280) (hq : Lanes p.2 h 1792) : Runs arg9.view G r row a h BU 1280 1792 := by
  have ht : k0_t4_loop.trips = 32 := by decide +kernel
  rw [hr, ht]
  refine strip_runs arg9.view G (st_k0_t4 (F := Ideal) Variants.none c none i arg1 harg1 arg2 harg2 arg3 harg3 arg4 harg4 arg5 harg5 arg6 harg6 arg7 harg7 arg8 harg8 arg9 harg9 arg10 harg10 v82_0 v82_1 v89 v93 G p) _ _
    row 1280 1792 rfl (fun k hk => ?_) row_sep (by omega) a h BU g1 g2 ha hb hp hq
  have hk' := ht.symm ▸ hk
  have e := st_k0_t4_succ (F := Ideal) Variants.none c none i arg1 harg1 arg2 harg2 arg3 harg3 arg4 harg4 arg5 harg5 arg6 harg6 arg7 harg7 arg8 harg8 arg9 harg9 arg10 harg10 v82_0 v82_1 v89 v93 G p ⟨k, hk'⟩
  refine ⟨_, _, k0_off7_inb ⟨k, hk'⟩, k0_off8_inb ⟨k, hk'⟩, ?w1, ?w2, (off_t4 ⟨k, hk'⟩).1, (off_t4 ⟨k, hk'⟩).2, fun x => ?e1, fun x => ?e2, ?eL⟩
  case eL => rw [e]; unfold tripL_k0_t4 trip_k0_t4; rfl
  case e1 => rw [e]; unfold tripR_k0_t4 trip_k0_t4; rfl
  case e2 => rw [e]; unfold tripR_k0_t4 trip_k0_t4; rfl

theorem off_t5 : ∀ k : Fin k0_t5_loop.trips, (k0_off9 k 0 = row k.val ∧ k0_off9 k 1 = 2048) ∧ (k0_off10 k 0 = row k.val ∧ k0_off10 k 1 = 2560) := by
  decide +kernel
theorem loop_t5 (v110 : FVec Ideal S16x256 .f32) (v114 : FVec Ideal S16x256 .f32)
    (hr : r = st_k0_t5 (F := Ideal) Variants.none c none i arg1 harg1 arg2 harg2 arg3 harg3 arg4 harg4 arg5 harg5 arg6 harg6 arg7 harg7 arg8 harg8 arg9 harg9 arg10 harg10 v110 v114 G p k0_t5_loop.trips)
    (g1 : On arg9.view G BU 2048) (g2 : On arg9.view G BU 2560) (ha : Fac v110 a 2048) (hb : Fac v114 a 2560)
    (hp : Lanes p.1 h 2048) (hq : Lanes p.2 h 2560) : Runs arg9.view G r row a h BU 2048 2560 := by
  have ht : k0_t5_loop.trips = 32 := by decide +kernel
  rw [hr, ht]
  refine strip_runs arg9.view G (st_k0_t5 (F := Ideal) Variants.none c none i arg1 harg1 arg2 harg2 arg3 harg3 arg4 harg4 arg5 harg5 arg6 harg6 arg7 harg7 arg8 harg8 arg9 harg9 arg10 harg10 v110 v114 G p) _ _
    row 2048 2560 rfl (fun k hk => ?_) row_sep (by omega) a h BU g1 g2 ha hb hp hq
  have hk' := ht.symm ▸ hk
  have e := st_k0_t5_succ (F := Ideal) Variants.none c none i arg1 harg1 arg2 harg2 arg3 harg3 arg4 harg4 arg5 harg5 arg6 harg6 arg7 harg7 arg8 harg8 arg9 harg9 arg10 harg10 v110 v114 G p ⟨k, hk'⟩
  refine ⟨_, _, k0_off9_inb ⟨k, hk'⟩, k0_off10_inb ⟨k, hk'⟩, ?w1, ?w2, (off_t5 ⟨k, hk'⟩).1, (off_t5 ⟨k, hk'⟩).2, fun x => ?e1, fun x => ?e2, ?eL⟩
  case eL => rw [e]; unfold tripL_k0_t5 trip_k0_t5; rfl
  case e1 => rw [e]; unfold tripR_k0_t5 trip_k0_t5; rfl
  case e2 => rw [e]; unfold tripR_k0_t5 trip_k0_t5; rfl

theorem off_t6 : ∀ k : Fin k0_t6_loop.trips, (k0_off11 k 0 = row k.val ∧ k0_off11 k 1 = 2304) ∧ (k0_off12 k 0 = row k.val ∧ k0_off12 k 1 = 2816) := by
  decide +kernel
theorem loop_t6 (v110 : FVec Ideal S16x256 .f32) (v114 : FVec Ideal S16x256 .f32) (v125 : Vec Ideal S1x1x256 .f32) (v129 : Vec Ideal S1x1x256 .f32)
    (hr : r = st_k0_t6 (F := Ideal) Variants.none c none i arg1 harg1 arg2 harg2 arg3 harg3 arg4 harg4 arg5 harg5 arg6 harg6 arg7 harg7 arg8 harg8 arg9 harg9 arg10 harg10 v110 v114 v125 v129 G p k0_t6_loop.trips)
    (g1 : On arg9.view G BU 2304) (g2 : On arg9.view G BU 2816) (ha : Fac (k0_pay48 v125) a 2304) (hb : Fac (k0_pay49 v129) a 2816)
    (hp : Lanes p.1 h 2304) (hq : Lanes p.2 h 2816) : Runs arg9.view G r row a h BU 2304 2816 := by
  have ht : k0_t6_loop.trips = 32 := by decide +kernel
  rw [hr, ht]
  refine strip_runs arg9.view G (st_k0_t6 (F := Ideal) Variants.none c none i arg1 harg1 arg2 harg2 arg3 harg3 arg4 harg4 arg5 harg5 arg6 harg6 arg7 harg7 arg8 harg8 arg9 harg9 arg10 harg10 v110 v114 v125 v129 G p) _ _
    row 2304 2816 rfl (fun k hk => ?_) row_sep (by omega) a h BU g1 g2 ha hb hp hq
  have hk' := ht.symm ▸ hk
  have e := st_k0_t6_succ (F := Ideal) Variants.none c none i arg1 harg1 arg2 harg2 arg3 harg3 arg4 harg4 arg5 harg5 arg6 harg6 arg7 harg7 arg8 harg8 arg9 harg9 arg10 harg10 v110 v114 v125 v129 G p ⟨k, hk'⟩
  refine ⟨_, _, k0_off11_inb ⟨k, hk'⟩, k0_off12_inb ⟨k, hk'⟩, ?w1, ?w2, (off_t6 ⟨k, hk'⟩).1, (off_t6 ⟨k, hk'⟩).2, fun x => ?e1, fun x => ?e2, ?eL⟩
  case eL => rw [e]; unfold tripL_k0_t6 trip_k0_t6; rfl
  case e1 => rw [e]; unfold tripR_k0_t6 trip_k0_t6; rfl
  case e2 => rw [e]; unfold tripR_k0_t6 trip_k0_t6; rfl

theorem off_t7 : ∀ k : Fin k0_t7_loop.trips, (k0_off13 k 0 = row k.val ∧ k0_off13 k 1 = 3072) ∧ (k0_off14 k 0 = row k.val ∧ k0_off14 k 1 = 3584) := by
  decide +kernel
theorem loop_t7 (v136_1 : Vec Ideal S16x256 .f32) (v143 : Vec Ideal S1x1x256 .f32) (v147 : Vec Ideal S1x1x256 .f32)
    (hr : r = st_k0_t7 (F := Ideal) Variants.none c none i arg1 harg1 arg2 harg2 arg3 harg3 arg4 harg4 arg5 harg5 arg6 harg6 arg7 harg7 arg8 harg8 arg9 harg9 arg10 harg10 v136_1 v143 v147 G p k0_t7_loop.trips)
    (g1 : On arg9.view G BU 3072) (g2 : On arg9.view G BU 3584) (ha : Fac (k0_pay56 v143) a 3072) (hb : Fac (k0_pay57 v147) a 3584)
    (hp : Lanes p.1 h 3072) (hq : Lanes p.2 h 3584) : Runs arg9.view G r row a h BU 3072 3584 := by
  have ht : k0_t7_loop.trips = 32 := by decide +kernel
  rw [hr, ht]
  refine strip_runs arg9.view G (st_k0_t7 (F := Ideal) Variants.none c none i arg1 harg1 arg2 harg2 arg3 harg3 arg4 harg4 arg5 harg5 arg6 harg6 arg7 harg7 arg8 harg8 arg9 harg9 arg10 harg10 v136_1 v143 v147 G p) _ _
    row 3072 3584 rfl (fun k hk => ?_) row_sep (by omega) a h BU g1 g2 ha hb hp hq
  have hk' := ht.symm ▸ hk
  have e := st_k0_t7_succ (F := Ideal) Variants.none c none i arg1 harg1 arg2 harg2 arg3 harg3 arg4 harg4 arg5 harg5 arg6 harg6 arg7 harg7 arg8 harg8 arg9 harg9 arg10 harg10 v136_1 v143 v147 G p ⟨k, hk'⟩
  refine ⟨_, _, k0_off13_inb ⟨k, hk'⟩, k0_off14_inb ⟨k, hk'⟩, ?w1, ?w2, (off_t7 ⟨k, hk'⟩).1, (off_t7 ⟨k, hk'⟩).2, fun x => ?e1, fun x => ?e2, ?eL⟩
  case eL => rw [e]; unfold tripL_k0_t7 trip_k0_t7; rfl
  case e1 => rw [e]; unfold tripR_k0_t7 trip_k0_t7; rfl
  case e2 => rw [e]; unfold tripR_k0_t7 trip_k0_t7; rfl

theorem off_t8 : ∀ k : Fin k0_t8_loop.trips, (k0_off15 k 0 = row k.val ∧ k0_off15 k 1 = 3328) ∧ (k0_off16 k 0 = row k.val ∧ k0_off16 k 1 = 3840) := by
  decide +kernel
theorem loop_t8 (v164 : FVec Ideal S16x256 .f32) (v168 : FVec Ideal S16x256 .f32) (v169 : Vec Ideal S16x256 .f32) (v170 : Vec Ideal S16x256 .f32)
    (hr : r = st_k0_t8 (F := Ideal) Variants.none c none i arg1 harg1 arg2 harg2 arg3 harg3 arg4 harg4 arg5 harg5 arg6 harg6 arg7 harg7 arg8 harg8 arg9 harg9 arg10 harg10 v164 v168 v169 v170 G p k0_t8_loop.trips)
    (g1 : On arg9.view G BU 3328) (g2 : On arg9.view G BU 3840) (ha : Fac v164 a 3328) (hb : Fac v168 a 3840)
    (hp : Lanes p.1 h 3328) (hq : Lanes p.2 h 3840) : Runs arg9.view G r row a h BU 3328 3840 := by
  have ht : k0_t8_loop.trips = 32 := by decide +kernel
  rw [hr, ht]
  refine strip_runs arg9.view G (st_k0_t8 (F := Ideal) Variants.none c none i arg1 harg1 arg2 harg2 arg3 harg3 arg4 harg4 arg5 harg5 arg6 harg6 arg7 harg7 arg8 harg8 arg9 harg9 arg10 harg10 v164 v168 v169 v170 G p) _ _
    row 3328 3840 rfl (fun k hk => ?_) row_sep (by omega) a h BU g1 g2 ha hb hp hq
  have hk' := ht.symm ▸ hk
  have e := st_k0_t8_succ (F := Ideal) Variants.none c none i arg1 harg1 arg2 harg2 arg3 harg3 arg4 harg4 arg5 harg5 arg6 harg6 arg7 harg7 arg8 harg8 arg9 harg9 arg10 harg10 v164 v168 v169 v170 G p ⟨k, hk'⟩
  refine ⟨_, _, k0_off15_inb ⟨k, hk'⟩, k0_off16_inb ⟨k, hk'⟩, ?w1, ?w2, (off_t8 ⟨k, hk'⟩).1, (off_t8 ⟨k, hk'⟩).2, fun x => ?e1, fun x => ?e2, ?eL⟩
  case eL => rw [e]; unfold tripL_k0_t8 trip_k0_t8; rfl
  case e1 => rw [e]; unfold tripR_k0_t8 trip_k0_t8; rfl
  case e2 => rw [e]; unfold tripR_k0_t8 trip_k0_t8; rfl

end Cert.Proof.S5State8
-- ==== Proof.S5Pay.lean ====
/-
  What the two passes over time compute before their loops, at an element: the factors of a strip of lanes, the projected
  inputs, and the strips of the state they start from. Arrays are read here at natural numbers (`nat2`, `nat3`, `nat4`).
-/
module

public import proofs.«01_k».proof.Proof.S5Math
public import Idealize.ShloMosaic.Lib.IdealHost
public import Idealize.ShloMosaic.Lib.MatmulPlain

@[expose] public section

set_option maxRecDepth 16384

noncomputable section

namespace Cert.Proof.S5Pay

open Idealize.ShloMosaic Idealize.ShloMosaic.ValueIdx Cert.Proof.S5Math

/-- An array of two axes at natural numbers, -/
def nat2 {n0 n1 : ℕ} (x : (⟨2, ![n0, n1]⟩ : Shape).Idx → EReal) (a b : ℕ) : EReal :=
  if h : a < n0 ∧ b < n1 then x (ix2 ⟨a, h.1⟩ ⟨b, h.2⟩) else 0
/-- of three, -/
def nat3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0
/-- and of four. -/
def nat4 {n0 n1 n2 n3 : ℕ} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem nat2_of {n0 n1 : ℕ} (x : (⟨2, ![n0, n1]⟩ : Shape).Idx → EReal) (i : (⟨2, ![n0, n1]⟩ : Shape).Idx) {a b : ℕ}
    (ha : (i 0).val = a) (hb : (i 1).val = b) : x i = nat2 x a b := by
  subst ha; subst hb
  unfold nat2
  rw [dif_pos ⟨(i 0).isLt, (i 1).isLt⟩]
  exact congrArg x (eq_ix2 i)
theorem nat3_of {n0 n1 n2 : ℕ} (x : (⟨3, ![n0, n1, n2]⟩ : Shape).Idx → EReal) (i : (⟨3, ![n0, n1, n2]⟩ : Shape).Idx) {a b c : ℕ}
    (ha : (i 0).val = a) (hb : (i 1).val = b) (hc : (i 2).val = c) : x i = nat3 x a b c := by
  subst ha; subst hb; subst hc
  unfold nat3
  rw [dif_pos ⟨(i 0).isLt, (i 1).isLt, (i 2).isLt⟩]
  exact congrArg x (eq_ix3 i)
theorem nat4_of {n0 n1 n2 n3 : ℕ} (x : (⟨4, ![n0, n1, n2, n3]⟩ : Shape).Idx → EReal) (i : (⟨4, ![n0, n1, n2, n3]⟩ : Shape).Idx) {a b c d : ℕ}
    (ha : (i 0).val = a) (hb : (i 1).val = b) (hc : (i 2).val = c) (hd : (i 3).val = d) : x i = nat4 x a b c d := by
  subst ha; subst hb; subst hc; subst hd
  unfold nat4
  rw [dif_pos ⟨(i 0).isLt, (i 1).isLt, (i 2).isLt, (i 3).isLt⟩]
  exact congrArg x (eq_ix4 i)

/-- The projected inputs of a point: row `r` is step `r / 16` of sequence `r % 16`, each quarter of the lanes a product of
    its own. -/
def proj (x1 : (⟨3, ![16, 32, 512]⟩ : Shape).Idx → EReal) (x2 : (⟨4, ![1, 4, 128, 1024]⟩ : Shape).Idx → EReal) (r l : ℕ) : EReal :=
  ∑ k : Fin 128, nat3 x1 (r % 16) (r / 16) (l / 1024 * 128 + k.val) * nat4 x2 0 (l / 1024) k.val (l % 1024)

/-- A strip of factors given to every sequence. -/
theorem strip_fac (v : Vec Ideal ⟨3, ![1, 1, 256]⟩ .f32) (h1 : (⟨3, ![1, 1, 256]⟩ : Shape).ShapeCasts ⟨2, ![1, 256]⟩)
    (h2 : (⟨2, ![1, 256]⟩ : Shape).ShapeCasts ⟨2, ![1, 256]⟩) (h3 : (⟨2, ![1, 256]⟩ : Shape).Broadcasts SC)
    (a : ℕ → EReal) (col : ℕ) (hv : ∀ j : Fin 256, v (ix3 0 0 j) = a (col + j.val)) (x : SC.Idx) :
    broadcastTo SC (shapeCast ⟨2, ![1, 256]⟩ (shapeCast ⟨2, ![1, 256]⟩ v h1) h2) h3 x = a (col + (x 1).val) := by
  have hx : (x 1).val < 256 := (x 1).isLt
  refine (broadcastTo_apply _ _ x (ix2 (0 : Fin 1) (⟨(x 1).val, hx⟩ : Fin 256)) (fun b => by
    match b with
    | ⟨0, _⟩ => rfl
    | ⟨1, _⟩ => rfl)).trans ?_
  rw [shapeCast_self]
  refine (shapeCast_apply v _ _ (ix3 (0 : Fin 1) (0 : Fin 1) (⟨(x 1).val, hx⟩ : Fin 256)) ?_).trans (hv ⟨(x 1).val, hx⟩)
  rw [Shape.rowMajor_val_three, Shape.rowMajor_val_two]
  show (0 * 1 + 0) * 256 + (x 1).val = 0 * 256 + (x 1).val
  omega

/-- One quarter of the projected inputs. -/
theorem quarter (o q : ℕ) (ho : o = q * 128) (hq : q < 4) (v3 x1 : Vec Ideal ⟨3, ![16, 32, 512]⟩ .f32) (h3 : ∀ i, v3 i = x1 i)
    (w : Vec Ideal ⟨4, ![1, 1, 128, 1024]⟩ .bf16) (x2 : (⟨4, ![1, 4, 128, 1024]⟩ : Shape).Idx → EReal)
    (hw : ∀ (k : Fin 128) (j : Fin 1024), w (ix4 0 0 k j) = nat4 x2 0 q k.val j.val)
    (ht : (⟨3, ![16, 32, 512]⟩ : Shape).Transposes [1, 0, 2] ⟨3, ![32, 16, 512]⟩)
    (hs1 : (⟨3, ![32, 16, 512]⟩ : Shape).ShapeCasts ⟨2, ![512, 512]⟩) (htr : FTy.bf16.bits < FTy.f32.bits)
    (hsl : (⟨2, ![512, 512]⟩ : Shape).Slices ![0, o] ⟨2, ![512, 128]⟩)
    (hs2 : (⟨4, ![1, 1, 128, 1024]⟩ : Shape).ShapeCasts ⟨2, ![128, 1024]⟩)
    (hs3 : (⟨2, ![512, 1024]⟩ : Shape).ShapeCasts ⟨2, ![512, 1024]⟩) (x : (⟨2, ![512, 1024]⟩ : Shape).Idx) {r l : ℕ}
    (hr : r = (x 0).val) (hl : l = q * 1024 + (x 1).val) :
    shapeCast ⟨2, ![512, 1024]⟩ (matmul (F := Ideal) (DotDims.plain 512 128 1024) none
      (extractStridedSlice ⟨2, ![512, 128]⟩ ![0, o] (truncf .bf16 (shapeCast ⟨2, ![512, 512]⟩ (transpose ⟨3, ![32, 16, 512]⟩ [1, 0, 2] v3 ht) hs1) htr : FVec Ideal ⟨2, ![512, 512]⟩ .bf16) hsl)
      (shapeCast ⟨2, ![128, 1024]⟩ w hs2 : FVec Ideal ⟨2, ![128, 1024]⟩ .bf16) (constant (F := Ideal) ⟨2, ![512, 1024]⟩ .f32 0x00000000#32)) hs3 x = proj x1 x2 r l := by
  have h0 : (x 0).val < 512 := (x 0).isLt
  have h1 : (x 1).val < 1024 := (x 1).isLt
  subst hr; subst hl
  rw [shapeCast_self]
  conv_lhs => rw [eq_ix2 x]
  refine (Ideal.matmul_plain_apply _ _ _ _ _ _).trans ?_
  rw [constant_apply, Ideal.ofBits_zero_f32, zero_add]
  unfold proj
  refine Finset.sum_congr rfl fun k _ => ?_
  have hk : k.val < 128 := k.isLt
  refine congrArg₂ (· * ·) ?_ ?_
  · refine (extractStridedSlice_apply _ _ _ _ (ix2 (⟨(x 0).val, h0⟩ : Fin 512) (⟨o + k.val, by omega⟩ : Fin 512)) (fun a => by
      match a with
      | ⟨0, _⟩ => show (x 0).val = 0 + (x 0).val; omega
      | ⟨1, _⟩ => rfl)).trans ?_
    rw [truncf_apply]
    refine (shapeCast_apply _ _ _ (ix3 (⟨(x 0).val / 16, by omega⟩ : Fin 32) (⟨(x 0).val % 16, by omega⟩ : Fin 16) (⟨o + k.val, by omega⟩ : Fin 512)) ?_).trans ?_
    · rw [Shape.rowMajor_val_three, Shape.rowMajor_val_two]
      show ((x 0).val / 16 * 16 + (x 0).val % 16) * 512 + (o + k.val) = (x 0).val * 512 + (o + k.val)
      omega
    refine (transpose_apply _ v3 ht _ (ix3 (⟨(x 0).val % 16, by omega⟩ : Fin 16) (⟨(x 0).val / 16, by omega⟩ : Fin 32) (⟨o + k.val, by omega⟩ : Fin 512)) (fun b => by
      match b with
      | ⟨0, _⟩ => rfl
      | ⟨1, _⟩ => rfl
      | ⟨2, _⟩ => rfl)).trans ?_
    rw [h3]
    refine nat3_of x1 _ rfl rfl ?_
    show o + k.val = (q * 1024 + (x 1).val) / 1024 * 128 + k.val
    omega
  · refine (shapeCast_apply w _ _ (ix4 (0 : Fin 1) (0 : Fin 1) k (⟨(x 1).val, h1⟩ : Fin 1024)) ?_).trans ?_
    · rw [Shape.rowMajor_val_four, Shape.rowMajor_val_two]
      show ((0 * 1 + 0) * 128 + k.val) * 1024 + (x 1).val = k.val * 1024 + (x 1).val
      omega
    rw [hw]
    show nat4 x2 0 q k.val (x 1).val = nat4 x2 0 ((q * 1024 + (x 1).val) / 1024) k.val ((q * 1024 + (x 1).val) % 1024)
    rw [show (q * 1024 + (x 1).val) / 1024 = q by omega, show (q * 1024 + (x 1).val) % 1024 = (x 1).val by omega]

variable {sig : RefSig} {κ : Kind} {sp : Space}

/-- Four pieces of a quarter each make the whole buffer of projected inputs. -/
theorem four (v : View sig κ sp SH .f32) (f : v.ty.Contents (Elt Ideal)) (G : ℕ → ℕ → EReal)
    (i0 : ∀ a : Fin 2, (![0, 0] : Fin 2 → ℕ) a + (![512, 1024] : Fin 2 → ℕ) a ≤ SH.size a)
    (i1 : ∀ a : Fin 2, (![0, 1024] : Fin 2 → ℕ) a + (![512, 1024] : Fin 2 → ℕ) a ≤ SH.size a)
    (i2 : ∀ a : Fin 2, (![0, 2048] : Fin 2 → ℕ) a + (![512, 1024] : Fin 2 → ℕ) a ≤ SH.size a)
    (i3 : ∀ a : Fin 2, (![0, 3072] : Fin 2 → ℕ) a + (![512, 1024] : Fin 2 → ℕ) a ≤ SH.size a)
    (w0 w1 w2 w3 : Vec Ideal ⟨2, ![512, 1024]⟩ .f32)
    (h0 : ∀ x, w0 x = G (x 0).val (0 * 1024 + (x 1).val)) (h1 : ∀ x, w1 x = G (x 0).val (1 * 1024 + (x 1).val))
    (h2 : ∀ x, w2 x = G (x 0).val (2 * 1024 + (x 1).val)) (h3 : ∀ x, w3 x = G (x 0).val (3 * 1024 + (x 1).val)) (y : SH.Idx) :
    v.read (Elt Ideal) (v.writes (Elt Ideal) f ([(⟨Rect.unit (s := SH) ![0, 3072] ![512, 1024] i3, w3⟩ : View.Piece (Elt Ideal) SH .f32),
      (⟨Rect.unit (s := SH) ![0, 2048] ![512, 1024] i2, w2⟩ : View.Piece (Elt Ideal) SH .f32),
      (⟨Rect.unit (s := SH) ![0, 1024] ![512, 1024] i1, w1⟩ : View.Piece (Elt Ideal) SH .f32),
      (⟨Rect.unit (s := SH) ![0, 0] ![512, 1024] i0, w0⟩ : View.Piece (Elt Ideal) SH .f32)] ++ [])) y = G (y 0).val (y 1).val := by
  have hy0 : (y 0).val < 512 := (y 0).isLt
  have hy1 : (y 1).val < 4096 := (y 1).isLt
  have hin : ∀ (o : ℕ) (inb : ∀ a : Fin 2, (![0, o] : Fin 2 → ℕ) a + (![512, 1024] : Fin 2 → ℕ) a ≤ SH.size a), o ≤ (y 1).val → (y 1).val < o + 1024 →
      y ∈ (Rect.unit (s := SH) ![0, o] ![512, 1024] inb).set := fun o inb ho ho' => by
    rw [Rect.mem_set_unit]
    intro a
    match a with
    | ⟨0, _⟩ => exact ⟨Nat.zero_le _, by show (y 0).val < 0 + 512; omega⟩
    | ⟨1, _⟩ => exact ⟨ho, ho'⟩
  refine read_prefix v f (fun y => G (y 0).val (y 1).val) [] _ ?_ y ?_
  · refine List.forall_mem_cons.2 ⟨fun x => ?_, List.forall_mem_cons.2 ⟨fun x => ?_, List.forall_mem_cons.2 ⟨fun x => ?_, List.forall_mem_cons.2 ⟨fun x => ?_, fun _ hm => absurd hm List.not_mem_nil⟩⟩⟩⟩
    · show w3 x = G (0 + 1 * (x 0).val) (3072 + 1 * (x 1).val)
      rw [Nat.zero_add, Nat.one_mul, Nat.one_mul]; exact h3 x
    · show w2 x = G (0 + 1 * (x 0).val) (2048 + 1 * (x 1).val)
      rw [Nat.zero_add, Nat.one_mul, Nat.one_mul]; exact h2 x
    · show w1 x = G (0 + 1 * (x 0).val) (1024 + 1 * (x 1).val)
      rw [Nat.zero_add, Nat.one_mul, Nat.one_mul]; exact h1 x
    · show w0 x = G (0 + 1 * (x 0).val) (0 + 1 * (x 1).val)
      rw [Nat.zero_add, Nat.one_mul, Nat.one_mul]; exact h0 x
  · by_cases c0 : (y 1).val < 1024
    · exact ⟨_, List.mem_cons_of_mem _ (List.mem_cons_of_mem _ (List.mem_cons_of_mem _ List.mem_cons_self)), hin 0 i0 (by omega) (by omega)⟩
    by_cases c1 : (y 1).val < 2048
    · exact ⟨_, List.mem_cons_of_mem _ (List.mem_cons_of_mem _ List.mem_cons_self), hin 1024 i1 (by omega) (by omega)⟩
    by_cases c2 : (y 1).val < 3072
    · exact ⟨_, List.mem_cons_of_mem _ List.mem_cons_self, hin 2048 i2 (by omega) (by omega)⟩
    exact ⟨_, List.mem_cons_self, hin 3072 i3 (by omega) (by omega)⟩

/-! ## The buffers read -/

theorem read_fac {κ' : Kind} {sp' : Space} (A : Memref sig κ' sp' ⟨3, ![1, 1, 4096]⟩ .f32) (hA : A.IsWhole) (x : Vec Ideal ⟨3, ![1, 1, 4096]⟩ .f32) (col : ℕ)
    (inb : ∀ a : Fin 3, (![0, 0, col] : Fin 3 → ℕ) a + (![1, 1, 256] : Fin 3 → ℕ) a ≤ (⟨3, ![1, 1, 4096]⟩ : Shape).size a) (j : Fin 256) :
    View.readAt (Elt Ideal) A.view (Rect.unit (s := ⟨3, ![1, 1, 4096]⟩) ![0, 0, col] ![1, 1, 256] inb).toLoadRect (hA.unread x) (ix3 0 0 j)
      = nat3 x 0 0 (col + j.val) := by
  refine (congrFun (hA.read_unread x) _).trans (nat3_of x _ rfl rfl ?_)
  show col + 1 * j.val = col + j.val
  omega

theorem read_wb {κ' : Kind} {sp' : Space} (A : Memref sig κ' sp' ⟨4, ![1, 4, 128, 1024]⟩ .bf16) (hA : A.IsWhole) (x : Vec Ideal ⟨4, ![1, 4, 128, 1024]⟩ .bf16) (q : ℕ)
    (inb : ∀ a : Fin 4, (![0, q, 0, 0] : Fin 4 → ℕ) a + (![1, 1, 128, 1024] : Fin 4 → ℕ) a ≤ (⟨4, ![1, 4, 128, 1024]⟩ : Shape).size a) (k : Fin 128) (j : Fin 1024) :
    View.readAt (Elt Ideal) A.view (Rect.unit (s := ⟨4, ![1, 4, 128, 1024]⟩) ![0, q, 0, 0] ![1, 1, 128, 1024] inb).toLoadRect (hA.unread x) (ix4 0 0 k j)
      = nat4 x 0 q k.val j.val := by
  refine (congrFun (hA.read_unread x) _).trans (nat4_of x _ rfl rfl ?_ ?_)
  · show 0 + 1 * k.val = k.val; omega
  · show 0 + 1 * j.val = j.val; omega

theorem read_x {κ' : Kind} {sp' : Space} (A : Memref sig κ' sp' ⟨3, ![16, 32, 512]⟩ .f32) (hA : A.IsWhole) (x : Vec Ideal ⟨3, ![16, 32, 512]⟩ .f32)
    (inb : ∀ a : Fin 3, (![0, 0, 0] : Fin 3 → ℕ) a + (![16, 32, 512] : Fin 3 → ℕ) a ≤ (⟨3, ![16, 32, 512]⟩ : Shape).size a) (i : (⟨3, ![16, 32, 512]⟩ : Shape).Idx) :
    View.readAt (Elt Ideal) A.view (Rect.unit (s := ⟨3, ![16, 32, 512]⟩) ![0, 0, 0] ![16, 32, 512] inb).toLoadRect (hA.unread x) i = x i := by
  refine (congrFun (hA.read_unread x) _).trans (congrArg x (funext fun a => Fin.ext ?_))
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem read_h0 {κ' : Kind} {sp' : Space} (A : Memref sig κ' sp' ⟨3, ![1, 16, 4096]⟩ .f32) (hA : A.IsWhole) (x : Vec Ideal ⟨3, ![1, 16, 4096]⟩ .f32)
    (inb : ∀ a : Fin 3, (![0, 0, 0] : Fin 3 → ℕ) a + (![1, 16, 4096] : Fin 3 → ℕ) a ≤ (⟨3, ![1, 16, 4096]⟩ : Shape).size a) :
    View.readAt (Elt Ideal) A.view (Rect.unit (s := ⟨3, ![1, 16, 4096]⟩) ![0, 0, 0] ![1, 16, 4096] inb).toLoadRect (hA.unread x) = x := by
  funext i
  refine (congrFun (hA.read_unread x) _).trans (congrArg x (funext fun a => Fin.ext ?_))
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- A strip of the state as the point found it, -/
theorem read_st {κ' : Kind} {sp' : Space} (A : Memref sig κ' sp' ⟨2, ![16, 4096]⟩ .f32) (hA : A.IsWhole) (x : Vec Ideal ⟨2, ![16, 4096]⟩ .f32) (col : ℕ)
    (inb : ∀ a : Fin 2, (![0, col] : Fin 2 → ℕ) a + (![16, 256] : Fin 2 → ℕ) a ≤ (⟨2, ![16, 4096]⟩ : Shape).size a) (j : SC.Idx) :
    View.readAt (Elt Ideal) A.view (Rect.unit (s := ⟨2, ![16, 4096]⟩) ![0, col] ![16, 256] inb).toLoadRect (hA.unread x) j = nat2 x (j 0).val (col + (j 1).val) := by
  refine (congrFun (hA.read_unread x) _).trans (nat2_of x _ ?_ ?_)
  · show 0 + 1 * (j 0).val = (j 0).val; omega
  · show col + 1 * (j 1).val = col + (j 1).val; omega

/-- and as the first point found it, storing the initial state whole and then other strips. -/
theorem skip (v : View sig κ sp ⟨2, ![16, 4096]⟩ .f32) (f : v.ty.Contents (Elt Ideal)) {o col : ℕ}
    (inb : ∀ a : Fin 2, (![0, o] : Fin 2 → ℕ) a + (![16, 256] : Fin 2 → ℕ) a ≤ (⟨2, ![16, 4096]⟩ : Shape).size a)
    (inb' : ∀ a : Fin 2, (![0, col] : Fin 2 → ℕ) a + (![16, 256] : Fin 2 → ℕ) a ≤ (⟨2, ![16, 4096]⟩ : Shape).size a)
    (w : Vec Ideal SC .f32) (L : List (View.Piece (Elt Ideal) ⟨2, ![16, 4096]⟩ .f32)) (j : SC.Idx) (g : EReal)
    (ho : col + 256 ≤ o ∨ o + 256 ≤ col)
    (hL : v.readAt (Elt Ideal) (Rect.unit (s := ⟨2, ![16, 4096]⟩) ![0, col] ![16, 256] inb').toLoadRect (v.writes (Elt Ideal) f L) j = g) :
    v.readAt (Elt Ideal) (Rect.unit (s := ⟨2, ![16, 4096]⟩) ![0, col] ![16, 256] inb').toLoadRect
      (v.writes (Elt Ideal) f ((⟨Rect.unit (s := ⟨2, ![16, 4096]⟩) ![0, o] ![16, 256] inb, w⟩ : View.Piece (Elt Ideal) ⟨2, ![16, 4096]⟩ .f32) :: L)) j = g := by
  have hj : (j 1).val < 256 := (j 1).isLt
  refine (View.read_writes_cons_unit_of_not_mem v f inb w L _ rfl 1 ?_).trans hL
  show col + 1 * (j 1).val < o ∨ o + 256 ≤ col + 1 * (j 1).val
  omega

theorem read_whole (v : View sig κ sp ⟨2, ![16, 4096]⟩ .f32) (f : v.ty.Contents (Elt Ideal))
    (inb : ∀ a : Fin 2, (![0, 0] : Fin 2 → ℕ) a + (![16, 4096] : Fin 2 → ℕ) a ≤ (⟨2, ![16, 4096]⟩ : Shape).size a) (y : (⟨2, ![16, 4096]⟩ : Shape).Idx) :
    v.readAt (Elt Ideal) (Rect.unit (s := ⟨2, ![16, 4096]⟩) ![0, 0] ![16, 4096] inb).toLoadRect f y = v.read (Elt Ideal) f y := by
  refine congrArg (v.read (Elt Ideal) f) (funext fun a => Fin.ext ?_)
  match a with
  | ⟨0, _⟩ => show 0 + 1 * (y 0).val = (y 0).val; omega
  | ⟨1, _⟩ => show 0 + 1 * (y 1).val = (y 1).val; omega

theorem base (v : View sig κ sp ⟨2, ![16, 4096]⟩ .f32) (f : v.ty.Contents (Elt Ideal)) {col : ℕ}
    (inb : ∀ a : Fin 2, (![0, 0] : Fin 2 → ℕ) a + (![16, 4096] : Fin 2 → ℕ) a ≤ (⟨2, ![16, 4096]⟩ : Shape).size a)
    (inb' : ∀ a : Fin 2, (![0, col] : Fin 2 → ℕ) a + (![16, 256] : Fin 2 → ℕ) a ≤ (⟨2, ![16, 4096]⟩ : Shape).size a)
    (w w' : Vec Ideal ⟨2, ![16, 4096]⟩ .f32) (hw : w = w') (L : List (View.Piece (Elt Ideal) ⟨2, ![16, 4096]⟩ .f32)) (j : SC.Idx) :
    v.readAt (Elt Ideal) (Rect.unit (s := ⟨2, ![16, 4096]⟩) ![0, col] ![16, 256] inb').toLoadRect
      (v.writes (Elt Ideal) f ((⟨Rect.unit (s := ⟨2, ![16, 4096]⟩) ![0, 0] ![16, 4096] inb, w⟩ : View.Piece (Elt Ideal) ⟨2, ![16, 4096]⟩ .f32) :: L)) j
      = nat2 w' (j 0).val (col + (j 1).val) := by
  subst hw
  refine (congrFun (View.read_writes_full v f inb w L) _).trans (nat2_of w _ ?_ ?_)
  · show 0 + 1 * (j 0).val = (j 0).val; omega
  · show col + 1 * (j 1).val = col + (j 1).val; omega

end Cert.Proof.S5Pay
-- ==== Proof.S5Point8.lean ====
/-
  The state each point of `Kernel8`'s grid leaves, at an element: 32 steps of the recurrence from the state it finds.
-/
module

public import proofs.«01_k».proof.Proof.S5State8
public import proofs.«01_k».proof.Proof.S5Pay

@[expose] public section

set_option maxRecDepth 16384

noncomputable section

namespace Cert.Proof.S5Point8

open Idealize.ShloMosaic Idealize.ShloMosaic.TcCoe Idealize.ShloMosaic.ValueIdx
open Cert.Kernel8Ideal Cert.Kernel8Ideal.Gen Cert.Proof.S5Run8 Cert.Proof.S5Math Cert.Proof.S5Pay Cert.Proof.S5Chain Cert.Proof.S5State8

/-! ## The quarters of the projected inputs -/

theorem q0 (v3 x1 : Vec Ideal S16x32x512 .f32) (h3 : ∀ i, v3 i = x1 i) (w : Vec Ideal S1x1x128x1024 .bf16) (x2 : Vec Ideal S1x4x128x1024 .bf16)
    (hw : ∀ (k : Fin 128) (j : Fin 1024), w (ix4 0 0 k j) = nat4 x2 0 0 k.val j.val) (x : S512x1024.Idx) :
    k0_pay3 v3 w x = proj x1 x2 (x 0).val (0 * 1024 + (x 1).val) := by
  unfold k0_pay3 k0_pay2
  exact quarter 0 0 rfl (by omega) v3 x1 h3 w x2 hw _ _ _ _ _ _ x rfl rfl
theorem q1 (v3 x1 : Vec Ideal S16x32x512 .f32) (h3 : ∀ i, v3 i = x1 i) (w : Vec Ideal S1x1x128x1024 .bf16) (x2 : Vec Ideal S1x4x128x1024 .bf16)
    (hw : ∀ (k : Fin 128) (j : Fin 1024), w (ix4 0 0 k j) = nat4 x2 0 1 k.val j.val) (x : S512x1024.Idx) :
    k0_pay4 v3 w x = proj x1 x2 (x 0).val (1 * 1024 + (x 1).val) := by
  unfold k0_pay4 k0_pay2
  exact quarter 128 1 rfl (by omega) v3 x1 h3 w x2 hw _ _ _ _ _ _ x rfl rfl
theorem q2 (v3 x1 : Vec Ideal S16x32x512 .f32) (h3 : ∀ i, v3 i = x1 i) (w : Vec Ideal S1x1x128x1024 .bf16) (x2 : Vec Ideal S1x4x128x1024 .bf16)
    (hw : ∀ (k : Fin 128) (j : Fin 1024), w (ix4 0 0 k j) = nat4 x2 0 2 k.val j.val) (x : S512x1024.Idx) :
    k0_pay5 v3 w x = proj x1 x2 (x 0).val (2 * 1024 + (x 1).val) := by
  unfold k0_pay5 k0_pay2
  exact quarter 256 2 rfl (by omega) v3 x1 h3 w x2 hw _ _ _ _ _ _ x rfl rfl
theorem q3 (v3 x1 : Vec Ideal S16x32x512 .f32) (h3 : ∀ i, v3 i = x1 i) (w : Vec Ideal S1x1x128x1024 .bf16) (x2 : Vec Ideal S1x4x128x1024 .bf16)
    (hw : ∀ (k : Fin 128) (j : Fin 1024), w (ix4 0 0 k j) = nat4 x2 0 3 k.val j.val) (x : S512x1024.Idx) :
    k0_pay7 (k0_pay6 v3) w x = proj x1 x2 (x 0).val (3 * 1024 + (x 1).val) := by
  unfold k0_pay7 k0_pay6 k0_pay2
  exact quarter 384 3 rfl (by omega) v3 x1 h3 w x2 hw _ _ _ _ _ _ x rfl rfl

/-! ## The strips' factors -/

section
variable (v : Vec Ideal S1x1x256 .f32) (a : ℕ → EReal) (col : ℕ) (hv : ∀ j : Fin 256, v (ix3 0 0 j) = a (col + j.val)) (x : S16x256.Idx)
include hv
theorem fac_8 : k0_pay8 v x = a (col + (x 1).val) := by unfold k0_pay8; exact strip_fac v _ _ _ a col hv x
theorem fac_9 : k0_pay9 v x = a (col + (x 1).val) := by unfold k0_pay9; exact strip_fac v _ _ _ a col hv x
theorem fac_16 : k0_pay16 v x = a (col + (x 1).val) := by unfold k0_pay16; exact strip_fac v _ _ _ a col hv x
theorem fac_17 : k0_pay17 v x = a (col + (x 1).val) := by unfold k0_pay17; exact strip_fac v _ _ _ a col hv x
theorem fac_24 : k0_pay24 v x = a (col + (x 1).val) := by unfold k0_pay24; exact strip_fac v _ _ _ a col hv x
theorem fac_25 : k0_pay25 v x = a (col + (x 1).val) := by unfold k0_pay25; exact strip_fac v _ _ _ a col hv x
theorem fac_32 : k0_pay32 v x = a (col + (x 1).val) := by unfold k0_pay32; exact strip_fac v _ _ _ a col hv x
theorem fac_33 : k0_pay33 v x = a (col + (x 1).val) := by unfold k0_pay33; exact strip_fac v _ _ _ a col hv x
theorem fac_40 : k0_pay40 v x = a (col + (x 1).val) := by unfold k0_pay40; exact strip_fac v _ _ _ a col hv x
theorem fac_41 : k0_pay41 v x = a (col + (x 1).val) := by unfold k0_pay41; exact strip_fac v _ _ _ a col hv x
theorem fac_48 : k0_pay48 v x = a (col + (x 1).val) := by unfold k0_pay48; exact strip_fac v _ _ _ a col hv x
theorem fac_49 : k0_pay49 v x = a (col + (x 1).val) := by unfold k0_pay49; exact strip_fac v _ _ _ a col hv x
theorem fac_56 : k0_pay56 v x = a (col + (x 1).val) := by unfold k0_pay56; exact strip_fac v _ _ _ a col hv x
theorem fac_57 : k0_pay57 v x = a (col + (x 1).val) := by unfold k0_pay57; exact strip_fac v _ _ _ a col hv x
theorem fac_64 : k0_pay64 v x = a (col + (x 1).val) := by unfold k0_pay64; exact strip_fac v _ _ _ a col hv x
theorem fac_65 : k0_pay65 v x = a (col + (x 1).val) := by unfold k0_pay65; exact strip_fac v _ _ _ a col hv x
end

/-! ## The three kinds of point -/

variable (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S16x4096 .f32) (harg7 : arg7.IsWhole) (arg8 : Memref sig .tc .vmem S32x16x512 .f32) (harg8 : arg8.IsWhole) (arg9 : Memref sig .tc .vmem S512x4096 .f32) (harg9 : arg9.IsWhole) (arg10 : Memref sig .tc .vmem S16x4096 .f32) (harg10 : arg10.IsWhole)
  (x1 : Vec Ideal S16x32x512 .f32) (x2 : Vec Ideal S1x4x128x1024 .bf16) (x3 : Vec Ideal S1x4x1024x128 .bf16) (x4 : Vec Ideal S1x1x4096 .f32)

set_option maxHeartbeats 2000000 in
/-- The state after a point that is neither first nor last. -/
theorem inner_at (h1 : ¬ isFirst i = 1#1) (h2 : ¬ k0_cond2 i = 1#1) (x10 : Vec Ideal S16x4096 .f32) (y : S16x4096.Idx) :
    (inner (F := Ideal) c i arg1 harg1 arg2 harg2 arg3 harg3 arg4 harg4 arg5 harg5 arg6 harg6 arg7 harg7 arg8 harg8 arg9 harg9 arg10 harg10 h1 h2).2.1 x1 x2 x3 x4 x10 y = new row (nat3 x4 0 0) (nat2 x10) (proj x1 x2) (y 0).val (y 1).val := by
  apply chain arg9.view arg10.view row (nat3 x4 0 0) (nat2 x10) (proj x1 x2)
  case hw1 => intro x; unfold k0_pay14; exact congrFun (shapeCast_self _ _) x
  case hu1 => intro x; unfold k0_pay15; exact congrFun (shapeCast_self _ _) x
  case hw2 => intro x; unfold k0_pay22; exact congrFun (shapeCast_self _ _) x
  case hu2 => intro x; unfold k0_pay23; exact congrFun (shapeCast_self _ _) x
  case hw3 => intro x; unfold k0_pay30; exact congrFun (shapeCast_self _ _) x
  case hu3 => intro x; unfold k0_pay31; exact congrFun (shapeCast_self _ _) x
  case hw4 => intro x; unfold k0_pay38; exact congrFun (shapeCast_self _ _) x
  case hu4 => intro x; unfold k0_pay39; exact congrFun (shapeCast_self _ _) x
  case hw5 => intro x; unfold k0_pay46; exact congrFun (shapeCast_self _ _) x
  case hu5 => intro x; unfold k0_pay47; exact congrFun (shapeCast_self _ _) x
  case hw6 => intro x; unfold k0_pay54; exact congrFun (shapeCast_self _ _) x
  case hu6 => intro x; unfold k0_pay55; exact congrFun (shapeCast_self _ _) x
  case hw7 => intro x; unfold k0_pay62; exact congrFun (shapeCast_self _ _) x
  case hu7 => intro x; unfold k0_pay63; exact congrFun (shapeCast_self _ _) x
  case hw8 => intro x; unfold k0_pay70; exact congrFun (shapeCast_self _ _) x
  case hu8 => intro x; unfold k0_pay71; exact congrFun (shapeCast_self _ _) x
  case hr1 =>
    exact fun g1 g2 => loop_t1 c i arg1 harg1 arg2 harg2 arg3 harg3 arg4 harg4 arg5 harg5 arg6 harg6 arg7 harg7 arg8 harg8 arg9 harg9 arg10 harg10 _ (_, _) _ _ _ _ _ _ _ rfl g1 g2
      (fac_8 _ _ 0 (read_fac arg4 harg4 x4 0 _)) (fac_9 _ _ 512 (read_fac arg4 harg4 x4 512 _))
      (read_st arg10 harg10 x10 0 _) (read_st arg10 harg10 x10 512 _)
  case hr2 =>
    exact fun g1 g2 => loop_t2 c i arg1 harg1 arg2 harg2 arg3 harg3 arg4 harg4 arg5 harg5 arg6 harg6 arg7 harg7 arg8 harg8 arg9 harg9 arg10 harg10 _ (_, _) _ _ _ _ _ _ rfl g1 g2
      (fac_16 _ _ 256 (read_fac arg4 harg4 x4 256 _)) (fac_17 _ _ 768 (read_fac arg4 harg4 x4 768 _))
      (read_st arg10 harg10 x10 256 _) (read_st arg10 harg10 x10 768 _)
  case hr3 =>
    exact fun g1 g2 => loop_t3 c i arg1 harg1 arg2 harg2 arg3 harg3 arg4 harg4 arg5 harg5 arg6 harg6 arg7 harg7 arg8 harg8 arg9 harg9 arg10 harg10 _ (_, _) _ _ _ _ _ _ _ rfl g1 g2
      (fac_24 _ _ 1024 (read_fac arg4 harg4 x4 1024 _)) (fac_25 _ _ 1536 (read_fac arg4 harg4 x4 1536 _))
      (read_st arg10 harg10 x10 1024 _) (read_st arg10 harg10 x10 1536 _)
  case hr4 =>
    exact fun g1 g2 => loop_t4 c i arg1 harg1 arg2 harg2 arg3 harg3 arg4 harg4 arg5 harg5 arg6 harg6 arg7 harg7 arg8 harg8 arg9 harg9 arg10 harg10 _ (_, _) _ _ _ _ _ _ _ _ rfl g1 g2
      (fac_32 _ _ 1280 (read_fac arg4 harg4 x4 1280 _)) (fac_33 _ _ 1792 (read_fac arg4 harg4 x4 1792 _))
      (read_st arg10 harg10 x10 1280 _) (read_st arg10 harg10 x10 1792 _)
  case hr5 =>
    exact fun g1 g2 => loop_t5 c i arg1 harg1 arg2 harg2 arg3 harg3 arg4 harg4 arg5 harg5 arg6 harg6 arg7 harg7 arg8 harg8 arg9 harg9 arg10 harg10 _ (_, _) _ _ _ _ _ _ rfl g1 g2
      (fac_40 _ _ 2048 (read_fac arg4 harg4 x4 2048 _)) (fac_41 _ _ 2560 (read_fac arg4 harg4 x4 2560 _))
      (read_st arg10 harg10 x10 2048 _) (read_st arg10 harg10 x10 2560 _)
  case hr6 =>
    exact fun g1 g2 => loop_t6 c i arg1 harg1 arg2 harg2 arg3 harg3 arg4 harg4 arg5 harg5 arg6 harg6 arg7 harg7 arg8 harg8 arg9 harg9 arg10 harg10 _ (_, _) _ _ _ _ _ _ _ _ rfl g1 g2
      (fac_48 _ _ 2304 (read_fac arg4 harg4 x4 2304 _)) (fac_49 _ _ 2816 (read_fac arg4 harg4 x4 2816 _))
      (read_st arg10 harg10 x10 2304 _) (read_st arg10 harg10 x10 2816 _)
  case hr7 =>
    exact fun g1 g2 => loop_t7 c i arg1 harg1 arg2 harg2 arg3 harg3 arg4 harg4 arg5 harg5 arg6 harg6 arg7 harg7 arg8 harg8 arg9 harg9 arg10 harg10 _ (_, _) _ _ _ _ _ _ _ rfl g1 g2
      (fac_56 _ _ 3072 (read_fac arg4 harg4 x4 3072 _)) (fac_57 _ _ 3584 (read_fac arg4 harg4 x4 3584 _))
      (read_st arg10 harg10 x10 3072 _) (read_st arg10 harg10 x10 3584 _)
  case hr8 =>
    exact fun g1 g2 => loop_t8 c i arg1 harg1 arg2 harg2 arg3 harg3 arg4 harg4 arg5 harg5 arg6 harg6 arg7 harg7 arg8 harg8 arg9 harg9 arg10 harg10 _ (_, _) _ _ _ _ _ _ _ _ rfl g1 g2
      (fac_64 _ _ 3328 (read_fac arg4 harg4 x4 3328 _)) (fac_65 _ _ 3840 (read_fac arg4 harg4 x4 3840 _))
      (read_st arg10 harg10 x10 3328 _) (read_st arg10 harg10 x10 3840 _)
  case hL2 => rfl
  case hL3 => rfl
  case hL4 => rfl
  case hL5 => rfl
  case hL6 => rfl
  case hL7 => rfl
  case hL8 => rfl
  case hBU =>
    intro y
    exact four arg9.view _ (proj x1 x2) _ _ _ _ _ _ _ _ (q0 _ _ (read_x arg1 harg1 x1 _) _ _ (read_wb arg2 harg2 x2 0 _))
      (q1 _ _ (read_x arg1 harg1 x1 _) _ _ (read_wb arg2 harg2 x2 1 _)) (q2 _ _ (read_x arg1 harg1 x1 _) _ _ (read_wb arg2 harg2 x2 2 _))
      (q3 _ _ (read_x arg1 harg1 x1 _) _ _ (read_wb arg2 harg2 x2 3 _)) y

set_option maxHeartbeats 2000000 in
/-- The state after the first point. -/
theorem first_at (h1 : isFirst i = 1#1) (h2 : ¬ k0_cond2 i = 1#1) (x5 : Vec Ideal S1x16x4096 .f32) (y : S16x4096.Idx) :
    (first (F := Ideal) c i arg1 harg1 arg2 harg2 arg3 harg3 arg4 harg4 arg5 harg5 arg6 harg6 arg7 harg7 arg8 harg8 arg9 harg9 arg10 harg10 h1 h2).2.1 x1 x2 x3 x4 x5 y = new row (nat3 x4 0 0) (nat2 (k0_pay1 x5)) (proj x1 x2) (y 0).val (y 1).val := by
  apply chain arg9.view arg10.view row (nat3 x4 0 0) (nat2 (k0_pay1 x5)) (proj x1 x2)
  case hw1 => intro x; unfold k0_pay14; exact congrFun (shapeCast_self _ _) x
  case hu1 => intro x; unfold k0_pay15; exact congrFun (shapeCast_self _ _) x
  case hw2 => intro x; unfold k0_pay22; exact congrFun (shapeCast_self _ _) x
  case hu2 => intro x; unfold k0_pay23; exact congrFun (shapeCast_self _ _) x
  case hw3 => intro x; unfold k0_pay30; exact congrFun (shapeCast_self _ _) x
  case hu3 => intro x; unfold k0_pay31; exact congrFun (shapeCast_self _ _) x
  case hw4 => intro x; unfold k0_pay38; exact congrFun (shapeCast_self _ _) x
  case hu4 => intro x; unfold k0_pay39; exact congrFun (shapeCast_self _ _) x
  case hw5 => intro x; unfold k0_pay46; exact congrFun (shapeCast_self _ _) x
  case hu5 => intro x; unfold k0_pay47; exact congrFun (shapeCast_self _ _) x
  case hw6 => intro x; unfold k0_pay54; exact congrFun (shapeCast_self _ _) x
  case hu6 => intro x; unfold k0_pay55; exact congrFun (shapeCast_self _ _) x
  case hw7 => intro x; unfold k0_pay62; exact congrFun (shapeCast_self _ _) x
  case hu7 => intro x; unfold k0_pay63; exact congrFun (shapeCast_self _ _) x
  case hw8 => intro x; unfold k0_pay70; exact congrFun (shapeCast_self _ _) x
  case hu8 => intro x; unfold k0_pay71; exact congrFun (shapeCast_self _ _) x
  case hr1 =>
    exact fun g1 g2 => loop_t1 c i arg1 harg1 arg2 harg2 arg3 harg3 arg4 harg4 arg5 harg5 arg6 harg6 arg7 harg7 arg8 harg8 arg9 harg9 arg10 harg10 _ (_, _) _ _ _ _ _ _ _ rfl g1 g2
      (fac_8 _ _ 0 (read_fac arg4 harg4 x4 0 _)) (fac_9 _ _ 512 (read_fac arg4 harg4 x4 512 _))
      (fun x => base arg10.view _ _ _ _ _ (congrArg k0_pay1 (read_h0 arg5 harg5 x5 _)) _ x) (fun x => base arg10.view _ _ _ _ _ (congrArg k0_pay1 (read_h0 arg5 harg5 x5 _)) _ x)
  case hr2 =>
    exact fun g1 g2 => loop_t2 c i arg1 harg1 arg2 harg2 arg3 harg3 arg4 harg4 arg5 harg5 arg6 harg6 arg7 harg7 arg8 harg8 arg9 harg9 arg10 harg10 _ (_, _) _ _ _ _ _ _ rfl g1 g2
      (fac_16 _ _ 256 (read_fac arg4 harg4 x4 256 _)) (fac_17 _ _ 768 (read_fac arg4 harg4 x4 768 _))
      (fun x => skip arg10.view _ _ _ _ _ x _ (by decide) (skip arg10.view _ _ _ _ _ x _ (by decide) (base arg10.view _ _ _ _ _ (congrArg k0_pay1 (read_h0 arg5 harg5 x5 _)) _ x))) (fun x => skip arg10.view _ _ _ _ _ x _ (by decide) (skip arg10.view _ _ _ _ _ x _ (by decide) (base arg10.view _ _ _ _ _ (congrArg k0_pay1 (read_h0 arg5 harg5 x5 _)) _ x)))
  case hr3 =>
    exact fun g1 g2 => loop_t3 c i arg1 harg1 arg2 harg2 arg3 harg3 arg4 harg4 arg5 harg5 arg6 harg6 arg7 harg7 arg8 harg8 arg9 harg9 arg10 harg10 _ (_, _) _ _ _ _ _ _ _ rfl g1 g2
      (fac_24 _ _ 1024 (read_fac arg4 harg4 x4 1024 _)) (fac_25 _ _ 1536 (read_fac arg4 harg4 x4 1536 _))
      (fun x => skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x))))) (fun x => skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x)))))
  case hr4 =>
    exact fun g1 g2 => loop_t4 c i arg1 harg1 arg2 harg2 arg3 harg3 arg4 harg4 arg5 harg5 arg6 harg6 arg7 harg7 arg8 harg8 arg9 harg9 arg10 harg10 _ (_, _) _ _ _ _ _ _ _ _ rfl g1 g2
      (fac_32 _ _ 1280 (read_fac arg4 harg4 x4 1280 _)) (fac_33 _ _ 1792 (read_fac arg4 harg4 x4 1792 _))
      (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x))))))) (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x)))))))
  case hr5 =>
    exact fun g1 g2 => loop_t5 c i arg1 harg1 arg2 harg2 arg3 harg3 arg4 harg4 arg5 harg5 arg6 harg6 arg7 harg7 arg8 harg8 arg9 harg9 arg10 harg10 _ (_, _) _ _ _ _ _ _ rfl g1 g2
      (fac_40 _ _ 2048 (read_fac arg4 harg4 x4 2048 _)) (fac_41 _ _ 2560 (read_fac arg4 harg4 x4 2560 _))
      (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x))))))))) (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x)))))))))
  case hr6 =>
    exact fun g1 g2 => loop_t6 c i arg1 harg1 arg2 harg2 arg3 harg3 arg4 harg4 arg5 harg5 arg6 harg6 arg7 harg7 arg8 harg8 arg9 harg9 arg10 harg10 _ (_, _) _ _ _ _ _ _ _ _ rfl g1 g2
      (fac_48 _ _ 2304 (read_fac arg4 harg4 x4 2304 _)) (fac_49 _ _ 2816 (read_fac arg4 harg4 x4 2816 _))
      (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x))))))))))) (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x)))))))))))
  case hr7 =>
    exact fun g1 g2 => loop_t7 c i arg1 harg1 arg2 harg2 arg3 harg3 arg4 harg4 arg5 harg5 arg6 harg6 arg7 harg7 arg8 harg8 arg9 harg9 arg10 harg10 _ (_, _) _ _ _ _ _ _ _ rfl g1 g2
      (fac_56 _ _ 3072 (read_fac arg4 harg4 x4 3072 _)) (fac_57 _ _ 3584 (read_fac arg4 harg4 x4 3584 _))
      (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x))))))))))))) (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x)))))))))))))
  case hr8 =>
    exact fun g1 g2 => loop_t8 c i arg1 harg1 arg2 harg2 arg3 harg3 arg4 harg4 arg5 harg5 arg6 harg6 arg7 harg7 arg8 harg8 arg9 harg9 arg10 harg10 _ (_, _) _ _ _ _ _ _ _ _ rfl g1 g2
      (fac_64 _ _ 3328 (read_fac arg4 harg4 x4 3328 _)) (fac_65 _ _ 3840 (read_fac arg4 harg4 x4 3840 _))
      (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x))))))))))))))) (fun x => skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (skip arg10.view _ _ _ _ _ x _ (by decide) (base arg10.view _ _ _ _ _ (congrArg k0_pay1 (read_h0 arg5 harg5 x5 _)) _ x)))))))))))))))
  case hL2 => rfl
  case hL3 => rfl
  case hL4 => rfl
  case hL5 => rfl
  case hL6 => rfl
  case hL7 => rfl
  case hL8 => rfl
  case hBU =>
    intro y
    exact four arg9.view _ (proj x1 x2) _ _ _ _ _ _ _ _ (q0 _ _ (read_x arg1 harg1 x1 _) _ _ (read_wb arg2 harg2 x2 0 _))
      (q1 _ _ (read_x arg1 harg1 x1 _) _ _ (read_wb arg2 harg2 x2 1 _)) (q2 _ _ (read_x arg1 harg1 x1 _) _ _ (read_wb arg2 harg2 x2 2 _))
      (q3 _ _ (read_x arg1 harg1 x1 _) _ _ (read_wb arg2 harg2 x2 3 _)) y

set_option maxHeartbeats 4000000 in
/-- The state after the last point, and what that point writes out: the same. -/
theorem last_both (h1 : ¬ isFirst i = 1#1) (h2 : k0_cond2 i = 1#1) (x10 : Vec Ideal S16x4096 .f32) (y : S16x4096.Idx) :
    (last (F := Ideal) c i arg1 harg1 arg2 harg2 arg3 harg3 arg4 harg4 arg5 harg5 arg6 harg6 arg7 harg7 arg8 harg8 arg9 harg9 arg10 harg10 h1 h2).2.2.1 x1 x2 x3 x4 x10 y = new row (nat3 x4 0 0) (nat2 x10) (proj x1 x2) (y 0).val (y 1).val
    ∧ (last (F := Ideal) c i arg1 harg1 arg2 harg2 arg3 harg3 arg4 harg4 arg5 harg5 arg6 harg6 arg7 harg7 arg8 harg8 arg9 harg9 arg10 harg10 h1 h2).2.1 x1 x2 x3 x4 x10 y = new row (nat3 x4 0 0) (nat2 x10) (proj x1 x2) (y 0).val (y 1).val := by
  refine ⟨?_, (read_whole arg10.view _ _ y).trans ?_⟩ <;> (
    apply chain arg9.view arg10.view row (nat3 x4 0 0) (nat2 x10) (proj x1 x2)
    case hw1 => intro x; unfold k0_pay14; exact congrFun (shapeCast_self _ _) x
    case hu1 => intro x; unfold k0_pay15; exact congrFun (shapeCast_self _ _) x
    case hw2 => intro x; unfold k0_pay22; exact congrFun (shapeCast_self _ _) x
    case hu2 => intro x; unfold k0_pay23; exact congrFun (shapeCast_self _ _) x
    case hw3 => intro x; unfold k0_pay30; exact congrFun (shapeCast_self _ _) x
    case hu3 => intro x; unfold k0_pay31; exact congrFun (shapeCast_self _ _) x
    case hw4 => intro x; unfold k0_pay38; exact congrFun (shapeCast_self _ _) x
    case hu4 => intro x; unfold k0_pay39; exact congrFun (shapeCast_self _ _) x
    case hw5 => intro x; unfold k0_pay46; exact congrFun (shapeCast_self _ _) x
    case hu5 => intro x; unfold k0_pay47; exact congrFun (shapeCast_self _ _) x
    case hw6 => intro x; unfold k0_pay54; exact congrFun (shapeCast_self _ _) x
    case hu6 => intro x; unfold k0_pay55; exact congrFun (shapeCast_self _ _) x
    case hw7 => intro x; unfold k0_pay62; exact congrFun (shapeCast_self _ _) x
    case hu7 => intro x; unfold k0_pay63; exact congrFun (shapeCast_self _ _) x
    case hw8 => intro x; unfold k0_pay70; exact congrFun (shapeCast_self _ _) x
    case hu8 => intro x; unfold k0_pay71; exact congrFun (shapeCast_self _ _) x
    case hr1 =>
      exact fun g1 g2 => loop_t1 c i arg1 harg1 arg2 harg2 arg3 harg3 arg4 harg4 arg5 harg5 arg6 harg6 arg7 harg7 arg8 harg8 arg9 harg9 arg10 harg10 _ (_, _) _ _ _ _ _ _ _ rfl g1 g2
        (fac_8 _ _ 0 (read_fac arg4 harg4 x4 0 _)) (fac_9 _ _ 512 (read_fac arg4 harg4 x4 512 _))
        (read_st arg10 harg10 x10 0 _) (read_st arg10 harg10 x10 512 _)
    case hr2 =>
      exact fun g1 g2 => loop_t2 c i arg1 harg1 arg2 harg2 arg3 harg3 arg4 harg4 arg5 harg5 arg6 harg6 arg7 harg7 arg8 harg8 arg9 harg9 arg10 harg10 _ (_, _) _ _ _ _ _ _ rfl g1 g2
        (fac_16 _ _ 256 (read_fac arg4 harg4 x4 256 _)) (fac_17 _ _ 768 (read_fac arg4 harg4 x4 768 _))
        (read_st arg10 harg10 x10 256 _) (read_st arg10 harg10 x10 768 _)
    case hr3 =>
      exact fun g1 g2 => loop_t3 c i arg1 harg1 arg2 harg2 arg3 harg3 arg4 harg4 arg5 harg5 arg6 harg6 arg7 harg7 arg8 harg8 arg9 harg9 arg10 harg10 _ (_, _) _ _ _ _ _ _ _ rfl g1 g2
        (fac_24 _ _ 1024 (read_fac arg4 harg4 x4 1024 _)) (fac_25 _ _ 1536 (read_fac arg4 harg4 x4 1536 _))
        (read_st arg10 harg10 x10 1024 _) (read_st arg10 harg10 x10 1536 _)
    case hr4 =>
      exact fun g1 g2 => loop_t4 c i arg1 harg1 arg2 harg2 arg3 harg3 arg4 harg4 arg5 harg5 arg6 harg6 arg7 harg7 arg8 harg8 arg9 harg9 arg10 harg10 _ (_, _) _ _ _ _ _ _ _ _ rfl g1 g2
        (fac_32 _ _ 1280 (read_fac arg4 harg4 x4 1280 _)) (fac_33 _ _ 1792 (read_fac arg4 harg4 x4 1792 _))
        (read_st arg10 harg10 x10 1280 _) (read_st arg10 harg10 x10 1792 _)
    case hr5 =>
      exact fun g1 g2 => loop_t5 c i arg1 harg1 arg2 harg2 arg3 harg3 arg4 harg4 arg5 harg5 arg6 harg6 arg7 harg7 arg8 harg8 arg9 harg9 arg10 harg10 _ (_, _) _ _ _ _ _ _ rfl g1 g2
        (fac_40 _ _ 2048 (read_fac arg4 harg4 x4 2048 _)) (fac_41 _ _ 2560 (read_fac arg4 harg4 x4 2560 _))
        (read_st arg10 harg10 x10 2048 _) (read_st arg10 harg10 x10 2560 _)
    case hr6 =>
      exact fun g1 g2 => loop_t6 c i arg1 harg1 arg2 harg2 arg3 harg3 arg4 harg4 arg5 harg5 arg6 harg6 arg7 harg7 arg8 harg8 arg9 harg9 arg10 harg10 _ (_, _) _ _ _ _ _ _ _ _ rfl g1 g2
        (fac_48 _ _ 2304 (read_fac arg4 harg4 x4 2304 _)) (fac_49 _ _ 2816 (read_fac arg4 harg4 x4 2816 _))
        (read_st arg10 harg10 x10 2304 _) (read_st arg10 harg10 x10 2816 _)
    case hr7 =>
      exact fun g1 g2 => loop_t7 c i arg1 harg1 arg2 harg2 arg3 harg3 arg4 harg4 arg5 harg5 arg6 harg6 arg7 harg7 arg8 harg8 arg9 harg9 arg10 harg10 _ (_, _) _ _ _ _ _ _ _ rfl g1 g2
        (fac_56 _ _ 3072 (read_fac arg4 harg4 x4 3072 _)) (fac_57 _ _ 3584 (read_fac arg4 harg4 x4 3584 _))
        (read_st arg10 harg10 x10 3072 _) (read_st arg10 harg10 x10 3584 _)
    case hr8 =>
      exact fun g1 g2 => loop_t8 c i arg1 harg1 arg2 harg2 arg3 harg3 arg4 harg4 arg5 harg5 arg6 harg6 arg7 harg7 arg8 harg8 arg9 harg9 arg10 harg10 _ (_, _) _ _ _ _ _ _ _ _ rfl g1 g2
        (fac_64 _ _ 3328 (read_fac arg4 harg4 x4 3328 _)) (fac_65 _ _ 3840 (read_fac arg4 harg4 x4 3840 _))
        (read_st arg10 harg10 x10 3328 _) (read_st arg10 harg10 x10 3840 _)
    case hL2 => rfl
    case hL3 => rfl
    case hL4 => rfl
    case hL5 => rfl
    case hL6 => rfl
    case hL7 => rfl
    case hL8 => rfl
    case hBU =>
      intro y
      exact four arg9.view _ (proj x1 x2) _ _ _ _ _ _ _ _ (q0 _ _ (read_x arg1 harg1 x1 _) _ _ (read_wb arg2 harg2 x2 0 _))
        (q1 _ _ (read_x arg1 harg1 x1 _) _ _ (read_wb arg2 harg2 x2 1 _)) (q2 _ _ (read_x arg1 harg1 x1 _) _ _ (read_wb arg2 harg2 x2 2 _))
        (q3 _ _ (read_x arg1 harg1 x1 _) _ _ (read_wb arg2 harg2 x2 3 _)) y)

theorem last_at (h1 : ¬ isFirst i = 1#1) (h2 : k0_cond2 i = 1#1) (x10 : Vec Ideal S16x4096 .f32) (y : S16x4096.Idx) :
    (last (F := Ideal) c i arg1 harg1 arg2 harg2 arg3 harg3 arg4 harg4 arg5 harg5 arg6 harg6 arg7 harg7 arg8 harg8 arg9 harg9 arg10 harg10 h1 h2).2.2.1 x1 x2 x3 x4 x10 y = new row (nat3 x4 0 0) (nat2 x10) (proj x1 x2) (y 0).val (y 1).val :=
  (last_both c i arg1 harg1 arg2 harg2 arg3 harg3 arg4 harg4 arg5 harg5 arg6 harg6 arg7 harg7 arg8 harg8 arg9 harg9 arg10 harg10 x1 x2 x3 x4 h1 h2 x10 y).1
theorem last_out_at (h1 : ¬ isFirst i = 1#1) (h2 : k0_cond2 i = 1#1) (x10 : Vec Ideal S16x4096 .f32) (y : S16x4096.Idx) :
    (last (F := Ideal) c i arg1 harg1 arg2 harg2 arg3 harg3 arg4 harg4 arg5 harg5 arg6 harg6 arg7 harg7 arg8 harg8 arg9 harg9 arg10 harg10 h1 h2).2.1 x1 x2 x3 x4 x10 y = new row (nat3 x4 0 0) (nat2 x10) (proj x1 x2) (y 0).val (y 1).val :=
  (last_both c i arg1 harg1 arg2 harg2 arg3 harg3 arg4 harg4 arg5 harg5 arg6 harg6 arg7 harg7 arg8 harg8 arg9 harg9 arg10 harg10 x1 x2 x3 x4 h1 h2 x10 y).2

end Cert.Proof.S5Point8
-- ==== Proof.S5Spec.lean ====
/-
  What a pass over time is to compute, and how the host's references spell its operands: the projected inputs `bu`, and the
  state `whole` of a number of steps of the recurrence, by sequence and lane.
-/
module

public import proofs.«01_k».proof.Proof.S5Pay

@[expose] public section

set_option maxRecDepth 16384

noncomputable section

namespace Cert.Proof.S5Spec

open Idealize.ShloMosaic Idealize.ShloMosaic.ValueIdx Cert.Proof.S5Math Cert.Proof.S5Pay

theorem nat2_in {n0 n1 : ℕ} (x : (⟨2, ![n0, n1]⟩ : Shape).Idx → EReal) {a b : ℕ} (ha : a < n0) (hb : b < n1) :
    nat2 x a b = x (ix2 ⟨a, ha⟩ ⟨b, hb⟩) := dif_pos ⟨ha, hb⟩
theorem nat3_in {n0 n1 n2 : ℕ} (x : (⟨3, ![n0, n1, n2]⟩ : Shape).Idx → EReal) {a b c : ℕ} (ha : a < n0) (hb : b < n1) (hc : c < n2) :
    nat3 x a b c = x (ix3 ⟨a, ha⟩ ⟨b, hb⟩ ⟨c, hc⟩) := dif_pos ⟨ha, hb, hc⟩
theorem nat4_in {n0 n1 n2 n3 : ℕ} (x : (⟨4, ![n0, n1, n2, n3]⟩ : Shape).Idx → EReal) {a b c d : ℕ} (ha : a < n0) (hb : b < n1)
    (hc : c < n2) (hd : d < n3) : nat4 x a b c d = x (ix4 ⟨a, ha⟩ ⟨b, hb⟩ ⟨c, hc⟩ ⟨d, hd⟩) := dif_pos ⟨ha, hb, hc, hd⟩

abbrev SU : Shape := ⟨3, ![32, 256, 3584]⟩
abbrev SW : Shape := ⟨4, ![2, 4, 128, 1024]⟩
abbrev SA : Shape := ⟨3, ![2, 1, 4096]⟩
abbrev SI : Shape := ⟨3, ![2, 16, 4096]⟩

/-- The projected inputs of direction `d` at time `n`, sequence `b` and lane `l`. -/
def bu (d : ℕ) (u : SU.Idx → EReal) (w : SW.Idx → EReal) (n b l : ℕ) : EReal :=
  ∑ k : Fin 128, nat3 u b n (512 + (l / 1024 * 128 + k.val)) * nat4 w d (l / 1024) k.val (l % 1024)

/-- The lane pair `re`, `re + 512` of sequence `b` after `n` steps, `B` the inputs by step, sequence and lane, -/
def lane (a : ℕ → EReal) (h : ℕ → ℕ → EReal) (B : ℕ → ℕ → ℕ → EReal) (n b re : ℕ) : EReal × EReal :=
  cell (a re) (a (re + 512)) (h b re) (h b (re + 512)) (fun s => (B s b re, B s b (re + 512))) n

/-- and the whole state. -/
def whole (a : ℕ → EReal) (h : ℕ → ℕ → EReal) (B : ℕ → ℕ → ℕ → EReal) (n b l : ℕ) : EReal :=
  if l % 1024 < 512 then (lane a h B n b (l / 1024 * 1024 + l % 512)).1 else (lane a h B n b (l / 1024 * 1024 + l % 512)).2

section Whole

variable (a : ℕ → EReal) (h : ℕ → ℕ → EReal) (B : ℕ → ℕ → ℕ → EReal)

theorem whole_re (n b q j : ℕ) (hj : j < 512) : whole a h B n b (q * 1024 + j) = (lane a h B n b (q * 1024 + j)).1 := by
  unfold whole
  rw [if_pos (by omega), show (q * 1024 + j) / 1024 * 1024 + (q * 1024 + j) % 512 = q * 1024 + j by omega]
theorem whole_im (n b q j : ℕ) (hj : j < 512) : whole a h B n b (q * 1024 + j + 512) = (lane a h B n b (q * 1024 + j)).2 := by
  unfold whole
  rw [if_neg (by omega), show (q * 1024 + j + 512) / 1024 * 1024 + (q * 1024 + j + 512) % 512 = q * 1024 + j by omega]

/-- No step taken. -/
theorem whole_zero (b l : ℕ) : whole a h B 0 b l = h b l := by
  unfold whole lane
  by_cases hl : l % 1024 < 512
  · rw [if_pos hl]
    show h b (l / 1024 * 1024 + l % 512) = _
    rw [show l / 1024 * 1024 + l % 512 = l by omega]
  · rw [if_neg hl]
    show h b (l / 1024 * 1024 + l % 512 + 512) = _
    rw [show l / 1024 * 1024 + l % 512 + 512 = l by omega]

/-- A point's 32 steps, after `n`. -/
theorem whole_point (row : ℕ → ℕ) (a' : ℕ → EReal) (h' BU : ℕ → ℕ → EReal) (n b l : ℕ) (hl : l < 4096)
    (ha : ∀ l, l < 4096 → a' l = a l) (hh : ∀ l, l < 4096 → h' b l = whole a h B n b l)
    (hB : ∀ k l, k < 32 → l < 4096 → BU (row k + b) l = B (n + k) b l) :
    new row a' h' BU b l = whole a h B (n + 32) b l := by
  obtain ⟨q, j, hj, hq, e⟩ : ∃ q j, j < 512 ∧ q < 4 ∧ l / 1024 * 1024 + l % 512 = q * 1024 + j :=
    ⟨l / 1024, l % 512, by omega, by omega, rfl⟩
  have key : pair row a' h' BU b (q * 1024 + j) = lane a h B (n + 32) b (q * 1024 + j) := by
    unfold pair lane
    rw [cell_add, ha _ (by omega), ha _ (by omega), hh _ (by omega), hh _ (by omega), whole_re a h B n b q j hj, whole_im a h B n b q j hj]
    exact cell_congr _ _ _ _ _ _ 32 fun k hk => by rw [hB k _ hk (by omega), hB k _ hk (by omega)]
  unfold new whole
  rw [e, key]

end Whole

/-! ## The references' operands -/

theorem fac_read (d o : ℕ) (hd : d < 2) (ho : o < 2) (x : SA.Idx → EReal) (h1 : SA.Slices ![d, 0, 0] ⟨3, ![1, 1, 4096]⟩)
    (h2 : (⟨3, ![1, 1, 4096]⟩ : Shape).ShapeCasts ⟨2, ![1, 4096]⟩) (h3 : (⟨2, ![1, 4096]⟩ : Shape).ShapeCasts ⟨4, ![1, 4, 2, 512]⟩)
    (h4 : (⟨4, ![1, 4, 2, 512]⟩ : Shape).Slices ![0, 0, o, 0] ⟨4, ![1, 4, 1, 512]⟩)
    (h5 : (⟨4, ![1, 4, 1, 512]⟩ : Shape).ShapeCasts ⟨3, ![1, 4, 512]⟩) (q : Fin 4) (j : Fin 512) :
    shapeCast ⟨3, ![1, 4, 512]⟩ (extractStridedSlice ⟨4, ![1, 4, 1, 512]⟩ ![0, 0, o, 0] (shapeCast ⟨4, ![1, 4, 2, 512]⟩
      (shapeCast ⟨2, ![1, 4096]⟩ (extractStridedSlice ⟨3, ![1, 1, 4096]⟩ ![d, 0, 0] x h1) h2) h3) h4) h5 (ix3 (0 : Fin 1) q j)
    = nat3 x d 0 (q.val * 1024 + j.val + o * 512) := by
  have hlt : q.val * 1024 + j.val + o * 512 < 4096 := by omega
  refine (shapeCast_apply _ h5 _ (ix4 (0 : Fin 1) q (0 : Fin 1) j) ?_).trans ?_
  · rw [Shape.rowMajor_val_four, Shape.rowMajor_val_three]
    show ((0 * 4 + q.val) * 1 + 0) * 512 + j.val = (0 * 4 + q.val) * 512 + j.val
    omega
  refine (extractStridedSlice_apply _ _ h4 _ (ix4 (0 : Fin 1) q (⟨o, ho⟩ : Fin 2) j) fun a => ?_).trans ?_
  · match a with
    | ⟨0, _⟩ => rfl
    | ⟨1, _⟩ => show q.val = 0 + q.val; omega
    | ⟨2, _⟩ => rfl
    | ⟨3, _⟩ => show j.val = 0 + j.val; omega
  refine (shapeCast_apply _ h3 _ (ix2 (0 : Fin 1) (⟨q.val * 1024 + j.val + o * 512, hlt⟩ : Fin 4096)) ?_).trans ?_
  · rw [Shape.rowMajor_val_two, Shape.rowMajor_val_four]
    show 0 * 4096 + (q.val * 1024 + j.val + o * 512) = ((0 * 4 + q.val) * 2 + o) * 512 + j.val
    omega
  refine (shapeCast_apply _ h2 _ (ix3 (0 : Fin 1) (0 : Fin 1) (⟨q.val * 1024 + j.val + o * 512, hlt⟩ : Fin 4096)) ?_).trans ?_
  · rw [Shape.rowMajor_val_three, Shape.rowMajor_val_two]
    rfl
  refine (extractStridedSlice_apply _ _ h1 _ (ix3 (⟨d, hd⟩ : Fin 2) (0 : Fin 1) (⟨q.val * 1024 + j.val + o * 512, hlt⟩ : Fin 4096)) fun a => ?_).trans ?_
  · match a with
    | ⟨0, _⟩ => rfl
    | ⟨1, _⟩ => rfl
    | ⟨2, _⟩ => show q.val * 1024 + j.val + o * 512 = 0 + (q.val * 1024 + j.val + o * 512); omega
  exact nat3_of x _ rfl rfl rfl

theorem state_read (d o : ℕ) (hd : d < 2) (ho : o < 2) (x : SI.Idx → EReal) (h1 : SI.Slices ![d, 0, 0] ⟨3, ![1, 16, 4096]⟩)
    (h2 : (⟨3, ![1, 16, 4096]⟩ : Shape).ShapeCasts ⟨2, ![16, 4096]⟩) (h3 : (⟨2, ![16, 4096]⟩ : Shape).ShapeCasts ⟨4, ![16, 4, 2, 512]⟩)
    (h4 : (⟨4, ![16, 4, 2, 512]⟩ : Shape).Slices ![0, 0, o, 0] ⟨4, ![16, 4, 1, 512]⟩)
    (h5 : (⟨4, ![16, 4, 1, 512]⟩ : Shape).ShapeCasts ⟨3, ![16, 4, 512]⟩) (b : Fin 16) (q : Fin 4) (j : Fin 512) :
    shapeCast ⟨3, ![16, 4, 512]⟩ (extractStridedSlice ⟨4, ![16, 4, 1, 512]⟩ ![0, 0, o, 0] (shapeCast ⟨4, ![16, 4, 2, 512]⟩
      (shapeCast ⟨2, ![16, 4096]⟩ (extractStridedSlice ⟨3, ![1, 16, 4096]⟩ ![d, 0, 0] x h1) h2) h3) h4) h5 (ix3 b q j)
    = nat3 x d b.val (q.val * 1024 + j.val + o * 512) := by
  have hlt : q.val * 1024 + j.val + o * 512 < 4096 := by omega
  refine (shapeCast_apply _ h5 _ (ix4 b q (0 : Fin 1) j) ?_).trans ?_
  · rw [Shape.rowMajor_val_four, Shape.rowMajor_val_three]
    show ((b.val * 4 + q.val) * 1 + 0) * 512 + j.val = (b.val * 4 + q.val) * 512 + j.val
    omega
  refine (extractStridedSlice_apply _ _ h4 _ (ix4 b q (⟨o, ho⟩ : Fin 2) j) fun a => ?_).trans ?_
  · match a with
    | ⟨0, _⟩ => show b.val = 0 + b.val; omega
    | ⟨1, _⟩ => show q.val = 0 + q.val; omega
    | ⟨2, _⟩ => rfl
    | ⟨3, _⟩ => show j.val = 0 + j.val; omega
  refine (shapeCast_apply _ h3 _ (ix2 b (⟨q.val * 1024 + j.val + o * 512, hlt⟩ : Fin 4096)) ?_).trans ?_
  · rw [Shape.rowMajor_val_two, Shape.rowMajor_val_four]
    show b.val * 4096 + (q.val * 1024 + j.val + o * 512) = ((b.val * 4 + q.val) * 2 + o) * 512 + j.val
    omega
  refine (shapeCast_apply _ h2 _ (ix3 (0 : Fin 1) b (⟨q.val * 1024 + j.val + o * 512, hlt⟩ : Fin 4096)) ?_).trans ?_
  · rw [Shape.rowMajor_val_three, Shape.rowMajor_val_two]
    show (0 * 16 + b.val) * 4096 + (q.val * 1024 + j.val + o * 512) = b.val * 4096 + (q.val * 1024 + j.val + o * 512)
    omega
  refine (extractStridedSlice_apply _ _ h1 _ (ix3 (⟨d, hd⟩ : Fin 2) b (⟨q.val * 1024 + j.val + o * 512, hlt⟩ : Fin 4096)) fun a => ?_).trans ?_
  · match a with
    | ⟨0, _⟩ => rfl
    | ⟨1, _⟩ => show b.val = 0 + b.val; omega
    | ⟨2, _⟩ => show q.val * 1024 + j.val + o * 512 = 0 + (q.val * 1024 + j.val + o * 512); omega
  exact nat3_of x _ rfl rfl rfl

/-- The matrices of direction `d`, -/
theorem mat_read (d : ℕ) (hd : d < 2) (x : SW.Idx → EReal) (h1 : SW.Slices ![d, 0, 0, 0] ⟨4, ![1, 4, 128, 1024]⟩)
    (h2 : (⟨4, ![1, 4, 128, 1024]⟩ : Shape).ShapeCasts ⟨3, ![4, 128, 1024]⟩) (q : Fin 4) (k : Fin 128) (l : Fin 1024) :
    shapeCast ⟨3, ![4, 128, 1024]⟩ (extractStridedSlice ⟨4, ![1, 4, 128, 1024]⟩ ![d, 0, 0, 0] x h1) h2 (ix3 q k l) = nat4 x d q.val k.val l.val := by
  refine (shapeCast_apply _ h2 _ (ix4 (0 : Fin 1) q k l) ?_).trans ?_
  · rw [Shape.rowMajor_val_four, Shape.rowMajor_val_three]
    show ((0 * 4 + q.val) * 128 + k.val) * 1024 + l.val = (q.val * 128 + k.val) * 1024 + l.val
    omega
  refine (extractStridedSlice_apply _ _ h1 _ (ix4 (⟨d, hd⟩ : Fin 2) q k l) fun a => ?_).trans ?_
  · match a with
    | ⟨0, _⟩ => rfl
    | ⟨1, _⟩ => show q.val = 0 + q.val; omega
    | ⟨2, _⟩ => show k.val = 0 + k.val; omega
    | ⟨3, _⟩ => show l.val = 0 + l.val; omega
  exact nat4_of x _ rfl rfl rfl rfl

/-- and the columns the pass reads. -/
theorem col_read (x : SU.Idx → EReal) (h1 : SU.Slices ![0, 0, 512] ⟨3, ![16, 256, 512]⟩)
    (h2 : (⟨3, ![16, 256, 512]⟩ : Shape).ShapeCasts ⟨4, ![16, 256, 4, 128]⟩) (b : Fin 16) (n : Fin 256) (q : Fin 4) (k : Fin 128) :
    shapeCast ⟨4, ![16, 256, 4, 128]⟩ (extractStridedSlice ⟨3, ![16, 256, 512]⟩ ![0, 0, 512] x h1) h2 (ix4 b n q k)
      = nat3 x b.val n.val (512 + (q.val * 128 + k.val)) := by
  have hlt : q.val * 128 + k.val < 512 := by omega
  refine (shapeCast_apply _ h2 _ (ix3 b n (⟨q.val * 128 + k.val, hlt⟩ : Fin 512)) ?_).trans ?_
  · rw [Shape.rowMajor_val_three, Shape.rowMajor_val_four]
    show (b.val * 256 + n.val) * 512 + (q.val * 128 + k.val) = ((b.val * 256 + n.val) * 4 + q.val) * 128 + k.val
    omega
  refine (extractStridedSlice_apply _ _ h1 _ (ix3 (⟨b.val, by omega⟩ : Fin 32) n (⟨512 + (q.val * 128 + k.val), by omega⟩ : Fin 3584)) fun a => ?_).trans ?_
  · match a with
    | ⟨0, _⟩ => show b.val = 0 + b.val; omega
    | ⟨1, _⟩ => show n.val = 0 + n.val; omega
    | ⟨2, _⟩ => rfl
  exact nat3_of x _ rfl rfl rfl

/-- The two halves of the lanes put together, as the reference returns them. -/
theorem out_read (hr hi : (⟨3, ![16, 4, 512]⟩ : Shape).Idx → EReal) (h1 : (⟨3, ![16, 4, 512]⟩ : Shape).BroadcastsInDim ⟨4, ![16, 4, 1, 512]⟩ ![0, 1, 3])
    (h2 : Shape.Concatenates [⟨4, ![16, 4, 1, 512]⟩, ⟨4, ![16, 4, 1, 512]⟩] ⟨4, ![16, 4, 2, 512]⟩ 2)
    (h3 : (⟨4, ![16, 4, 2, 512]⟩ : Shape).ShapeCasts ⟨2, ![16, 4096]⟩) (a : ℕ → EReal) (h : ℕ → ℕ → EReal) (B : ℕ → ℕ → ℕ → EReal) (n : ℕ)
    (er : ∀ (b : Fin 16) (q : Fin 4) (j : Fin 512), hr (ix3 b q j) = (lane a h B n b.val (q.val * 1024 + j.val)).1)
    (ei : ∀ (b : Fin 16) (q : Fin 4) (j : Fin 512), hi (ix3 b q j) = (lane a h B n b.val (q.val * 1024 + j.val)).2)
    (y : (⟨2, ![16, 4096]⟩ : Shape).Idx) :
    shapeCast ⟨2, ![16, 4096]⟩ (concatenate ⟨4, ![16, 4, 2, 512]⟩ 2
      [⟨⟨4, ![16, 4, 1, 512]⟩, broadcastInDim ⟨4, ![16, 4, 1, 512]⟩ ![0, 1, 3] h1 hr⟩,
        ⟨⟨4, ![16, 4, 1, 512]⟩, broadcastInDim ⟨4, ![16, 4, 1, 512]⟩ ![0, 1, 3] h1 hi⟩] h2) h3 y
      = whole a h B n (y 0).val (y 1).val := by
  have hy : (y 1).val < 4096 := (y 1).isLt
  obtain ⟨b, hb⟩ : ∃ b : Fin 16, b.val = (y 0).val := ⟨⟨(y 0).val, (y 0).isLt⟩, rfl⟩
  obtain ⟨q, hq⟩ : ∃ q : Fin 4, q.val = (y 1).val / 1024 := ⟨⟨(y 1).val / 1024, by omega⟩, rfl⟩
  obtain ⟨j, hj⟩ : ∃ j : Fin 512, j.val = (y 1).val % 512 := ⟨⟨(y 1).val % 512, by omega⟩, rfl⟩
  have bc : ∀ x : (⟨3, ![16, 4, 512]⟩ : Shape).Idx → EReal, broadcastInDim ⟨4, ![16, 4, 1, 512]⟩ ![0, 1, 3] h1 x (ix4 b q (0 : Fin 1) j) = x (ix3 b q j) :=
    fun x => broadcastInDim_apply _ h1 x _ _ fun a => by
      match a with
      | ⟨0, _⟩ => rfl
      | ⟨1, _⟩ => rfl
      | ⟨2, _⟩ => rfl
  by_cases hl : (y 1).val % 1024 < 512
  · refine (shapeCast_apply _ h3 _ (ix4 b q (0 : Fin 2) j) ?_).trans ?_
    · rw [Shape.rowMajor_val_two, Shape.rowMajor_val_four]
      show ((b.val * 4 + q.val) * 2 + 0) * 512 + j.val = (y 0).val * 4096 + (y 1).val
      omega
    refine (concatenate_pair_apply_left 2 _ _ h2 _ rfl (ix4 b q (0 : Fin 1) j) fun a => ?_).trans ?_
    · match a with
      | ⟨0, _⟩ => rfl
      | ⟨1, _⟩ => rfl
      | ⟨2, _⟩ => rfl
      | ⟨3, _⟩ => rfl
    rw [bc, er, ← whole_re _ _ _ _ _ _ _ j.isLt, hb, show q.val * 1024 + j.val = (y 1).val by omega]
  · refine (shapeCast_apply _ h3 _ (ix4 b q (1 : Fin 2) j) ?_).trans ?_
    · rw [Shape.rowMajor_val_two, Shape.rowMajor_val_four]
      show ((b.val * 4 + q.val) * 2 + 1) * 512 + j.val = (y 0).val * 4096 + (y 1).val
      omega
    refine (concatenate_pair_apply_right 2 _ _ h2 _ rfl rfl (ix4 b q (0 : Fin 1) j) (fun a ha => ?_) rfl).trans ?_
    · match a with
      | ⟨0, _⟩ => rfl
      | ⟨1, _⟩ => rfl
      | ⟨2, _⟩ => exact absurd rfl ha
      | ⟨3, _⟩ => rfl
    rw [bc, ei, ← whole_im _ _ _ _ _ _ _ j.isLt, hb, show q.val * 1024 + j.val + 512 = (y 1).val by omega]

end Cert.Proof.S5Spec
-- ==== Proof.S5Ref8.lean ====
/-
  The host's reference of the pass over time of `Kernel8`: its 256 steps, at an element.
-/
module

public import proofs.«01_k».proof.Proof.S5Spec
public import proofs.«01_k».proof.Proof.Gen.Reference8Ideal.StepRun
public import Idealize.ShloMosaic.Lib.WordCmp

@[expose] public section

set_option maxRecDepth 16384

noncomputable section

namespace Cert.Proof.S5Ref8

open Idealize.ShloMosaic Idealize.ShloMosaic.ValueIdx
open Cert.Reference8Ideal Cert.Reference8Ideal.Gen Cert.Reference8Ideal.Step Cert.Proof.S5Math Cert.Proof.S5Pay Cert.Proof.S5Spec

variable (x0 : SU.Idx → EReal) (x1 : SW.Idx → EReal) (x3 : SA.Idx → EReal) (x4 : SI.Idx → EReal)

/-- The factors, the state the pass starts from, and the inputs of step `s`. -/
abbrev fa (l : ℕ) : EReal := nat3 x3 0 0 l
abbrev fh (b l : ℕ) : EReal := nat3 x4 0 b l
abbrev fb (s b l : ℕ) : EReal := bu 0 x0 x1 s b l

theorem dot_read (i : S4x1024x16x256.Idx) (y0 : FVec Ideal S4x128x1024 .f32) (y1 : FVec Ideal S16x256x4x128 .f32) :
    Host.dotGeneral dot_S4x128x1024_S16x256x4x128_S4x1024x16x256_1_3_2_01_0_2 none y0 y1 i
      = ∑ k : Fin 128, y0 (ix3 (i 0) k (i 1)) * y1 (ix4 (i 2) (i 3) (i 0) k) := by
  simp only [Host.dotGeneral]
  rw [Ideal.dotGeneral_apply, ← Equiv.sum_comp (contrEquiv1 dot_S4x128x1024_S16x256x4x128_S4x1024x16x256_1_3_2_01_0_2 128 rfl rfl).symm]
  refine Finset.sum_congr rfl fun k _ => ?_
  have hk := contrEquiv1_symm_val dot_S4x128x1024_S16x256x4x128_S4x1024x16x256_1_3_2_01_0_2 128 rfl rfl k
  have el : DotDims.lhsIdx dot_S4x128x1024_S16x256x4x128_S4x1024x16x256_1_3_2_01_0_2 i ((contrEquiv1 dot_S4x128x1024_S16x256x4x128_S4x1024x16x256_1_3_2_01_0_2 128 rfl rfl).symm k) = ix3 (i 0) k (i 1) := funext fun a => Fin.ext (by
    match a with
    | ⟨0, _⟩ => rfl
    | ⟨1, _⟩ => exact hk
    | ⟨2, _⟩ => rfl)
  have er : DotDims.rhsIdx dot_S4x128x1024_S16x256x4x128_S4x1024x16x256_1_3_2_01_0_2 i ((contrEquiv1 dot_S4x128x1024_S16x256x4x128_S4x1024x16x256_1_3_2_01_0_2 128 rfl rfl).symm k) = ix4 (i 2) (i 3) (i 0) k := funext fun a => Fin.ext (by
    match a with
    | ⟨0, _⟩ => rfl
    | ⟨1, _⟩ => rfl
    | ⟨2, _⟩ => rfl
    | ⟨3, _⟩ => exact hk)
  rw [el, er]
  rfl

theorem proj_read (n : Fin 256) (b : Fin 16) (q : Fin 4) (l : Fin 1024) :
    A_main_v6 (F := Ideal) x0 x1 x3 x4 (ix4 n b q l) = bu 0 x0 x1 n.val b.val (q.val * 1024 + l.val) := by
  unfold A_main_v6 A_main_v5
  refine (transpose_apply _ _ _ _ (ix4 q l b n) fun a => ?_).trans ((dot_read _ _ _).trans ?_)
  · match a with
    | ⟨0, _⟩ => rfl
    | ⟨1, _⟩ => rfl
    | ⟨2, _⟩ => rfl
    | ⟨3, _⟩ => rfl
  unfold bu
  refine Finset.sum_congr rfl fun k _ => (mul_comm _ _).trans (congrArg₂ (· * ·) ?_ ?_)
  · unfold A_main_v1 A_main_v0
    refine (col_read x0 _ _ b n q k).trans ?_
    rw [show (q.val * 1024 + l.val) / 1024 = q.val by omega]
  · unfold A_main_v4
    refine (show _ = A_main_v3 (F := Ideal) x0 x1 x3 x4 (ix3 q k l) from rfl).trans ?_
    unfold A_main_v3 A_main_v2
    refine (mat_read 0 (by omega) x1 _ _ q k l).trans ?_
    rw [show (q.val * 1024 + l.val) / 1024 = q.val by omega, show (q.val * 1024 + l.val) % 1024 = l.val by omega]

theorem in_read (n : Fin 256) (b : Fin 16) (q : Fin 4) (l : Fin 1024) :
    A_main_v6 (F := Ideal) x0 x1 x3 x4 (ix4 n b q l) = fb x0 x1 n.val b.val (q.val * 1024 + l.val) := proj_read x0 x1 x3 x4 n b q l

/-- The states of the loop. -/
def it : ℕ → State Ideal
  | 0 => init x0 x1 x3 x4
  | n + 1 => step n (it n)

theorem it_const : ∀ n, (it x0 x1 x3 x4 n).main_v24_0 = A_main_v6 (F := Ideal) x0 x1 x3 x4 ∧ (it x0 x1 x3 x4 n).main_v24_1 = A_main_v11 (F := Ideal) x0 x1 x3 x4
    ∧ (it x0 x1 x3 x4 n).main_v24_2 = A_main_v16 (F := Ideal) x0 x1 x3 x4
  | 0 => ⟨rfl, rfl, rfl⟩
  | n + 1 => it_const n

theorem re_read (q : Fin 4) (j : Fin 512) : A_main_v11 (F := Ideal) x0 x1 x3 x4 (ix3 (0 : Fin 1) q j) = fa x3 (q.val * 1024 + j.val) := by
  unfold A_main_v11 A_main_v10 A_main_v9 A_main_v8 A_main_v7
  refine (fac_read 0 0 (by omega) (by omega) x3 _ _ _ _ _ q j).trans ?_
  rw [show q.val * 1024 + j.val + 0 * 512 = q.val * 1024 + j.val by omega]
theorem im_read (q : Fin 4) (j : Fin 512) : A_main_v16 (F := Ideal) x0 x1 x3 x4 (ix3 (0 : Fin 1) q j) = fa x3 (q.val * 1024 + j.val + 512) := by
  unfold A_main_v16 A_main_v15 A_main_v14 A_main_v13 A_main_v12
  refine (fac_read 0 1 (by omega) (by omega) x3 _ _ _ _ _ q j).trans ?_
  rw [show q.val * 1024 + j.val + 1 * 512 = q.val * 1024 + j.val + 512 by omega]

/-- The inputs the body takes at step `n`. -/
theorem b4_read (n : ℕ) (hn : n < 256) (b : Fin 16) (q : Fin 4) (l : Fin 1024) :
    b4 (F := Ideal) n (it x0 x1 x3 x4 n) (ix3 b q l) = fb x0 x1 n b.val (q.val * 1024 + l.val) := by
  unfold b4 b3
  rw [(it_const x0 x1 x3 x4 n).1]
  refine (shapeCast_apply _ _ _ (ix4 (0 : Fin 1) b q l) ?_).trans ?_
  · rw [Shape.rowMajor_val_four, Shape.rowMajor_val_three]
    show ((0 * 16 + b.val) * 4 + q.val) * 1024 + l.val = (b.val * 4 + q.val) * 1024 + l.val
    omega
  have hs : S256x16x4x1024.Slices ![n, 0, 0, 0] S1x16x4x1024 := ⟨rfl, fun a => by
    match a with
    | ⟨0, _⟩ => show n + 1 ≤ 256; omega
    | ⟨1, _⟩ => exact le_refl 16
    | ⟨2, _⟩ => exact le_refl 4
    | ⟨3, _⟩ => exact le_refl 1024⟩
  rw [Idealize.ShloMosaic.WordCmp.dynamicSlice_eq_extract S1x16x4x1024 _ _ _ ![n, 0, 0, 0] hs (fun a => by
    match a with
    | ⟨0, _⟩ =>
      show (BitVec.ofNat 32 n).toInt = (n : Int)
      rw [BitVec.toInt_eq_toNat_of_lt (by rw [BitVec.toNat_ofNat]; omega), BitVec.toNat_ofNat]
      omega
    | ⟨1, _⟩ => rfl
    | ⟨2, _⟩ => rfl
    | ⟨3, _⟩ => rfl)]
  refine (extractStridedSlice_apply _ _ hs _ (ix4 (⟨n, hn⟩ : Fin 256) b q l) fun a => ?_).trans (in_read x0 x1 x3 x4 ⟨n, hn⟩ b q l)
  match a with
  | ⟨0, _⟩ => rfl
  | ⟨1, _⟩ => show b.val = 0 + b.val; omega
  | ⟨2, _⟩ => show q.val = 0 + q.val; omega
  | ⟨3, _⟩ => show l.val = 0 + l.val; omega

theorem bc_read (x : Vec Ideal S1x4x512 .f32) (b : Fin 16) (q : Fin 4) (j : Fin 512) :
    broadcastInDim S16x4x512 ![0, 1, 2] bcast_S1x4x512_S16x4x512_0_1_2 x (ix3 b q j) = x (ix3 (0 : Fin 1) q j) :=
  broadcastInDim_apply _ _ x _ _ fun a => by
    match a with
    | ⟨0, _⟩ => rfl
    | ⟨1, _⟩ => rfl
    | ⟨2, _⟩ => rfl

theorem half_read (x : Vec Ideal S16x4x1024 .f32) (o : ℕ) (ho : o ≤ 512) (h : S16x4x1024.Slices ![0, 0, o] S16x4x512) (b : Fin 16) (q : Fin 4) (j : Fin 512) :
    extractStridedSlice S16x4x512 ![0, 0, o] x h (ix3 b q j) = x (ix3 b q (⟨o + j.val, by omega⟩ : Fin 1024)) :=
  extractStridedSlice_apply _ x h _ _ fun a => by
    match a with
    | ⟨0, _⟩ => show b.val = 0 + b.val; omega
    | ⟨1, _⟩ => show q.val = 0 + q.val; omega
    | ⟨2, _⟩ => rfl

/-- The state before step `n`: the recurrence's, lane by lane. -/
theorem it_lane : ∀ n, n ≤ 256 → ∀ (b : Fin 16) (q : Fin 4) (j : Fin 512),
    (it x0 x1 x3 x4 n).main_v24_4 (ix3 b q j) = (lane (fa x3) (fh x4) (fb x0 x1) n b.val (q.val * 1024 + j.val)).1
    ∧ (it x0 x1 x3 x4 n).main_v24_5 (ix3 b q j) = (lane (fa x3) (fh x4) (fb x0 x1) n b.val (q.val * 1024 + j.val)).2
  | 0, _, b, q, j => by
    constructor
    · show A_main_v21 (F := Ideal) x0 x1 x3 x4 (ix3 b q j) = fh x4 b.val (q.val * 1024 + j.val)
      unfold A_main_v21 A_main_v20 A_main_v19 A_main_v18 A_main_v17
      refine (state_read 0 0 (by omega) (by omega) x4 _ _ _ _ _ b q j).trans ?_
      rw [show q.val * 1024 + j.val + 0 * 512 = q.val * 1024 + j.val by omega]
    · show A_main_v23 (F := Ideal) x0 x1 x3 x4 (ix3 b q j) = fh x4 b.val (q.val * 1024 + j.val + 512)
      unfold A_main_v23 A_main_v22 A_main_v19 A_main_v18 A_main_v17
      refine (state_read 0 1 (by omega) (by omega) x4 _ _ _ _ _ b q j).trans ?_
      rw [show q.val * 1024 + j.val + 1 * 512 = q.val * 1024 + j.val + 512 by omega]
  | n + 1, hn, b, q, j => by
    obtain ⟨i1, i2⟩ := it_lane n (by omega) b q j
    obtain ⟨-, c1, c2⟩ := it_const x0 x1 x3 x4 n
    have e0 : q.val * 1024 + (0 + j.val) = q.val * 1024 + j.val := by omega
    have e1 : q.val * 1024 + (512 + j.val) = q.val * 1024 + j.val + 512 := by omega
    have u0 : b10 (F := Ideal) n (it x0 x1 x3 x4 n) (ix3 b q j) = fb x0 x1 n b.val (q.val * 1024 + j.val) := by
      unfold b10
      rw [half_read _ 0 (by omega), b4_read x0 x1 x3 x4 n (by omega)]
      exact congrArg _ e0
    have u1 : b17 (F := Ideal) n (it x0 x1 x3 x4 n) (ix3 b q j) = fb x0 x1 n b.val (q.val * 1024 + j.val + 512) := by
      unfold b17
      rw [half_read _ 512 (by omega), b4_read x0 x1 x3 x4 n (by omega)]
      exact congrArg _ e1
    have a5 : b5 (F := Ideal) n (it x0 x1 x3 x4 n) (ix3 b q j) = fa x3 (q.val * 1024 + j.val) := by
      unfold b5; rw [c1]; exact (bc_read _ b q j).trans (re_read x0 x1 x3 x4 q j)
    have a7 : b7 (F := Ideal) n (it x0 x1 x3 x4 n) (ix3 b q j) = fa x3 (q.val * 1024 + j.val + 512) := by
      unfold b7; rw [c2]; exact (bc_read _ b q j).trans (im_read x0 x1 x3 x4 q j)
    have a12 : b12 (F := Ideal) n (it x0 x1 x3 x4 n) (ix3 b q j) = fa x3 (q.val * 1024 + j.val) := by
      unfold b12; rw [c1]; exact (bc_read _ b q j).trans (re_read x0 x1 x3 x4 q j)
    have a14 : b14 (F := Ideal) n (it x0 x1 x3 x4 n) (ix3 b q j) = fa x3 (q.val * 1024 + j.val + 512) := by
      unfold b14; rw [c2]; exact (bc_read _ b q j).trans (im_read x0 x1 x3 x4 q j)
    constructor
    · show b5 (F := Ideal) n _ (ix3 b q j) * (it x0 x1 x3 x4 n).main_v24_4 (ix3 b q j) - b7 (F := Ideal) n _ (ix3 b q j) * (it x0 x1 x3 x4 n).main_v24_5 (ix3 b q j)
        + b10 (F := Ideal) n _ (ix3 b q j) = _
      rw [a5, a7, u0, i1, i2]
      rfl
    · show b12 (F := Ideal) n _ (ix3 b q j) * (it x0 x1 x3 x4 n).main_v24_5 (ix3 b q j) + b14 (F := Ideal) n _ (ix3 b q j) * (it x0 x1 x3 x4 n).main_v24_4 (ix3 b q j)
        + b17 (F := Ideal) n _ (ix3 b q j) = _
      rw [a12, a14, u1, i1, i2]
      rfl

/-- The reference's result. -/
theorem result_read (y : S16x4096.Idx) :
    R_main_v28 (it x0 x1 x3 x4 256) y = whole (fa x3) (fh x4) (fb x0 x1) 256 (y 0).val (y 1).val := by
  unfold R_main_v28
  exact out_read _ _ _ _ _ (fa x3) (fh x4) (fb x0 x1) 256 (fun b q j => (it_lane x0 x1 x3 x4 256 (le_refl _) b q j).1)
    (fun b q j => (it_lane x0 x1 x3 x4 256 (le_refl _) b q j).2) y

end Cert.Proof.S5Ref8
-- ==== Proof.S5Value8.lean ====
/-
  The value claim of `Kernel8`: the state the pass over time ends with, eight points of 32 steps each, against the host's
  256 steps.
-/
module

public import proofs.«01_k».proof.Proof.S5Frame8
public import proofs.«01_k».proof.Proof.S5Point8
public import proofs.«01_k».proof.Proof.S5Ref8
public import proofs.«01_k».proof.Defs
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Proof.S5Value8

open Cert.Kernel8Ideal Cert.Kernel8Ideal.Gen Cert.Proof.S5Frame8 Cert.Proof.S5Run8 Cert.Proof.S5Point8 Cert.Proof.S5State8
open Cert.Proof.S5Math Cert.Proof.S5Pay Cert.Proof.S5Spec

variable (m : (ℓ : Loc nD τ sig) → Buf (Elt Ideal) ℓ) (ρ : Dev nD → PrngReg)

/-- The arguments: the projected rows, the matrices into the state, the factors, the state the pass starts from. -/
abbrev aU (c : Dev nD) : SU.Idx → EReal := m ((c : Thread nD τ).loc main_arg0)
abbrev aW (c : Dev nD) : SW.Idx → EReal := m ((c : Thread nD τ).loc main_arg1)
abbrev aA (c : Dev nD) : SA.Idx → EReal := m ((c : Thread nD τ).loc main_arg3)
abbrev aH (c : Dev nD) : SI.Idx → EReal := m ((c : Thread nD τ).loc main_arg4)

/-- Where a point's blocks lie. -/
theorem index0 : ∀ t : Fin cfg0.N, win0_0.index t 0 = 0 ∧ win0_0.index t 1 = t.val ∧ win0_0.index t 2 = 1 :=
  (by decide +kernel : ∀ t : Fin grid0.N, win0_0.index t 0 = 0 ∧ win0_0.index t 1 = t.val ∧ win0_0.index t 2 = 1)
theorem index1 : ∀ t : Fin cfg0.N, win0_1.index t 0 = 0 ∧ win0_1.index t 1 = 0 ∧ win0_1.index t 2 = 0 ∧ win0_1.index t 3 = 0 :=
  (by decide +kernel : ∀ t : Fin grid0.N, win0_1.index t 0 = 0 ∧ win0_1.index t 1 = 0 ∧ win0_1.index t 2 = 0 ∧ win0_1.index t 3 = 0)
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index6 : ∀ t : Fin cfg0.N, win0_6.index t 0 = 0 ∧ win0_6.index t 1 = 0 :=
  (by decide +kernel : ∀ t : Fin grid0.N, win0_6.index t 0 = 0 ∧ win0_6.index t 1 = 0)

/-! ## The blocks, read -/

theorem u_read (c : Dev nD) (t : Fin cfg0.N) (b n k : ℕ) (hb : b < 16) (hn : n < 32) (hk : k < 512) :
    nat3 (n0 := 16) (n1 := 32) (n2 := 512) (iblk m c 0 t) b n k = nat3 (aU m c) b (32 * t.val + n) (512 + k) := by
  rw [nat3_in _ hb hn hk]
  show V m c main_arg0 ((win0_0.rect t).emb (ix3 (⟨b, hb⟩ : Fin 16) (⟨n, hn⟩ : Fin 32) (⟨k, hk⟩ : Fin 512))) = _
  rw [V_main_arg0]
  refine nat3_of (aU m c) _ ?_ ?_ ?_
  · show win0_0.index t 0 * 16 + 1 * b = b
    rw [(index0 t).1]; omega
  · show win0_0.index t 1 * 32 + 1 * n = 32 * t.val + n
    rw [(index0 t).2.1]; omega
  · show win0_0.index t 2 * 512 + 1 * k = 512 + k
    rw [(index0 t).2.2]; omega

theorem w_read (c : Dev nD) (t : Fin cfg0.N) (q k l : ℕ) (hq : q < 4) (hk : k < 128) (hl : l < 1024) :
    nat4 (n0 := 1) (n1 := 4) (n2 := 128) (n3 := 1024) (iblk m c 1 t) 0 q k l = nat4 (aW m c) 0 q k l := by
  rw [nat4_in _ Nat.one_pos hq hk hl]
  show V m c main_arg1 ((win0_1.rect t).emb (ix4 (⟨0, Nat.one_pos⟩ : Fin 1) (⟨q, hq⟩ : Fin 4) (⟨k, hk⟩ : Fin 128) (⟨l, hl⟩ : Fin 1024))) = _
  rw [V_main_arg1]
  refine nat4_of (aW m c) _ ?_ ?_ ?_ ?_
  · show win0_1.index t 0 * 1 + 1 * 0 = 0
    rw [(index1 t).1]
  · show win0_1.index t 1 * 4 + 1 * q = q
    rw [(index1 t).2.1]; omega
  · show win0_1.index t 2 * 128 + 1 * k = k
    rw [(index1 t).2.2.1]; omega
  · show win0_1.index t 3 * 1024 + 1 * l = l
    rw [(index1 t).2.2.2]; omega

theorem a_read (c : Dev nD) (t : Fin cfg0.N) (l : ℕ) (hl : l < 4096) :
    nat3 (n0 := 1) (n1 := 1) (n2 := 4096) (iblk m c 3 t) 0 0 l = nat3 (aA m c) 0 0 l := by
  rw [nat3_in _ Nat.one_pos Nat.one_pos hl]
  show V m c main_arg3 ((win0_3.rect t).emb (ix3 (⟨0, Nat.one_pos⟩ : Fin 1) (⟨0, Nat.one_pos⟩ : Fin 1) (⟨l, hl⟩ : Fin 4096))) = _
  rw [V_main_arg3]
  refine nat3_of (aA m c) _ ?_ ?_ ?_
  · show win0_3.index t 0 * 1 + 1 * 0 = 0
    rw [(index3 t).1]
  · show win0_3.index t 1 * 1 + 1 * 0 = 0
    rw [(index3 t).2.1]
  · show win0_3.index t 2 * 4096 + 1 * l = l
    rw [(index3 t).2.2]; omega

/-- The state the first point starts from. -/
theorem start_of (x : Vec Ideal S1x16x4096 .f32) (r : Fin 16) (l : Fin 4096) : k0_pay1 (F := Ideal) x (ix2 r l) = x (ix3 (0 : Fin 1) r l) := by
  unfold k0_pay1
  refine (congrFun (shapeCast_self _ _) _).trans (shapeCast_apply x shapeCasts_S1x16x4096_S16x4096 (ix2 r l) (ix3 (0 : Fin 1) r l) ?_)
  rw [Shape.rowMajor_val_three, Shape.rowMajor_val_two]
  show (0 * 16 + r.val) * 4096 + l.val = r.val * 4096 + l.val
  omega

theorem h_read (c : Dev nD) (t : Fin cfg0.N) (r : Fin 16) (l : Fin 4096) : iblk m c 4 t (ix3 (0 : Fin 1) r l) = nat3 (aH m c) 0 r.val l.val := by
  show V m c main_arg4 ((win0_4.rect t).emb (ix3 (0 : Fin 1) r l)) = _
  rw [V_main_arg4]
  refine nat3_of (aH m c) _ ?_ ?_ ?_
  · show win0_4.index t 0 * 1 + 1 * 0 = 0
    rw [(index4 t).1]
  · show win0_4.index t 1 * 16 + 1 * r.val = r.val
    rw [(index4 t).2.1]; omega
  · show win0_4.index t 2 * 4096 + 1 * l.val = l.val
    rw [(index4 t).2.2]; omega

theorem start_read (c : Dev nD) (t : Fin cfg0.N) (y : S16x4096.Idx) :
    k0_pay1 (F := Ideal) (iblk m c 4 t) y = nat3 (aH m c) 0 (y 0).val (y 1).val := by
  obtain ⟨r, l, rfl⟩ : ∃ (r : Fin 16) (l : Fin 4096), y = ix2 r l := ⟨y 0, y 1, eq_ix2 y⟩
  exact (start_of (iblk m c 4 t) r l).trans (h_read m c t r l)

/-- The specification at the arguments. -/
abbrev fa (c : Dev nD) : ℕ → EReal := Cert.Proof.S5Ref8.fa (aA m c)
abbrev fh (c : Dev nD) : ℕ → ℕ → EReal := Cert.Proof.S5Ref8.fh (aH m c)
abbrev fb (c : Dev nD) : ℕ → ℕ → ℕ → EReal := Cert.Proof.S5Ref8.fb (aU m c) (aW m c)

/-- Step `k` of a point, of the pass's inputs. -/
theorem in_read (c : Dev nD) (t : Fin cfg0.N) (k b l : ℕ) (hk : k < 32) (hb : b < 16) (hl : l < 4096) :
    proj (iblk m c 0 t) (iblk m c 1 t) (row k + b) l = fb m c (32 * t.val + k) b l := by
  have ht := t_lt t
  unfold fb Cert.Proof.S5Ref8.fb proj bu
  refine Finset.sum_congr rfl fun i _ => ?_
  have hi : i.val < 128 := i.isLt
  rw [show (row k + b) % 16 = b by show (16 * k + b) % 16 = b; omega, show (row k + b) / 16 = k by show (16 * k + b) / 16 = k; omega,
    u_read m c t b _ _ hb (by omega) (by omega), w_read m c t _ _ _ (by omega) hi (by omega)]

/-! ## The points -/

/-- A point's state, of the one it finds. -/
theorem next_at (c : Dev nD) (t : Fin cfg0.N) (x : Vec Ideal S16x4096 .f32) (hx : t.val = 0 → x = k0_pay1 (iblk m c 4 t)) (y : S16x4096.Idx) :
    nextAt m c t x y = new row (nat3 (n0 := 1) (n1 := 1) (n2 := 4096) (iblk m c 3 t) 0 0) (nat2 x) (proj (iblk m c 0 t) (iblk m c 1 t)) (y 0).val (y 1).val := by
  unfold nextAt
  by_cases h0 : t.val = 0
  · rw [dif_pos h0, hx h0]
    exact first_at c _ _ _ _ _ _ _ _ _ _ _ _ _ _ _ _ _ _ _ _ _ (iblk m c 0 t) (iblk m c 1 t) (iblk m c 2 t) (iblk m c 3 t) _ _ (iblk m c 4 t) y
  by_cases h7 : t.val = 7
  · rw [dif_neg h0, dif_pos h7]
    exact last_at c _ _ _ _ _ _ _ _ _ _ _ _ _ _ _ _ _ _ _ _ _ (iblk m c 0 t) (iblk m c 1 t) (iblk m c 2 t) (iblk m c 3 t) _ _ x y
  · rw [dif_neg h0, dif_neg h7]
    exact inner_at c _ _ _ _ _ _ _ _ _ _ _ _ _ _ _ _ _ _ _ _ _ (iblk m c 0 t) (iblk m c 1 t) (iblk m c 2 t) (iblk m c 3 t) _ _ x y

theorem point_at (c : Dev nD) (t : Fin cfg0.N) (x : Vec Ideal S16x4096 .f32)
    (hx : ∀ y : S16x4096.Idx, x y = whole (fa m c) (fh m c) (fb m c) (32 * t.val) (y 0).val (y 1).val) (y : S16x4096.Idx) :
    new row (nat3 (n0 := 1) (n1 := 1) (n2 := 4096) (iblk m c 3 t) 0 0) (nat2 x) (proj (iblk m c 0 t) (iblk m c 1 t)) (y 0).val (y 1).val
      = whole (fa m c) (fh m c) (fb m c) (32 * t.val + 32) (y 0).val (y 1).val := by
  have h0 : (y 0).val < 16 := (y 0).isLt
  have h1 : (y 1).val < 4096 := (y 1).isLt
  exact whole_point _ _ _ row _ _ _ _ _ _ h1 (fun l hl => a_read m c t l hl)
    (fun l hl => (nat2_in x h0 hl).trans (hx _)) (fun k l hk hl => in_read m c t k _ l hk h0 hl)

/-- The state before point `n`. -/
theorem state_at (c : Dev nD) : ∀ (n : ℕ) (h : n ≤ cfg0.N) (y : S16x4096.Idx),
    stAt m c n h y = whole (fa m c) (fh m c) (fb m c) (32 * n) (y 0).val (y 1).val
  | 0, h, y => (start_read m c _ y).trans (whole_zero _ _ _ _ _).symm
  | n + 1, h, y => by
    refine (next_at m c ⟨n, h⟩ _ (fun h0 => ?_) y).trans ((point_at m c ⟨n, h⟩ _ (state_at c n (Nat.le_of_lt h)) y).trans ?_)
    · subst h0; rfl
    · rw [show 32 * (n + 1) = 32 * n + 32 by omega]

theorem final_at (c : Dev nD) (t : Fin cfg0.N) (ht : t.val = 7) (y : S16x4096.Idx) :
    finalAt m c t y = whole (fa m c) (fh m c) (fb m c) 256 (y 0).val (y 1).val := by
  unfold finalAt
  rw [dif_pos ht]
  refine (last_out_at c _ _ _ _ _ _ _ _ _ _ _ _ _ _ _ _ _ _ _ _ _ (iblk m c 0 t) (iblk m c 1 t) (iblk m c 2 t) (iblk m c 3 t) _ _ _ y).trans
    ((point_at m c t _ (state_at m c t.val (Nat.le_of_lt t.isLt)) y).trans ?_)
  rw [ht]

/-! ## The result -/

/-- The whole result at device `c`'s arguments. -/
abbrev result (c : Dev nD) : Buf (Elt Ideal) ((c : Thread nD τ).loc main_v0_1) :=
  fun (y : S16x4096.Idx) => whole (fa m c) (fh m c) (fb m c) 256 (y 0).val (y 1).val

theorem flushed (c : Dev nD) (t : Fin cfg0.N) (hf : (cfg0.win 6).flush t = true) :
    (dats m 0 c).flushed 6 t = ((cfg0.win 6).blk t).view.read (Elt Ideal) (result m c) := by
  have ht : t.val = 7 := by have := (flush0_6 t).mp hf; have := t_lt t; omega
  show (cfg0.win 6).cut (grid0.coords t) ((dats m 0 c).after 6 t) = _
  rw [after0_6]
  refine funext fun (j : S16x4096.Idx) => ?_
  show finalAt m c t j = result m c ((win0_6.rect t).emb j)
  refine (final_at m c t ht j).trans (congrArg₂ (whole (fa m c) (fh m c) (fb m c) 256) ?_ ?_)
  · show (j 0).val = win0_6.index t 0 * 16 + 1 * (j 0).val
    rw [(index6 t).1]; omega
  · show (j 1).val = win0_6.index t 1 * 4096 + 1 * (j 1).val
    rw [(index6 t).2]; omega

theorem cover (i : S16x4096.Idx) : ∃ t : Fin cfg0.N, (cfg0.win 6).flush t = true ∧ i ∈ ((cfg0.win 6).blk t).view.set := by
  have h0 : (i 0 : Nat) < 16 := (i 0).isLt
  have h1 : (i 1 : Nat) < 4096 := (i 1).isLt
  have hN : cfg0.N = 8 := N_0
  obtain ⟨t, ht⟩ : ∃ t : Fin cfg0.N, t.val = 7 := ⟨⟨7, by omega⟩, rfl⟩
  refine ⟨t, (flush0_6 t).mpr (by omega), ?_⟩
  show i ∈ ((View.whole main_v0_1).slice (win0_6.rect t)).set
  rw [View.set_slice_whole, Rect.mem_set_unit]
  intro a
  match a with
  | ⟨0, _⟩ =>
    show win0_6.index t 0 * 16 ≤ (i 0 : Nat) ∧ (i 0 : Nat) < win0_6.index t 0 * 16 + 16
    rw [(index6 t).1]; omega
  | ⟨1, _⟩ =>
    show win0_6.index t 1 * 4096 ≤ (i 1 : Nat) ∧ (i 1 : Nat) < win0_6.index t 1 * 4096 + 4096
    rw [(index6 t).2]; omega

theorem final (c : Dev nD) : (dats m 0 c).arrAt 6 cfg0.N = result m c :=
  (dats m 0 c).arrAt_eq_of_cover 6 (result m c) (fun t hf => flushed m c t hf) cover

/-- The run, read: the result array at the whole result, the arguments unchanged. -/
theorem run : θ_run defs (onTc (τ := τ) (main (F := Ideal))) ⟨m, fun _ => 0, ρ⟩ fun r => ∀ c : Dev nD,
      r.2.mem ((c : Thread nD τ).loc main_v0_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1.1 c).1 6).trans (final m c), h.2.1 c⟩)
    (θ_run_and (run_all m ρ) (frame_run m ρ))

/-- The kernel's pass and the host's are the same function of arguments that agree. -/
theorem algebraic : Cert.algebraic_Kernel8Ideal_Reference8Ideal := by
  intro m ρ m' ρ' _ hag
  refine ⟨fun c => result m c, run m ρ, ?_⟩
  refine (θ_run Cert.Reference8Ideal.defs _ _).mono (fun _ h c => ⟨(h c).1.trans ?_, (h c).2⟩)
    (Cert.Reference8Ideal.StepRun.run_iter (F := Ideal) m' ρ'
      (fun c => Cert.Proof.S5Ref8.it (m' ((c : Thread nD τ).loc Cert.Reference8Ideal.main_arg0)) (m' ((c : Thread nD τ).loc Cert.Reference8Ideal.main_arg1))
        (m' ((c : Thread nD τ).loc Cert.Reference8Ideal.main_arg3)) (m' ((c : Thread nD τ).loc Cert.Reference8Ideal.main_arg4)))
      (fun c => rfl) (fun c n => rfl))
  refine funext fun (y : S16x4096.Idx) => (Cert.Proof.S5Ref8.result_read _ _ _ _ y).trans ?_
  rw [(hag c).1, (hag c).2.1, (hag c).2.2.2.1, (hag c).2.2.2.2]

end Cert.Proof.S5Value8

end
-- ==== Proof.S5Run9.lean ====
/-
  The body of `Kernel9`'s pallas_call, one run per kind of point of its grid: the first point takes its state from the
  initial one, the last writes its state out. What a run leaves is found by the run itself.
-/
module

public import proofs.«01_k».proof.Proof.Gen.Kernel9Ideal.Skeleton
public import proofs.«01_k».proof.Proof.Gen.Kernel9Ideal.Frame
public import proofs.«01_k».proof.Proof.Gen.Kernel9Ideal.Loops
public import Idealize.ShloMosaic.Lib.Pipeline.Value
public import Idealize.ShloMosaic.Lib.VecWindow

@[expose] public section

set_option maxRecDepth 16384

noncomputable section

namespace Cert.Proof.S5Run9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

/-- Whether a point is the first of the grid. -/
def isFirst (i : grid0.Coords) : BitVec 1 :=
  Scalar.cmpi .ne (Scalar.extui (Scalar.cmpi .eq (BitVec.ofNat 32 (i 0).val) 0#32) : BitVec 32) 0#32

theorem isFirst_iff : ∀ t : Fin grid0.N, isFirst (grid0.coords t) = 1#1 ↔ t.val = 0 := by decide +kernel
theorem isLast_iff : ∀ t : Fin grid0.N, k0_cond2 (grid0.coords t) = 1#1 ↔ t.val = 7 := by decide +kernel

set_option maxHeartbeats 1000000 in
/-- A point that is neither the first nor the last. -/
def inner (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S16x32x512 .bf16) (harg9 : arg9.IsWhole) (arg10 : Memref sig .tc .vmem S16x4096 .f32) (harg10 : arg10.IsWhole) (arg11 : Memref sig .tc .vmem S32x16x512 .f32) (harg11 : arg11.IsWhole) (arg12 : Memref sig .tc .vmem S512x4096 .f32) (harg12 : arg12.IsWhole) (arg13 : Memref sig .tc .vmem S16x4096 .f32) (harg13 : arg13.IsWhole)
    (h1 : ¬ isFirst i = 1#1) (h2 : ¬ k0_cond2 i = 1#1) :
    Σ' (Y : Vec F S16x32x512 .f32 → Vec F S1x4x128x1024 .bf16 → Vec F S1x4x1024x128 .bf16 → Vec F S1x1x4096 .f32 → Vec F S16x32x512 .f32 → Vec F S1x512 .f32 → Vec F S512x512 .f32 → Vec F S16x4096 .f32 → Vec F S16x32x512 .bf16), { S : Vec F S16x32x512 .f32 → Vec F S1x4x128x1024 .bf16 → Vec F S1x4x1024x128 .bf16 → Vec F S1x1x4096 .f32 → Vec F S16x32x512 .f32 → Vec F S1x512 .f32 → Vec F S512x512 .f32 → Vec F S16x4096 .f32 → Vec F S16x4096 .f32 // ∀ (x1 : Vec F S16x32x512 .f32) (x2 : Vec F S1x4x128x1024 .bf16) (x3 : Vec F S1x4x1024x128 .bf16) (x4 : Vec F S1x1x4096 .f32) (x6 : Vec F S16x32x512 .f32) (x7 : Vec F S1x512 .f32) (x8 : Vec F S512x512 .f32) (x13 : Vec F S16x4096 .f32) (E : Set ℕ),
      (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg13 fullShare x13 ∗ (∃ d, owns (c : Thread nD τ) arg9 fullShare d) ∗ (∃ d, owns (c : Thread nD τ) arg11 fullShare d) ∗ (∃ d, owns (c : Thread nD τ) arg12 fullShare d)) : sProp 𝕄)
      ⊢ wp frame (wpE (defs₀ (F := F)) Variants.none c none) E (cc0_s5_pass i arg1 harg1 arg2 harg2 arg3 harg3 arg4 harg4 arg5 harg5 arg6 harg6 arg7 harg7 arg8 harg8 arg9 harg9 arg10 harg10 arg11 harg11 arg12 harg12 arg13 harg13)
          (fun _ => (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare (Y x1 x2 x3 x4 x6 x7 x8 x13) ∗ owns (c : Thread nD τ) arg13 fullShare (S x1 x2 x3 x4 x6 x7 x8 x13) ∗ (∃ d, owns (c : Thread nD τ) arg11 fullShare d) ∗ (∃ d, owns (c : Thread nD τ) arg12 fullShare d)) : sProp 𝕄)) } := by
  refine ⟨?_, ?_, fun x1 x2 x3 x4 x6 x7 x8 x13 E => ?run⟩
  case run =>
    unfold isFirst at h1
    simp only [cc0_s5_pass_eq_skeleton]; unfold cc0_s5_pass_skel
    simp only [k0_part8_eq_skeleton]
    unfold k0_part8_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, ⟨%f13, %hf13, H13⟩, ⟨%d9, %f9, -, H9⟩, ⟨%d11, %f11, -, H11⟩, ⟨%d12, %f12, -, H12⟩⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg13.eq_unread hf13
    sl_exec
    sl_step
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr
      swap; · iexact H9
      ipureintro; exact View.read_writes_full _ _ _ _ _
    isplitl [H13]
    · iexists _; isplitr
      swap; · iexact H13
      ipureintro; rfl
    isplitl [H11]
    · iexists _; iexists _; isplitr
      swap; · iexact H11
      ipureintro; rfl
    iexists _; iexists _; isplitr
    swap; · iexact H12
    ipureintro; rfl

set_option maxHeartbeats 1000000 in
/-- The first point. -/
def first (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S16x32x512 .bf16) (harg9 : arg9.IsWhole) (arg10 : Memref sig .tc .vmem S16x4096 .f32) (harg10 : arg10.IsWhole) (arg11 : Memref sig .tc .vmem S32x16x512 .f32) (harg11 : arg11.IsWhole) (arg12 : Memref sig .tc .vmem S512x4096 .f32) (harg12 : arg12.IsWhole) (arg13 : Memref sig .tc .vmem S16x4096 .f32) (harg13 : arg13.IsWhole)
    (h1 : isFirst i = 1#1) (h2 : ¬ k0_cond2 i = 1#1) :
    Σ' (Y : Vec F S16x32x512 .f32 → Vec F S1x4x128x1024 .bf16 → Vec F S1x4x1024x128 .bf16 → Vec F S1x1x4096 .f32 → Vec F S16x32x512 .f32 → Vec F S1x512 .f32 → Vec F S512x512 .f32 → Vec F S1x16x4096 .f32 → Vec F S16x32x512 .bf16), { S : Vec F S16x32x512 .f32 → Vec F S1x4x128x1024 .bf16 → Vec F S1x4x1024x128 .bf16 → Vec F S1x1x4096 .f32 → Vec F S16x32x512 .f32 → Vec F S1x512 .f32 → Vec F S512x512 .f32 → Vec F S1x16x4096 .f32 → Vec F S16x4096 .f32 // ∀ (x1 : Vec F S16x32x512 .f32) (x2 : Vec F S1x4x128x1024 .bf16) (x3 : Vec F S1x4x1024x128 .bf16) (x4 : Vec F S1x1x4096 .f32) (x6 : Vec F S16x32x512 .f32) (x7 : Vec F S1x512 .f32) (x8 : Vec F S512x512 .f32) (x5 : Vec F S1x16x4096 .f32) (E : Set ℕ),
      (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg5 fullShare x5 ∗ (∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d)) : sProp 𝕄)
      ⊢ wp frame (wpE (defs₀ (F := F)) Variants.none c none) E (cc0_s5_pass i arg1 harg1 arg2 harg2 arg3 harg3 arg4 harg4 arg5 harg5 arg6 harg6 arg7 harg7 arg8 harg8 arg9 harg9 arg10 harg10 arg11 harg11 arg12 harg12 arg13 harg13)
          (fun _ => (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg5 fullShare x5 ∗ owns (c : Thread nD τ) arg9 fullShare (Y x1 x2 x3 x4 x6 x7 x8 x5) ∗ owns (c : Thread nD τ) arg13 fullShare (S x1 x2 x3 x4 x6 x7 x8 x5) ∗ (∃ d, owns (c : Thread nD τ) arg11 fullShare d) ∗ (∃ d, owns (c : Thread nD τ) arg12 fullShare d)) : sProp 𝕄)) } := by
  refine ⟨?_, ?_, fun x1 x2 x3 x4 x6 x7 x8 x5 E => ?run⟩
  case run =>
    unfold isFirst at h1
    simp only [cc0_s5_pass_eq_skeleton]; unfold cc0_s5_pass_skel
    simp only [k0_part8_eq_skeleton]
    unfold k0_part8_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, ⟨%f5, %hf5, H5⟩, ⟨%d9, %f9, -, H9⟩, ⟨%d11, %f11, -, H11⟩, ⟨%d12, %f12, -, H12⟩, ⟨%d13, %f13, -, H13⟩⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg5.eq_unread hf5
    sl_exec
    sl_step
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H5]
    · iexists _; isplitr; · ipureintro; exact harg5.read_unread _
      iexact H5
    isplitl [H9]
    · iexists _; isplitr
      swap; · iexact H9
      ipureintro; exact View.read_writes_full _ _ _ _ _
    isplitl [H13]
    · iexists _; isplitr
      swap; · iexact H13
      ipureintro; rfl
    isplitl [H11]
    · iexists _; iexists _; isplitr
      swap; · iexact H11
      ipureintro; rfl
    iexists _; iexists _; isplitr
    swap; · iexact H12
    ipureintro; rfl

set_option maxHeartbeats 1000000 in
/-- The last point. -/
def last (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S16x32x512 .bf16) (harg9 : arg9.IsWhole) (arg10 : Memref sig .tc .vmem S16x4096 .f32) (harg10 : arg10.IsWhole) (arg11 : Memref sig .tc .vmem S32x16x512 .f32) (harg11 : arg11.IsWhole) (arg12 : Memref sig .tc .vmem S512x4096 .f32) (harg12 : arg12.IsWhole) (arg13 : Memref sig .tc .vmem S16x4096 .f32) (harg13 : arg13.IsWhole)
    (h1 : ¬ isFirst i = 1#1) (h2 : k0_cond2 i = 1#1) :
    Σ' (Y : Vec F S16x32x512 .f32 → Vec F S1x4x128x1024 .bf16 → Vec F S1x4x1024x128 .bf16 → Vec F S1x1x4096 .f32 → Vec F S16x32x512 .f32 → Vec F S1x512 .f32 → Vec F S512x512 .f32 → Vec F S16x4096 .f32 → Vec F S16x32x512 .bf16), Σ' (O : Vec F S16x32x512 .f32 → Vec F S1x4x128x1024 .bf16 → Vec F S1x4x1024x128 .bf16 → Vec F S1x1x4096 .f32 → Vec F S16x32x512 .f32 → Vec F S1x512 .f32 → Vec F S512x512 .f32 → Vec F S16x4096 .f32 → Vec F S16x4096 .f32), { S : Vec F S16x32x512 .f32 → Vec F S1x4x128x1024 .bf16 → Vec F S1x4x1024x128 .bf16 → Vec F S1x1x4096 .f32 → Vec F S16x32x512 .f32 → Vec F S1x512 .f32 → Vec F S512x512 .f32 → Vec F S16x4096 .f32 → Vec F S16x4096 .f32 // ∀ (x1 : Vec F S16x32x512 .f32) (x2 : Vec F S1x4x128x1024 .bf16) (x3 : Vec F S1x4x1024x128 .bf16) (x4 : Vec F S1x1x4096 .f32) (x6 : Vec F S16x32x512 .f32) (x7 : Vec F S1x512 .f32) (x8 : Vec F S512x512 .f32) (x13 : Vec F S16x4096 .f32) (E : Set ℕ),
      (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg13 fullShare x13 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) : sProp 𝕄)
      ⊢ wp frame (wpE (defs₀ (F := F)) Variants.none c none) E (cc0_s5_pass i arg1 harg1 arg2 harg2 arg3 harg3 arg4 harg4 arg5 harg5 arg6 harg6 arg7 harg7 arg8 harg8 arg9 harg9 arg10 harg10 arg11 harg11 arg12 harg12 arg13 harg13)
          (fun _ => (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare (Y x1 x2 x3 x4 x6 x7 x8 x13) ∗ owns (c : Thread nD τ) arg13 fullShare (S x1 x2 x3 x4 x6 x7 x8 x13) ∗ owns (c : Thread nD τ) arg10 fullShare (O x1 x2 x3 x4 x6 x7 x8 x13) ∗ (∃ d, owns (c : Thread nD τ) arg11 fullShare d) ∗ (∃ d, owns (c : Thread nD τ) arg12 fullShare d)) : sProp 𝕄)) } := by
  refine ⟨?_, ?_, ?_, fun x1 x2 x3 x4 x6 x7 x8 x13 E => ?run⟩
  case run =>
    unfold isFirst at h1
    simp only [cc0_s5_pass_eq_skeleton]; unfold cc0_s5_pass_skel
    simp only [k0_part8_eq_skeleton]
    unfold k0_part8_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, ⟨%f13, %hf13, H13⟩, ⟨%d9, %f9, -, H9⟩, ⟨%d10, %f10, -, H10⟩, ⟨%d11, %f11, -, H11⟩, ⟨%d12, %f12, -, H12⟩⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg13.eq_unread hf13
    sl_exec
    sl_step
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr
      swap; · iexact H9
      ipureintro; exact View.read_writes_full _ _ _ _ _
    isplitl [H13]
    · iexists _; isplitr
      swap; · iexact H13
      ipureintro; rfl
    isplitl [H10]
    · iexists _; isplitr
      swap; · iexact H10
      ipureintro; exact View.read_writes_full _ _ _ _ _
    isplitl [H11]
    · iexists _; iexists _; isplitr
      swap; · iexact H11
      ipureintro; rfl
    iexists _; iexists _; isplitr
    swap; · iexact H12
    ipureintro; rfl

end Cert.Proof.S5Run9
-- ==== Proof.S5Frame9.lean ====
/-
  The frame of `Kernel9`, for any values of the elements: the state the recurrence's scratch holds from point to point,
  the body's obligation at every point from the three runs of `S5Run9`, and the run of the whole program.
-/
module

public import Idealize.ShloMosaic.Lib.Claim
public import proofs.«01_k».proof.Proof.S5Run9

@[expose] public section

set_option maxRecDepth 16384

noncomputable section

namespace Cert.Proof.S5Frame9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen Cert.Proof.S5Run9

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The run of the first point, -/
abbrev firstRun (c : Dev nD) (t : Fin cfg0.N) (h : t.val = 0) :=
  first (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) ((isFirst_iff t).mpr h) (mt (isLast_iff t).mp (by omega))
/-- of the last, -/
abbrev lastRun (c : Dev nD) (t : Fin cfg0.N) (h : t.val = 7) :=
  last (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (mt (isFirst_iff t).mp (by omega)) ((isLast_iff t).mpr h)
/-- and of any other. -/
abbrev innerRun (c : Dev nD) (t : Fin cfg0.N) (h : t.val ≠ 0) (h' : t.val ≠ 7) :=
  inner (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (mt (isFirst_iff t).mp h) (mt (isLast_iff t).mp h')

/-- The state point `t` leaves, from the one it finds: the first starts from the initial state. -/
def nextAt (c : Dev nD) (t : Fin cfg0.N) (x : Vec F S16x4096 .f32) : Vec F S16x4096 .f32 :=
  if h : t.val = 0 then (firstRun c t h).2.1 (iblk m c 0 t) (iblk m c 1 t) (iblk m c 2 t) (iblk m c 3 t) (iblk m c 5 t) (iblk m c 6 t) (iblk m c 7 t) (iblk m c 4 t)
  else if h' : t.val = 7 then (lastRun c t h').2.2.1 (iblk m c 0 t) (iblk m c 1 t) (iblk m c 2 t) (iblk m c 3 t) (iblk m c 5 t) (iblk m c 6 t) (iblk m c 7 t) x
  else (innerRun c t h h').2.1 (iblk m c 0 t) (iblk m c 1 t) (iblk m c 2 t) (iblk m c 3 t) (iblk m c 5 t) (iblk m c 6 t) (iblk m c 7 t) x

/-- The state before point `n`. -/
def stAt (c : Dev nD) : (n : ℕ) → n ≤ cfg0.N → Vec F S16x4096 .f32
  | 0, _ => k0_pay2 (iblk m c 4 ⟨0, by decide⟩)
  | n + 1, h => nextAt m c ⟨n, h⟩ (stAt c n (Nat.le_of_lt h))

/-- The output block of point `t`. -/
def yAt (c : Dev nD) (t : Fin cfg0.N) : Vec F S16x32x512 .bf16 :=
  if h : t.val = 0 then (firstRun c t h).1 (iblk m c 0 t) (iblk m c 1 t) (iblk m c 2 t) (iblk m c 3 t) (iblk m c 5 t) (iblk m c 6 t) (iblk m c 7 t) (iblk m c 4 t)
  else if h' : t.val = 7 then (lastRun c t h').1 (iblk m c 0 t) (iblk m c 1 t) (iblk m c 2 t) (iblk m c 3 t) (iblk m c 5 t) (iblk m c 6 t) (iblk m c 7 t) (stAt m c t.val (Nat.le_of_lt t.isLt))
  else (innerRun c t h h').1 (iblk m c 0 t) (iblk m c 1 t) (iblk m c 2 t) (iblk m c 3 t) (iblk m c 5 t) (iblk m c 6 t) (iblk m c 7 t) (stAt m c t.val (Nat.le_of_lt t.isLt))

/-- What the last point writes out of the state. -/
def finalAt (c : Dev nD) (t : Fin cfg0.N) : Vec F S16x4096 .f32 :=
  if h' : t.val = 7 then (lastRun c t h').2.1 (iblk m c 0 t) (iblk m c 1 t) (iblk m c 2 t) (iblk m c 3 t) (iblk m c 5 t) (iblk m c 6 t) (iblk m c 7 t) (stAt m c t.val (Nat.le_of_lt t.isLt))
  else stAt m c t.val (Nat.le_of_lt t.isLt)

/-- The invariant before point `n`: past the first point the state's scratch holds `stAt`; of the other two scratches
    nothing is known, and the generator register is at some state. -/
def PhiS (c : Dev nD) (n : ℕ) (h : n ≤ cfg0.N) : sProp 𝕄 :=
  iprop((∃ x0, ∃ x1, ∃ x2, ⌜n ≠ 0 → x2 = stAt m c n h⌝
      ∗ owns (c : Thread nD τ) (Memref.whole cc0_scratch0) fullShare x0
      ∗ owns (c : Thread nD τ) (Memref.whole cc0_scratch1) fullShare x1
      ∗ owns (c : Thread nD τ) (Memref.whole cc0_scratch2) fullShare x2) ∗ ∃ r, prngReg c r)

/-! ## The pipeline's proof data -/

/-- The proof data on core `c`: each input's buffer at its block, the outputs' at what the point leaves (the state's is
    read only where it is written back), the scratches' invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yAt m c t
    | ⟨9, _⟩ => finalAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yAt m c t := by dsimp only [dats]
theorem after0_9 (c : Dev nD) (t : Fin cfg0.N) : (dats m 0 c).after 9 t = finalAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-! ## Where the state's output is idle -/

theorem idle9 : ∀ t : Fin grid0.N, t.val ≠ 7 → idle0 9 (grid0.coords t) = true := fun t ht => by
  have h := mt (isLast_iff t).mp ht
  show (!(k0_cond2 (grid0.coords t) == 1#1)) = true
  rw [beq_false_of_ne h]; rfl
theorem live9 : ∀ t : Fin grid0.N, t.val = 7 → idle0 9 (grid0.coords t) = false := fun t ht => by
  have h := (isLast_iff t).mpr ht
  show (!(k0_cond2 (grid0.coords t) == 1#1)) = false
  rw [h]; rfl

theorem t_lt : ∀ t : Fin cfg0.N, t.val < 8 := by decide +kernel

theorem leaves9_idle (c : Dev nD) (t : Fin cfg0.N) (ht : t.val ≠ 7) :
    (dats m 0 c).leavesExact 9 t = iprop(∃ d, owns (c : Thread nD τ) (st0_9 t) fullShare ((dats m 0 c).before 9 t d)) :=
  (dats m 0 c).leavesExact_idle 9 t (idle9 t ht) (Bool.eq_false_iff.mpr fun h => by
    have := (flush0_9 t).mp h; have := t_lt t; omega)

theorem leaves9_live (c : Dev nD) (t : Fin cfg0.N) (ht : t.val = 7) :
    (dats m 0 c).leavesExact 9 t = owns (c : Thread nD τ) (st0_9 t) fullShare (finalAt m c t) := by
  unfold Dat.leavesExact
  rw [show cfg0.idle 9 (cfg0.grid.coords t) = false from live9 t ht, after0_9]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t)

/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  have hy : yAt m c t = (firstRun (F := F) c t h).1 (iblk m c 0 t) (iblk m c 1 t) (iblk m c 2 t) (iblk m c 3 t) (iblk m c 5 t) (iblk m c 6 t) (iblk m c 7 t) (iblk m c 4 t) := by
    unfold yAt; rw [dif_pos h]
  have hs : stAt m c (t.val + 1) t.isLt = (firstRun (F := F) c t h).2.1 (iblk m c 0 t) (iblk m c 1 t) (iblk m c 2 t) (iblk m c 3 t) (iblk m c 5 t) (iblk m c 6 t) (iblk m c 7 t) (iblk m c 4 t) := by
    show nextAt m c ⟨t.val, t.isLt⟩ _ = _
    unfold nextAt; rw [dif_pos h]
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, after0_8, leaves9_idle m c t (by omega), hy]
  unfold PhiS
  rw [hs]
  iintro ⟨⟨⟨%x0, %x1, %x2, %hx, Hs0, Hs1, Hs2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := F)) Variants.none (c : Thread nD τ) none) Set.univ)
  isplitl [H0 H1 H2 H3 H4 H5 H6 H7 H8 Hs0 Hs1 Hs2]
  · iapply ((firstRun (F := F) c t h).2.2 (iblk m c 0 t) (iblk m c 1 t) (iblk m c 2 t) (iblk m c 3 t) (iblk m c 5 t) (iblk m c 6 t) (iblk m c 7 t) (iblk m c 4 t) Set.univ)
    isplitl [H0]; · iexact H0
    isplitl [H1]; · iexact H1
    isplitl [H2]; · iexact H2
    isplitl [H3]; · iexact H3
    isplitl [H5]; · iexact H5
    isplitl [H6]; · iexact H6
    isplitl [H7]; · iexact H7
    isplitl [H4]; · iexact H4
    isplitl [H8]; · iexists _; iexact H8
    isplitl [Hs0]; · iexists _; iexact Hs0
    isplitl [Hs1]; · iexists _; iexact Hs1
    iexists _; iexact Hs2
  · iintro %yld ⟨H0, H1, H2, H3, H5, H6, H7, H4, H8, Hs2, ⟨%e0, Hs0⟩, ⟨%e1, Hs1⟩⟩
    isplitl [Hs0 Hs1 Hs2 Hr]
    · isplitr [Hr]
      · iexists e0; iexists e1; iexists _
        isplitr; · ipureintro; exact fun _ => rfl
        isplitl [Hs0]; · iexact Hs0
        isplitl [Hs1]; · iexact Hs1
        iexact Hs2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9

/-- The body at any other point. -/
theorem sound_inner (c : Dev nD) (t : Fin cfg0.N) (h : t.val ≠ 0) (h' : t.val ≠ 7) :
    bodyPre m c t ⊢ wp frame (wpE (defs₀ (F := F)) Variants.none c none) Set.univ (bodyAt0 t) (fun _ => bodyPost m c t) := by
  have hy : yAt m c t = (innerRun (F := F) c t h h').1 (iblk m c 0 t) (iblk m c 1 t) (iblk m c 2 t) (iblk m c 3 t) (iblk m c 5 t) (iblk m c 6 t) (iblk m c 7 t) (stAt m c t.val (Nat.le_of_lt t.isLt)) := by
    unfold yAt; rw [dif_neg h, dif_neg h']
  have hs : stAt m c (t.val + 1) t.isLt = (innerRun (F := F) c t h h').2.1 (iblk m c 0 t) (iblk m c 1 t) (iblk m c 2 t) (iblk m c 3 t) (iblk m c 5 t) (iblk m c 6 t) (iblk m c 7 t) (stAt m c t.val (Nat.le_of_lt t.isLt)) := by
    show nextAt m c ⟨t.val, t.isLt⟩ _ = _
    unfold nextAt; rw [dif_neg h, dif_neg h']
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, after0_8, leaves9_idle m c t (by omega), hy]
  unfold PhiS
  rw [hs]
  iintro ⟨⟨⟨%x0, %x1, %x2, %hx, Hs0, Hs1, Hs2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl := hx (by omega)
  iapply (wp_wand_r Idealize.ShloMosaic.frame (wpE (defs₀ (F := F)) Variants.none (c : Thread nD τ) none) Set.univ)
  isplitl [H0 H1 H2 H3 H5 H6 H7 H8 Hs0 Hs1 Hs2]
  · iapply ((innerRun (F := F) c t h h').2.2 (iblk m c 0 t) (iblk m c 1 t) (iblk m c 2 t) (iblk m c 3 t) (iblk m c 5 t) (iblk m c 6 t) (iblk m c 7 t) (stAt m c t.val (Nat.le_of_lt t.isLt)) Set.univ)
    isplitl [H0]; · iexact H0
    isplitl [H1]; · iexact H1
    isplitl [H2]; · iexact H2
    isplitl [H3]; · iexact H3
    isplitl [H5]; · iexact H5
    isplitl [H6]; · iexact H6
    isplitl [H7]; · iexact H7
    isplitl [Hs2]; · iexact Hs2
    isplitl [H8]; · iexists _; iexact H8
    isplitl [Hs0]; · iexists _; iexact Hs0
    iexists _; iexact Hs1
  · iintro %yld ⟨H0, H1, H2, H3, H5, H6, H7, H8, Hs2, ⟨%e0, Hs0⟩, ⟨%e1, Hs1⟩⟩
    isplitl [Hs0 Hs1 Hs2 Hr]
    · isplitr [Hr]
      · iexists e0; iexists e1; iexists _
        isplitr; · ipureintro; exact fun _ => rfl
        isplitl [Hs0]; · iexact Hs0
        isplitl [Hs1]; · iexact Hs1
        iexact Hs2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9

/-- The body at the last point. -/
theorem sound_last (c : Dev nD) (t : Fin cfg0.N) (h : t.val = 7) :
    bodyPre m c t ⊢ wp frame (wpE (defs₀ (F := F)) Variants.none c none) Set.univ (bodyAt0 t) (fun _ => bodyPost m c t) := by
  have hy : yAt m c t = (lastRun (F := F) c t h).1 (iblk m c 0 t) (iblk m c 1 t) (iblk m c 2 t) (iblk m c 3 t) (iblk m c 5 t) (iblk m c 6 t) (iblk m c 7 t) (stAt m c t.val (Nat.le_of_lt t.isLt)) := by
    unfold yAt; rw [dif_neg (show t.val ≠ 0 by omega), dif_pos h]
  have hs : stAt m c (t.val + 1) t.isLt = (lastRun (F := F) c t h).2.2.1 (iblk m c 0 t) (iblk m c 1 t) (iblk m c 2 t) (iblk m c 3 t) (iblk m c 5 t) (iblk m c 6 t) (iblk m c 7 t) (stAt m c t.val (Nat.le_of_lt t.isLt)) := by
    show nextAt m c ⟨t.val, t.isLt⟩ _ = _
    unfold nextAt; rw [dif_neg (show t.val ≠ 0 by omega), dif_pos h]
  have hf : finalAt m c t = (lastRun (F := F) c t h).2.1 (iblk m c 0 t) (iblk m c 1 t) (iblk m c 2 t) (iblk m c 3 t) (iblk m c 5 t) (iblk m c 6 t) (iblk m c 7 t) (stAt m c t.val (Nat.le_of_lt t.isLt)) := by
    unfold finalAt; rw [dif_pos h]
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, after0_8, leaves9_live m c t h, hy, hf]
  unfold PhiS
  rw [hs]
  iintro ⟨⟨⟨%x0, %x1, %x2, %hx, Hs0, Hs1, Hs2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl := hx (by omega)
  iapply (wp_wand_r Idealize.ShloMosaic.frame (wpE (defs₀ (F := F)) Variants.none (c : Thread nD τ) none) Set.univ)
  isplitl [H0 H1 H2 H3 H5 H6 H7 H8 H9 Hs0 Hs1 Hs2]
  · iapply ((lastRun (F := F) c t h).2.2.2 (iblk m c 0 t) (iblk m c 1 t) (iblk m c 2 t) (iblk m c 3 t) (iblk m c 5 t) (iblk m c 6 t) (iblk m c 7 t) (stAt m c t.val (Nat.le_of_lt t.isLt)) Set.univ)
    isplitl [H0]; · iexact H0
    isplitl [H1]; · iexact H1
    isplitl [H2]; · iexact H2
    isplitl [H3]; · iexact H3
    isplitl [H5]; · iexact H5
    isplitl [H6]; · iexact H6
    isplitl [H7]; · iexact H7
    isplitl [Hs2]; · iexact Hs2
    isplitl [H8]; · iexists _; iexact H8
    isplitl [H9]; · iexists _; iexact H9
    isplitl [Hs0]; · iexists _; iexact Hs0
    iexists _; iexact Hs1
  · iintro %yld ⟨H0, H1, H2, H3, H5, H6, H7, H8, Hs2, H9, ⟨%e0, Hs0⟩, ⟨%e1, Hs1⟩⟩
    isplitl [Hs0 Hs1 Hs2 Hr]
    · isplitr [Hr]
      · iexists e0; iexists e1; iexists _
        isplitr; · ipureintro; exact fun _ => rfl
        isplitl [Hs0]; · iexact Hs0
        isplitl [Hs1]; · iexact Hs1
        iexact Hs2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h7 : t.val = 7
  · exact sound_last m c t h7
  · exact sound_inner m c t h0 h7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The region enters the invariant, knowing nothing of the scratches, -/
theorem enter (c : Dev nD) : Pipeline.ΦA spec0 c ⊢ (dats (F := F) m 0 c).Φ 0 := by
  show Pipeline.ΦA spec0 c ⊢ PhiS m c 0 (Nat.zero_le _)
  unfold Pipeline.ΦA PhiS
  rw [scopedRest0_eq]
  iintro ⟨⟨⟨%f0, H0⟩, ⟨%f1, H1⟩, ⟨%f2, H2⟩⟩, Hr⟩
  isplitr [Hr]
  · iexists f0; iexists f1; iexists f2
    isplitr; · ipureintro; exact fun h => absurd rfl h
    rw [owns_whole, owns_whole, owns_whole]
    isplitl [H0]; · iexact H0
    isplitl [H1]; · iexact H1
    iexact H2
  iexact Hr

/-- and leaves it, forgetting them. -/
theorem leave (c : Dev nD) : (dats (F := F) m 0 c).Φ (Fin.last cfg0.N) ⊢ Pipeline.ΦA spec0 c := by
  show PhiS m c cfg0.N (le_refl _) ⊢ Pipeline.ΦA spec0 c
  unfold Pipeline.ΦA PhiS
  rw [scopedRest0_eq]
  simp only [owns_whole]
  iintro ⟨⟨%x0, %x1, %x2, -, H0, H1, H2⟩, Hr⟩
  isplitr [Hr]
  · isplitl [H0]; · iexists x0; iexact H0
    isplitl [H1]; · iexists x1; iexact H1
    iexists x2; iexact H2
  iexact Hr

-- the launch's implicit arguments are found by unifying its conclusion with this one
set_option backward.isDefEq.respectTransparency.types false in
/-- The run of the whole program: every array at what the proof data compute, every other buffer as the region found it,
    every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The argument arrays end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Proof.S5Frame9
-- ==== Proof.S5State9.lean ====
/-
  What each of the eight loops of `Kernel9`'s body does: 32 steps of the recurrence on its pair of strips of lanes.
-/
module

public import proofs.«01_k».proof.Proof.S5Run9
public import proofs.«01_k».proof.Proof.S5Chain

@[expose] public section

set_option maxRecDepth 16384

noncomputable section

namespace Cert.Proof.S5State9

open Idealize.ShloMosaic Idealize.ShloMosaic.TcCoe Idealize.ShloMosaic.ValueIdx
open Cert.Kernel9Ideal Cert.Kernel9Ideal.Gen Cert.Proof.S5Math Cert.Proof.S5Chain Cert.Proof.S5Run9

/-- The first row of the time step a loop's trip `k` takes. -/
def row (k : ℕ) : ℕ := 16 * (31 - k)

theorem row_sep (k k' : ℕ) (h : k < k') (h' : k' < 32) : row k + 16 ≤ row k' ∨ row k' + 16 ≤ row k := by
  unfold row; omega

variable (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S16x32x512 .bf16) (harg9 : arg9.IsWhole) (arg10 : Memref sig .tc .vmem S16x4096 .f32) (harg10 : arg10.IsWhole) (arg11 : Memref sig .tc .vmem S32x16x512 .f32) (harg11 : arg11.IsWhole) (arg12 : Memref sig .tc .vmem S512x4096 .f32) (harg12 : arg12.IsWhole) (arg13 : Memref sig .tc .vmem S16x4096 .f32) (harg13 : arg13.IsWhole)
  (G : BufTy.Contents (Elt Ideal) arg12.view.ty) (p : Vec Ideal S16x256 .f32 × Vec Ideal S16x256 .f32) (r : Res)
  (a : ℕ → EReal) (h BU : ℕ → ℕ → EReal)

theorem off_t1 : ∀ k : Fin k0_t1_loop.trips, (k0_off1 k 0 = row k.val ∧ k0_off1 k 1 = 0) ∧ (k0_off2 k 0 = row k.val ∧ k0_off2 k 1 = 512) := by
  decide +kernel
theorem loop_t1 (v28 : FVec Ideal S512x128 .bf16) (v35 : Vec Ideal S1x1x256 .f32) (v39 : Vec Ideal S1x1x256 .f32)
    (hr : r = st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v28 v35 v39 G p k0_t1_loop.trips)
    (g1 : On arg12.view G BU 0) (g2 : On arg12.view G BU 512) (ha : Fac (k0_pay10 v35) a 0) (hb : Fac (k0_pay11 v39) a 512)
    (hp : Lanes p.1 h 0) (hq : Lanes p.2 h 512) : Runs arg12.view G r row a h BU 0 512 := by
  have ht : k0_t1_loop.trips = 32 := by decide +kernel
  rw [hr, ht]
  refine strip_runs arg12.view G (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v28 v35 v39 G p) _ _
    row 0 512 rfl (fun k hk => ?_) row_sep (by omega) a h BU g1 g2 ha hb hp hq
  have hk' := ht.symm ▸ hk
  have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 v28 v35 v39 G p ⟨k, hk'⟩
  refine ⟨_, _, k0_off1_inb ⟨k, hk'⟩, k0_off2_inb ⟨k, hk'⟩, ?w1, ?w2, (off_t1 ⟨k, hk'⟩).1, (off_t1 ⟨k, hk'⟩).2, fun x => ?e1, fun x => ?e2, ?eL⟩
  case eL => rw [e]; unfold tripL_k0_t1 trip_k0_t1; rfl
  case e1 => rw [e]; unfold tripR_k0_t1 trip_k0_t1; rfl
  case e2 => rw [e]; unfold tripR_k0_t1 trip_k0_t1; rfl

theorem off_t2 : ∀ k : Fin k0_t2_loop.trips, (k0_off3 k 0 = row k.val ∧ k0_off3 k 1 = 256) ∧ (k0_off4 k 0 = row k.val ∧ k0_off4 k 1 = 768) := by
  decide +kernel
theorem loop_t2 (v56 : FVec Ideal S16x256 .f32) (v57 : Vec Ideal S1x1x256 .f32)
    (hr : r = st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v56 v57 G p k0_t2_loop.trips)
    (g1 : On arg12.view G BU 256) (g2 : On arg12.view G BU 768) (ha : Fac v56 a 256) (hb : Fac (k0_pay19 v57) a 768)
    (hp : Lanes p.1 h 256) (hq : Lanes p.2 h 768) : Runs arg12.view G r row a h BU 256 768 := by
  have ht : k0_t2_loop.trips = 32 := by decide +kernel
  rw [hr, ht]
  refine strip_runs arg12.view G (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v56 v57 G p) _ _
    row 256 768 rfl (fun k hk => ?_) row_sep (by omega) a h BU g1 g2 ha hb hp hq
  have hk' := ht.symm ▸ hk
  have e := st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 v56 v57 G p ⟨k, hk'⟩
  refine ⟨_, _, k0_off3_inb ⟨k, hk'⟩, k0_off4_inb ⟨k, hk'⟩, ?w1, ?w2, (off_t2 ⟨k, hk'⟩).1, (off_t2 ⟨k, hk'⟩).2, fun x => ?e1, fun x => ?e2, ?eL⟩
  case eL => rw [e]; unfold tripL_k0_t2 trip_k0_t2; rfl
  case e1 => rw [e]; unfold tripR_k0_t2 trip_k0_t2; rfl
  case e2 => rw [e]; unfold tripR_k0_t2 trip_k0_t2; rfl

theorem off_t3 : ∀ k : Fin k0_t3_loop.trips, (k0_off5 k 0 = row k.val ∧ k0_off5 k 1 = 1024) ∧ (k0_off6 k 0 = row k.val ∧ k0_off6 k 1 = 1536) := by
  decide +kernel
theorem loop_t3 (v56 : FVec Ideal S16x256 .f32) (v71 : Vec Ideal S1x1x256 .f32) (v75 : Vec Ideal S1x1x256 .f32)
    (hr : r = st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 v56 v71 v75 G p k0_t3_loop.trips)
    (g1 : On arg12.view G BU 1024) (g2 : On arg12.view G BU 1536) (ha : Fac (k0_pay26 v71) a 1024) (hb : Fac (k0_pay27 v75) a 1536)
    (hp : Lanes p.1 h 1024) (hq : Lanes p.2 h 1536) : Runs arg12.view G r row a h BU 1024 1536 := by
  have ht : k0_t3_loop.trips = 32 := by decide +kernel
  rw [hr, ht]
  refine strip_runs arg12.view G (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 v56 v71 v75 G p) _ _
    row 1024 1536 rfl (fun k hk => ?_) row_sep (by omega) a h BU g1 g2 ha hb hp hq
  have hk' := ht.symm ▸ hk
  have e := st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 v56 v71 v75 G p ⟨k, hk'⟩
  refine ⟨_, _, k0_off5_inb ⟨k, hk'⟩, k0_off6_inb ⟨k, hk'⟩, ?w1, ?w2, (off_t3 ⟨k, hk'⟩).1, (off_t3 ⟨k, hk'⟩).2, fun x => ?e1, fun x => ?e2, ?eL⟩
  case eL => rw [e]; unfold tripL_k0_t3 trip_k0_t3; rfl
  case e1 => rw [e]; unfold tripR_k0_t3 trip_k0_t3; rfl
  case e2 => rw [e]; unfold tripR_k0_t3 trip_k0_t3; rfl

theorem off_t4 : ∀ k : Fin k0_t4_loop.trips, (k0_off7 k 0 = row k.val ∧ k0_off7 k 1 = 1280) ∧ (k0_off8 k 0 = row k.val ∧ k0_off8 k 1 = 1792) := by
  decide +kernel
theorem loop_t4 (v82_0 : Vec Ideal S16x256 .f32) (v82_1 : Vec Ideal S16x256 .f32) (v89 : Vec Ideal S1x1x256 .f32) (v93 : Vec Ideal S1x1x256 .f32)
    (hr : r = st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v82_0 v82_1 v89 v93 G p k0_t4_loop.trips)
    (g1 : On arg12.view G BU 1280) (g2 : On arg12.view G BU 1792) (ha : Fac (k0_pay34 v89) a 1280) (hb : Fac (k0_pay35 v93) a 1792)
    (hp : Lanes p.1 h 1280) (hq : Lanes p.2 h 1792) : Runs arg12.view G r row a h BU 1280 1792 := by
  have ht : k0_t4_loop.trips = 32 := by decide +kernel
  rw [hr, ht]
  refine strip_runs arg12.view G (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v82_0 v82_1 v89 v93 G p) _ _
    row 1280 1792 rfl (fun k hk => ?_) row_sep (by omega) a h BU g1 g2 ha hb hp hq
  have hk' := ht.symm ▸ hk
  have e := st_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 v82_0 v82_1 v89 v93 G p ⟨k, hk'⟩
  refine ⟨_, _, k0_off7_inb ⟨k, hk'⟩, k0_off8_inb ⟨k, hk'⟩, ?w1, ?w2, (off_t4 ⟨k, hk'⟩).1, (off_t4 ⟨k, hk'⟩).2, fun x => ?e1, fun x => ?e2, ?eL⟩
  case eL => rw [e]; unfold tripL_k0_t4 trip_k0_t4; rfl
  case e1 => rw [e]; unfold tripR_k0_t4 trip_k0_t4; rfl
  case e2 => rw [e]; unfold tripR_k0_t4 trip_k0_t4; rfl

theorem off_t5 : ∀ k : Fin k0_t5_loop.trips, (k0_off9 k 0 = row k.val ∧ k0_off9 k 1 = 2048) ∧ (k0_off10 k 0 = row k.val ∧ k0_off10 k 1 = 2560) := by
  decide +kernel
theorem loop_t5 (v110 : FVec Ideal S16x256 .f32) (v114 : FVec Ideal S16x256 .f32)
    (hr : r = st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 v110 v114 G p k0_t5_loop.trips)
    (g1 : On arg12.view G BU 2048) (g2 : On arg12.view G BU 2560) (ha : Fac v110 a 2048) (hb : Fac v114 a 2560)
    (hp : Lanes p.1 h 2048) (hq : Lanes p.2 h 2560) : Runs arg12.view G r row a h BU 2048 2560 := by
  have ht : k0_t5_loop.trips = 32 := by decide +kernel
  rw [hr, ht]
  refine strip_runs arg12.view G (st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 v110 v114 G p) _ _
    row 2048 2560 rfl (fun k hk => ?_) row_sep (by omega) a h BU g1 g2 ha hb hp hq
  have hk' := ht.symm ▸ hk
  have e := st_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 v110 v114 G p ⟨k, hk'⟩
  refine ⟨_, _, k0_off9_inb ⟨k, hk'⟩, k0_off10_inb ⟨k, hk'⟩, ?w1, ?w2, (off_t5 ⟨k, hk'⟩).1, (off_t5 ⟨k, hk'⟩).2, fun x => ?e1, fun x => ?e2, ?eL⟩
  case eL => rw [e]; unfold tripL_k0_t5 trip_k0_t5; rfl
  case e1 => rw [e]; unfold tripR_k0_t5 trip_k0_t5; rfl
  case e2 => rw [e]; unfold tripR_k0_t5 trip_k0_t5; rfl

theorem off_t6 : ∀ k : Fin k0_t6_loop.trips, (k0_off11 k 0 = row k.val ∧ k0_off11 k 1 = 2304) ∧ (k0_off12 k 0 = row k.val ∧ k0_off12 k 1 = 2816) := by
  decide +kernel
theorem loop_t6 (v110 : FVec Ideal S16x256 .f32) (v114 : FVec Ideal S16x256 .f32) (v125 : Vec Ideal S1x1x256 .f32) (v129 : Vec Ideal S1x1x256 .f32)
    (hr : r = st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 v110 v114 v125 v129 G p k0_t6_loop.trips)
    (g1 : On arg12.view G BU 2304) (g2 : On arg12.view G BU 2816) (ha : Fac (k0_pay50 v125) a 2304) (hb : Fac (k0_pay51 v129) a 2816)
    (hp : Lanes p.1 h 2304) (hq : Lanes p.2 h 2816) : Runs arg12.view G r row a h BU 2304 2816 := by
  have ht : k0_t6_loop.trips = 32 := by decide +kernel
  rw [hr, ht]
  refine strip_runs arg12.view G (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 v110 v114 v125 v129 G p) _ _
    row 2304 2816 rfl (fun k hk => ?_) row_sep (by omega) a h BU g1 g2 ha hb hp hq
  have hk' := ht.symm ▸ hk
  have e := st_k0_t6_succ (F := Ideal) Variants.none c none i arg1 harg1 arg2 harg2 arg3 harg3 arg4 harg4 arg5 harg5 arg6 harg6 arg7 harg7 arg8 harg8 arg9 harg9 arg10 harg10 arg11 harg11 arg12 harg12 arg13 harg13 v110 v114 v125 v129 G p ⟨k, hk'⟩
  refine ⟨_, _, k0_off11_inb ⟨k, hk'⟩, k0_off12_inb ⟨k, hk'⟩, ?w1, ?w2, (off_t6 ⟨k, hk'⟩).1, (off_t6 ⟨k, hk'⟩).2, fun x => ?e1, fun x => ?e2, ?eL⟩
  case eL => rw [e]; unfold tripL_k0_t6 trip_k0_t6; rfl
  case e1 => rw [e]; unfold tripR_k0_t6 trip_k0_t6; rfl
  case e2 => rw [e]; unfold tripR_k0_t6 trip_k0_t6; rfl

theorem off_t7 : ∀ k : Fin k0_t7_loop.trips, (k0_off13 k 0 = row k.val ∧ k0_off13 k 1 = 3072) ∧ (k0_off14 k 0 = row k.val ∧ k0_off14 k 1 = 3584) := by
  decide +kernel
theorem loop_t7 (v136_1 : Vec Ideal S16x256 .f32) (v143 : Vec Ideal S1x1x256 .f32) (v147 : Vec Ideal S1x1x256 .f32)
    (hr : r = st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 v136_1 v143 v147 G p k0_t7_loop.trips)
    (g1 : On arg12.view G BU 3072) (g2 : On arg12.view G BU 3584) (ha : Fac (k0_pay58 v143) a 3072) (hb : Fac (k0_pay59 v147) a 3584)
    (hp : Lanes p.1 h 3072) (hq : Lanes p.2 h 3584) : Runs arg12.view G r row a h BU 3072 3584 := by
  have ht : k0_t7_loop.trips = 32 := by decide +kernel
  rw [hr, ht]
  refine strip_runs arg12.view G (st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 v136_1 v143 v147 G p) _ _
    row 3072 3584 rfl (fun k hk => ?_) row_sep (by omega) a h BU g1 g2 ha hb hp hq
  have hk' := ht.symm ▸ hk
  have e := st_k0_t7_succ (F := Ideal) Variants.none c none i arg1 harg1 arg2 harg2 arg3 harg3 arg4 harg4 arg5 harg5 arg6 harg6 arg7 harg7 arg8 harg8 arg9 harg9 arg10 harg10 arg11 harg11 arg12 harg12 arg13 harg13 v136_1 v143 v147 G p ⟨k, hk'⟩
  refine ⟨_, _, k0_off13_inb ⟨k, hk'⟩, k0_off14_inb ⟨k, hk'⟩, ?w1, ?w2, (off_t7 ⟨k, hk'⟩).1, (off_t7 ⟨k, hk'⟩).2, fun x => ?e1, fun x => ?e2, ?eL⟩
  case eL => rw [e]; unfold tripL_k0_t7 trip_k0_t7; rfl
  case e1 => rw [e]; unfold tripR_k0_t7 trip_k0_t7; rfl
  case e2 => rw [e]; unfold tripR_k0_t7 trip_k0_t7; rfl

theorem off_t8 : ∀ k : Fin k0_t8_loop.trips, (k0_off15 k 0 = row k.val ∧ k0_off15 k 1 = 3328) ∧ (k0_off16 k 0 = row k.val ∧ k0_off16 k 1 = 3840) := by
  decide +kernel
theorem loop_t8 (v164 : FVec Ideal S16x256 .f32) (v168 : FVec Ideal S16x256 .f32) (v169 : Vec Ideal S16x256 .f32) (v170 : Vec Ideal S16x256 .f32)
    (hr : r = st_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 v164 v168 v169 v170 G p k0_t8_loop.trips)
    (g1 : On arg12.view G BU 3328) (g2 : On arg12.view G BU 3840) (ha : Fac v164 a 3328) (hb : Fac v168 a 3840)
    (hp : Lanes p.1 h 3328) (hq : Lanes p.2 h 3840) : Runs arg12.view G r row a h BU 3328 3840 := by
  have ht : k0_t8_loop.trips = 32 := by decide +kernel
  rw [hr, ht]
  refine strip_runs arg12.view G (st_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 v164 v168 v169 v170 G p) _ _
    row 3328 3840 rfl (fun k hk => ?_) row_sep (by omega) a h BU g1 g2 ha hb hp hq
  have hk' := ht.symm ▸ hk
  have e := st_k0_t8_succ (F := Ideal) Variants.none c none i arg1 harg1 arg2 harg2 arg3 harg3 arg4 harg4 arg5 harg5 arg6 harg6 arg7 harg7 arg8 harg8 arg9 harg9 arg10 harg10 arg11 harg11 arg12 harg12 arg13 harg13 v164 v168 v169 v170 G p ⟨k, hk'⟩
  refine ⟨_, _, k0_off15_inb ⟨k, hk'⟩, k0_off16_inb ⟨k, hk'⟩, ?w1, ?w2, (off_t8 ⟨k, hk'⟩).1, (off_t8 ⟨k, hk'⟩).2, fun x => ?e1, fun x => ?e2, ?eL⟩
  case eL => rw [e]; unfold tripL_k0_t8 trip_k0_t8; rfl
  case e1 => rw [e]; unfold tripR_k0_t8 trip_k0_t8; rfl
  case e2 => rw [e]; unfold tripR_k0_t8 trip_k0_t8; rfl

end Cert.Proof.S5State9
-- ==== Proof.S5Point9.lean ====
/-
  The state each point of `Kernel9`'s grid leaves, at an element: 32 steps of the recurrence from the state it finds.
-/
module

public import proofs.«01_k».proof.Proof.S5State9
public import proofs.«01_k».proof.Proof.S5Pay

@[expose] public section

set_option maxRecDepth 16384

noncomputable section

namespace Cert.Proof.S5Point9

open Idealize.ShloMosaic Idealize.ShloMosaic.TcCoe Idealize.ShloMosaic.ValueIdx
open Cert.Kernel9Ideal Cert.Kernel9Ideal.Gen Cert.Proof.S5Run9 Cert.Proof.S5Math Cert.Proof.S5Pay Cert.Proof.S5Chain Cert.Proof.S5State9

/-! ## The quarters of the projected inputs -/

theorem q0 (v3 x1 : Vec Ideal S16x32x512 .f32) (h3 : ∀ i, v3 i = x1 i) (w : Vec Ideal S1x1x128x1024 .bf16) (x2 : Vec Ideal S1x4x128x1024 .bf16)
    (hw : ∀ (k : Fin 128) (j : Fin 1024), w (ix4 0 0 k j) = nat4 x2 0 0 k.val j.val) (x : S512x1024.Idx) :
    k0_pay5 v3 w x = proj x1 x2 (x 0).val (0 * 1024 + (x 1).val) := by
  unfold k0_pay5 k0_pay4 k0_pay3
  exact quarter 0 0 rfl (by omega) v3 x1 h3 w x2 hw _ _ _ _ _ _ x rfl rfl
theorem q1 (v3 x1 : Vec Ideal S16x32x512 .f32) (h3 : ∀ i, v3 i = x1 i) (w : Vec Ideal S1x1x128x1024 .bf16) (x2 : Vec Ideal S1x4x128x1024 .bf16)
    (hw : ∀ (k : Fin 128) (j : Fin 1024), w (ix4 0 0 k j) = nat4 x2 0 1 k.val j.val) (x : S512x1024.Idx) :
    k0_pay6 v3 w x = proj x1 x2 (x 0).val (1 * 1024 + (x 1).val) := by
  unfold k0_pay6 k0_pay4 k0_pay3
  exact quarter 128 1 rfl (by omega) v3 x1 h3 w x2 hw _ _ _ _ _ _ x rfl rfl
theorem q2 (v3 x1 : Vec Ideal S16x32x512 .f32) (h3 : ∀ i, v3 i = x1 i) (w : Vec Ideal S1x1x128x1024 .bf16) (x2 : Vec Ideal S1x4x128x1024 .bf16)
    (hw : ∀ (k : Fin 128) (j : Fin 1024), w (ix4 0 0 k j) = nat4 x2 0 2 k.val j.val) (x : S512x1024.Idx) :
    k0_pay7 v3 w x = proj x1 x2 (x 0).val (2 * 1024 + (x 1).val) := by
  unfold k0_pay7 k0_pay4 k0_pay3
  exact quarter 256 2 rfl (by omega) v3 x1 h3 w x2 hw _ _ _ _ _ _ x rfl rfl
theorem q3 (v3 x1 : Vec Ideal S16x32x512 .f32) (h3 : ∀ i, v3 i = x1 i) (w : Vec Ideal S1x1x128x1024 .bf16) (x2 : Vec Ideal S1x4x128x1024 .bf16)
    (hw : ∀ (k : Fin 128) (j : Fin 1024), w (ix4 0 0 k j) = nat4 x2 0 3 k.val j.val) (x : S512x1024.Idx) :
    k0_pay9 (k0_pay8 v3) w x = proj x1 x2 (x 0).val (3 * 1024 + (x 1).val) := by
  unfold k0_pay9 k0_pay8 k0_pay4 k0_pay3
  exact quarter 384 3 rfl (by omega) v3 x1 h3 w x2 hw _ _ _ _ _ _ x rfl rfl

/-! ## The strips' factors -/

section
variable (v : Vec Ideal S1x1x256 .f32) (a : ℕ → EReal) (col : ℕ) (hv : ∀ j : Fin 256, v (ix3 0 0 j) = a (col + j.val)) (x : S16x256.Idx)
include hv
theorem fac_10 : k0_pay10 v x = a (col + (x 1).val) := by unfold k0_pay10; exact strip_fac v _ _ _ a col hv x
theorem fac_11 : k0_pay11 v x = a (col + (x 1).val) := by unfold k0_pay11; exact strip_fac v _ _ _ a col hv x
theorem fac_18 : k0_pay18 v x = a (col + (x 1).val) := by unfold k0_pay18; exact strip_fac v _ _ _ a col hv x
theorem fac_19 : k0_pay19 v x = a (col + (x 1).val) := by unfold k0_pay19; exact strip_fac v _ _ _ a col hv x
theorem fac_26 : k0_pay26 v x = a (col + (x 1).val) := by unfold k0_pay26; exact strip_fac v _ _ _ a col hv x
theorem fac_27 : k0_pay27 v x = a (col + (x 1).val) := by unfold k0_pay27; exact strip_fac v _ _ _ a col hv x
theorem fac_34 : k0_pay34 v x = a (col + (x 1).val) := by unfold k0_pay34; exact strip_fac v _ _ _ a col hv x
theorem fac_35 : k0_pay35 v x = a (col + (x 1).val) := by unfold k0_pay35; exact strip_fac v _ _ _ a col hv x
theorem fac_42 : k0_pay42 v x = a (col + (x 1).val) := by unfold k0_pay42; exact strip_fac v _ _ _ a col hv x
theorem fac_43 : k0_pay43 v x = a (col + (x 1).val) := by unfold k0_pay43; exact strip_fac v _ _ _ a col hv x
theorem fac_50 : k0_pay50 v x = a (col + (x 1).val) := by unfold k0_pay50; exact strip_fac v _ _ _ a col hv x
theorem fac_51 : k0_pay51 v x = a (col + (x 1).val) := by unfold k0_pay51; exact strip_fac v _ _ _ a col hv x
theorem fac_58 : k0_pay58 v x = a (col + (x 1).val) := by unfold k0_pay58; exact strip_fac v _ _ _ a col hv x
theorem fac_59 : k0_pay59 v x = a (col + (x 1).val) := by unfold k0_pay59; exact strip_fac v _ _ _ a col hv x
theorem fac_66 : k0_pay66 v x = a (col + (x 1).val) := by unfold k0_pay66; exact strip_fac v _ _ _ a col hv x
theorem fac_67 : k0_pay67 v x = a (col + (x 1).val) := by unfold k0_pay67; exact strip_fac v _ _ _ a col hv x
end

/-! ## The three kinds of point -/

variable (c : Dev nD) (i : grid0.Coords) (arg1 : Memref sig .tc .vmem S16x32x512 .f32) (harg1 : arg1.IsWhole) (arg2 : Memref sig .tc .vmem S1x4x128x1024 .bf16) (harg2 : arg2.IsWhole) (arg3 : Memref sig .tc .vmem S1x4x1024x128 .bf16) (harg3 : arg3.IsWhole) (arg4 : Memref sig .tc .vmem S1x1x4096 .f32) (harg4 : arg4.IsWhole) (arg5 : Memref sig .tc .vmem S1x16x4096 .f32) (harg5 : arg5.IsWhole) (arg6 : Memref sig .tc .vmem S16x32x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S16x32x512 .bf16) (harg9 : arg9.IsWhole) (arg10 : Memref sig .tc .vmem S16x4096 .f32) (harg10 : arg10.IsWhole) (arg11 : Memref sig .tc .vmem S32x16x512 .f32) (harg11 : arg11.IsWhole) (arg12 : Memref sig .tc .vmem S512x4096 .f32) (harg12 : arg12.IsWhole) (arg13 : Memref sig .tc .vmem S16x4096 .f32) (harg13 : arg13.IsWhole)
  (x1 : Vec Ideal S16x32x512 .f32) (x2 : Vec Ideal S1x4x128x1024 .bf16) (x3 : Vec Ideal S1x4x1024x128 .bf16) (x4 : Vec Ideal S1x1x4096 .f32) (x6 : Vec Ideal S16x32x512 .f32) (x7 : Vec Ideal S1x512 .f32) (x8 : Vec Ideal S512x512 .f32)

set_option maxHeartbeats 2000000 in
/-- The state after a point that is neither first nor last. -/
theorem inner_at (h1 : ¬ isFirst i = 1#1) (h2 : ¬ k0_cond2 i = 1#1) (x13 : Vec Ideal S16x4096 .f32) (y : S16x4096.Idx) :
    (inner (F := Ideal) c i arg1 harg1 arg2 harg2 arg3 harg3 arg4 harg4 arg5 harg5 arg6 harg6 arg7 harg7 arg8 harg8 arg9 harg9 arg10 harg10 arg11 harg11 arg12 harg12 arg13 harg13 h1 h2).2.1 x1 x2 x3 x4 x6 x7 x8 x13 y = new row (nat3 x4 0 0) (nat2 x13) (proj x1 x2) (y 0).val (y 1).val := by
  apply chain arg12.view arg13.view row (nat3 x4 0 0) (nat2 x13) (proj x1 x2)
  case hw1 => intro x; unfold k0_pay16; exact congrFun (shapeCast_self _ _) x
  case hu1 => intro x; unfold k0_pay17; exact congrFun (shapeCast_self _ _) x
  case hw2 => intro x; unfold k0_pay24; exact congrFun (shapeCast_self _ _) x
  case hu2 => intro x; unfold k0_pay25; exact congrFun (shapeCast_self _ _) x
  case hw3 => intro x; unfold k0_pay32; exact congrFun (shapeCast_self _ _) x
  case hu3 => intro x; unfold k0_pay33; exact congrFun (shapeCast_self _ _) x
  case hw4 => intro x; unfold k0_pay40; exact congrFun (shapeCast_self _ _) x
  case hu4 => intro x; unfold k0_pay41; exact congrFun (shapeCast_self _ _) x
  case hw5 => intro x; unfold k0_pay48; exact congrFun (shapeCast_self _ _) x
  case hu5 => intro x; unfold k0_pay49; exact congrFun (shapeCast_self _ _) x
  case hw6 => intro x; unfold k0_pay56; exact congrFun (shapeCast_self _ _) x
  case hu6 => intro x; unfold k0_pay57; exact congrFun (shapeCast_self _ _) x
  case hw7 => intro x; unfold k0_pay64; exact congrFun (shapeCast_self _ _) x
  case hu7 => intro x; unfold k0_pay65; exact congrFun (shapeCast_self _ _) x
  case hw8 => intro x; unfold k0_pay72; exact congrFun (shapeCast_self _ _) x
  case hu8 => intro x; unfold k0_pay73; exact congrFun (shapeCast_self _ _) x
  case hr1 =>
    exact fun g1 g2 => loop_t1 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
      (fac_10 _ _ 0 (read_fac arg4 harg4 x4 0 _)) (fac_11 _ _ 512 (read_fac arg4 harg4 x4 512 _))
      (read_st arg13 harg13 x13 0 _) (read_st arg13 harg13 x13 512 _)
  case hr2 =>
    exact fun g1 g2 => loop_t2 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ rfl g1 g2
      (fac_18 _ _ 256 (read_fac arg4 harg4 x4 256 _)) (fac_19 _ _ 768 (read_fac arg4 harg4 x4 768 _))
      (read_st arg13 harg13 x13 256 _) (read_st arg13 harg13 x13 768 _)
  case hr3 =>
    exact fun g1 g2 => loop_t3 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
      (fac_26 _ _ 1024 (read_fac arg4 harg4 x4 1024 _)) (fac_27 _ _ 1536 (read_fac arg4 harg4 x4 1536 _))
      (read_st arg13 harg13 x13 1024 _) (read_st arg13 harg13 x13 1536 _)
  case hr4 =>
    exact fun g1 g2 => loop_t4 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
      (fac_34 _ _ 1280 (read_fac arg4 harg4 x4 1280 _)) (fac_35 _ _ 1792 (read_fac arg4 harg4 x4 1792 _))
      (read_st arg13 harg13 x13 1280 _) (read_st arg13 harg13 x13 1792 _)
  case hr5 =>
    exact fun g1 g2 => loop_t5 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ rfl g1 g2
      (fac_42 _ _ 2048 (read_fac arg4 harg4 x4 2048 _)) (fac_43 _ _ 2560 (read_fac arg4 harg4 x4 2560 _))
      (read_st arg13 harg13 x13 2048 _) (read_st arg13 harg13 x13 2560 _)
  case hr6 =>
    exact fun g1 g2 => loop_t6 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
      (fac_50 _ _ 2304 (read_fac arg4 harg4 x4 2304 _)) (fac_51 _ _ 2816 (read_fac arg4 harg4 x4 2816 _))
      (read_st arg13 harg13 x13 2304 _) (read_st arg13 harg13 x13 2816 _)
  case hr7 =>
    exact fun g1 g2 => loop_t7 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
      (fac_58 _ _ 3072 (read_fac arg4 harg4 x4 3072 _)) (fac_59 _ _ 3584 (read_fac arg4 harg4 x4 3584 _))
      (read_st arg13 harg13 x13 3072 _) (read_st arg13 harg13 x13 3584 _)
  case hr8 =>
    exact fun g1 g2 => loop_t8 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
      (fac_66 _ _ 3328 (read_fac arg4 harg4 x4 3328 _)) (fac_67 _ _ 3840 (read_fac arg4 harg4 x4 3840 _))
      (read_st arg13 harg13 x13 3328 _) (read_st arg13 harg13 x13 3840 _)
  case hL2 => rfl
  case hL3 => rfl
  case hL4 => rfl
  case hL5 => rfl
  case hL6 => rfl
  case hL7 => rfl
  case hL8 => rfl
  case hBU =>
    intro y
    exact four arg12.view _ (proj x1 x2) _ _ _ _ _ _ _ _ (q0 _ _ (read_x arg1 harg1 x1 _) _ _ (read_wb arg2 harg2 x2 0 _))
      (q1 _ _ (read_x arg1 harg1 x1 _) _ _ (read_wb arg2 harg2 x2 1 _)) (q2 _ _ (read_x arg1 harg1 x1 _) _ _ (read_wb arg2 harg2 x2 2 _))
      (q3 _ _ (read_x arg1 harg1 x1 _) _ _ (read_wb arg2 harg2 x2 3 _)) y

set_option maxHeartbeats 2000000 in
/-- The state after the first point. -/
theorem first_at (h1 : isFirst i = 1#1) (h2 : ¬ k0_cond2 i = 1#1) (x5 : Vec Ideal S1x16x4096 .f32) (y : S16x4096.Idx) :
    (first (F := Ideal) c i arg1 harg1 arg2 harg2 arg3 harg3 arg4 harg4 arg5 harg5 arg6 harg6 arg7 harg7 arg8 harg8 arg9 harg9 arg10 harg10 arg11 harg11 arg12 harg12 arg13 harg13 h1 h2).2.1 x1 x2 x3 x4 x6 x7 x8 x5 y = new row (nat3 x4 0 0) (nat2 (k0_pay2 x5)) (proj x1 x2) (y 0).val (y 1).val := by
  apply chain arg12.view arg13.view row (nat3 x4 0 0) (nat2 (k0_pay2 x5)) (proj x1 x2)
  case hw1 => intro x; unfold k0_pay16; exact congrFun (shapeCast_self _ _) x
  case hu1 => intro x; unfold k0_pay17; exact congrFun (shapeCast_self _ _) x
  case hw2 => intro x; unfold k0_pay24; exact congrFun (shapeCast_self _ _) x
  case hu2 => intro x; unfold k0_pay25; exact congrFun (shapeCast_self _ _) x
  case hw3 => intro x; unfold k0_pay32; exact congrFun (shapeCast_self _ _) x
  case hu3 => intro x; unfold k0_pay33; exact congrFun (shapeCast_self _ _) x
  case hw4 => intro x; unfold k0_pay40; exact congrFun (shapeCast_self _ _) x
  case hu4 => intro x; unfold k0_pay41; exact congrFun (shapeCast_self _ _) x
  case hw5 => intro x; unfold k0_pay48; exact congrFun (shapeCast_self _ _) x
  case hu5 => intro x; unfold k0_pay49; exact congrFun (shapeCast_self _ _) x
  case hw6 => intro x; unfold k0_pay56; exact congrFun (shapeCast_self _ _) x
  case hu6 => intro x; unfold k0_pay57; exact congrFun (shapeCast_self _ _) x
  case hw7 => intro x; unfold k0_pay64; exact congrFun (shapeCast_self _ _) x
  case hu7 => intro x; unfold k0_pay65; exact congrFun (shapeCast_self _ _) x
  case hw8 => intro x; unfold k0_pay72; exact congrFun (shapeCast_self _ _) x
  case hu8 => intro x; unfold k0_pay73; exact congrFun (shapeCast_self _ _) x
  case hr1 =>
    exact fun g1 g2 => loop_t1 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
      (fac_10 _ _ 0 (read_fac arg4 harg4 x4 0 _)) (fac_11 _ _ 512 (read_fac arg4 harg4 x4 512 _))
      (fun x => base arg13.view _ _ _ _ _ (congrArg k0_pay2 (read_h0 arg5 harg5 x5 _)) _ x) (fun x => base arg13.view _ _ _ _ _ (congrArg k0_pay2 (read_h0 arg5 harg5 x5 _)) _ x)
  case hr2 =>
    exact fun g1 g2 => loop_t2 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ rfl g1 g2
      (fac_18 _ _ 256 (read_fac arg4 harg4 x4 256 _)) (fac_19 _ _ 768 (read_fac arg4 harg4 x4 768 _))
      (fun x => skip arg13.view _ _ _ _ _ x _ (by decide) (skip arg13.view _ _ _ _ _ x _ (by decide) (base arg13.view _ _ _ _ _ (congrArg k0_pay2 (read_h0 arg5 harg5 x5 _)) _ x))) (fun x => skip arg13.view _ _ _ _ _ x _ (by decide) (skip arg13.view _ _ _ _ _ x _ (by decide) (base arg13.view _ _ _ _ _ (congrArg k0_pay2 (read_h0 arg5 harg5 x5 _)) _ x)))
  case hr3 =>
    exact fun g1 g2 => loop_t3 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
      (fac_26 _ _ 1024 (read_fac arg4 harg4 x4 1024 _)) (fac_27 _ _ 1536 (read_fac arg4 harg4 x4 1536 _))
      (fun x => skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x))))) (fun x => skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x)))))
  case hr4 =>
    exact fun g1 g2 => loop_t4 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
      (fac_34 _ _ 1280 (read_fac arg4 harg4 x4 1280 _)) (fac_35 _ _ 1792 (read_fac arg4 harg4 x4 1792 _))
      (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x))))))) (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x)))))))
  case hr5 =>
    exact fun g1 g2 => loop_t5 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ rfl g1 g2
      (fac_42 _ _ 2048 (read_fac arg4 harg4 x4 2048 _)) (fac_43 _ _ 2560 (read_fac arg4 harg4 x4 2560 _))
      (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x))))))))) (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x)))))))))
  case hr6 =>
    exact fun g1 g2 => loop_t6 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
      (fac_50 _ _ 2304 (read_fac arg4 harg4 x4 2304 _)) (fac_51 _ _ 2816 (read_fac arg4 harg4 x4 2816 _))
      (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x))))))))))) (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x)))))))))))
  case hr7 =>
    exact fun g1 g2 => loop_t7 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
      (fac_58 _ _ 3072 (read_fac arg4 harg4 x4 3072 _)) (fac_59 _ _ 3584 (read_fac arg4 harg4 x4 3584 _))
      (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x))))))))))))) (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x)))))))))))))
  case hr8 =>
    exact fun g1 g2 => loop_t8 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
      (fac_66 _ _ 3328 (read_fac arg4 harg4 x4 3328 _)) (fac_67 _ _ 3840 (read_fac arg4 harg4 x4 3840 _))
      (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x))))))))))))))) (fun x => skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (skip arg13.view _ _ _ _ _ x _ (by decide) (base arg13.view _ _ _ _ _ (congrArg k0_pay2 (read_h0 arg5 harg5 x5 _)) _ x)))))))))))))))
  case hL2 => rfl
  case hL3 => rfl
  case hL4 => rfl
  case hL5 => rfl
  case hL6 => rfl
  case hL7 => rfl
  case hL8 => rfl
  case hBU =>
    intro y
    exact four arg12.view _ (proj x1 x2) _ _ _ _ _ _ _ _ (q0 _ _ (read_x arg1 harg1 x1 _) _ _ (read_wb arg2 harg2 x2 0 _))
      (q1 _ _ (read_x arg1 harg1 x1 _) _ _ (read_wb arg2 harg2 x2 1 _)) (q2 _ _ (read_x arg1 harg1 x1 _) _ _ (read_wb arg2 harg2 x2 2 _))
      (q3 _ _ (read_x arg1 harg1 x1 _) _ _ (read_wb arg2 harg2 x2 3 _)) y

set_option maxHeartbeats 4000000 in
/-- The state after the last point, and what that point writes out: the same. -/
theorem last_both (h1 : ¬ isFirst i = 1#1) (h2 : k0_cond2 i = 1#1) (x13 : Vec Ideal S16x4096 .f32) (y : S16x4096.Idx) :
    (last (F := Ideal) c i arg1 harg1 arg2 harg2 arg3 harg3 arg4 harg4 arg5 harg5 arg6 harg6 arg7 harg7 arg8 harg8 arg9 harg9 arg10 harg10 arg11 harg11 arg12 harg12 arg13 harg13 h1 h2).2.2.1 x1 x2 x3 x4 x6 x7 x8 x13 y = new row (nat3 x4 0 0) (nat2 x13) (proj x1 x2) (y 0).val (y 1).val
    ∧ (last (F := Ideal) c i arg1 harg1 arg2 harg2 arg3 harg3 arg4 harg4 arg5 harg5 arg6 harg6 arg7 harg7 arg8 harg8 arg9 harg9 arg10 harg10 arg11 harg11 arg12 harg12 arg13 harg13 h1 h2).2.1 x1 x2 x3 x4 x6 x7 x8 x13 y = new row (nat3 x4 0 0) (nat2 x13) (proj x1 x2) (y 0).val (y 1).val := by
  refine ⟨?_, (read_whole arg13.view _ _ y).trans ?_⟩ <;> (
    apply chain arg12.view arg13.view row (nat3 x4 0 0) (nat2 x13) (proj x1 x2)
    case hw1 => intro x; unfold k0_pay16; exact congrFun (shapeCast_self _ _) x
    case hu1 => intro x; unfold k0_pay17; exact congrFun (shapeCast_self _ _) x
    case hw2 => intro x; unfold k0_pay24; exact congrFun (shapeCast_self _ _) x
    case hu2 => intro x; unfold k0_pay25; exact congrFun (shapeCast_self _ _) x
    case hw3 => intro x; unfold k0_pay32; exact congrFun (shapeCast_self _ _) x
    case hu3 => intro x; unfold k0_pay33; exact congrFun (shapeCast_self _ _) x
    case hw4 => intro x; unfold k0_pay40; exact congrFun (shapeCast_self _ _) x
    case hu4 => intro x; unfold k0_pay41; exact congrFun (shapeCast_self _ _) x
    case hw5 => intro x; unfold k0_pay48; exact congrFun (shapeCast_self _ _) x
    case hu5 => intro x; unfold k0_pay49; exact congrFun (shapeCast_self _ _) x
    case hw6 => intro x; unfold k0_pay56; exact congrFun (shapeCast_self _ _) x
    case hu6 => intro x; unfold k0_pay57; exact congrFun (shapeCast_self _ _) x
    case hw7 => intro x; unfold k0_pay64; exact congrFun (shapeCast_self _ _) x
    case hu7 => intro x; unfold k0_pay65; exact congrFun (shapeCast_self _ _) x
    case hw8 => intro x; unfold k0_pay72; exact congrFun (shapeCast_self _ _) x
    case hu8 => intro x; unfold k0_pay73; exact congrFun (shapeCast_self _ _) x
    case hr1 =>
      exact fun g1 g2 => loop_t1 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
        (fac_10 _ _ 0 (read_fac arg4 harg4 x4 0 _)) (fac_11 _ _ 512 (read_fac arg4 harg4 x4 512 _))
        (read_st arg13 harg13 x13 0 _) (read_st arg13 harg13 x13 512 _)
    case hr2 =>
      exact fun g1 g2 => loop_t2 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ rfl g1 g2
        (fac_18 _ _ 256 (read_fac arg4 harg4 x4 256 _)) (fac_19 _ _ 768 (read_fac arg4 harg4 x4 768 _))
        (read_st arg13 harg13 x13 256 _) (read_st arg13 harg13 x13 768 _)
    case hr3 =>
      exact fun g1 g2 => loop_t3 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
        (fac_26 _ _ 1024 (read_fac arg4 harg4 x4 1024 _)) (fac_27 _ _ 1536 (read_fac arg4 harg4 x4 1536 _))
        (read_st arg13 harg13 x13 1024 _) (read_st arg13 harg13 x13 1536 _)
    case hr4 =>
      exact fun g1 g2 => loop_t4 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
        (fac_34 _ _ 1280 (read_fac arg4 harg4 x4 1280 _)) (fac_35 _ _ 1792 (read_fac arg4 harg4 x4 1792 _))
        (read_st arg13 harg13 x13 1280 _) (read_st arg13 harg13 x13 1792 _)
    case hr5 =>
      exact fun g1 g2 => loop_t5 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ rfl g1 g2
        (fac_42 _ _ 2048 (read_fac arg4 harg4 x4 2048 _)) (fac_43 _ _ 2560 (read_fac arg4 harg4 x4 2560 _))
        (read_st arg13 harg13 x13 2048 _) (read_st arg13 harg13 x13 2560 _)
    case hr6 =>
      exact fun g1 g2 => loop_t6 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
        (fac_50 _ _ 2304 (read_fac arg4 harg4 x4 2304 _)) (fac_51 _ _ 2816 (read_fac arg4 harg4 x4 2816 _))
        (read_st arg13 harg13 x13 2304 _) (read_st arg13 harg13 x13 2816 _)
    case hr7 =>
      exact fun g1 g2 => loop_t7 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ rfl g1 g2
        (fac_58 _ _ 3072 (read_fac arg4 harg4 x4 3072 _)) (fac_59 _ _ 3584 (read_fac arg4 harg4 x4 3584 _))
        (read_st arg13 harg13 x13 3072 _) (read_st arg13 harg13 x13 3584 _)
    case hr8 =>
      exact fun g1 g2 => loop_t8 c i arg1 harg1 arg2 harg2 arg3 harg3 arg4 harg4 arg5 harg5 arg6 harg6 arg7 harg7 arg8 harg8 arg9 harg9 arg10 harg10 arg11 harg11 arg12 harg12 arg13 harg13 _ (_, _) _ _ _ _ _ _ _ _ rfl g1 g2
        (fac_66 _ _ 3328 (read_fac arg4 harg4 x4 3328 _)) (fac_67 _ _ 3840 (read_fac arg4 harg4 x4 3840 _))
        (read_st arg13 harg13 x13 3328 _) (read_st arg13 harg13 x13 3840 _)
    case hL2 => rfl
    case hL3 => rfl
    case hL4 => rfl
    case hL5 => rfl
    case hL6 => rfl
    case hL7 => rfl
    case hL8 => rfl
    case hBU =>
      intro y
      exact four arg12.view _ (proj x1 x2) _ _ _ _ _ _ _ _ (q0 _ _ (read_x arg1 harg1 x1 _) _ _ (read_wb arg2 harg2 x2 0 _))
        (q1 _ _ (read_x arg1 harg1 x1 _) _ _ (read_wb arg2 harg2 x2 1 _)) (q2 _ _ (read_x arg1 harg1 x1 _) _ _ (read_wb arg2 harg2 x2 2 _))
        (q3 _ _ (read_x arg1 harg1 x1 _) _ _ (read_wb arg2 harg2 x2 3 _)) y)

theorem last_at (h1 : ¬ isFirst i = 1#1) (h2 : k0_cond2 i = 1#1) (x13 : Vec Ideal S16x4096 .f32) (y : S16x4096.Idx) :
    (last (F := Ideal) c i arg1 harg1 arg2 harg2 arg3 harg3 arg4 harg4 arg5 harg5 arg6 harg6 arg7 harg7 arg8 harg8 arg9 harg9 arg10 harg10 arg11 harg11 arg12 harg12 arg13 harg13 h1 h2).2.2.1 x1 x2 x3 x4 x6 x7 x8 x13 y = new row (nat3 x4 0 0) (nat2 x13) (proj x1 x2) (y 0).val (y 1).val :=
  (last_both c i arg1 harg1 arg2 harg2 arg3 harg3 arg4 harg4 arg5 harg5 arg6 harg6 arg7 harg7 arg8 harg8 arg9 harg9 arg10 harg10 arg11 harg11 arg12 harg12 arg13 harg13 x1 x2 x3 x4 x6 x7 x8 h1 h2 x13 y).1
theorem last_out_at (h1 : ¬ isFirst i = 1#1) (h2 : k0_cond2 i = 1#1) (x13 : Vec Ideal S16x4096 .f32) (y : S16x4096.Idx) :
    (last (F := Ideal) c i arg1 harg1 arg2 harg2 arg3 harg3 arg4 harg4 arg5 harg5 arg6 harg6 arg7 harg7 arg8 harg8 arg9 harg9 arg10 harg10 arg11 harg11 arg12 harg12 arg13 harg13 h1 h2).2.1 x1 x2 x3 x4 x6 x7 x8 x13 y = new row (nat3 x4 0 0) (nat2 x13) (proj x1 x2) (y 0).val (y 1).val :=
  (last_both c i arg1 harg1 arg2 harg2 arg3 harg3 arg4 harg4 arg5 harg5 arg6 harg6 arg7 harg7 arg8 harg8 arg9 harg9 arg10 harg10 arg11 harg11 arg12 harg12 arg13 harg13 x1 x2 x3 x4 x6 x7 x8 h1 h2 x13 y).2

end Cert.Proof.S5Point9
-- ==== Proof.S5Ref9.lean ====
/-
  The host's reference of the pass over time of `Kernel9`: its 256 steps, at an element.
-/
module

public import proofs.«01_k».proof.Proof.S5Spec
public import proofs.«01_k».proof.Proof.Gen.Reference9Ideal.StepRun
public import Idealize.ShloMosaic.Lib.WordCmp

@[expose] public section

set_option maxRecDepth 16384

noncomputable section

namespace Cert.Proof.S5Ref9

open Idealize.ShloMosaic Idealize.ShloMosaic.ValueIdx
open Cert.Reference9Ideal Cert.Reference9Ideal.Gen Cert.Reference9Ideal.Step Cert.Proof.S5Math Cert.Proof.S5Pay Cert.Proof.S5Spec

variable (x0 : SU.Idx → EReal) (x1 : SW.Idx → EReal) (x3 : SA.Idx → EReal) (x4 : SI.Idx → EReal)

/-- The factors, the state the pass starts from, and the inputs of step `s`. -/
abbrev fa (l : ℕ) : EReal := nat3 x3 1 0 l
abbrev fh (b l : ℕ) : EReal := nat3 x4 1 b l
abbrev fb (s b l : ℕ) : EReal := bu 1 x0 x1 (255 - s) b l

theorem dot_read (i : S4x1024x16x256.Idx) (y0 : FVec Ideal S4x128x1024 .f32) (y1 : FVec Ideal S16x256x4x128 .f32) :
    Host.dotGeneral dot_S4x128x1024_S16x256x4x128_S4x1024x16x256_1_3_2_01_0_2 none y0 y1 i
      = ∑ k : Fin 128, y0 (ix3 (i 0) k (i 1)) * y1 (ix4 (i 2) (i 3) (i 0) k) := by
  simp only [Host.dotGeneral]
  rw [Ideal.dotGeneral_apply, ← Equiv.sum_comp (contrEquiv1 dot_S4x128x1024_S16x256x4x128_S4x1024x16x256_1_3_2_01_0_2 128 rfl rfl).symm]
  refine Finset.sum_congr rfl fun k _ => ?_
  have hk := contrEquiv1_symm_val dot_S4x128x1024_S16x256x4x128_S4x1024x16x256_1_3_2_01_0_2 128 rfl rfl k
  have el : DotDims.lhsIdx dot_S4x128x1024_S16x256x4x128_S4x1024x16x256_1_3_2_01_0_2 i ((contrEquiv1 dot_S4x128x1024_S16x256x4x128_S4x1024x16x256_1_3_2_01_0_2 128 rfl rfl).symm k) = ix3 (i 0) k (i 1) := funext fun a => Fin.ext (by
    match a with
    | ⟨0, _⟩ => rfl
    | ⟨1, _⟩ => exact hk
    | ⟨2, _⟩ => rfl)
  have er : DotDims.rhsIdx dot_S4x128x1024_S16x256x4x128_S4x1024x16x256_1_3_2_01_0_2 i ((contrEquiv1 dot_S4x128x1024_S16x256x4x128_S4x1024x16x256_1_3_2_01_0_2 128 rfl rfl).symm k) = ix4 (i 2) (i 3) (i 0) k := funext fun a => Fin.ext (by
    match a with
    | ⟨0, _⟩ => rfl
    | ⟨1, _⟩ => rfl
    | ⟨2, _⟩ => rfl
    | ⟨3, _⟩ => exact hk)
  rw [el, er]
  rfl

theorem proj_read (n : Fin 256) (b : Fin 16) (q : Fin 4) (l : Fin 1024) :
    A_main_v6 (F := Ideal) x0 x1 x3 x4 (ix4 n b q l) = bu 1 x0 x1 n.val b.val (q.val * 1024 + l.val) := by
  unfold A_main_v6 A_main_v5
  refine (transpose_apply _ _ _ _ (ix4 q l b n) fun a => ?_).trans ((dot_read _ _ _).trans ?_)
  · match a with
    | ⟨0, _⟩ => rfl
    | ⟨1, _⟩ => rfl
    | ⟨2, _⟩ => rfl
    | ⟨3, _⟩ => rfl
  unfold bu
  refine Finset.sum_congr rfl fun k _ => (mul_comm _ _).trans (congrArg₂ (· * ·) ?_ ?_)
  · unfold A_main_v1 A_main_v0
    refine (col_read x0 _ _ b n q k).trans ?_
    rw [show (q.val * 1024 + l.val) / 1024 = q.val by omega]
  · unfold A_main_v4
    refine (show _ = A_main_v3 (F := Ideal) x0 x1 x3 x4 (ix3 q k l) from rfl).trans ?_
    unfold A_main_v3 A_main_v2
    refine (mat_read 1 (by omega) x1 _ _ q k l).trans ?_
    rw [show (q.val * 1024 + l.val) / 1024 = q.val by omega, show (q.val * 1024 + l.val) % 1024 = l.val by omega]

theorem in_read (n : Fin 256) (b : Fin 16) (q : Fin 4) (l : Fin 1024) :
    A_main_v7 (F := Ideal) x0 x1 x3 x4 (ix4 n b q l) = fb x0 x1 n.val b.val (q.val * 1024 + l.val) := by
  unfold A_main_v7
  have e : Host.reverse [0] (A_main_v6 (F := Ideal) x0 x1 x3 x4) (ix4 n b q l) = A_main_v6 (F := Ideal) x0 x1 x3 x4 (ix4 n.rev b q l) := by
    unfold Host.reverse
    refine congrArg _ (funext fun a => ?_)
    match a with
    | ⟨0, _⟩ => rfl
    | ⟨1, _⟩ => rfl
    | ⟨2, _⟩ => rfl
    | ⟨3, _⟩ => rfl
  rw [e, proj_read, Fin.val_rev, show 256 - (n.val + 1) = 255 - n.val by omega]

/-- The states of the loop. -/
def it : ℕ → State Ideal
  | 0 => init x0 x1 x3 x4
  | n + 1 => step n (it n)

theorem it_const : ∀ n, (it x0 x1 x3 x4 n).main_v25_0 = A_main_v7 (F := Ideal) x0 x1 x3 x4 ∧ (it x0 x1 x3 x4 n).main_v25_1 = A_main_v12 (F := Ideal) x0 x1 x3 x4
    ∧ (it x0 x1 x3 x4 n).main_v25_2 = A_main_v17 (F := Ideal) x0 x1 x3 x4
  | 0 => ⟨rfl, rfl, rfl⟩
  | n + 1 => it_const n

theorem re_read (q : Fin 4) (j : Fin 512) : A_main_v12 (F := Ideal) x0 x1 x3 x4 (ix3 (0 : Fin 1) q j) = fa x3 (q.val * 1024 + j.val) := by
  unfold A_main_v12 A_main_v11 A_main_v10 A_main_v9 A_main_v8
  refine (fac_read 1 0 (by omega) (by omega) x3 _ _ _ _ _ q j).trans ?_
  rw [show q.val * 1024 + j.val + 0 * 512 = q.val * 1024 + j.val by omega]
theorem im_read (q : Fin 4) (j : Fin 512) : A_main_v17 (F := Ideal) x0 x1 x3 x4 (ix3 (0 : Fin 1) q j) = fa x3 (q.val * 1024 + j.val + 512) := by
  unfold A_main_v17 A_main_v16 A_main_v15 A_main_v14 A_main_v13
  refine (fac_read 1 1 (by omega) (by omega) x3 _ _ _ _ _ q j).trans ?_
  rw [show q.val * 1024 + j.val + 1 * 512 = q.val * 1024 + j.val + 512 by omega]

/-- The inputs the body takes at step `n`. -/
theorem b4_read (n : ℕ) (hn : n < 256) (b : Fin 16) (q : Fin 4) (l : Fin 1024) :
    b4 (F := Ideal) n (it x0 x1 x3 x4 n) (ix3 b q l) = fb x0 x1 n b.val (q.val * 1024 + l.val) := by
  unfold b4 b3
  rw [(it_const x0 x1 x3 x4 n).1]
  refine (shapeCast_apply _ _ _ (ix4 (0 : Fin 1) b q l) ?_).trans ?_
  · rw [Shape.rowMajor_val_four, Shape.rowMajor_val_three]
    show ((0 * 16 + b.val) * 4 + q.val) * 1024 + l.val = (b.val * 4 + q.val) * 1024 + l.val
    omega
  have hs : S256x16x4x1024.Slices ![n, 0, 0, 0] S1x16x4x1024 := ⟨rfl, fun a => by
    match a with
    | ⟨0, _⟩ => show n + 1 ≤ 256; omega
    | ⟨1, _⟩ => exact le_refl 16
    | ⟨2, _⟩ => exact le_refl 4
    | ⟨3, _⟩ => exact le_refl 1024⟩
  rw [Idealize.ShloMosaic.WordCmp.dynamicSlice_eq_extract S1x16x4x1024 _ _ _ ![n, 0, 0, 0] hs (fun a => by
    match a with
    | ⟨0, _⟩ =>
      show (BitVec.ofNat 32 n).toInt = (n : Int)
      rw [BitVec.toInt_eq_toNat_of_lt (by rw [BitVec.toNat_ofNat]; omega), BitVec.toNat_ofNat]
      omega
    | ⟨1, _⟩ => rfl
    | ⟨2, _⟩ => rfl
    | ⟨3, _⟩ => rfl)]
  refine (extractStridedSlice_apply _ _ hs _ (ix4 (⟨n, hn⟩ : Fin 256) b q l) fun a => ?_).trans (in_read x0 x1 x3 x4 ⟨n, hn⟩ b q l)
  match a with
  | ⟨0, _⟩ => rfl
  | ⟨1, _⟩ => show b.val = 0 + b.val; omega
  | ⟨2, _⟩ => show q.val = 0 + q.val; omega
  | ⟨3, _⟩ => show l.val = 0 + l.val; omega

theorem bc_read (x : Vec Ideal S1x4x512 .f32) (b : Fin 16) (q : Fin 4) (j : Fin 512) :
    broadcastInDim S16x4x512 ![0, 1, 2] bcast_S1x4x512_S16x4x512_0_1_2 x (ix3 b q j) = x (ix3 (0 : Fin 1) q j) :=
  broadcastInDim_apply _ _ x _ _ fun a => by
    match a with
    | ⟨0, _⟩ => rfl
    | ⟨1, _⟩ => rfl
    | ⟨2, _⟩ => rfl

theorem half_read (x : Vec Ideal S16x4x1024 .f32) (o : ℕ) (ho : o ≤ 512) (h : S16x4x1024.Slices ![0, 0, o] S16x4x512) (b : Fin 16) (q : Fin 4) (j : Fin 512) :
    extractStridedSlice S16x4x512 ![0, 0, o] x h (ix3 b q j) = x (ix3 b q (⟨o + j.val, by omega⟩ : Fin 1024)) :=
  extractStridedSlice_apply _ x h _ _ fun a => by
    match a with
    | ⟨0, _⟩ => show b.val = 0 + b.val; omega
    | ⟨1, _⟩ => show q.val = 0 + q.val; omega
    | ⟨2, _⟩ => rfl

/-- The state before step `n`: the recurrence's, lane by lane. -/
theorem it_lane : ∀ n, n ≤ 256 → ∀ (b : Fin 16) (q : Fin 4) (j : Fin 512),
    (it x0 x1 x3 x4 n).main_v25_4 (ix3 b q j) = (lane (fa x3) (fh x4) (fb x0 x1) n b.val (q.val * 1024 + j.val)).1
    ∧ (it x0 x1 x3 x4 n).main_v25_5 (ix3 b q j) = (lane (fa x3) (fh x4) (fb x0 x1) n b.val (q.val * 1024 + j.val)).2
  | 0, _, b, q, j => by
    constructor
    · show A_main_v22 (F := Ideal) x0 x1 x3 x4 (ix3 b q j) = fh x4 b.val (q.val * 1024 + j.val)
      unfold A_main_v22 A_main_v21 A_main_v20 A_main_v19 A_main_v18
      refine (state_read 1 0 (by omega) (by omega) x4 _ _ _ _ _ b q j).trans ?_
      rw [show q.val * 1024 + j.val + 0 * 512 = q.val * 1024 + j.val by omega]
    · show A_main_v24 (F := Ideal) x0 x1 x3 x4 (ix3 b q j) = fh x4 b.val (q.val * 1024 + j.val + 512)
      unfold A_main_v24 A_main_v23 A_main_v20 A_main_v19 A_main_v18
      refine (state_read 1 1 (by omega) (by omega) x4 _ _ _ _ _ b q j).trans ?_
      rw [show q.val * 1024 + j.val + 1 * 512 = q.val * 1024 + j.val + 512 by omega]
  | n + 1, hn, b, q, j => by
    obtain ⟨i1, i2⟩ := it_lane n (by omega) b q j
    obtain ⟨-, c1, c2⟩ := it_const x0 x1 x3 x4 n
    have e0 : q.val * 1024 + (0 + j.val) = q.val * 1024 + j.val := by omega
    have e1 : q.val * 1024 + (512 + j.val) = q.val * 1024 + j.val + 512 := by omega
    have u0 : b10 (F := Ideal) n (it x0 x1 x3 x4 n) (ix3 b q j) = fb x0 x1 n b.val (q.val * 1024 + j.val) := by
      unfold b10
      rw [half_read _ 0 (by omega), b4_read x0 x1 x3 x4 n (by omega)]
      exact congrArg _ e0
    have u1 : b17 (F := Ideal) n (it x0 x1 x3 x4 n) (ix3 b q j) = fb x0 x1 n b.val (q.val * 1024 + j.val + 512) := by
      unfold b17
      rw [half_read _ 512 (by omega), b4_read x0 x1 x3 x4 n (by omega)]
      exact congrArg _ e1
    have a5 : b5 (F := Ideal) n (it x0 x1 x3 x4 n) (ix3 b q j) = fa x3 (q.val * 1024 + j.val) := by
      unfold b5; rw [c1]; exact (bc_read _ b q j).trans (re_read x0 x1 x3 x4 q j)
    have a7 : b7 (F := Ideal) n (it x0 x1 x3 x4 n) (ix3 b q j) = fa x3 (q.val * 1024 + j.val + 512) := by
      unfold b7; rw [c2]; exact (bc_read _ b q j).trans (im_read x0 x1 x3 x4 q j)
    have a12 : b12 (F := Ideal) n (it x0 x1 x3 x4 n) (ix3 b q j) = fa x3 (q.val * 1024 + j.val) := by
      unfold b12; rw [c1]; exact (bc_read _ b q j).trans (re_read x0 x1 x3 x4 q j)
    have a14 : b14 (F := Ideal) n (it x0 x1 x3 x4 n) (ix3 b q j) = fa x3 (q.val * 1024 + j.val + 512) := by
      unfold b14; rw [c2]; exact (bc_read _ b q j).trans (im_read x0 x1 x3 x4 q j)
    constructor
    · show b5 (F := Ideal) n _ (ix3 b q j) * (it x0 x1 x3 x4 n).main_v25_4 (ix3 b q j) - b7 (F := Ideal) n _ (ix3 b q j) * (it x0 x1 x3 x4 n).main_v25_5 (ix3 b q j)
        + b10 (F := Ideal) n _ (ix3 b q j) = _
      rw [a5, a7, u0, i1, i2]
      rfl
    · show b12 (F := Ideal) n _ (ix3 b q j) * (it x0 x1 x3 x4 n).main_v25_5 (ix3 b q j) + b14 (F := Ideal) n _ (ix3 b q j) * (it x0 x1 x3 x4 n).main_v25_4 (ix3 b q j)
        + b17 (F := Ideal) n _ (ix3 b q j) = _
      rw [a12, a14, u1, i1, i2]
      rfl

/-- The reference's result. -/
theorem result_read (y : S16x4096.Idx) :
    R_main_v29 (it x0 x1 x3 x4 256) y = whole (fa x3) (fh x4) (fb x0 x1) 256 (y 0).val (y 1).val := by
  unfold R_main_v29
  exact out_read _ _ _ _ _ (fa x3) (fh x4) (fb x0 x1) 256 (fun b q j => (it_lane x0 x1 x3 x4 256 (le_refl _) b q j).1)
    (fun b q j => (it_lane x0 x1 x3 x4 256 (le_refl _) b q j).2) y

end Cert.Proof.S5Ref9
-- ==== Proof.S5Value9.lean ====
/-
  The value claim of `Kernel9`: the state the pass over time ends with, eight points of 32 steps each, against the host's
  256 steps.
-/
module

public import proofs.«01_k».proof.Proof.S5Frame9
public import proofs.«01_k».proof.Proof.S5Point9
public import proofs.«01_k».proof.Proof.S5Ref9
public import proofs.«01_k».proof.Defs
public import Idealize.ShloMosaic.Lib.StableHlo.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Proof.S5Value9

open Cert.Kernel9Ideal Cert.Kernel9Ideal.Gen Cert.Proof.S5Frame9 Cert.Proof.S5Run9 Cert.Proof.S5Point9 Cert.Proof.S5State9
open Cert.Proof.S5Math Cert.Proof.S5Pay Cert.Proof.S5Spec

variable (m : (ℓ : Loc nD τ sig) → Buf (Elt Ideal) ℓ) (ρ : Dev nD → PrngReg)

/-- The arguments: the projected rows, the matrices into the state, the factors, the state the pass starts from. -/
abbrev aU (c : Dev nD) : SU.Idx → EReal := m ((c : Thread nD τ).loc main_arg0)
abbrev aW (c : Dev nD) : SW.Idx → EReal := m ((c : Thread nD τ).loc main_arg1)
abbrev aA (c : Dev nD) : SA.Idx → EReal := m ((c : Thread nD τ).loc main_arg3)
abbrev aH (c : Dev nD) : SI.Idx → EReal := m ((c : Thread nD τ).loc main_arg4)

/-- Where a point's blocks lie. -/
theorem index0 : ∀ t : Fin cfg0.N, win0_0.index t 0 = 0 ∧ win0_0.index t 1 = (7 - t.val) ∧ win0_0.index t 2 = 1 :=
  (by decide +kernel : ∀ t : Fin grid0.N, win0_0.index t 0 = 0 ∧ win0_0.index t 1 = (7 - t.val) ∧ win0_0.index t 2 = 1)
theorem index1 : ∀ t : Fin cfg0.N, win0_1.index t 0 = 1 ∧ win0_1.index t 1 = 0 ∧ win0_1.index t 2 = 0 ∧ win0_1.index t 3 = 0 :=
  (by decide +kernel : ∀ t : Fin grid0.N, win0_1.index t 0 = 1 ∧ win0_1.index t 1 = 0 ∧ win0_1.index t 2 = 0 ∧ win0_1.index t 3 = 0)
theorem index3 : ∀ t : Fin cfg0.N, win0_3.index t 0 = 1 ∧ win0_3.index t 1 = 0 ∧ win0_3.index t 2 = 0 :=
  (by decide +kernel : ∀ t : Fin grid0.N, win0_3.index t 0 = 1 ∧ win0_3.index t 1 = 0 ∧ win0_3.index t 2 = 0)
theorem index4 : ∀ t : Fin cfg0.N, win0_4.index t 0 = 1 ∧ win0_4.index t 1 = 0 ∧ win0_4.index t 2 = 0 :=
  (by decide +kernel : ∀ t : Fin grid0.N, win0_4.index t 0 = 1 ∧ win0_4.index t 1 = 0 ∧ win0_4.index t 2 = 0)
theorem index9 : ∀ t : Fin cfg0.N, win0_9.index t 0 = 0 ∧ win0_9.index t 1 = 0 :=
  (by decide +kernel : ∀ t : Fin grid0.N, win0_9.index t 0 = 0 ∧ win0_9.index t 1 = 0)

/-! ## The blocks, read -/

theorem u_read (c : Dev nD) (t : Fin cfg0.N) (b n k : ℕ) (hb : b < 16) (hn : n < 32) (hk : k < 512) :
    nat3 (n0 := 16) (n1 := 32) (n2 := 512) (iblk m c 0 t) b n k = nat3 (aU m c) b (32 * (7 - t.val) + n) (512 + k) := by
  rw [nat3_in _ hb hn hk]
  show V m c main_arg0 ((win0_0.rect t).emb (ix3 (⟨b, hb⟩ : Fin 16) (⟨n, hn⟩ : Fin 32) (⟨k, hk⟩ : Fin 512))) = _
  rw [V_main_arg0]
  refine nat3_of (aU m c) _ ?_ ?_ ?_
  · show win0_0.index t 0 * 16 + 1 * b = b
    rw [(index0 t).1]; omega
  · show win0_0.index t 1 * 32 + 1 * n = 32 * (7 - t.val) + n
    rw [(index0 t).2.1]; omega
  · show win0_0.index t 2 * 512 + 1 * k = 512 + k
    rw [(index0 t).2.2]; omega

theorem w_read (c : Dev nD) (t : Fin cfg0.N) (q k l : ℕ) (hq : q < 4) (hk : k < 128) (hl : l < 1024) :
    nat4 (n0 := 1) (n1 := 4) (n2 := 128) (n3 := 1024) (iblk m c 1 t) 0 q k l = nat4 (aW m c) 1 q k l := by
  rw [nat4_in _ Nat.one_pos hq hk hl]
  show V m c main_arg1 ((win0_1.rect t).emb (ix4 (⟨0, Nat.one_pos⟩ : Fin 1) (⟨q, hq⟩ : Fin 4) (⟨k, hk⟩ : Fin 128) (⟨l, hl⟩ : Fin 1024))) = _
  rw [V_main_arg1]
  refine nat4_of (aW m c) _ ?_ ?_ ?_ ?_
  · show win0_1.index t 0 * 1 + 1 * 0 = 1
    rw [(index1 t).1]
  · show win0_1.index t 1 * 4 + 1 * q = q
    rw [(index1 t).2.1]; omega
  · show win0_1.index t 2 * 128 + 1 * k = k
    rw [(index1 t).2.2.1]; omega
  · show win0_1.index t 3 * 1024 + 1 * l = l
    rw [(index1 t).2.2.2]; omega

theorem a_read (c : Dev nD) (t : Fin cfg0.N) (l : ℕ) (hl : l < 4096) :
    nat3 (n0 := 1) (n1 := 1) (n2 := 4096) (iblk m c 3 t) 0 0 l = nat3 (aA m c) 1 0 l := by
  rw [nat3_in _ Nat.one_pos Nat.one_pos hl]
  show V m c main_arg3 ((win0_3.rect t).emb (ix3 (⟨0, Nat.one_pos⟩ : Fin 1) (⟨0, Nat.one_pos⟩ : Fin 1) (⟨l, hl⟩ : Fin 4096))) = _
  rw [V_main_arg3]
  refine nat3_of (aA m c) _ ?_ ?_ ?_
  · show win0_3.index t 0 * 1 + 1 * 0 = 1
    rw [(index3 t).1]
  · show win0_3.index t 1 * 1 + 1 * 0 = 0
    rw [(index3 t).2.1]
  · show win0_3.index t 2 * 4096 + 1 * l = l
    rw [(index3 t).2.2]; omega

/-- The state the first point starts from. -/
theorem start_of (x : Vec Ideal S1x16x4096 .f32) (r : Fin 16) (l : Fin 4096) : k0_pay2 (F := Ideal) x (ix2 r l) = x (ix3 (0 : Fin 1) r l) := by
  unfold k0_pay2
  refine (congrFun (shapeCast_self _ _) _).trans (shapeCast_apply x shapeCasts_S1x16x4096_S16x4096 (ix2 r l) (ix3 (0 : Fin 1) r l) ?_)
  rw [Shape.rowMajor_val_three, Shape.rowMajor_val_two]
  show (0 * 16 + r.val) * 4096 + l.val = r.val * 4096 + l.val
  omega

theorem h_read (c : Dev nD) (t : Fin cfg0.N) (r : Fin 16) (l : Fin 4096) : iblk m c 4 t (ix3 (0 : Fin 1) r l) = nat3 (aH m c) 1 r.val l.val := by
  show V m c main_arg4 ((win0_4.rect t).emb (ix3 (0 : Fin 1) r l)) = _
  rw [V_main_arg4]
  refine nat3_of (aH m c) _ ?_ ?_ ?_
  · show win0_4.index t 0 * 1 + 1 * 0 = 1
    rw [(index4 t).1]
  · show win0_4.index t 1 * 16 + 1 * r.val = r.val
    rw [(index4 t).2.1]; omega
  · show win0_4.index t 2 * 4096 + 1 * l.val = l.val
    rw [(index4 t).2.2]; omega

theorem start_read (c : Dev nD) (t : Fin cfg0.N) (y : S16x4096.Idx) :
    k0_pay2 (F := Ideal) (iblk m c 4 t) y = nat3 (aH m c) 1 (y 0).val (y 1).val := by
  obtain ⟨r, l, rfl⟩ : ∃ (r : Fin 16) (l : Fin 4096), y = ix2 r l := ⟨y 0, y 1, eq_ix2 y⟩
  exact (start_of (iblk m c 4 t) r l).trans (h_read m c t r l)

/-- The specification at the arguments. -/
abbrev fa (c : Dev nD) : ℕ → EReal := Cert.Proof.S5Ref9.fa (aA m c)
abbrev fh (c : Dev nD) : ℕ → ℕ → EReal := Cert.Proof.S5Ref9.fh (aH m c)
abbrev fb (c : Dev nD) : ℕ → ℕ → ℕ → EReal := Cert.Proof.S5Ref9.fb (aU m c) (aW m c)

/-- Step `k` of a point, of the pass's inputs. -/
theorem in_read (c : Dev nD) (t : Fin cfg0.N) (k b l : ℕ) (hk : k < 32) (hb : b < 16) (hl : l < 4096) :
    proj (iblk m c 0 t) (iblk m c 1 t) (row k + b) l = fb m c (32 * t.val + k) b l := by
  have ht := t_lt t
  unfold fb Cert.Proof.S5Ref9.fb proj bu
  refine Finset.sum_congr rfl fun i _ => ?_
  have hi : i.val < 128 := i.isLt
  rw [show (row k + b) % 16 = b by show (16 * (31 - k) + b) % 16 = b; omega, show (row k + b) / 16 = 31 - k by show (16 * (31 - k) + b) / 16 = 31 - k; omega,
    u_read m c t b _ _ hb (by omega) (by omega), w_read m c t _ _ _ (by omega) hi (by omega)]
  refine congrArg (· * _) (congrArg (fun n => nat3 (aU m c) b n _) ?_)
  omega

/-! ## The points -/

/-- A point's state, of the one it finds. -/
theorem next_at (c : Dev nD) (t : Fin cfg0.N) (x : Vec Ideal S16x4096 .f32) (hx : t.val = 0 → x = k0_pay2 (iblk m c 4 t)) (y : S16x4096.Idx) :
    nextAt m c t x y = new row (nat3 (n0 := 1) (n1 := 1) (n2 := 4096) (iblk m c 3 t) 0 0) (nat2 x) (proj (iblk m c 0 t) (iblk m c 1 t)) (y 0).val (y 1).val := by
  unfold nextAt
  by_cases h0 : t.val = 0
  · rw [dif_pos h0, hx h0]
    exact first_at c _ _ _ _ _ _ _ _ _ _ _ _ _ _ _ _ _ _ _ _ _ _ _ _ _ _ _ (iblk m c 0 t) (iblk m c 1 t) (iblk m c 2 t) (iblk m c 3 t) (iblk m c 5 t) (iblk m c 6 t) (iblk m c 7 t) _ _ (iblk m c 4 t) y
  by_cases h7 : t.val = 7
  · rw [dif_neg h0, dif_pos h7]
    exact last_at c _ _ _ _ _ _ _ _ _ _ _ _ _ _ _ _ _ _ _ _ _ _ _ _ _ _ _ (iblk m c 0 t) (iblk m c 1 t) (iblk m c 2 t) (iblk m c 3 t) (iblk m c 5 t) (iblk m c 6 t) (iblk m c 7 t) _ _ x y
  · rw [dif_neg h0, dif_neg h7]
    exact inner_at c _ _ _ _ _ _ _ _ _ _ _ _ _ _ _ _ _ _ _ _ _ _ _ _ _ _ _ (iblk m c 0 t) (iblk m c 1 t) (iblk m c 2 t) (iblk m c 3 t) (iblk m c 5 t) (iblk m c 6 t) (iblk m c 7 t) _ _ x y

theorem point_at (c : Dev nD) (t : Fin cfg0.N) (x : Vec Ideal S16x4096 .f32)
    (hx : ∀ y : S16x4096.Idx, x y = whole (fa m c) (fh m c) (fb m c) (32 * t.val) (y 0).val (y 1).val) (y : S16x4096.Idx) :
    new row (nat3 (n0 := 1) (n1 := 1) (n2 := 4096) (iblk m c 3 t) 0 0) (nat2 x) (proj (iblk m c 0 t) (iblk m c 1 t)) (y 0).val (y 1).val
      = whole (fa m c) (fh m c) (fb m c) (32 * t.val + 32) (y 0).val (y 1).val := by
  have h0 : (y 0).val < 16 := (y 0).isLt
  have h1 : (y 1).val < 4096 := (y 1).isLt
  exact whole_point _ _ _ row _ _ _ _ _ _ h1 (fun l hl => a_read m c t l hl)
    (fun l hl => (nat2_in x h0 hl).trans (hx _)) (fun k l hk hl => in_read m c t k _ l hk h0 hl)

/-- The state before point `n`. -/
theorem state_at (c : Dev nD) : ∀ (n : ℕ) (h : n ≤ cfg0.N) (y : S16x4096.Idx),
    stAt m c n h y = whole (fa m c) (fh m c) (fb m c) (32 * n) (y 0).val (y 1).val
  | 0, h, y => (start_read m c _ y).trans (whole_zero _ _ _ _ _).symm
  | n + 1, h, y => by
    refine (next_at m c ⟨n, h⟩ _ (fun h0 => ?_) y).trans ((point_at m c ⟨n, h⟩ _ (state_at c n (Nat.le_of_lt h)) y).trans ?_)
    · subst h0; rfl
    · rw [show 32 * (n + 1) = 32 * n + 32 by omega]

theorem final_at (c : Dev nD) (t : Fin cfg0.N) (ht : t.val = 7) (y : S16x4096.Idx) :
    finalAt m c t y = whole (fa m c) (fh m c) (fb m c) 256 (y 0).val (y 1).val := by
  unfold finalAt
  rw [dif_pos ht]
  refine (last_out_at c _ _ _ _ _ _ _ _ _ _ _ _ _ _ _ _ _ _ _ _ _ _ _ _ _ _ _ (iblk m c 0 t) (iblk m c 1 t) (iblk m c 2 t) (iblk m c 3 t) (iblk m c 5 t) (iblk m c 6 t) (iblk m c 7 t) _ _ _ y).trans
    ((point_at m c t _ (state_at m c t.val (Nat.le_of_lt t.isLt)) y).trans ?_)
  rw [ht]

/-! ## The result -/

/-- The whole result at device `c`'s arguments. -/
abbrev result (c : Dev nD) : Buf (Elt Ideal) ((c : Thread nD τ).loc main_v1_1) :=
  fun (y : S16x4096.Idx) => whole (fa m c) (fh m c) (fb m c) 256 (y 0).val (y 1).val

theorem flushed (c : Dev nD) (t : Fin cfg0.N) (hf : (cfg0.win 9).flush t = true) :
    (dats m 0 c).flushed 9 t = ((cfg0.win 9).blk t).view.read (Elt Ideal) (result m c) := by
  have ht : t.val = 7 := by have := (flush0_9 t).mp hf; have := t_lt t; omega
  show (cfg0.win 9).cut (grid0.coords t) ((dats m 0 c).after 9 t) = _
  rw [after0_9]
  refine funext fun (j : S16x4096.Idx) => ?_
  show finalAt m c t j = result m c ((win0_9.rect t).emb j)
  refine (final_at m c t ht j).trans (congrArg₂ (whole (fa m c) (fh m c) (fb m c) 256) ?_ ?_)
  · show (j 0).val = win0_9.index t 0 * 16 + 1 * (j 0).val
    rw [(index9 t).1]; omega
  · show (j 1).val = win0_9.index t 1 * 4096 + 1 * (j 1).val
    rw [(index9 t).2]; omega

theorem cover (i : S16x4096.Idx) : ∃ t : Fin cfg0.N, (cfg0.win 9).flush t = true ∧ i ∈ ((cfg0.win 9).blk t).view.set := by
  have h0 : (i 0 : Nat) < 16 := (i 0).isLt
  have h1 : (i 1 : Nat) < 4096 := (i 1).isLt
  have hN : cfg0.N = 8 := N_0
  obtain ⟨t, ht⟩ : ∃ t : Fin cfg0.N, t.val = 7 := ⟨⟨7, by omega⟩, rfl⟩
  refine ⟨t, (flush0_9 t).mpr (by omega), ?_⟩
  show i ∈ ((View.whole main_v1_1).slice (win0_9.rect t)).set
  rw [View.set_slice_whole, Rect.mem_set_unit]
  intro a
  match a with
  | ⟨0, _⟩ =>
    show win0_9.index t 0 * 16 ≤ (i 0 : Nat) ∧ (i 0 : Nat) < win0_9.index t 0 * 16 + 16
    rw [(index9 t).1]; omega
  | ⟨1, _⟩ =>
    show win0_9.index t 1 * 4096 ≤ (i 1 : Nat) ∧ (i 1 : Nat) < win0_9.index t 1 * 4096 + 4096
    rw [(index9 t).2]; omega

theorem final (c : Dev nD) : (dats m 0 c).arrAt 9 cfg0.N = result m c :=
  (dats m 0 c).arrAt_eq_of_cover 9 (result m c) (fun t hf => flushed m c t hf) cover

/-- The run, read: the result array at the whole result, the arguments unchanged. -/
theorem run : θ_run defs (onTc (τ := τ) (main (F := Ideal))) ⟨m, fun _ => 0, ρ⟩ fun r => ∀ c : Dev nD,
      r.2.mem ((c : Thread nD τ).loc main_v1_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1.1 c).1 9).trans (final m c), h.2.1 c⟩)
    (θ_run_and (run_all m ρ) (frame_run m ρ))

/-- The kernel's pass and the host's are the same function of arguments that agree. -/
theorem algebraic : Cert.algebraic_Kernel9Ideal_Reference9Ideal := by
  intro m ρ m' ρ' _ hag
  refine ⟨fun c => result m c, run m ρ, ?_⟩
  refine (θ_run Cert.Reference9Ideal.defs _ _).mono (fun _ h c => ⟨(h c).1.trans ?_, (h c).2⟩)
    (Cert.Reference9Ideal.StepRun.run_iter (F := Ideal) m' ρ'
      (fun c => Cert.Proof.S5Ref9.it (m' ((c : Thread nD τ).loc Cert.Reference9Ideal.main_arg0)) (m' ((c : Thread nD τ).loc Cert.Reference9Ideal.main_arg1))
        (m' ((c : Thread nD τ).loc Cert.Reference9Ideal.main_arg3)) (m' ((c : Thread nD τ).loc Cert.Reference9Ideal.main_arg4)))
      (fun c => rfl) (fun c n => rfl))
  refine funext fun (y : S16x4096.Idx) => (Cert.Proof.S5Ref9.result_read _ _ _ _ y).trans ?_
  rw [(hag c).1, (hag c).2.1, (hag c).2.2.2.1, (hag c).2.2.2.2.1]

end Cert.Proof.S5Value9

end
-- ==== Proof.lean ====
module

public import proofs.«01_k».proof.Proof.Gen.Kernel8.Frame
public import proofs.«01_k».proof.Proof.Gen.Kernel8Ideal.Skeleton
public import proofs.«01_k».proof.Proof.Gen.Kernel8Ideal.Frame
public import proofs.«01_k».proof.Proof.Gen.Kernel8Ideal.Loops
public import proofs.«01_k».proof.Proof.Gen.Reference8Ideal.StepRun
public import proofs.«01_k».proof.Proof.Gen.Reference8Ideal.Run
public import proofs.«01_k».proof.Proof.Gen.Kernel9.Frame
public import proofs.«01_k».proof.Proof.Gen.Kernel9Ideal.Skeleton
public import proofs.«01_k».proof.Proof.Gen.Kernel9Ideal.Frame
public import proofs.«01_k».proof.Proof.Gen.Kernel9Ideal.Loops
public import proofs.«01_k».proof.Proof.Gen.Reference9Ideal.StepRun
public import proofs.«01_k».proof.Proof.Gen.Reference9Ideal.Run
public import proofs.«01_k».proof.Defs
public import proofs.«01_k».proof.Proof.Gen.Pre_scores_finite
public import proofs.«01_k».proof.Proof.Gen.Kernel2.Frame
public import proofs.«01_k».proof.Proof.Gen.Kernel2Ideal.Skeleton
public import proofs.«01_k».proof.Proof.Gen.Kernel2Ideal.Frame
public import proofs.«01_k».proof.Proof.Gen.Reference2Ideal.Read
public import proofs.«01_k».proof.Proof.Gen.Kernel.Frame
public import proofs.«01_k».proof.Proof.Gen.Kernel3.Frame
public import proofs.«01_k».proof.Proof.Gen.Kernel4.Frame
public import proofs.«01_k».proof.Proof.Gen.KernelIdeal.Value
public import proofs.«01_k».proof.Proof.Gen.Kernel3Ideal.Value
public import proofs.«01_k».proof.Proof.Gen.Kernel4Ideal.Value
public import proofs.«01_k».proof.Proof.Gen.ReferenceIdeal.Read
public import proofs.«01_k».proof.Proof.Gen.Reference3Ideal.Read
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Skeleton
public import proofs.«01_k».proof.Proof.Gen.Kernel6Ideal.Frame
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.AttnValue
public import proofs.«01_k».proof.Proof.ProjValue
public import proofs.«01_k».proof.Proof.GateValue
public import proofs.«01_k».proof.Proof.FfnValue
public import proofs.«01_k».proof.Proof.OutValue
public import proofs.«01_k».proof.Proof.MergeValue
public import proofs.«01_k».proof.Proof.ResValue
public import proofs.«01_k».proof.Proof.S5Value8
public import proofs.«01_k».proof.Proof.S5Value9
public import Idealize.ShloMosaic.Lib.Quiescent
public import Idealize.ShloMosaic.Adequacy
public import Idealize.ShloMosaic.Init

@[expose] public section

noncomputable section

namespace Cert.Proof

open Idealize.ShloMosaic Idealize.SL.Sem

/-! The references run, keep their arguments, and have no semaphore. -/

theorem frame_reference : Cert.quiescent_ReferenceIdeal := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run (F := Ideal) m ρ)

theorem frame_reference2 : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run (F := Ideal) m ρ)

theorem frame_reference3 : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

theorem frame_reference4 : Cert.quiescent_Reference4Ideal := fun m ρ _ =>
  (θ_run Cert.Reference4Ideal.defs _ _).mono (fun r h => ⟨fun c => (h c).2,
    Idealize.ShloMosaic.sem_eq_zero_of_no_sems (by decide) r.2⟩) (Cert.Reference4Ideal.Value.run (F := Ideal) m ρ)

theorem frame_reference5 : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run (F := Ideal) m ρ)

theorem frame_reference6 : Cert.quiescent_Reference6Ideal := fun m ρ _ =>
  (θ_run Cert.Reference6Ideal.defs _ _).mono (fun r h => ⟨fun c => (h c).2.2,
    Idealize.ShloMosaic.sem_eq_zero_of_no_sems (by decide) r.2⟩) (Cert.Reference6Ideal.Value.run (F := Ideal) m ρ)

theorem frame_reference7 : Cert.quiescent_Reference7Ideal := fun m ρ _ =>
  (θ_run Cert.Reference7Ideal.defs _ _).mono (fun r h => ⟨fun c => (h c).2,
    Idealize.ShloMosaic.sem_eq_zero_of_no_sems (by decide) r.2⟩) (Cert.Reference7Ideal.Value.run (F := Ideal) m ρ)

/-! The feed-forward layer's two programs are the same text, so one run, over any elements, frames both. -/

theorem frame_kernel2_ideal : Cert.quiescent_Kernel2Ideal := fun m ρ _ => FfnFrame.frame_run (F := Ideal) m ρ

theorem bodies2 : Cert.Kernel2.defs₀ (F := Bits) = Cert.Kernel2Ideal.defs₀ (F := Bits) := by
  unfold Cert.Kernel2.defs₀ Cert.Kernel2Ideal.defs₀
  refine congrArg _ ?_
  funext l a
  match l, a with
  | 0, (t, s) => rfl

theorem defs2 : Cert.Kernel2.defs (F := Bits) = Cert.Kernel2Ideal.defs (F := Bits) := by
  unfold Cert.Kernel2.defs Cert.Kernel2Ideal.defs
  exact congrArg _ bodies2

theorem frame_kernel2 : Cert.quiescent_Kernel2 := fun m ρ _ => by
  rw [defs2]
  exact (θ_run Cert.Kernel2Ideal.defs _ _).mono (fun _ h => h) (FfnFrame.frame_run (F := Bits) m ρ)

/-! The same of the two programs of the layer's closing norm. -/

theorem frame_kernel6_ideal : Cert.quiescent_Kernel6Ideal := fun m ρ _ => ResFrame.frame_run (F := Ideal) m ρ

theorem bodies6 : Cert.Kernel6.defs₀ (F := Bits) = Cert.Kernel6Ideal.defs₀ (F := Bits) := by
  unfold Cert.Kernel6.defs₀ Cert.Kernel6Ideal.defs₀
  refine congrArg _ ?_
  funext l a
  match l, a with
  | 0, (t, s) => rfl

theorem defs6 : Cert.Kernel6.defs (F := Bits) = Cert.Kernel6Ideal.defs (F := Bits) := by
  unfold Cert.Kernel6.defs Cert.Kernel6Ideal.defs
  exact congrArg _ bodies6

theorem frame_kernel6 : Cert.quiescent_Kernel6 := fun m ρ _ => by
  rw [defs6]
  exact (θ_run Cert.Kernel6Ideal.defs _ _).mono (fun _ h => h) (ResFrame.frame_run (F := Bits) m ρ)

/-! And of the two passes of the state space. -/

theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩) (Cert.Reference8Ideal.Value.run (F := Ideal) m ρ)

theorem frame_kernel8_ideal : Cert.quiescent_Kernel8Ideal := fun m ρ _ => S5Frame8.frame_run (F := Ideal) m ρ

theorem bodies8 : Cert.Kernel8.defs₀ (F := Bits) = Cert.Kernel8Ideal.defs₀ (F := Bits) := by
  unfold Cert.Kernel8.defs₀ Cert.Kernel8Ideal.defs₀
  refine congrArg _ ?_
  funext l a
  match l, a with
  | 0, (t, s) => rfl

theorem defs8 : Cert.Kernel8.defs (F := Bits) = Cert.Kernel8Ideal.defs (F := Bits) := by
  unfold Cert.Kernel8.defs Cert.Kernel8Ideal.defs
  exact congrArg _ bodies8

theorem frame_kernel8 : Cert.quiescent_Kernel8 := fun m ρ _ => by
  rw [defs8]
  exact (θ_run Cert.Kernel8Ideal.defs _ _).mono (fun _ h => h) (S5Frame8.frame_run (F := Bits) m ρ)

theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩) (Cert.Reference9Ideal.Value.run (F := Ideal) m ρ)

theorem frame_kernel9_ideal : Cert.quiescent_Kernel9Ideal := fun m ρ _ => S5Frame9.frame_run (F := Ideal) m ρ

theorem bodies9 : Cert.Kernel9.defs₀ (F := Bits) = Cert.Kernel9Ideal.defs₀ (F := Bits) := by
  unfold Cert.Kernel9.defs₀ Cert.Kernel9Ideal.defs₀
  refine congrArg _ ?_
  funext l a
  match l, a with
  | 0, (t, s) => rfl

theorem defs9 : Cert.Kernel9.defs (F := Bits) = Cert.Kernel9Ideal.defs (F := Bits) := by
  unfold Cert.Kernel9.defs Cert.Kernel9Ideal.defs
  exact congrArg _ bodies9

theorem frame_kernel9 : Cert.quiescent_Kernel9 := fun m ρ _ => by
  rw [defs9]
  exact (θ_run Cert.Kernel9Ideal.defs _ _).mono (fun _ h => h) (S5Frame9.frame_run (F := Bits) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_scores_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  frame_kernel2, frame_kernel2_ideal, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  frame_kernel6, frame_kernel6_ideal, frame_reference6,
  fun m ρ _ => Cert.Kernel7.Gen.frame m ρ, fun m ρ _ => Cert.Kernel7Ideal.Gen.frame m ρ, frame_reference7,
  frame_kernel8, frame_kernel8_ideal, frame_reference8, frame_kernel9, frame_kernel9_ideal, frame_reference9,
  IdealRules.named_const.statement _ _ _ _ _ rfl, AttnClaims.algebraic,
  trivial, FfnClaims.algebraic, trivial, ProjClaims.algebraic, trivial, GateClaims.algebraic,
  trivial, OutClaims.algebraic, trivial, ResClaims.algebraic, trivial, MergeClaims.algebraic,
  trivial, S5Value8.algebraic, trivial, S5Value9.algebraic⟩

end Cert.Proof

end
